-- ==== Defs.lean ====
def Pre_Kernel [hPre_experts_exist : Cert.Pre_experts_exist.Facts] (m : (ℓ : Loc Cert.Kernel.nD Cert.Kernel.τ Cert.Kernel.sig) → Buf (Elt Bits) ℓ) : Prop :=
  ∀ c : Dev Cert.Kernel.nD,
    (Cert.Pre_experts_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_experts_exist : Cert.Pre_experts_exist.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_experts_differ [hPre_experts_differ : Cert.Pre_experts_differ.Facts] (m : (ℓ : Loc Cert.KernelIdeal.nD Cert.KernelIdeal.τ Cert.KernelIdeal.sig) → Buf (Elt Ideal) ℓ) : Prop :=
  ∀ c : Dev Cert.KernelIdeal.nD,
    (Cert.Pre_experts_differ.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_exist [hPre_experts_exist : Cert.Pre_experts_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_ReferenceIdeal_experts_differ [hPre_experts_differ : Cert.Pre_experts_differ.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_differ.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_experts_exist : Cert.Pre_experts_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_experts_differ [hKernelIdeal : Cert.KernelIdeal.Facts] [hPre_experts_differ : Cert.Pre_experts_differ.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_differ m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_experts_exist [hReferenceIdeal : Cert.ReferenceIdeal.Facts] [hPre_experts_exist : Cert.Pre_experts_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_experts_differ [hReferenceIdeal : Cert.ReferenceIdeal.Facts] [hPre_experts_differ : Cert.Pre_experts_differ.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_differ m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_on_codes_and_scales [hKernelIdeal : Cert.KernelIdeal.Facts] [hReferenceIdeal : Cert.ReferenceIdeal.Facts] [hPre_experts_exist : Cert.Pre_experts_exist.Facts] [hOn_codes_and_scales : Cert.On_codes_and_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32, 4096]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.KernelIdeal.nD Cert.KernelIdeal.τ).loc Cert.KernelIdeal.main_v10_0) i = v0 c i)
          ∧ (∀ i : (⟨2, ![32, 4096]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.KernelIdeal.nD Cert.KernelIdeal.τ).loc Cert.KernelIdeal.main_v10_1) i = v1 c i)
          ∧ (∀ i : (⟨2, ![1, 32]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 i = 1#1 → r.2.mem ((c.tc : Thread Cert.KernelIdeal.nD Cert.KernelIdeal.τ).loc Cert.KernelIdeal.main_v10_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![32, 4096]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 i = 1#1 → r.2.mem ((c.tc : Thread Cert.ReferenceIdeal.nD Cert.ReferenceIdeal.τ).loc Cert.ReferenceIdeal.main_v6_0) i = v0 c i)
          ∧ (∀ i : (⟨2, ![32, 4096]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 i = 1#1 → r.2.mem ((c.tc : Thread Cert.ReferenceIdeal.nD Cert.ReferenceIdeal.τ).loc Cert.ReferenceIdeal.main_v6_1) i = v1 c i)
          ∧ (∀ i : (⟨2, ![1, 32]⟩ : Shape).Idx, (Cert.On_codes_and_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 i = 1#1 → r.2.mem ((c.tc : Thread Cert.ReferenceIdeal.nD Cert.ReferenceIdeal.τ).loc Cert.ReferenceIdeal.main_v6_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def algebraic_KernelIdeal_ReferenceIdeal_pre_experts_differ [hKernelIdeal : Cert.KernelIdeal.Facts] [hReferenceIdeal : Cert.ReferenceIdeal.Facts] [hPre_experts_differ : Cert.Pre_experts_differ.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_differ m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6_0) = v0 c
          ∧ r.2.mem ((c.tc : Thread Cert.ReferenceIdeal.nD Cert.ReferenceIdeal.τ).loc Cert.ReferenceIdeal.main_v6_1) = v1 c
          ∧ r.2.mem ((c.tc : Thread Cert.ReferenceIdeal.nD Cert.ReferenceIdeal.τ).loc Cert.ReferenceIdeal.main_v6_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_experts_exist : Cert.Pre_experts_exist.Facts) (hPre_experts_differ : Cert.Pre_experts_differ.Facts) (hOn_codes_and_scales : Cert.On_codes_and_scales.Facts),
    quiescent_Kernel (hKernel := hKernel) (hPre_experts_exist := hPre_experts_exist)
    ∧ quiescent_KernelIdeal (hKernelIdeal := hKernelIdeal) (hPre_experts_exist := hPre_experts_exist)
    ∧ quiescent_KernelIdeal_pre_experts_differ (hKernelIdeal := hKernelIdeal) (hPre_experts_differ := hPre_experts_differ)
    ∧ quiescent_ReferenceIdeal (hReferenceIdeal := hReferenceIdeal)
    ∧ quiescent_ReferenceIdeal_pre_experts_exist (hReferenceIdeal := hReferenceIdeal) (hPre_experts_exist := hPre_experts_exist)
    ∧ quiescent_ReferenceIdeal_pre_experts_differ (hReferenceIdeal := hReferenceIdeal) (hPre_experts_differ := hPre_experts_differ)
    ∧ preserves_Kernel_KernelIdeal
    ∧ algebraic_KernelIdeal_ReferenceIdeal_on_codes_and_scales (hKernelIdeal := hKernelIdeal) (hReferenceIdeal := hReferenceIdeal) (hPre_experts_exist := hPre_experts_exist) (hOn_codes_and_scales := hOn_codes_and_scales)
    ∧ algebraic_KernelIdeal_ReferenceIdeal_pre_experts_differ (hKernelIdeal := hKernelIdeal) (hReferenceIdeal := hReferenceIdeal) (hPre_experts_differ := hPre_experts_differ)
-- ==== On_codes_and_scales.lean ====
abbrev S32x1x4096 : Shape := ⟨3, ![32, 1, 4096]⟩
abbrev S32x1x8 : Shape := ⟨3, ![32, 1, 8]⟩
abbrev S32 : Shape := ⟨1, ![32]⟩
abbrev S32x4096x1408 : Shape := ⟨3, ![32, 4096, 1408]⟩
abbrev S32x1408 : Shape := ⟨2, ![32, 1408]⟩
abbrev S32x1408x4096 : Shape := ⟨3, ![32, 1408, 4096]⟩
abbrev S32x4096 : Shape := ⟨2, ![32, 4096]⟩
abbrev S32x8x4096x16 : Shape := ⟨4, ![32, 8, 4096, 16]⟩
abbrev S32x8x16x1408 : Shape := ⟨4, ![32, 8, 16, 1408]⟩
abbrev S_ : Shape := ⟨0, ![]⟩
abbrev S1x32 : Shape := ⟨2, ![1, 32]⟩

class Facts : Prop where
  bcast_S_S32x4096 : S_.BroadcastsInDim S32x4096 (![] : Fin 0 → Fin S32x4096.rank)
  bcast_S_S1x32 : S_.BroadcastsInDim S1x32 (![] : Fin 0 → Fin S1x32.rank)

variable [Facts]

def fn {F : FTy → Type} [FloatOps F] (main_arg0 : FVec F S32x1x4096 .bf16) (main_arg1 : IVec S32x1x8 32) (main_arg2 : FVec F S32x1x8 .f32) (main_arg3 : IVec S32 32) (main_arg4 : FVec F S32x4096x1408 .fp8e4m3) (main_arg5 : FVec F S32x1408 .f32) (main_arg6 : FVec F S32x1408x4096 .fp8e4m3) (main_arg7 : FVec F S32x4096 .f32) (main_arg8 : FVec F S32x8x4096x16 .bf16) (main_arg9 : FVec F S32x8x16x1408 .bf16) : IVec S32x4096 1 × IVec S32x4096 1 × IVec S1x32 1 :=
  let main_c : IVec S_ 1 := constantI S_ 1 0#1
  let main_v0 : IVec S32x4096 1 := broadcastInDim S32x4096 ![] bcast_S_S32x4096 main_c
  let main_c_0 : IVec S_ 1 := constantI S_ 1 1#1
  let main_v1 : IVec S32x4096 1 := broadcastInDim S32x4096 ![] bcast_S_S32x4096 main_c_0
  let main_c_1 : IVec S_ 1 := constantI S_ 1 1#1
  let main_v2 : IVec S1x32 1 := broadcastInDim S1x32 ![] bcast_S_S1x32 main_c_1
  (main_v0, main_v1, main_v2)
-- ==== Pre_experts_differ.lean ====
abbrev S32x1x4096 : Shape := ⟨3, ![32, 1, 4096]⟩
abbrev S32x1x8 : Shape := ⟨3, ![32, 1, 8]⟩
abbrev S32 : Shape := ⟨1, ![32]⟩
abbrev S32x4096x1408 : Shape := ⟨3, ![32, 4096, 1408]⟩
abbrev S32x1408 : Shape := ⟨2, ![32, 1408]⟩
abbrev S32x1408x4096 : Shape := ⟨3, ![32, 1408, 4096]⟩
abbrev S32x4096 : Shape := ⟨2, ![32, 4096]⟩
abbrev S32x8x4096x16 : Shape := ⟨4, ![32, 8, 4096, 16]⟩
abbrev S32x8x16x1408 : Shape := ⟨4, ![32, 8, 16, 1408]⟩
abbrev S32x8x1 : Shape := ⟨3, ![32, 8, 1]⟩
abbrev S32x8x8 : Shape := ⟨3, ![32, 8, 8]⟩
abbrev S_ : Shape := ⟨0, ![]⟩

class Facts : Prop where
  shapeCasts_S32x1x8_S32x8x1 : S32x1x8.ShapeCasts S32x8x1
  bcast_S_S32x1x8 : S_.BroadcastsInDim S32x1x8 (![] : Fin 0 → Fin S32x1x8.rank)
  reducesTo_S32x1x8_S_d0_1_2 : S32x1x8.ReducesTo [0, 1, 2] S_
  h_S_ : 0 < S_.numel
  bcast_S32x8x1_S32x8x8_0_1_2 : S32x8x1.BroadcastsInDim S32x8x8 (![0, 1, 2] : Fin 3 → Fin S32x8x8.rank)
  bcast_S32x1x8_S32x8x8_0_1_2 : S32x1x8.BroadcastsInDim S32x8x8 (![0, 1, 2] : Fin 3 → Fin S32x8x8.rank)
  reducesTo_S32x8x8_S_d0_1_2 : S32x8x8.ReducesTo [0, 1, 2] S_

variable [Facts]

def fn {F : FTy → Type} [FloatOps F] (main_arg0 : FVec F S32x1x4096 .bf16) (main_arg1 : IVec S32x1x8 32) (main_arg2 : FVec F S32x1x8 .f32) (main_arg3 : IVec S32 32) (main_arg4 : FVec F S32x4096x1408 .fp8e4m3) (main_arg5 : FVec F S32x1408 .f32) (main_arg6 : FVec F S32x1408x4096 .fp8e4m3) (main_arg7 : FVec F S32x4096 .f32) (main_arg8 : FVec F S32x8x4096x16 .bf16) (main_arg9 : FVec F S32x8x16x1408 .bf16) : IVec S_ 1 :=
  let main_v0 : IVec S32x8x1 32 := shapeCast S32x8x1 main_arg1 shapeCasts_S32x1x8_S32x8x1
  let main_v1 : IVec S32x8x8 32 := iotaInDim S32x8x8 32 1
  let main_v2 : IVec S32x8x8 32 := iotaInDim S32x8x8 32 2
  let main_c : IVec S_ 32 := constantI S_ 32 0#32
  let main_v3 : IVec S32x1x8 32 := broadcastInDim S32x1x8 ![] bcast_S_S32x1x8 main_c
  let main_v4 : IVec S32x1x8 1 := cmpi .sge main_arg1 main_v3
  let main_c_0 : IVec S_ 32 := constantI S_ 32 32#32
  let main_v5 : IVec S32x1x8 32 := broadcastInDim S32x1x8 ![] bcast_S_S32x1x8 main_c_0
  let main_v6 : IVec S32x1x8 1 := cmpi .slt main_arg1 main_v5
  let main_v7 : IVec S32x1x8 1 := andi main_v4 main_v6
  let main_c_1 : IVec S_ 1 := constantI S_ 1 1#1
  let main_v8 : IVec S_ 1 := (fun x v => Host.reduce IntOp.andi x v reducesTo_S32x1x8_S_d0_1_2 h_S_) main_v7 main_c_1
  let main_v9 : IVec S32x8x8 32 := broadcastInDim S32x8x8 ![0, 1, 2] bcast_S32x8x1_S32x8x8_0_1_2 main_v0
  let main_v10 : IVec S32x8x8 32 := broadcastInDim S32x8x8 ![0, 1, 2] bcast_S32x1x8_S32x8x8_0_1_2 main_arg1
  let main_v11 : IVec S32x8x8 1 := cmpi .ne main_v9 main_v10
  let main_v12 : IVec S32x8x8 1 := cmpi .eq main_v1 main_v2
  let main_v13 : IVec S32x8x8 1 := ori main_v11 main_v12
  let main_c_2 : IVec S_ 1 := constantI S_ 1 1#1
  let main_v14 : IVec S_ 1 := (fun x v => Host.reduce IntOp.andi x v reducesTo_S32x8x8_S_d0_1_2 h_S_) main_v13 main_c_2
  let main_v15 : IVec S_ 1 := andi main_v8 main_v14
  main_v15
-- ==== Pre_experts_exist.lean ====
abbrev S32x1x4096 : Shape := ⟨3, ![32, 1, 4096]⟩
abbrev S32x1x8 : Shape := ⟨3, ![32, 1, 8]⟩
abbrev S32 : Shape := ⟨1, ![32]⟩
abbrev S32x4096x1408 : Shape := ⟨3, ![32, 4096, 1408]⟩
abbrev S32x1408 : Shape := ⟨2, ![32, 1408]⟩
abbrev S32x1408x4096 : Shape := ⟨3, ![32, 1408, 4096]⟩
abbrev S32x4096 : Shape := ⟨2, ![32, 4096]⟩
abbrev S32x8x4096x16 : Shape := ⟨4, ![32, 8, 4096, 16]⟩
abbrev S32x8x16x1408 : Shape := ⟨4, ![32, 8, 16, 1408]⟩
abbrev S_ : Shape := ⟨0, ![]⟩

class Facts : Prop where
  bcast_S_S32x1x8 : S_.BroadcastsInDim S32x1x8 (![] : Fin 0 → Fin S32x1x8.rank)
  reducesTo_S32x1x8_S_d0_1_2 : S32x1x8.ReducesTo [0, 1, 2] S_
  h_S_ : 0 < S_.numel

variable [Facts]

def fn {F : FTy → Type} [FloatOps F] (main_arg0 : FVec F S32x1x4096 .bf16) (main_arg1 : IVec S32x1x8 32) (main_arg2 : FVec F S32x1x8 .f32) (main_arg3 : IVec S32 32) (main_arg4 : FVec F S32x4096x1408 .fp8e4m3) (main_arg5 : FVec F S32x1408 .f32) (main_arg6 : FVec F S32x1408x4096 .fp8e4m3) (main_arg7 : FVec F S32x4096 .f32) (main_arg8 : FVec F S32x8x4096x16 .bf16) (main_arg9 : FVec F S32x8x16x1408 .bf16) : IVec S_ 1 :=
  let main_c : IVec S_ 32 := constantI S_ 32 0#32
  let main_v0 : IVec S32x1x8 32 := broadcastInDim S32x1x8 ![] bcast_S_S32x1x8 main_c
  let main_v1 : IVec S32x1x8 1 := cmpi .sge main_arg1 main_v0
  let main_c_0 : IVec S_ 32 := constantI S_ 32 32#32
  let main_v2 : IVec S32x1x8 32 := broadcastInDim S32x1x8 ![] bcast_S_S32x1x8 main_c_0
  let main_v3 : IVec S32x1x8 1 := cmpi .slt main_arg1 main_v2
  let main_v4 : IVec S32x1x8 1 := andi main_v1 main_v3
  let main_c_1 : IVec S_ 1 := constantI S_ 1 1#1
  let main_v5 : IVec S_ 1 := (fun x v => Host.reduce IntOp.andi x v reducesTo_S32x1x8_S_d0_1_2 h_S_) main_v4 main_c_1
  main_v5
-- ==== Kernel.lean ====
abbrev S32x1x4096 : Shape := ⟨3, ![32, 1, 4096]⟩
abbrev S32x1x8 : Shape := ⟨3, ![32, 1, 8]⟩
abbrev S32 : Shape := ⟨1, ![32]⟩
abbrev S32x4096x1408 : Shape := ⟨3, ![32, 4096, 1408]⟩
abbrev S32x1408 : Shape := ⟨2, ![32, 1408]⟩
abbrev S32x1408x4096 : Shape := ⟨3, ![32, 1408, 4096]⟩
abbrev S32x4096 : Shape := ⟨2, ![32, 4096]⟩
abbrev S32x8x4096x16 : Shape := ⟨4, ![32, 8, 4096, 16]⟩
abbrev S32x8x16x1408 : Shape := ⟨4, ![32, 8, 16, 1408]⟩
abbrev S32x8 : Shape := ⟨2, ![32, 8]⟩
abbrev S8x32 : Shape := ⟨2, ![8, 32]⟩
abbrev S32x1 : Shape := ⟨2, ![32, 1]⟩
abbrev S1x32 : Shape := ⟨2, ![1, 32]⟩
abbrev S32x8x16x4096 : Shape := ⟨4, ![32, 8, 16, 4096]⟩
abbrev S32x128x4096 : Shape := ⟨3, ![32, 128, 4096]⟩
abbrev S32x128x1408 : Shape := ⟨3, ![32, 128, 1408]⟩
abbrev S3x4096x1408 : Shape := ⟨3, ![3, 4096, 1408]⟩
abbrev S3x1408x4096 : Shape := ⟨3, ![3, 1408, 4096]⟩
abbrev S3x128x4096 : Shape := ⟨3, ![3, 128, 4096]⟩
abbrev S3x128x1408 : Shape := ⟨3, ![3, 128, 1408]⟩
abbrev S32x128 : Shape := ⟨2, ![32, 128]⟩
abbrev S33 : Shape := ⟨1, ![33]⟩
abbrev S_ : Shape := ⟨0, ![]⟩
abbrev S4 : Shape := ⟨1, ![4]⟩
abbrev S3 : Shape := ⟨1, ![3]⟩
abbrev S3x4 : Shape := ⟨2, ![3, 4]⟩
abbrev S1 : Shape := ⟨1, ![1]⟩
abbrev S1x1 : Shape := ⟨2, ![1, 1]⟩
abbrev S1x128x4096 : Shape := ⟨3, ![1, 128, 4096]⟩
abbrev S128x4096 : Shape := ⟨2, ![128, 4096]⟩
abbrev S1x128x1408 : Shape := ⟨3, ![1, 128, 1408]⟩
abbrev S128x1408 : Shape := ⟨2, ![128, 1408]⟩
abbrev S1x4096x1408 : Shape := ⟨3, ![1, 4096, 1408]⟩
abbrev S4096x1408 : Shape := ⟨2, ![4096, 1408]⟩
abbrev S1x1408x1024 : Shape := ⟨3, ![1, 1408, 1024]⟩
abbrev S1408x1024 : Shape := ⟨2, ![1408, 1024]⟩
abbrev S1x255 : Shape := ⟨2, ![1, 255]⟩
abbrev S32x255 : Shape := ⟨2, ![32, 255]⟩
abbrev S32x32 : Shape := ⟨2, ![32, 32]⟩
abbrev S1x1408 : Shape := ⟨2, ![1, 1408]⟩
abbrev S32x1024 : Shape := ⟨2, ![32, 1024]⟩
abbrev S1x1024 : Shape := ⟨2, ![1, 1024]⟩

abbrev nBuf : Space → Nat
  | .hbm => 23
  | .vmem => 16
  | .smem => 2
  | _ => 0

abbrev bufTy : (tb : Table) → Fin (tcTables nBuf tb) → BufTy
  | .hbm, ⟨0, _⟩ => ⟨S32x1x4096, .bf16⟩
  | .hbm, ⟨1, _⟩ => ⟨S32x1x8, .i32⟩
  | .hbm, ⟨2, _⟩ => ⟨S32x1x8, .f32⟩
  | .hbm, ⟨3, _⟩ => ⟨S32, .i32⟩
  | .hbm, ⟨4, _⟩ => ⟨S32x4096x1408, .fp8e4m3⟩
  | .hbm, ⟨5, _⟩ => ⟨S32x1408, .f32⟩
  | .hbm, ⟨6, _⟩ => ⟨S32x1408x4096, .fp8e4m3⟩
  | .hbm, ⟨7, _⟩ => ⟨S32x4096, .f32⟩
  | .hbm, ⟨8, _⟩ => ⟨S32x8x4096x16, .bf16⟩
  | .hbm, ⟨9, _⟩ => ⟨S32x8x16x1408, .bf16⟩
  | .hbm, ⟨10, _⟩ => ⟨S32x4096, .bf16⟩
  | .hbm, ⟨11, _⟩ => ⟨S32x8, .i32⟩
  | .hbm, ⟨12, _⟩ => ⟨S8x32, .i32⟩
  | .hbm, ⟨13, _⟩ => ⟨S32x8, .f32⟩
  | .hbm, ⟨14, _⟩ => ⟨S8x32, .f32⟩
  | .hbm, ⟨15, _⟩ => ⟨S32x1, .i32⟩
  | .hbm, ⟨16, _⟩ => ⟨S1x32, .i32⟩
  | .hbm, ⟨17, _⟩ => ⟨S32x8x16x4096, .bf16⟩
  | .hbm, ⟨18, _⟩ => ⟨S32x128x4096, .bf16⟩
  | .hbm, ⟨19, _⟩ => ⟨S32x128x1408, .bf16⟩
  | .hbm, ⟨20, _⟩ => ⟨S32x4096, .bf16⟩
  | .hbm, ⟨21, _⟩ => ⟨S32x4096, .fp8e4m3⟩
  | .hbm, ⟨22, _⟩ => ⟨S1x32, .f32⟩
  | .local _ .vmem, ⟨0, _⟩ => ⟨S32x4096, .bf16⟩
  | .local _ .vmem, ⟨1, _⟩ => ⟨S8x32, .i32⟩
  | .local _ .vmem, ⟨2, _⟩ => ⟨S8x32, .f32⟩
  | .local _ .vmem, ⟨3, _⟩ => ⟨S1x32, .i32⟩
  | .local _ .vmem, ⟨4, _⟩ => ⟨S32x1408, .f32⟩
  | .local _ .vmem, ⟨5, _⟩ => ⟨S32x4096, .f32⟩
  | .local _ .vmem, ⟨6, _⟩ => ⟨S3x4096x1408, .fp8e4m3⟩
  | .local _ .vmem, ⟨7, _⟩ => ⟨S3x1408x4096, .fp8e4m3⟩
  | .local _ .vmem, ⟨8, _⟩ => ⟨S3x128x4096, .bf16⟩
  | .local _ .vmem, ⟨9, _⟩ => ⟨S3x128x1408, .bf16⟩
  | .local _ .vmem, ⟨10, _⟩ => ⟨S32x4096, .fp8e4m3⟩
  | .local _ .vmem, ⟨11, _⟩ => ⟨S32x1, .f32⟩
  | .local _ .vmem, ⟨12, _⟩ => ⟨S1x32, .f32⟩
  | .local _ .vmem, ⟨13, _⟩ => ⟨S32x128, .f32⟩
  | .local _ .vmem, ⟨14, _⟩ => ⟨S32x4096, .f32⟩
  | .local _ .vmem, ⟨15, _⟩ => ⟨S32x4096, .bf16⟩
  | .local _ .smem, ⟨0, _⟩ => ⟨S8x32, .i32⟩
  | .local _ .smem, ⟨1, _⟩ => ⟨S33, .i32⟩
  | _, _ => ⟨S32x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.smem, 0, rfl⟩
abbrev cc0_scratch17 : Ref sig .tc := ⟨.smem, 1, rfl⟩

abbrev nD : Nat := 1
abbrev τ : Topo := Topo.v7x

variable {F : FTy → Type} [FloatOps F]

abbrev grid0 : Pipeline.Grid := .none

def k0_off1 (v8 : BitVec 32) : Fin 3 → Nat :=
  let c0_i32_5 : BitVec 32 := 0#32
  let c0_i32_6 : BitVec 32 := 0#32
  ![v8.toNat, 0, 0]

def k0_off2 (v8 : BitVec 32) : Fin 3 → Nat :=
  let c0_i32_11 : BitVec 32 := 0#32
  let c0_i32_12 : BitVec 32 := 0#32
  ![v8.toNat, 0, 0]
def k0_off3 (v8 : BitVec 32) : Fin 3 → Nat :=
  let c0_i32_17 : BitVec 32 := 0#32
  let c0_i32_18 : BitVec 32 := 0#32
  ![v8.toNat, 0, 0]
def k0_off4 (v8 : BitVec 32) : Fin 3 → Nat :=
  let c0_i32_24 : BitVec 32 := 0#32
  let c0_i32_25 : BitVec 32 := 0#32
  ![v8.toNat, 0, 0]
def k0_off5 (v8 : BitVec 32) : Fin 3 → Nat :=
  let c0_i32_30 : BitVec 32 := 0#32
  let c1024_i32_31 : BitVec 32 := 1024#32
  ![v8.toNat, 0, 1024]
def k0_off6 (v8 : BitVec 32) : Fin 3 → Nat :=
  let c0_i32_36 : BitVec 32 := 0#32
  let c2048_i32_37 : BitVec 32 := 2048#32
  ![v8.toNat, 0, 2048]
def k0_off7 (v8 : BitVec 32) : Fin 3 → Nat :=
  let c0_i32_42 : BitVec 32 := 0#32
  let c3072_i32_43 : BitVec 32 := 3072#32
  ![v8.toNat, 0, 3072]

def k0_chk1 (v8 : BitVec 32) : Prop :=
  (∀ a, (k0_off1 v8) a + S1x128x4096.size a ≤ S32x128x4096.size a) ∧
  (∀ (hinb : ∀ a, (k0_off1 v8) a + S1x128x4096.size a ≤ S32x128x4096.size a), (Rect.unit (s := S32x128x4096) (k0_off1 v8) S1x128x4096.size hinb).WholeWords (EltTy.packing .bf16)) ∧
  (∀ a, (k0_off2 v8) a + S1x128x1408.size a ≤ S32x128x1408.size a) ∧
  (∀ (hinb : ∀ a, (k0_off2 v8) a + S1x128x1408.size a ≤ S32x128x1408.size a), (Rect.unit (s := S32x128x1408) (k0_off2 v8) S1x128x1408.size hinb).WholeWords (EltTy.packing .bf16)) ∧
  (∀ a, (k0_off3 v8) a + S1x4096x1408.size a ≤ S32x4096x1408.size a) ∧
  (∀ (hinb : ∀ a, (k0_off3 v8) a + S1x4096x1408.size a ≤ S32x4096x1408.size a), (Rect.unit (s := S32x4096x1408) (k0_off3 v8) S1x4096x1408.size hinb).WholeWords (EltTy.packing .fp8e4m3)) ∧
  (∀ a, (k0_off4 v8) a + S1x1408x1024.size a ≤ S32x1408x4096.size a) ∧
  (∀ (hinb : ∀ a, (k0_off4 v8) a + S1x1408x1024.size a ≤ S32x1408x4096.size a), (Rect.unit (s := S32x1408x4096) (k0_off4 v8) S1x1408x1024.size hinb).WholeWords (EltTy.packing .fp8e4m3)) ∧
  (∀ a, (k0_off5 v8) a + S1x1408x1024.size a ≤ S32x1408x4096.size a) ∧
  (∀ (hinb : ∀ a, (k0_off5 v8) a + S1x1408x1024.size a ≤ S32x1408x4096.size a), (Rect.unit (s := S32x1408x4096) (k0_off5 v8) S1x1408x1024.size hinb).WholeWords (EltTy.packing .fp8e4m3)) ∧
  (∀ a, (k0_off6 v8) a + S1x1408x1024.size a ≤ S32x1408x4096.size a) ∧
  (∀ (hinb : ∀ a, (k0_off6 v8) a + S1x1408x1024.size a ≤ S32x1408x4096.size a), (Rect.unit (s := S32x1408x4096) (k0_off6 v8) S1x1408x1024.size hinb).WholeWords (EltTy.packing .fp8e4m3)) ∧
  (∀ a, (k0_off7 v8) a + S1x1408x1024.size a ≤ S32x1408x4096.size a) ∧
  (∀ (hinb : ∀ a, (k0_off7 v8) a + S1x1408x1024.size a ≤ S32x1408x4096.size a), (Rect.unit (s := S32x1408x4096) (k0_off7 v8) S1x1408x1024.size hinb).WholeWords (EltTy.packing .fp8e4m3))
theorem k0_off1_inb : ∀ (v8 : BitVec 32) (k0_hw1 : k0_chk1 v8), ∀ a, (k0_off1 v8) a + S1x128x4096.size a ≤ S32x128x4096.size a := fun v8 k0_hw1 => k0_hw1.1
theorem k0_off1_wordsbf16 : ∀ (v8 : BitVec 32) (k0_hw1 : k0_chk1 v8), (Rect.unit (s := S32x128x4096) (k0_off1 v8) S1x128x4096.size (k0_off1_inb v8 k0_hw1)).WholeWords (EltTy.packing .bf16) := fun v8 k0_hw1 => k0_hw1.2.1 (k0_off1_inb v8 k0_hw1)
theorem k0_off2_inb : ∀ (v8 : BitVec 32) (k0_hw1 : k0_chk1 v8), ∀ a, (k0_off2 v8) a + S1x128x1408.size a ≤ S32x128x1408.size a := fun v8 k0_hw1 => k0_hw1.2.2.1
theorem k0_off2_wordsbf16 : ∀ (v8 : BitVec 32) (k0_hw1 : k0_chk1 v8), (Rect.unit (s := S32x128x1408) (k0_off2 v8) S1x128x1408.size (k0_off2_inb v8 k0_hw1)).WholeWords (EltTy.packing .bf16) := fun v8 k0_hw1 => k0_hw1.2.2.2.1 (k0_off2_inb v8 k0_hw1)
theorem k0_off3_inb : ∀ (v8 : BitVec 32) (k0_hw1 : k0_chk1 v8), ∀ a, (k0_off3 v8) a + S1x4096x1408.size a ≤ S32x4096x1408.size a := fun v8 k0_hw1 => k0_hw1.2.2.2.2.1
theorem k0_off3_wordsfp8e4m3 : ∀ (v8 : BitVec 32) (k0_hw1 : k0_chk1 v8), (Rect.unit (s := S32x4096x1408) (k0_off3 v8) S1x4096x1408.size (k0_off3_inb v8 k0_hw1)).WholeWords (EltTy.packing .fp8e4m3) := fun v8 k0_hw1 => k0_hw1.2.2.2.2.2.1 (k0_off3_inb v8 k0_hw1)
theorem k0_off4_inb : ∀ (v8 : BitVec 32) (k0_hw1 : k0_chk1 v8), ∀ a, (k0_off4 v8) a + S1x1408x1024.size a ≤ S32x1408x4096.size a := fun v8 k0_hw1 => k0_hw1.2.2.2.2.2.2.1
theorem k0_off4_wordsfp8e4m3 : ∀ (v8 : BitVec 32) (k0_hw1 : k0_chk1 v8), (Rect.unit (s := S32x1408x4096) (k0_off4 v8) S1x1408x1024.size (k0_off4_inb v8 k0_hw1)).WholeWords (EltTy.packing .fp8e4m3) := fun v8 k0_hw1 => k0_hw1.2.2.2.2.2.2.2.1 (k0_off4_inb v8 k0_hw1)
theorem k0_off5_inb : ∀ (v8 : BitVec 32) (k0_hw1 : k0_chk1 v8), ∀ a, (k0_off5 v8) a + S1x1408x1024.size a ≤ S32x1408x4096.size a := fun v8 k0_hw1 => k0_hw1.2.2.2.2.2.2.2.2.1
theorem k0_off5_wordsfp8e4m3 : ∀ (v8 : BitVec 32) (k0_hw1 : k0_chk1 v8), (Rect.unit (s := S32x1408x4096) (k0_off5 v8) S1x1408x1024.size (k0_off5_inb v8 k0_hw1)).WholeWords (EltTy.packing .fp8e4m3) := fun v8 k0_hw1 => k0_hw1.2.2.2.2.2.2.2.2.2.1 (k0_off5_inb v8 k0_hw1)
theorem k0_off6_inb : ∀ (v8 : BitVec 32) (k0_hw1 : k0_chk1 v8), ∀ a, (k0_off6 v8) a + S1x1408x1024.size a ≤ S32x1408x4096.size a := fun v8 k0_hw1 => k0_hw1.2.2.2.2.2.2.2.2.2.2.1
theorem k0_off6_wordsfp8e4m3 : ∀ (v8 : BitVec 32) (k0_hw1 : k0_chk1 v8), (Rect.unit (s := S32x1408x4096) (k0_off6 v8) S1x1408x1024.size (k0_off6_inb v8 k0_hw1)).WholeWords (EltTy.packing .fp8e4m3) := fun v8 k0_hw1 => k0_hw1.2.2.2.2.2.2.2.2.2.2.2.1 (k0_off6_inb v8 k0_hw1)
theorem k0_off7_inb : ∀ (v8 : BitVec 32) (k0_hw1 : k0_chk1 v8), ∀ a, (k0_off7 v8) a + S1x1408x1024.size a ≤ S32x1408x4096.size a := fun v8 k0_hw1 => k0_hw1.2.2.2.2.2.2.2.2.2.2.2.2.1
theorem k0_off7_wordsfp8e4m3 : ∀ (v8 : BitVec 32) (k0_hw1 : k0_chk1 v8), (Rect.unit (s := S32x1408x4096) (k0_off7 v8) S1x1408x1024.size (k0_off7_inb v8 k0_hw1)).WholeWords (EltTy.packing .fp8e4m3) := fun v8 k0_hw1 => k0_hw1.2.2.2.2.2.2.2.2.2.2.2.2.2 (k0_off7_inb v8 k0_hw1)

@[reducible] def k0_t1_loop : Scf.Loop 32 :=
  let c0_i32_45 : BitVec 32 := 0#32
  let c256_i32 : BitVec 32 := 256#32
  let v51 : BitVec 32 := Scalar.addi c0_i32_45 c256_i32
  let c1_i32_46 : BitVec 32 := 1#32
  ⟨c0_i32_45, v51, c1_i32_46⟩
def k0_off8 (k0_t1 : Fin k0_t1_loop.trips) : Fin 2 → Nat :=
  let c0_i32_45 : BitVec 32 := 0#32
  let c1_i32_46 : BitVec 32 := 1#32
  let arg39 : BitVec 32 := Scf.iv c0_i32_45 c1_i32_46 k0_t1
  let c32_i32_119 : BitVec 32 := 32#32
  let v202 : BitVec 32 := Scalar.divsi arg39 c32_i32_119
  let v204 : Index := Scalar.indexCast v202
  let c32_i32_120 : BitVec 32 := 32#32
  let v203 : BitVec 32 := Scalar.remsi arg39 c32_i32_120
  let v205 : Index := Scalar.indexCast v203
  ![v204.toNat, v205.toNat]
@[reducible] def k0_t2_loop : Scf.Loop 32 :=
  let c0_i32_50 : BitVec 32 := 0#32
  let c32_i32 : BitVec 32 := 32#32
  let v54 : BitVec 32 := Scalar.addi c0_i32_50 c32_i32
  let c1_i32_51 : BitVec 32 := 1#32
  ⟨c0_i32_50, v54, c1_i32_51⟩
def k0_off9 (arg40 : BitVec 32) : Fin 1 → Nat :=
  let v202 : Index := Scalar.indexCast arg40
  ![v202.toNat]

def k0_chk2 (arg40 : BitVec 32) : Prop :=
  (∀ a, (k0_off9 arg40) a + S1.size a ≤ S33.size a)
theorem k0_off9_inb : ∀ (arg40 : BitVec 32) (k0_hw2 : k0_chk2 arg40), ∀ a, (k0_off9 arg40) a + S1.size a ≤ S33.size a := fun arg40 k0_hw2 => k0_hw2

def k0_off10 (v202 : BitVec 32) : Fin 3 → Nat :=
  let c0_i32_123 : BitVec 32 := 0#32
  let c0_i32_124 : BitVec 32 := 0#32
  ![v202.toNat, 0, 0]
def k0_cond1 (v55 : BitVec 32) : BitVec 1 :=
  let c1_i32_53 : BitVec 32 := 1#32
  let v56 : BitVec 1 := Scalar.cmpi .sgt v55 c1_i32_53
  let v57 : BitVec 32 := Scalar.extui v56
  let c0_i32_54 : BitVec 32 := 0#32
  let v58 : BitVec 1 := Scalar.cmpi .ne v57 c0_i32_54
  v58

def k0_off11 (v202 : BitVec 32) : Fin 3 → Nat :=
  let c0_i32_129 : BitVec 32 := 0#32
  let c0_i32_130 : BitVec 32 := 0#32
  ![v202.toNat, 0, 0]
def k0_off12 (v202 : BitVec 32) : Fin 3 → Nat :=
  let c0_i32_135 : BitVec 32 := 0#32
  let c0_i32_136 : BitVec 32 := 0#32
  ![v202.toNat, 0, 0]
def k0_off13 (v202 : BitVec 32) : Fin 3 → Nat :=
  let c0_i32_142 : BitVec 32 := 0#32
  let c0_i32_143 : BitVec 32 := 0#32
  ![v202.toNat, 0, 0]
def k0_off14 (v202 : BitVec 32) : Fin 3 → Nat :=
  let c0_i32_149 : BitVec 32 := 0#32
  let c1024_i32_150 : BitVec 32 := 1024#32
  ![v202.toNat, 0, 1024]
def k0_off15 (v202 : BitVec 32) : Fin 3 → Nat :=
  let c0_i32_156 : BitVec 32 := 0#32
  let c2048_i32_157 : BitVec 32 := 2048#32
  ![v202.toNat, 0, 2048]
def k0_off16 (v202 : BitVec 32) : Fin 3 → Nat :=
  let c0_i32_163 : BitVec 32 := 0#32
  let c3072_i32_164 : BitVec 32 := 3072#32
  ![v202.toNat, 0, 3072]

def k0_chk3 (v55 : BitVec 32) (v202 : BitVec 32) : Prop :=
  (∀ (k0_h1 : k0_cond1 v55 = 1#1), ∀ a, (k0_off10 v202) a + S1x128x4096.size a ≤ S32x128x4096.size a) ∧
  (∀ (k0_h1 : k0_cond1 v55 = 1#1), ∀ (hinb : ∀ a, (k0_off10 v202) a + S1x128x4096.size a ≤ S32x128x4096.size a), (Rect.unit (s := S32x128x4096) (k0_off10 v202) S1x128x4096.size hinb).WholeWords (EltTy.packing .bf16)) ∧
  (∀ (k0_h1 : k0_cond1 v55 = 1#1), ∀ a, (k0_off11 v202) a + S1x128x1408.size a ≤ S32x128x1408.size a) ∧
  (∀ (k0_h1 : k0_cond1 v55 = 1#1), ∀ (hinb : ∀ a, (k0_off11 v202) a + S1x128x1408.size a ≤ S32x128x1408.size a), (Rect.unit (s := S32x128x1408) (k0_off11 v202) S1x128x1408.size hinb).WholeWords (EltTy.packing .bf16)) ∧
  (∀ (k0_h1 : k0_cond1 v55 = 1#1), ∀ a, (k0_off12 v202) a + S1x4096x1408.size a ≤ S32x4096x1408.size a) ∧
  (∀ (k0_h1 : k0_cond1 v55 = 1#1), ∀ (hinb : ∀ a, (k0_off12 v202) a + S1x4096x1408.size a ≤ S32x4096x1408.size a), (Rect.unit (s := S32x4096x1408) (k0_off12 v202) S1x4096x1408.size hinb).WholeWords (EltTy.packing .fp8e4m3)) ∧
  (∀ (k0_h1 : k0_cond1 v55 = 1#1), ∀ a, (k0_off13 v202) a + S1x1408x1024.size a ≤ S32x1408x4096.size a) ∧
  (∀ (k0_h1 : k0_cond1 v55 = 1#1), ∀ (hinb : ∀ a, (k0_off13 v202) a + S1x1408x1024.size a ≤ S32x1408x4096.size a), (Rect.unit (s := S32x1408x4096) (k0_off13 v202) S1x1408x1024.size hinb).WholeWords (EltTy.packing .fp8e4m3)) ∧
  (∀ (k0_h1 : k0_cond1 v55 = 1#1), ∀ a, (k0_off14 v202) a + S1x1408x1024.size a ≤ S32x1408x4096.size a) ∧
  (∀ (k0_h1 : k0_cond1 v55 = 1#1), ∀ (hinb : ∀ a, (k0_off14 v202) a + S1x1408x1024.size a ≤ S32x1408x4096.size a), (Rect.unit (s := S32x1408x4096) (k0_off14 v202) S1x1408x1024.size hinb).WholeWords (EltTy.packing .fp8e4m3)) ∧
  (∀ (k0_h1 : k0_cond1 v55 = 1#1), ∀ a, (k0_off15 v202) a + S1x1408x1024.size a ≤ S32x1408x4096.size a) ∧
  (∀ (k0_h1 : k0_cond1 v55 = 1#1), ∀ (hinb : ∀ a, (k0_off15 v202) a + S1x1408x1024.size a ≤ S32x1408x4096.size a), (Rect.unit (s := S32x1408x4096) (k0_off15 v202) S1x1408x1024.size hinb).WholeWords (EltTy.packing .fp8e4m3)) ∧
  (∀ (k0_h1 : k0_cond1 v55 = 1#1), ∀ a, (k0_off16 v202) a + S1x1408x1024.size a ≤ S32x1408x4096.size a) ∧
  (∀ (k0_h1 : k0_cond1 v55 = 1#1), ∀ (hinb : ∀ a, (k0_off16 v202) a + S1x1408x1024.size a ≤ S32x1408x4096.size a), (Rect.unit (s := S32x1408x4096) (k0_off16 v202) S1x1408x1024.size hinb).WholeWords (EltTy.packing .fp8e4m3))
theorem k0_off10_inb : ∀ (v55 : BitVec 32) (v202 : BitVec 32) (k0_hw3 : k0_chk3 v55 v202), ∀ (k0_h1 : k0_cond1 v55 = 1#1), ∀ a, (k0_off10 v202) a + S1x128x4096.size a ≤ S32x128x4096.size a := fun v55 v202 k0_hw3 k0_h1 => k0_hw3.1 k0_h1
theorem k0_off10_wordsbf16 : ∀ (v55 : BitVec 32) (v202 : BitVec 32) (k0_hw3 : k0_chk3 v55 v202), ∀ (k0_h1 : k0_cond1 v55 = 1#1), (Rect.unit (s := S32x128x4096) (k0_off10 v202) S1x128x4096.size (k0_off10_inb v55 v202 k0_hw3 k0_h1)).WholeWords (EltTy.packing .bf16) := fun v55 v202 k0_hw3 k0_h1 => k0_hw3.2.1 k0_h1 (k0_off10_inb v55 v202 k0_hw3 k0_h1)
theorem k0_off11_inb : ∀ (v55 : BitVec 32) (v202 : BitVec 32) (k0_hw3 : k0_chk3 v55 v202), ∀ (k0_h1 : k0_cond1 v55 = 1#1), ∀ a, (k0_off11 v202) a + S1x128x1408.size a ≤ S32x128x1408.size a := fun v55 v202 k0_hw3 k0_h1 => k0_hw3.2.2.1 k0_h1
theorem k0_off11_wordsbf16 : ∀ (v55 : BitVec 32) (v202 : BitVec 32) (k0_hw3 : k0_chk3 v55 v202), ∀ (k0_h1 : k0_cond1 v55 = 1#1), (Rect.unit (s := S32x128x1408) (k0_off11 v202) S1x128x1408.size (k0_off11_inb v55 v202 k0_hw3 k0_h1)).WholeWords (EltTy.packing .bf16) := fun v55 v202 k0_hw3 k0_h1 => k0_hw3.2.2.2.1 k0_h1 (k0_off11_inb v55 v202 k0_hw3 k0_h1)
theorem k0_off12_inb : ∀ (v55 : BitVec 32) (v202 : BitVec 32) (k0_hw3 : k0_chk3 v55 v202), ∀ (k0_h1 : k0_cond1 v55 = 1#1), ∀ a, (k0_off12 v202) a + S1x4096x1408.size a ≤ S32x4096x1408.size a := fun v55 v202 k0_hw3 k0_h1 => k0_hw3.2.2.2.2.1 k0_h1
theorem k0_off12_wordsfp8e4m3 : ∀ (v55 : BitVec 32) (v202 : BitVec 32) (k0_hw3 : k0_chk3 v55 v202), ∀ (k0_h1 : k0_cond1 v55 = 1#1), (Rect.unit (s := S32x4096x1408) (k0_off12 v202) S1x4096x1408.size (k0_off12_inb v55 v202 k0_hw3 k0_h1)).WholeWords (EltTy.packing .fp8e4m3) := fun v55 v202 k0_hw3 k0_h1 => k0_hw3.2.2.2.2.2.1 k0_h1 (k0_off12_inb v55 v202 k0_hw3 k0_h1)
theorem k0_off13_inb : ∀ (v55 : BitVec 32) (v202 : BitVec 32) (k0_hw3 : k0_chk3 v55 v202), ∀ (k0_h1 : k0_cond1 v55 = 1#1), ∀ a, (k0_off13 v202) a + S1x1408x1024.size a ≤ S32x1408x4096.size a := fun v55 v202 k0_hw3 k0_h1 => k0_hw3.2.2.2.2.2.2.1 k0_h1
theorem k0_off13_wordsfp8e4m3 : ∀ (v55 : BitVec 32) (v202 : BitVec 32) (k0_hw3 : k0_chk3 v55 v202), ∀ (k0_h1 : k0_cond1 v55 = 1#1), (Rect.unit (s := S32x1408x4096) (k0_off13 v202) S1x1408x1024.size (k0_off13_inb v55 v202 k0_hw3 k0_h1)).WholeWords (EltTy.packing .fp8e4m3) := fun v55 v202 k0_hw3 k0_h1 => k0_hw3.2.2.2.2.2.2.2.1 k0_h1 (k0_off13_inb v55 v202 k0_hw3 k0_h1)
theorem k0_off14_inb : ∀ (v55 : BitVec 32) (v202 : BitVec 32) (k0_hw3 : k0_chk3 v55 v202), ∀ (k0_h1 : k0_cond1 v55 = 1#1), ∀ a, (k0_off14 v202) a + S1x1408x1024.size a ≤ S32x1408x4096.size a := fun v55 v202 k0_hw3 k0_h1 => k0_hw3.2.2.2.2.2.2.2.2.1 k0_h1
theorem k0_off14_wordsfp8e4m3 : ∀ (v55 : BitVec 32) (v202 : BitVec 32) (k0_hw3 : k0_chk3 v55 v202), ∀ (k0_h1 : k0_cond1 v55 = 1#1), (Rect.unit (s := S32x1408x4096) (k0_off14 v202) S1x1408x1024.size (k0_off14_inb v55 v202 k0_hw3 k0_h1)).WholeWords (EltTy.packing .fp8e4m3) := fun v55 v202 k0_hw3 k0_h1 => k0_hw3.2.2.2.2.2.2.2.2.2.1 k0_h1 (k0_off14_inb v55 v202 k0_hw3 k0_h1)
theorem k0_off15_inb : ∀ (v55 : BitVec 32) (v202 : BitVec 32) (k0_hw3 : k0_chk3 v55 v202), ∀ (k0_h1 : k0_cond1 v55 = 1#1), ∀ a, (k0_off15 v202) a + S1x1408x1024.size a ≤ S32x1408x4096.size a := fun v55 v202 k0_hw3 k0_h1 => k0_hw3.2.2.2.2.2.2.2.2.2.2.1 k0_h1
theorem k0_off15_wordsfp8e4m3 : ∀ (v55 : BitVec 32) (v202 : BitVec 32) (k0_hw3 : k0_chk3 v55 v202), ∀ (k0_h1 : k0_cond1 v55 = 1#1), (Rect.unit (s := S32x1408x4096) (k0_off15 v202) S1x1408x1024.size (k0_off15_inb v55 v202 k0_hw3 k0_h1)).WholeWords (EltTy.packing .fp8e4m3) := fun v55 v202 k0_hw3 k0_h1 => k0_hw3.2.2.2.2.2.2.2.2.2.2.2.1 k0_h1 (k0_off15_inb v55 v202 k0_hw3 k0_h1)
theorem k0_off16_inb : ∀ (v55 : BitVec 32) (v202 : BitVec 32) (k0_hw3 : k0_chk3 v55 v202), ∀ (k0_h1 : k0_cond1 v55 = 1#1), ∀ a, (k0_off16 v202) a + S1x1408x1024.size a ≤ S32x1408x4096.size a := fun v55 v202 k0_hw3 k0_h1 => k0_hw3.2.2.2.2.2.2.2.2.2.2.2.2.1 k0_h1
theorem k0_off16_wordsfp8e4m3 : ∀ (v55 : BitVec 32) (v202 : BitVec 32) (k0_hw3 : k0_chk3 v55 v202), ∀ (k0_h1 : k0_cond1 v55 = 1#1), (Rect.unit (s := S32x1408x4096) (k0_off16 v202) S1x1408x1024.size (k0_off16_inb v55 v202 k0_hw3 k0_h1)).WholeWords (EltTy.packing .fp8e4m3) := fun v55 v202 k0_hw3 k0_h1 => k0_hw3.2.2.2.2.2.2.2.2.2.2.2.2.2 k0_h1 (k0_off16_inb v55 v202 k0_hw3 k0_h1)

def k0_off17 (v202 : BitVec 32) : Fin 3 → Nat :=
  let c0_i32_123 : BitVec 32 := 0#32
  let c0_i32_124 : BitVec 32 := 0#32
  ![v202.toNat, 0, 0]
def k0_cond2 (v55 : BitVec 32) : BitVec 1 :=
  let c2_i32_55 : BitVec 32 := 2#32
  let v59 : BitVec 1 := Scalar.cmpi .sgt v55 c2_i32_55
  let v60 : BitVec 32 := Scalar.extui v59
  let c0_i32_56 : BitVec 32 := 0#32
  let v61 : BitVec 1 := Scalar.cmpi .ne v60 c0_i32_56
  v61

def k0_off18 (v202 : BitVec 32) : Fin 3 → Nat :=
  let c0_i32_129 : BitVec 32 := 0#32
  let c0_i32_130 : BitVec 32 := 0#32
  ![v202.toNat, 0, 0]
def k0_off19 (v202 : BitVec 32) : Fin 3 → Nat :=
  let c0_i32_135 : BitVec 32 := 0#32
  let c0_i32_136 : BitVec 32 := 0#32
  ![v202.toNat, 0, 0]
def k0_off20 (v202 : BitVec 32) : Fin 3 → Nat :=
  let c0_i32_142 : BitVec 32 := 0#32
  let c0_i32_143 : BitVec 32 := 0#32
  ![v202.toNat, 0, 0]
def k0_off21 (v202 : BitVec 32) : Fin 3 → Nat :=
  let c0_i32_149 : BitVec 32 := 0#32
  let c1024_i32_150 : BitVec 32 := 1024#32
  ![v202.toNat, 0, 1024]
def k0_off22 (v202 : BitVec 32) : Fin 3 → Nat :=
  let c0_i32_156 : BitVec 32 := 0#32
  let c2048_i32_157 : BitVec 32 := 2048#32
  ![v202.toNat, 0, 2048]
def k0_off23 (v202 : BitVec 32) : Fin 3 → Nat :=
  let c0_i32_163 : BitVec 32 := 0#32
  let c3072_i32_164 : BitVec 32 := 3072#32
  ![v202.toNat, 0, 3072]

def k0_chk4 (v55 : BitVec 32) (v202 : BitVec 32) : Prop :=
  (∀ (k0_h2 : k0_cond2 v55 = 1#1), ∀ a, (k0_off17 v202) a + S1x128x4096.size a ≤ S32x128x4096.size a) ∧
  (∀ (k0_h2 : k0_cond2 v55 = 1#1), ∀ (hinb : ∀ a, (k0_off17 v202) a + S1x128x4096.size a ≤ S32x128x4096.size a), (Rect.unit (s := S32x128x4096) (k0_off17 v202) S1x128x4096.size hinb).WholeWords (EltTy.packing .bf16)) ∧
  (∀ (k0_h2 : k0_cond2 v55 = 1#1), ∀ a, (k0_off18 v202) a + S1x128x1408.size a ≤ S32x128x1408.size a) ∧
  (∀ (k0_h2 : k0_cond2 v55 = 1#1), ∀ (hinb : ∀ a, (k0_off18 v202) a + S1x128x1408.size a ≤ S32x128x1408.size a), (Rect.unit (s := S32x128x1408) (k0_off18 v202) S1x128x1408.size hinb).WholeWords (EltTy.packing .bf16)) ∧
  (∀ (k0_h2 : k0_cond2 v55 = 1#1), ∀ a, (k0_off19 v202) a + S1x4096x1408.size a ≤ S32x4096x1408.size a) ∧
  (∀ (k0_h2 : k0_cond2 v55 = 1#1), ∀ (hinb : ∀ a, (k0_off19 v202) a + S1x4096x1408.size a ≤ S32x4096x1408.size a), (Rect.unit (s := S32x4096x1408) (k0_off19 v202) S1x4096x1408.size hinb).WholeWords (EltTy.packing .fp8e4m3)) ∧
  (∀ (k0_h2 : k0_cond2 v55 = 1#1), ∀ a, (k0_off20 v202) a + S1x1408x1024.size a ≤ S32x1408x4096.size a) ∧
  (∀ (k0_h2 : k0_cond2 v55 = 1#1), ∀ (hinb : ∀ a, (k0_off20 v202) a + S1x1408x1024.size a ≤ S32x1408x4096.size a), (Rect.unit (s := S32x1408x4096) (k0_off20 v202) S1x1408x1024.size hinb).WholeWords (EltTy.packing .fp8e4m3)) ∧
  (∀ (k0_h2 : k0_cond2 v55 = 1#1), ∀ a, (k0_off21 v202) a + S1x1408x1024.size a ≤ S32x1408x4096.size a) ∧
  (∀ (k0_h2 : k0_cond2 v55 = 1#1), ∀ (hinb : ∀ a, (k0_off21 v202) a + S1x1408x1024.size a ≤ S32x1408x4096.size a), (Rect.unit (s := S32x1408x4096) (k0_off21 v202) S1x1408x1024.size hinb).WholeWords (EltTy.packing .fp8e4m3)) ∧
  (∀ (k0_h2 : k0_cond2 v55 = 1#1), ∀ a, (k0_off22 v202) a + S1x1408x1024.size a ≤ S32x1408x4096.size a) ∧
  (∀ (k0_h2 : k0_cond2 v55 = 1#1), ∀ (hinb : ∀ a, (k0_off22 v202) a + S1x1408x1024.size a ≤ S32x1408x4096.size a), (Rect.unit (s := S32x1408x4096) (k0_off22 v202) S1x1408x1024.size hinb).WholeWords (EltTy.packing .fp8e4m3)) ∧
  (∀ (k0_h2 : k0_cond2 v55 = 1#1), ∀ a, (k0_off23 v202) a + S1x1408x1024.size a ≤ S32x1408x4096.size a) ∧
  (∀ (k0_h2 : k0_cond2 v55 = 1#1), ∀ (hinb : ∀ a, (k0_off23 v202) a + S1x1408x1024.size a ≤ S32x1408x4096.size a), (Rect.unit (s := S32x1408x4096) (k0_off23 v202) S1x1408x1024.size hinb).WholeWords (EltTy.packing .fp8e4m3))
theorem k0_off17_inb : ∀ (v55 : BitVec 32) (v202 : BitVec 32) (k0_hw4 : k0_chk4 v55 v202), ∀ (k0_h2 : k0_cond2 v55 = 1#1), ∀ a, (k0_off17 v202) a + S1x128x4096.size a ≤ S32x128x4096.size a := fun v55 v202 k0_hw4 k0_h2 => k0_hw4.1 k0_h2
theorem k0_off17_wordsbf16 : ∀ (v55 : BitVec 32) (v202 : BitVec 32) (k0_hw4 : k0_chk4 v55 v202), ∀ (k0_h2 : k0_cond2 v55 = 1#1), (Rect.unit (s := S32x128x4096) (k0_off17 v202) S1x128x4096.size (k0_off17_inb v55 v202 k0_hw4 k0_h2)).WholeWords (EltTy.packing .bf16) := fun v55 v202 k0_hw4 k0_h2 => k0_hw4.2.1 k0_h2 (k0_off17_inb v55 v202 k0_hw4 k0_h2)
theorem k0_off18_inb : ∀ (v55 : BitVec 32) (v202 : BitVec 32) (k0_hw4 : k0_chk4 v55 v202), ∀ (k0_h2 : k0_cond2 v55 = 1#1), ∀ a, (k0_off18 v202) a + S1x128x1408.size a ≤ S32x128x1408.size a := fun v55 v202 k0_hw4 k0_h2 => k0_hw4.2.2.1 k0_h2
theorem k0_off18_wordsbf16 : ∀ (v55 : BitVec 32) (v202 : BitVec 32) (k0_hw4 : k0_chk4 v55 v202), ∀ (k0_h2 : k0_cond2 v55 = 1#1), (Rect.unit (s := S32x128x1408) (k0_off18 v202) S1x128x1408.size (k0_off18_inb v55 v202 k0_hw4 k0_h2)).WholeWords (EltTy.packing .bf16) := fun v55 v202 k0_hw4 k0_h2 => k0_hw4.2.2.2.1 k0_h2 (k0_off18_inb v55 v202 k0_hw4 k0_h2)
theorem k0_off19_inb : ∀ (v55 : BitVec 32) (v202 : BitVec 32) (k0_hw4 : k0_chk4 v55 v202), ∀ (k0_h2 : k0_cond2 v55 = 1#1), ∀ a, (k0_off19 v202) a + S1x4096x1408.size a ≤ S32x4096x1408.size a := fun v55 v202 k0_hw4 k0_h2 => k0_hw4.2.2.2.2.1 k0_h2
theorem k0_off19_wordsfp8e4m3 : ∀ (v55 : BitVec 32) (v202 : BitVec 32) (k0_hw4 : k0_chk4 v55 v202), ∀ (k0_h2 : k0_cond2 v55 = 1#1), (Rect.unit (s := S32x4096x1408) (k0_off19 v202) S1x4096x1408.size (k0_off19_inb v55 v202 k0_hw4 k0_h2)).WholeWords (EltTy.packing .fp8e4m3) := fun v55 v202 k0_hw4 k0_h2 => k0_hw4.2.2.2.2.2.1 k0_h2 (k0_off19_inb v55 v202 k0_hw4 k0_h2)
theorem k0_off20_inb : ∀ (v55 : BitVec 32) (v202 : BitVec 32) (k0_hw4 : k0_chk4 v55 v202), ∀ (k0_h2 : k0_cond2 v55 = 1#1), ∀ a, (k0_off20 v202) a + S1x1408x1024.size a ≤ S32x1408x4096.size a := fun v55 v202 k0_hw4 k0_h2 => k0_hw4.2.2.2.2.2.2.1 k0_h2
theorem k0_off20_wordsfp8e4m3 : ∀ (v55 : BitVec 32) (v202 : BitVec 32) (k0_hw4 : k0_chk4 v55 v202), ∀ (k0_h2 : k0_cond2 v55 = 1#1), (Rect.unit (s := S32x1408x4096) (k0_off20 v202) S1x1408x1024.size (k0_off20_inb v55 v202 k0_hw4 k0_h2)).WholeWords (EltTy.packing .fp8e4m3) := fun v55 v202 k0_hw4 k0_h2 => k0_hw4.2.2.2.2.2.2.2.1 k0_h2 (k0_off20_inb v55 v202 k0_hw4 k0_h2)
theorem k0_off21_inb : ∀ (v55 : BitVec 32) (v202 : BitVec 32) (k0_hw4 : k0_chk4 v55 v202), ∀ (k0_h2 : k0_cond2 v55 = 1#1), ∀ a, (k0_off21 v202) a + S1x1408x1024.size a ≤ S32x1408x4096.size a := fun v55 v202 k0_hw4 k0_h2 => k0_hw4.2.2.2.2.2.2.2.2.1 k0_h2
theorem k0_off21_wordsfp8e4m3 : ∀ (v55 : BitVec 32) (v202 : BitVec 32) (k0_hw4 : k0_chk4 v55 v202), ∀ (k0_h2 : k0_cond2 v55 = 1#1), (Rect.unit (s := S32x1408x4096) (k0_off21 v202) S1x1408x1024.size (k0_off21_inb v55 v202 k0_hw4 k0_h2)).WholeWords (EltTy.packing .fp8e4m3) := fun v55 v202 k0_hw4 k0_h2 => k0_hw4.2.2.2.2.2.2.2.2.2.1 k0_h2 (k0_off21_inb v55 v202 k0_hw4 k0_h2)
theorem k0_off22_inb : ∀ (v55 : BitVec 32) (v202 : BitVec 32) (k0_hw4 : k0_chk4 v55 v202), ∀ (k0_h2 : k0_cond2 v55 = 1#1), ∀ a, (k0_off22 v202) a + S1x1408x1024.size a ≤ S32x1408x4096.size a := fun v55 v202 k0_hw4 k0_h2 => k0_hw4.2.2.2.2.2.2.2.2.2.2.1 k0_h2
theorem k0_off22_wordsfp8e4m3 : ∀ (v55 : BitVec 32) (v202 : BitVec 32) (k0_hw4 : k0_chk4 v55 v202), ∀ (k0_h2 : k0_cond2 v55 = 1#1), (Rect.unit (s := S32x1408x4096) (k0_off22 v202) S1x1408x1024.size (k0_off22_inb v55 v202 k0_hw4 k0_h2)).WholeWords (EltTy.packing .fp8e4m3) := fun v55 v202 k0_hw4 k0_h2 => k0_hw4.2.2.2.2.2.2.2.2.2.2.2.1 k0_h2 (k0_off22_inb v55 v202 k0_hw4 k0_h2)
theorem k0_off23_inb : ∀ (v55 : BitVec 32) (v202 : BitVec 32) (k0_hw4 : k0_chk4 v55 v202), ∀ (k0_h2 : k0_cond2 v55 = 1#1), ∀ a, (k0_off23 v202) a + S1x1408x1024.size a ≤ S32x1408x4096.size a := fun v55 v202 k0_hw4 k0_h2 => k0_hw4.2.2.2.2.2.2.2.2.2.2.2.2.1 k0_h2
theorem k0_off23_wordsfp8e4m3 : ∀ (v55 : BitVec 32) (v202 : BitVec 32) (k0_hw4 : k0_chk4 v55 v202), ∀ (k0_h2 : k0_cond2 v55 = 1#1), (Rect.unit (s := S32x1408x4096) (k0_off23 v202) S1x1408x1024.size (k0_off23_inb v55 v202 k0_hw4 k0_h2)).WholeWords (EltTy.packing .fp8e4m3) := fun v55 v202 k0_hw4 k0_h2 => k0_hw4.2.2.2.2.2.2.2.2.2.2.2.2.2 k0_h2 (k0_off23_inb v55 v202 k0_hw4 k0_h2)

@[reducible] def k0_t3_loop (v55 : BitVec 32) : Scf.Loop 32 :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_101 : BitVec 32 := 1#32
  ⟨c0_i32_98, v191, c1_i32_101⟩

def k0_off24 (v55 : BitVec 32) (k0_t3 : Fin (k0_t3_loop v55).trips) : Fin 1 → Nat :=
  let c0_i32_98 : BitVec 32 := 0#32
  let c1_i32_101 : BitVec 32 := 1#32
  let arg39 : BitVec 32 := Scf.iv c0_i32_98 c1_i32_101 k0_t3
  let v203 : Index := Scalar.indexCast arg39
  ![v203.toNat]
def k0_off25 (v55 : BitVec 32) (k0_t3 : Fin (k0_t3_loop v55).trips) : Fin 1 → Nat :=
  let c0_i32_98 : BitVec 32 := 0#32
  let c1_i32_101 : BitVec 32 := 1#32
  let arg39 : BitVec 32 := Scf.iv c0_i32_98 c1_i32_101 k0_t3
  let c3_i32_121 : BitVec 32 := 3#32
  let v207 : BitVec 32 := Scalar.addi arg39 c3_i32_121
  let c1_i32_122 : BitVec 32 := 1#32
  let v208 : BitVec 32 := Scalar.subi v55 c1_i32_122
  let v209 : BitVec 32 := Scalar.minsi v207 v208
  let v210 : Index := Scalar.indexCast v209
  ![v210.toNat]
def k0_off26 (v55 : BitVec 32) (k0_t3 : Fin (k0_t3_loop v55).trips) : Fin 1 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  ![v202.toNat]
def k0_off27 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_135 : BitVec 32 := 0#32
  let c0_i32_136 : BitVec 32 := 0#32
  ![v202.toNat, 0, 0]
def k0_off28 (v204 : BitVec 32) : Fin 3 → Nat :=
  let c0_i32_137 : BitVec 32 := 0#32
  let c0_i32_138 : BitVec 32 := 0#32
  ![v204.toNat, 0, 0]

def k0_off29 (v55 : BitVec 32) (k0_t3 : Fin (k0_t3_loop v55).trips) : Fin 1 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  ![v202.toNat]
def k0_off30 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_139 : BitVec 32 := 0#32
  let c0_i32_140 : BitVec 32 := 0#32
  ![v202.toNat, 0, 0]
def k0_off31 (v204 : BitVec 32) : Fin 3 → Nat :=
  let c0_i32_141 : BitVec 32 := 0#32
  let c0_i32_142 : BitVec 32 := 0#32
  ![v204.toNat, 0, 0]
def k0_off32 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let v261 : Index := Scalar.indexCast v202
  let c0_145 : Index := 0#32
  let c0_146 : Index := 0#32
  ![v261.toNat, 0, 0]
def k0_off33 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let v273 : Index := Scalar.indexCast v202
  let c0_152 : Index := 0#32
  let c0_153 : Index := 0#32
  ![v273.toNat, 0, 0]
def k0_off34 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_155 : BitVec 32 := 0#32
  let c0_i32_156 : BitVec 32 := 0#32
  ![v202.toNat, 0, 0]
def k0_off35 (v204 : BitVec 32) : Fin 3 → Nat :=
  let c0_i32_157 : BitVec 32 := 0#32
  let c0_i32_158 : BitVec 32 := 0#32
  ![v204.toNat, 0, 0]
def k0_off36 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let v284 : Index := Scalar.indexCast v202
  let c0_161 : Index := 0#32
  let c0_162 : Index := 0#32
  ![v284.toNat, 0, 0]
def k0_off37 (v204 : BitVec 32) : Fin 2 → Nat :=
  let v291 : Index := Scalar.indexCast v204
  let c0_166 : Index := 0#32
  ![v291.toNat, 0]
def k0_off38 (v55 : BitVec 32) (k0_t3 : Fin (k0_t3_loop v55).trips) : Fin 1 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  ![v202.toNat]
def k0_cond3 (v55 : BitVec 32) (k0_t3 : Fin (k0_t3_loop v55).trips) : BitVec 1 :=
  let c0_i32_98 : BitVec 32 := 0#32
  let c1_i32_101 : BitVec 32 := 1#32
  let arg39 : BitVec 32 := Scf.iv c0_i32_98 c1_i32_101 k0_t3
  let c3_i32_120 : BitVec 32 := 3#32
  let v205 : BitVec 32 := Scalar.addi arg39 c3_i32_120
  let v206 : BitVec 1 := Scalar.cmpi .slt v205 v55
  let v352 : BitVec 32 := Scalar.extui v206
  let c0_i32_187 : BitVec 32 := 0#32
  let v353 : BitVec 1 := Scalar.cmpi .ne v352 c0_i32_187
  v353

def k0_off39 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_250 : BitVec 32 := 0#32
  let c0_i32_251 : BitVec 32 := 0#32
  ![v202.toNat, 0, 0]
def k0_off40 (v211 : BitVec 32) : Fin 3 → Nat :=
  let c0_i32_252 : BitVec 32 := 0#32
  let c0_i32_253 : BitVec 32 := 0#32
  ![v211.toNat, 0, 0]

def k0_off41 (v55 : BitVec 32) (k0_t3 : Fin (k0_t3_loop v55).trips) : Fin 1 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  ![v202.toNat]
def k0_off42 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_254 : BitVec 32 := 0#32
  let c0_i32_255 : BitVec 32 := 0#32
  ![v202.toNat, 0, 0]
def k0_off43 (v211 : BitVec 32) : Fin 3 → Nat :=
  let c0_i32_256 : BitVec 32 := 0#32
  let c0_i32_257 : BitVec 32 := 0#32
  ![v211.toNat, 0, 0]
def k0_off44 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_258 : BitVec 32 := 0#32
  let c0_i32_259 : BitVec 32 := 0#32
  ![v202.toNat, 0, 0]
def k0_off45 (v211 : BitVec 32) : Fin 3 → Nat :=
  let c0_i32_260 : BitVec 32 := 0#32
  let c0_i32_261 : BitVec 32 := 0#32
  ![v211.toNat, 0, 0]
def k0_off46 (v55 : BitVec 32) (k0_t3 : Fin (k0_t3_loop v55).trips) : Fin 2 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_188 : BitVec 32 := 0#32
  ![v202.toNat, 0]
def k0_off47 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_189 : BitVec 32 := 0#32
  let c0_i32_190 : BitVec 32 := 0#32
  ![v202.toNat, 0, 0]
def k0_off48 (v204 : BitVec 32) : Fin 3 → Nat :=
  let c0_i32_191 : BitVec 32 := 0#32
  let c0_i32_192 : BitVec 32 := 0#32
  ![v204.toNat, 0, 0]
def k0_off49 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let v360 : Index := Scalar.indexCast v202
  let c0_193 : Index := 0#32
  let c0_194 : Index := 0#32
  ![v360.toNat, 0, 0]
def k0_off50 (v204 : BitVec 32) : Fin 2 → Nat :=
  let v365 : Index := Scalar.indexCast v204
  let c0_198 : Index := 0#32
  ![v365.toNat, 0]
def k0_off51 (v55 : BitVec 32) (k0_t3 : Fin (k0_t3_loop v55).trips) : Fin 2 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_250 : BitVec 32 := 0#32
  ![v202.toNat, 0]
def k0_cond4 (v55 : BitVec 32) (k0_t3 : Fin (k0_t3_loop v55).trips) : BitVec 1 :=
  let c0_i32_98 : BitVec 32 := 0#32
  let c1_i32_101 : BitVec 32 := 1#32
  let arg39 : BitVec 32 := Scf.iv c0_i32_98 c1_i32_101 k0_t3
  let c3_i32_120 : BitVec 32 := 3#32
  let v205 : BitVec 32 := Scalar.addi arg39 c3_i32_120
  let v206 : BitVec 1 := Scalar.cmpi .slt v205 v55
  let v375 : BitVec 32 := Scalar.extui v206
  let c0_i32_201 : BitVec 32 := 0#32
  let v376 : BitVec 1 := Scalar.cmpi .ne v375 c0_i32_201
  v376

def k0_off52 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_251 : BitVec 32 := 0#32
  let c0_i32_252 : BitVec 32 := 0#32
  ![v202.toNat, 0, 0]
def k0_off53 (v211 : BitVec 32) : Fin 3 → Nat :=
  let c0_i32_253 : BitVec 32 := 0#32
  let c0_i32_254 : BitVec 32 := 0#32
  ![v211.toNat, 0, 0]
def k0_off54 (v55 : BitVec 32) (k0_t3 : Fin (k0_t3_loop v55).trips) : Fin 2 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c1_i32_204 : BitVec 32 := 1#32
  ![v202.toNat, 1]
def k0_off55 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_205 : BitVec 32 := 0#32
  let c1024_i32_206 : BitVec 32 := 1024#32
  ![v202.toNat, 0, 1024]
def k0_off56 (v204 : BitVec 32) : Fin 3 → Nat :=
  let c0_i32_207 : BitVec 32 := 0#32
  let c1024_i32_208 : BitVec 32 := 1024#32
  ![v204.toNat, 0, 1024]
def k0_off57 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let v387 : Index := Scalar.indexCast v202
  let c0_209 : Index := 0#32
  let c1024 : Index := 1024#32
  ![v387.toNat, 0, 1024]
def k0_off58 (v204 : BitVec 32) : Fin 2 → Nat :=
  let v392 : Index := Scalar.indexCast v204
  let c1024_213 : Index := 1024#32
  ![v392.toNat, 1024]
def k0_off59 (v55 : BitVec 32) (k0_t3 : Fin (k0_t3_loop v55).trips) : Fin 2 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c1_i32_250 : BitVec 32 := 1#32
  ![v202.toNat, 1]
def k0_cond6 (v55 : BitVec 32) (k0_t3 : Fin (k0_t3_loop v55).trips) : BitVec 1 :=
  let c0_i32_98 : BitVec 32 := 0#32
  let c1_i32_101 : BitVec 32 := 1#32
  let arg39 : BitVec 32 := Scf.iv c0_i32_98 c1_i32_101 k0_t3
  let c3_i32_120 : BitVec 32 := 3#32
  let v205 : BitVec 32 := Scalar.addi arg39 c3_i32_120
  let v206 : BitVec 1 := Scalar.cmpi .slt v205 v55
  let v402 : BitVec 32 := Scalar.extui v206
  let c0_i32_216 : BitVec 32 := 0#32
  let v403 : BitVec 1 := Scalar.cmpi .ne v402 c0_i32_216
  v403

def k0_off60 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_251 : BitVec 32 := 0#32
  let c1024_i32_252 : BitVec 32 := 1024#32
  ![v202.toNat, 0, 1024]
def k0_off61 (v211 : BitVec 32) : Fin 3 → Nat :=
  let c0_i32_253 : BitVec 32 := 0#32
  let c1024_i32_254 : BitVec 32 := 1024#32
  ![v211.toNat, 0, 1024]
def k0_off62 (v55 : BitVec 32) (k0_t3 : Fin (k0_t3_loop v55).trips) : Fin 2 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c2_i32_219 : BitVec 32 := 2#32
  ![v202.toNat, 2]
def k0_off63 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_220 : BitVec 32 := 0#32
  let c2048_i32_221 : BitVec 32 := 2048#32
  ![v202.toNat, 0, 2048]
def k0_off64 (v204 : BitVec 32) : Fin 3 → Nat :=
  let c0_i32_222 : BitVec 32 := 0#32
  let c2048_i32_223 : BitVec 32 := 2048#32
  ![v204.toNat, 0, 2048]
def k0_off65 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let v414 : Index := Scalar.indexCast v202
  let c0_224 : Index := 0#32
  let c2048 : Index := 2048#32
  ![v414.toNat, 0, 2048]
def k0_off66 (v204 : BitVec 32) : Fin 2 → Nat :=
  let v419 : Index := Scalar.indexCast v204
  let c2048_228 : Index := 2048#32
  ![v419.toNat, 2048]
def k0_off67 (v55 : BitVec 32) (k0_t3 : Fin (k0_t3_loop v55).trips) : Fin 2 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c2_i32_250 : BitVec 32 := 2#32
  ![v202.toNat, 2]
def k0_cond8 (v55 : BitVec 32) (k0_t3 : Fin (k0_t3_loop v55).trips) : BitVec 1 :=
  let c0_i32_98 : BitVec 32 := 0#32
  let c1_i32_101 : BitVec 32 := 1#32
  let arg39 : BitVec 32 := Scf.iv c0_i32_98 c1_i32_101 k0_t3
  let c3_i32_120 : BitVec 32 := 3#32
  let v205 : BitVec 32 := Scalar.addi arg39 c3_i32_120
  let v206 : BitVec 1 := Scalar.cmpi .slt v205 v55
  let v429 : BitVec 32 := Scalar.extui v206
  let c0_i32_231 : BitVec 32 := 0#32
  let v430 : BitVec 1 := Scalar.cmpi .ne v429 c0_i32_231
  v430

def k0_off68 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_251 : BitVec 32 := 0#32
  let c2048_i32_252 : BitVec 32 := 2048#32
  ![v202.toNat, 0, 2048]
def k0_off69 (v211 : BitVec 32) : Fin 3 → Nat :=
  let c0_i32_253 : BitVec 32 := 0#32
  let c2048_i32_254 : BitVec 32 := 2048#32
  ![v211.toNat, 0, 2048]
def k0_off70 (v55 : BitVec 32) (k0_t3 : Fin (k0_t3_loop v55).trips) : Fin 2 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c3_i32_234 : BitVec 32 := 3#32
  ![v202.toNat, 3]
def k0_off71 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_235 : BitVec 32 := 0#32
  let c3072_i32_236 : BitVec 32 := 3072#32
  ![v202.toNat, 0, 3072]
def k0_off72 (v204 : BitVec 32) : Fin 3 → Nat :=
  let c0_i32_237 : BitVec 32 := 0#32
  let c3072_i32_238 : BitVec 32 := 3072#32
  ![v204.toNat, 0, 3072]
def k0_off73 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let v441 : Index := Scalar.indexCast v202
  let c0_239 : Index := 0#32
  let c3072 : Index := 3072#32
  ![v441.toNat, 0, 3072]
def k0_off74 (v204 : BitVec 32) : Fin 2 → Nat :=
  let v446 : Index := Scalar.indexCast v204
  let c3072_243 : Index := 3072#32
  ![v446.toNat, 3072]

def k0_chk6 (v204 : BitVec 32) : Prop :=
  (∀ a, (k0_off28 v204) a + S1x128x4096.size a ≤ S32x128x4096.size a) ∧
  (∀ (hinb : ∀ a, (k0_off28 v204) a + S1x128x4096.size a ≤ S32x128x4096.size a), (Rect.unit (s := S32x128x4096) (k0_off28 v204) S1x128x4096.size hinb).WholeWords (EltTy.packing .bf16)) ∧
  (∀ a, (k0_off31 v204) a + S1x128x1408.size a ≤ S32x128x1408.size a) ∧
  (∀ (hinb : ∀ a, (k0_off31 v204) a + S1x128x1408.size a ≤ S32x128x1408.size a), (Rect.unit (s := S32x128x1408) (k0_off31 v204) S1x128x1408.size hinb).WholeWords (EltTy.packing .bf16)) ∧
  (∀ a, (k0_off35 v204) a + S1x4096x1408.size a ≤ S32x4096x1408.size a) ∧
  (∀ (hinb : ∀ a, (k0_off35 v204) a + S1x4096x1408.size a ≤ S32x4096x1408.size a), (Rect.unit (s := S32x4096x1408) (k0_off35 v204) S1x4096x1408.size hinb).WholeWords (EltTy.packing .fp8e4m3)) ∧
  (∀ a, (k0_off37 v204) a + S1x1408.size a ≤ S32x1408.size a) ∧
  (∀ a, (k0_off48 v204) a + S1x1408x1024.size a ≤ S32x1408x4096.size a) ∧
  (∀ (hinb : ∀ a, (k0_off48 v204) a + S1x1408x1024.size a ≤ S32x1408x4096.size a), (Rect.unit (s := S32x1408x4096) (k0_off48 v204) S1x1408x1024.size hinb).WholeWords (EltTy.packing .fp8e4m3)) ∧
  (∀ a, (k0_off50 v204) a + S1x1024.size a ≤ S32x4096.size a) ∧
  (∀ a, (k0_off56 v204) a + S1x1408x1024.size a ≤ S32x1408x4096.size a) ∧
  (∀ (hinb : ∀ a, (k0_off56 v204) a + S1x1408x1024.size a ≤ S32x1408x4096.size a), (Rect.unit (s := S32x1408x4096) (k0_off56 v204) S1x1408x1024.size hinb).WholeWords (EltTy.packing .fp8e4m3)) ∧
  (∀ a, (k0_off58 v204) a + S1x1024.size a ≤ S32x4096.size a) ∧
  (∀ a, (k0_off64 v204) a + S1x1408x1024.size a ≤ S32x1408x4096.size a) ∧
  (∀ (hinb : ∀ a, (k0_off64 v204) a + S1x1408x1024.size a ≤ S32x1408x4096.size a), (Rect.unit (s := S32x1408x4096) (k0_off64 v204) S1x1408x1024.size hinb).WholeWords (EltTy.packing .fp8e4m3)) ∧
  (∀ a, (k0_off66 v204) a + S1x1024.size a ≤ S32x4096.size a) ∧
  (∀ a, (k0_off72 v204) a + S1x1408x1024.size a ≤ S32x1408x4096.size a) ∧
  (∀ (hinb : ∀ a, (k0_off72 v204) a + S1x1408x1024.size a ≤ S32x1408x4096.size a), (Rect.unit (s := S32x1408x4096) (k0_off72 v204) S1x1408x1024.size hinb).WholeWords (EltTy.packing .fp8e4m3)) ∧
  (∀ a, (k0_off74 v204) a + S1x1024.size a ≤ S32x4096.size a)
theorem k0_off28_inb : ∀ (v204 : BitVec 32) (k0_hw6 : k0_chk6 v204), ∀ a, (k0_off28 v204) a + S1x128x4096.size a ≤ S32x128x4096.size a := fun v204 k0_hw6 => k0_hw6.1
theorem k0_off28_wordsbf16 : ∀ (v204 : BitVec 32) (k0_hw6 : k0_chk6 v204), (Rect.unit (s := S32x128x4096) (k0_off28 v204) S1x128x4096.size (k0_off28_inb v204 k0_hw6)).WholeWords (EltTy.packing .bf16) := fun v204 k0_hw6 => k0_hw6.2.1 (k0_off28_inb v204 k0_hw6)
theorem k0_off31_inb : ∀ (v204 : BitVec 32) (k0_hw6 : k0_chk6 v204), ∀ a, (k0_off31 v204) a + S1x128x1408.size a ≤ S32x128x1408.size a := fun v204 k0_hw6 => k0_hw6.2.2.1
theorem k0_off31_wordsbf16 : ∀ (v204 : BitVec 32) (k0_hw6 : k0_chk6 v204), (Rect.unit (s := S32x128x1408) (k0_off31 v204) S1x128x1408.size (k0_off31_inb v204 k0_hw6)).WholeWords (EltTy.packing .bf16) := fun v204 k0_hw6 => k0_hw6.2.2.2.1 (k0_off31_inb v204 k0_hw6)
theorem k0_off35_inb : ∀ (v204 : BitVec 32) (k0_hw6 : k0_chk6 v204), ∀ a, (k0_off35 v204) a + S1x4096x1408.size a ≤ S32x4096x1408.size a := fun v204 k0_hw6 => k0_hw6.2.2.2.2.1
theorem k0_off35_wordsfp8e4m3 : ∀ (v204 : BitVec 32) (k0_hw6 : k0_chk6 v204), (Rect.unit (s := S32x4096x1408) (k0_off35 v204) S1x4096x1408.size (k0_off35_inb v204 k0_hw6)).WholeWords (EltTy.packing .fp8e4m3) := fun v204 k0_hw6 => k0_hw6.2.2.2.2.2.1 (k0_off35_inb v204 k0_hw6)
theorem k0_off37_inb : ∀ (v204 : BitVec 32) (k0_hw6 : k0_chk6 v204), ∀ a, (k0_off37 v204) a + S1x1408.size a ≤ S32x1408.size a := fun v204 k0_hw6 => k0_hw6.2.2.2.2.2.2.1
theorem k0_off48_inb : ∀ (v204 : BitVec 32) (k0_hw6 : k0_chk6 v204), ∀ a, (k0_off48 v204) a + S1x1408x1024.size a ≤ S32x1408x4096.size a := fun v204 k0_hw6 => k0_hw6.2.2.2.2.2.2.2.1
theorem k0_off48_wordsfp8e4m3 : ∀ (v204 : BitVec 32) (k0_hw6 : k0_chk6 v204), (Rect.unit (s := S32x1408x4096) (k0_off48 v204) S1x1408x1024.size (k0_off48_inb v204 k0_hw6)).WholeWords (EltTy.packing .fp8e4m3) := fun v204 k0_hw6 => k0_hw6.2.2.2.2.2.2.2.2.1 (k0_off48_inb v204 k0_hw6)
theorem k0_off50_inb : ∀ (v204 : BitVec 32) (k0_hw6 : k0_chk6 v204), ∀ a, (k0_off50 v204) a + S1x1024.size a ≤ S32x4096.size a := fun v204 k0_hw6 => k0_hw6.2.2.2.2.2.2.2.2.2.1
theorem k0_off56_inb : ∀ (v204 : BitVec 32) (k0_hw6 : k0_chk6 v204), ∀ a, (k0_off56 v204) a + S1x1408x1024.size a ≤ S32x1408x4096.size a := fun v204 k0_hw6 => k0_hw6.2.2.2.2.2.2.2.2.2.2.1
theorem k0_off56_wordsfp8e4m3 : ∀ (v204 : BitVec 32) (k0_hw6 : k0_chk6 v204), (Rect.unit (s := S32x1408x4096) (k0_off56 v204) S1x1408x1024.size (k0_off56_inb v204 k0_hw6)).WholeWords (EltTy.packing .fp8e4m3) := fun v204 k0_hw6 => k0_hw6.2.2.2.2.2.2.2.2.2.2.2.1 (k0_off56_inb v204 k0_hw6)
theorem k0_off58_inb : ∀ (v204 : BitVec 32) (k0_hw6 : k0_chk6 v204), ∀ a, (k0_off58 v204) a + S1x1024.size a ≤ S32x4096.size a := fun v204 k0_hw6 => k0_hw6.2.2.2.2.2.2.2.2.2.2.2.2.1
theorem k0_off64_inb : ∀ (v204 : BitVec 32) (k0_hw6 : k0_chk6 v204), ∀ a, (k0_off64 v204) a + S1x1408x1024.size a ≤ S32x1408x4096.size a := fun v204 k0_hw6 => k0_hw6.2.2.2.2.2.2.2.2.2.2.2.2.2.1
theorem k0_off64_wordsfp8e4m3 : ∀ (v204 : BitVec 32) (k0_hw6 : k0_chk6 v204), (Rect.unit (s := S32x1408x4096) (k0_off64 v204) S1x1408x1024.size (k0_off64_inb v204 k0_hw6)).WholeWords (EltTy.packing .fp8e4m3) := fun v204 k0_hw6 => k0_hw6.2.2.2.2.2.2.2.2.2.2.2.2.2.2.1 (k0_off64_inb v204 k0_hw6)
theorem k0_off66_inb : ∀ (v204 : BitVec 32) (k0_hw6 : k0_chk6 v204), ∀ a, (k0_off66 v204) a + S1x1024.size a ≤ S32x4096.size a := fun v204 k0_hw6 => k0_hw6.2.2.2.2.2.2.2.2.2.2.2.2.2.2.2.1
theorem k0_off72_inb : ∀ (v204 : BitVec 32) (k0_hw6 : k0_chk6 v204), ∀ a, (k0_off72 v204) a + S1x1408x1024.size a ≤ S32x1408x4096.size a := fun v204 k0_hw6 => k0_hw6.2.2.2.2.2.2.2.2.2.2.2.2.2.2.2.2.1
theorem k0_off72_wordsfp8e4m3 : ∀ (v204 : BitVec 32) (k0_hw6 : k0_chk6 v204), (Rect.unit (s := S32x1408x4096) (k0_off72 v204) S1x1408x1024.size (k0_off72_inb v204 k0_hw6)).WholeWords (EltTy.packing .fp8e4m3) := fun v204 k0_hw6 => k0_hw6.2.2.2.2.2.2.2.2.2.2.2.2.2.2.2.2.2.1 (k0_off72_inb v204 k0_hw6)
theorem k0_off74_inb : ∀ (v204 : BitVec 32) (k0_hw6 : k0_chk6 v204), ∀ a, (k0_off74 v204) a + S1x1024.size a ≤ S32x4096.size a := fun v204 k0_hw6 => k0_hw6.2.2.2.2.2.2.2.2.2.2.2.2.2.2.2.2.2.2

def k0_off75 (v55 : BitVec 32) (k0_t3 : Fin (k0_t3_loop v55).trips) : Fin 2 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c3_i32_250 : BitVec 32 := 3#32
  ![v202.toNat, 3]
def k0_cond10 (v55 : BitVec 32) (k0_t3 : Fin (k0_t3_loop v55).trips) : BitVec 1 :=
  let c0_i32_98 : BitVec 32 := 0#32
  let c1_i32_101 : BitVec 32 := 1#32
  let arg39 : BitVec 32 := Scf.iv c0_i32_98 c1_i32_101 k0_t3
  let c3_i32_120 : BitVec 32 := 3#32
  let v205 : BitVec 32 := Scalar.addi arg39 c3_i32_120
  let v206 : BitVec 1 := Scalar.cmpi .slt v205 v55
  let v456 : BitVec 32 := Scalar.extui v206
  let c0_i32_246 : BitVec 32 := 0#32
  let v457 : BitVec 1 := Scalar.cmpi .ne v456 c0_i32_246
  v457

def k0_off76 (v55 : BitVec 32) (k0_t3 : Fin (k0_t3_loop v55).trips) : Fin 3 → Nat :=
  let c0_i32_98 : BitVec 32 := 0#32
  let c1_i32_101 : BitVec 32 := 1#32
  let arg39 : BitVec 32 := Scf.iv c0_i32_98 c1_i32_101 k0_t3
  let c3_i32_119 : BitVec 32 := 3#32
  let v202 : BitVec 32 := Scalar.remsi arg39 c3_i32_119
  let c0_i32_251 : BitVec 32 := 0#32
  let c3072_i32_252 : BitVec 32 := 3072#32
  ![v202.toNat, 0, 3072]
def k0_off77 (v211 : BitVec 32) : Fin 3 → Nat :=
  let c0_i32_253 : BitVec 32 := 0#32
  let c3072_i32_254 : BitVec 32 := 3072#32
  ![v211.toNat, 0, 3072]

def k0_chk7 (v55 : BitVec 32) (k0_t3 : Fin (k0_t3_loop v55).trips) (v211 : BitVec 32) : Prop :=
  (∀ (k0_h3 : k0_cond3 v55 k0_t3 = 1#1), ∀ a, (k0_off40 v211) a + S1x128x4096.size a ≤ S32x128x4096.size a) ∧
  (∀ (k0_h3 : k0_cond3 v55 k0_t3 = 1#1), ∀ (hinb : ∀ a, (k0_off40 v211) a + S1x128x4096.size a ≤ S32x128x4096.size a), (Rect.unit (s := S32x128x4096) (k0_off40 v211) S1x128x4096.size hinb).WholeWords (EltTy.packing .bf16)) ∧
  (∀ (k0_h3 : k0_cond3 v55 k0_t3 = 1#1), ∀ a, (k0_off43 v211) a + S1x128x1408.size a ≤ S32x128x1408.size a) ∧
  (∀ (k0_h3 : k0_cond3 v55 k0_t3 = 1#1), ∀ (hinb : ∀ a, (k0_off43 v211) a + S1x128x1408.size a ≤ S32x128x1408.size a), (Rect.unit (s := S32x128x1408) (k0_off43 v211) S1x128x1408.size hinb).WholeWords (EltTy.packing .bf16)) ∧
  (∀ (k0_h3 : k0_cond3 v55 k0_t3 = 1#1), ∀ a, (k0_off45 v211) a + S1x4096x1408.size a ≤ S32x4096x1408.size a) ∧
  (∀ (k0_h3 : k0_cond3 v55 k0_t3 = 1#1), ∀ (hinb : ∀ a, (k0_off45 v211) a + S1x4096x1408.size a ≤ S32x4096x1408.size a), (Rect.unit (s := S32x4096x1408) (k0_off45 v211) S1x4096x1408.size hinb).WholeWords (EltTy.packing .fp8e4m3)) ∧
  (∀ (k0_h4 : k0_cond4 v55 k0_t3 = 1#1), ∀ a, (k0_off53 v211) a + S1x1408x1024.size a ≤ S32x1408x4096.size a) ∧
  (∀ (k0_h4 : k0_cond4 v55 k0_t3 = 1#1), ∀ (hinb : ∀ a, (k0_off53 v211) a + S1x1408x1024.size a ≤ S32x1408x4096.size a), (Rect.unit (s := S32x1408x4096) (k0_off53 v211) S1x1408x1024.size hinb).WholeWords (EltTy.packing .fp8e4m3)) ∧
  (∀ (k0_h6 : k0_cond6 v55 k0_t3 = 1#1), ∀ a, (k0_off61 v211) a + S1x1408x1024.size a ≤ S32x1408x4096.size a) ∧
  (∀ (k0_h6 : k0_cond6 v55 k0_t3 = 1#1), ∀ (hinb : ∀ a, (k0_off61 v211) a + S1x1408x1024.size a ≤ S32x1408x4096.size a), (Rect.unit (s := S32x1408x4096) (k0_off61 v211) S1x1408x1024.size hinb).WholeWords (EltTy.packing .fp8e4m3)) ∧
  (∀ (k0_h8 : k0_cond8 v55 k0_t3 = 1#1), ∀ a, (k0_off69 v211) a + S1x1408x1024.size a ≤ S32x1408x4096.size a) ∧
  (∀ (k0_h8 : k0_cond8 v55 k0_t3 = 1#1), ∀ (hinb : ∀ a, (k0_off69 v211) a + S1x1408x1024.size a ≤ S32x1408x4096.size a), (Rect.unit (s := S32x1408x4096) (k0_off69 v211) S1x1408x1024.size hinb).WholeWords (EltTy.packing .fp8e4m3)) ∧
  (∀ (k0_h10 : k0_cond10 v55 k0_t3 = 1#1), ∀ a, (k0_off77 v211) a + S1x1408x1024.size a ≤ S32x1408x4096.size a) ∧
  (∀ (k0_h10 : k0_cond10 v55 k0_t3 = 1#1), ∀ (hinb : ∀ a, (k0_off77 v211) a + S1x1408x1024.size a ≤ S32x1408x4096.size a), (Rect.unit (s := S32x1408x4096) (k0_off77 v211) S1x1408x1024.size hinb).WholeWords (EltTy.packing .fp8e4m3))
theorem k0_off40_inb : ∀ (v55 : BitVec 32) (k0_t3 : Fin (k0_t3_loop v55).trips) (v211 : BitVec 32) (k0_hw7 : k0_chk7 v55 k0_t3 v211), ∀ (k0_h3 : k0_cond3 v55 k0_t3 = 1#1), ∀ a, (k0_off40 v211) a + S1x128x4096.size a ≤ S32x128x4096.size a := fun v55 k0_t3 v211 k0_hw7 k0_h3 => k0_hw7.1 k0_h3
theorem k0_off40_wordsbf16 : ∀ (v55 : BitVec 32) (k0_t3 : Fin (k0_t3_loop v55).trips) (v211 : BitVec 32) (k0_hw7 : k0_chk7 v55 k0_t3 v211), ∀ (k0_h3 : k0_cond3 v55 k0_t3 = 1#1), (Rect.unit (s := S32x128x4096) (k0_off40 v211) S1x128x4096.size (k0_off40_inb v55 k0_t3 v211 k0_hw7 k0_h3)).WholeWords (EltTy.packing .bf16) := fun v55 k0_t3 v211 k0_hw7 k0_h3 => k0_hw7.2.1 k0_h3 (k0_off40_inb v55 k0_t3 v211 k0_hw7 k0_h3)
theorem k0_off43_inb : ∀ (v55 : BitVec 32) (k0_t3 : Fin (k0_t3_loop v55).trips) (v211 : BitVec 32) (k0_hw7 : k0_chk7 v55 k0_t3 v211), ∀ (k0_h3 : k0_cond3 v55 k0_t3 = 1#1), ∀ a, (k0_off43 v211) a + S1x128x1408.size a ≤ S32x128x1408.size a := fun v55 k0_t3 v211 k0_hw7 k0_h3 => k0_hw7.2.2.1 k0_h3
theorem k0_off43_wordsbf16 : ∀ (v55 : BitVec 32) (k0_t3 : Fin (k0_t3_loop v55).trips) (v211 : BitVec 32) (k0_hw7 : k0_chk7 v55 k0_t3 v211), ∀ (k0_h3 : k0_cond3 v55 k0_t3 = 1#1), (Rect.unit (s := S32x128x1408) (k0_off43 v211) S1x128x1408.size (k0_off43_inb v55 k0_t3 v211 k0_hw7 k0_h3)).WholeWords (EltTy.packing .bf16) := fun v55 k0_t3 v211 k0_hw7 k0_h3 => k0_hw7.2.2.2.1 k0_h3 (k0_off43_inb v55 k0_t3 v211 k0_hw7 k0_h3)
theorem k0_off45_inb : ∀ (v55 : BitVec 32) (k0_t3 : Fin (k0_t3_loop v55).trips) (v211 : BitVec 32) (k0_hw7 : k0_chk7 v55 k0_t3 v211), ∀ (k0_h3 : k0_cond3 v55 k0_t3 = 1#1), ∀ a, (k0_off45 v211) a + S1x4096x1408.size a ≤ S32x4096x1408.size a := fun v55 k0_t3 v211 k0_hw7 k0_h3 => k0_hw7.2.2.2.2.1 k0_h3
theorem k0_off45_wordsfp8e4m3 : ∀ (v55 : BitVec 32) (k0_t3 : Fin (k0_t3_loop v55).trips) (v211 : BitVec 32) (k0_hw7 : k0_chk7 v55 k0_t3 v211), ∀ (k0_h3 : k0_cond3 v55 k0_t3 = 1#1), (Rect.unit (s := S32x4096x1408) (k0_off45 v211) S1x4096x1408.size (k0_off45_inb v55 k0_t3 v211 k0_hw7 k0_h3)).WholeWords (EltTy.packing .fp8e4m3) := fun v55 k0_t3 v211 k0_hw7 k0_h3 => k0_hw7.2.2.2.2.2.1 k0_h3 (k0_off45_inb v55 k0_t3 v211 k0_hw7 k0_h3)
theorem k0_off53_inb : ∀ (v55 : BitVec 32) (k0_t3 : Fin (k0_t3_loop v55).trips) (v211 : BitVec 32) (k0_hw7 : k0_chk7 v55 k0_t3 v211), ∀ (k0_h4 : k0_cond4 v55 k0_t3 = 1#1), ∀ a, (k0_off53 v211) a + S1x1408x1024.size a ≤ S32x1408x4096.size a := fun v55 k0_t3 v211 k0_hw7 k0_h4 => k0_hw7.2.2.2.2.2.2.1 k0_h4
theorem k0_off53_wordsfp8e4m3 : ∀ (v55 : BitVec 32) (k0_t3 : Fin (k0_t3_loop v55).trips) (v211 : BitVec 32) (k0_hw7 : k0_chk7 v55 k0_t3 v211), ∀ (k0_h4 : k0_cond4 v55 k0_t3 = 1#1), (Rect.unit (s := S32x1408x4096) (k0_off53 v211) S1x1408x1024.size (k0_off53_inb v55 k0_t3 v211 k0_hw7 k0_h4)).WholeWords (EltTy.packing .fp8e4m3) := fun v55 k0_t3 v211 k0_hw7 k0_h4 => k0_hw7.2.2.2.2.2.2.2.1 k0_h4 (k0_off53_inb v55 k0_t3 v211 k0_hw7 k0_h4)
theorem k0_off61_inb : ∀ (v55 : BitVec 32) (k0_t3 : Fin (k0_t3_loop v55).trips) (v211 : BitVec 32) (k0_hw7 : k0_chk7 v55 k0_t3 v211), ∀ (k0_h6 : k0_cond6 v55 k0_t3 = 1#1), ∀ a, (k0_off61 v211) a + S1x1408x1024.size a ≤ S32x1408x4096.size a := fun v55 k0_t3 v211 k0_hw7 k0_h6 => k0_hw7.2.2.2.2.2.2.2.2.1 k0_h6
theorem k0_off61_wordsfp8e4m3 : ∀ (v55 : BitVec 32) (k0_t3 : Fin (k0_t3_loop v55).trips) (v211 : BitVec 32) (k0_hw7 : k0_chk7 v55 k0_t3 v211), ∀ (k0_h6 : k0_cond6 v55 k0_t3 = 1#1), (Rect.unit (s := S32x1408x4096) (k0_off61 v211) S1x1408x1024.size (k0_off61_inb v55 k0_t3 v211 k0_hw7 k0_h6)).WholeWords (EltTy.packing .fp8e4m3) := fun v55 k0_t3 v211 k0_hw7 k0_h6 => k0_hw7.2.2.2.2.2.2.2.2.2.1 k0_h6 (k0_off61_inb v55 k0_t3 v211 k0_hw7 k0_h6)
theorem k0_off69_inb : ∀ (v55 : BitVec 32) (k0_t3 : Fin (k0_t3_loop v55).trips) (v211 : BitVec 32) (k0_hw7 : k0_chk7 v55 k0_t3 v211), ∀ (k0_h8 : k0_cond8 v55 k0_t3 = 1#1), ∀ a, (k0_off69 v211) a + S1x1408x1024.size a ≤ S32x1408x4096.size a := fun v55 k0_t3 v211 k0_hw7 k0_h8 => k0_hw7.2.2.2.2.2.2.2.2.2.2.1 k0_h8
theorem k0_off69_wordsfp8e4m3 : ∀ (v55 : BitVec 32) (k0_t3 : Fin (k0_t3_loop v55).trips) (v211 : BitVec 32) (k0_hw7 : k0_chk7 v55 k0_t3 v211), ∀ (k0_h8 : k0_cond8 v55 k0_t3 = 1#1), (Rect.unit (s := S32x1408x4096) (k0_off69 v211) S1x1408x1024.size (k0_off69_inb v55 k0_t3 v211 k0_hw7 k0_h8)).WholeWords (EltTy.packing .fp8e4m3) := fun v55 k0_t3 v211 k0_hw7 k0_h8 => k0_hw7.2.2.2.2.2.2.2.2.2.2.2.1 k0_h8 (k0_off69_inb v55 k0_t3 v211 k0_hw7 k0_h8)
theorem k0_off77_inb : ∀ (v55 : BitVec 32) (k0_t3 : Fin (k0_t3_loop v55).trips) (v211 : BitVec 32) (k0_hw7 : k0_chk7 v55 k0_t3 v211), ∀ (k0_h10 : k0_cond10 v55 k0_t3 = 1#1), ∀ a, (k0_off77 v211) a + S1x1408x1024.size a ≤ S32x1408x4096.size a := fun v55 k0_t3 v211 k0_hw7 k0_h10 => k0_hw7.2.2.2.2.2.2.2.2.2.2.2.2.1 k0_h10
theorem k0_off77_wordsfp8e4m3 : ∀ (v55 : BitVec 32) (k0_t3 : Fin (k0_t3_loop v55).trips) (v211 : BitVec 32) (k0_hw7 : k0_chk7 v55 k0_t3 v211), ∀ (k0_h10 : k0_cond10 v55 k0_t3 = 1#1), (Rect.unit (s := S32x1408x4096) (k0_off77 v211) S1x1408x1024.size (k0_off77_inb v55 k0_t3 v211 k0_hw7 k0_h10)).WholeWords (EltTy.packing .fp8e4m3) := fun v55 k0_t3 v211 k0_hw7 k0_h10 => k0_hw7.2.2.2.2.2.2.2.2.2.2.2.2.2 k0_h10 (k0_off77_inb v55 k0_t3 v211 k0_hw7 k0_h10)

@[reducible] def k0_t4_loop (v55 : BitVec 32) : Scf.Loop 32 :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let v188 : BitVec 32 := Scalar.addi c0_i32_98 v187
  let c1_i32_102 : BitVec 32 := 1#32
  ⟨v191, v188, c1_i32_102⟩
def k0_off78 (v55 : BitVec 32) (k0_t4 : Fin (k0_t4_loop v55).trips) : Fin 1 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let v203 : Index := Scalar.indexCast arg39
  ![v203.toNat]
def k0_off79 (v55 : BitVec 32) (k0_t4 : Fin (k0_t4_loop v55).trips) : Fin 1 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_121 : BitVec 32 := 3#32
  let v207 : BitVec 32 := Scalar.addi arg39 c3_i32_121
  let c1_i32_122 : BitVec 32 := 1#32
  let v208 : BitVec 32 := Scalar.subi v55 c1_i32_122
  let v209 : BitVec 32 := Scalar.minsi v207 v208
  let v210 : Index := Scalar.indexCast v209
  ![v210.toNat]
def k0_off80 (v55 : BitVec 32) (k0_t4 : Fin (k0_t4_loop v55).trips) : Fin 1 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  ![v202.toNat]
def k0_off81 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_135 : BitVec 32 := 0#32
  let c0_i32_136 : BitVec 32 := 0#32
  ![v202.toNat, 0, 0]
def k0_off82 (v204 : BitVec 32) : Fin 3 → Nat :=
  let c0_i32_137 : BitVec 32 := 0#32
  let c0_i32_138 : BitVec 32 := 0#32
  ![v204.toNat, 0, 0]

def k0_off83 (v55 : BitVec 32) (k0_t4 : Fin (k0_t4_loop v55).trips) : Fin 1 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  ![v202.toNat]
def k0_off84 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_139 : BitVec 32 := 0#32
  let c0_i32_140 : BitVec 32 := 0#32
  ![v202.toNat, 0, 0]
def k0_off85 (v204 : BitVec 32) : Fin 3 → Nat :=
  let c0_i32_141 : BitVec 32 := 0#32
  let c0_i32_142 : BitVec 32 := 0#32
  ![v204.toNat, 0, 0]
def k0_off86 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let v261 : Index := Scalar.indexCast v202
  let c0_145 : Index := 0#32
  let c0_146 : Index := 0#32
  ![v261.toNat, 0, 0]
def k0_off87 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let v273 : Index := Scalar.indexCast v202
  let c0_152 : Index := 0#32
  let c0_153 : Index := 0#32
  ![v273.toNat, 0, 0]
def k0_off88 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_155 : BitVec 32 := 0#32
  let c0_i32_156 : BitVec 32 := 0#32
  ![v202.toNat, 0, 0]
def k0_off89 (v204 : BitVec 32) : Fin 3 → Nat :=
  let c0_i32_157 : BitVec 32 := 0#32
  let c0_i32_158 : BitVec 32 := 0#32
  ![v204.toNat, 0, 0]
def k0_off90 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let v284 : Index := Scalar.indexCast v202
  let c0_161 : Index := 0#32
  let c0_162 : Index := 0#32
  ![v284.toNat, 0, 0]
def k0_off91 (v204 : BitVec 32) : Fin 2 → Nat :=
  let v291 : Index := Scalar.indexCast v204
  let c0_166 : Index := 0#32
  ![v291.toNat, 0]
def k0_off92 (v55 : BitVec 32) (k0_t4 : Fin (k0_t4_loop v55).trips) : Fin 1 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  ![v202.toNat]
def k0_cond12 (v55 : BitVec 32) (k0_t4 : Fin (k0_t4_loop v55).trips) : BitVec 1 :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_120 : BitVec 32 := 3#32
  let v205 : BitVec 32 := Scalar.addi arg39 c3_i32_120
  let v206 : BitVec 1 := Scalar.cmpi .slt v205 v55
  let v352 : BitVec 32 := Scalar.extui v206
  let c0_i32_187 : BitVec 32 := 0#32
  let v353 : BitVec 1 := Scalar.cmpi .ne v352 c0_i32_187
  v353

def k0_off93 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_250 : BitVec 32 := 0#32
  let c0_i32_251 : BitVec 32 := 0#32
  ![v202.toNat, 0, 0]
def k0_off94 (v211 : BitVec 32) : Fin 3 → Nat :=
  let c0_i32_252 : BitVec 32 := 0#32
  let c0_i32_253 : BitVec 32 := 0#32
  ![v211.toNat, 0, 0]

def k0_off95 (v55 : BitVec 32) (k0_t4 : Fin (k0_t4_loop v55).trips) : Fin 1 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  ![v202.toNat]
def k0_off96 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_254 : BitVec 32 := 0#32
  let c0_i32_255 : BitVec 32 := 0#32
  ![v202.toNat, 0, 0]
def k0_off97 (v211 : BitVec 32) : Fin 3 → Nat :=
  let c0_i32_256 : BitVec 32 := 0#32
  let c0_i32_257 : BitVec 32 := 0#32
  ![v211.toNat, 0, 0]
def k0_off98 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_258 : BitVec 32 := 0#32
  let c0_i32_259 : BitVec 32 := 0#32
  ![v202.toNat, 0, 0]
def k0_off99 (v211 : BitVec 32) : Fin 3 → Nat :=
  let c0_i32_260 : BitVec 32 := 0#32
  let c0_i32_261 : BitVec 32 := 0#32
  ![v211.toNat, 0, 0]
def k0_off100 (v55 : BitVec 32) (k0_t4 : Fin (k0_t4_loop v55).trips) : Fin 2 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_188 : BitVec 32 := 0#32
  ![v202.toNat, 0]
def k0_off101 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_189 : BitVec 32 := 0#32
  let c0_i32_190 : BitVec 32 := 0#32
  ![v202.toNat, 0, 0]
def k0_off102 (v204 : BitVec 32) : Fin 3 → Nat :=
  let c0_i32_191 : BitVec 32 := 0#32
  let c0_i32_192 : BitVec 32 := 0#32
  ![v204.toNat, 0, 0]
def k0_off103 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let v360 : Index := Scalar.indexCast v202
  let c0_193 : Index := 0#32
  let c0_194 : Index := 0#32
  ![v360.toNat, 0, 0]
def k0_off104 (v204 : BitVec 32) : Fin 2 → Nat :=
  let v365 : Index := Scalar.indexCast v204
  let c0_198 : Index := 0#32
  ![v365.toNat, 0]
def k0_off105 (v55 : BitVec 32) (k0_t4 : Fin (k0_t4_loop v55).trips) : Fin 2 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_250 : BitVec 32 := 0#32
  ![v202.toNat, 0]
def k0_cond13 (v55 : BitVec 32) (k0_t4 : Fin (k0_t4_loop v55).trips) : BitVec 1 :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_120 : BitVec 32 := 3#32
  let v205 : BitVec 32 := Scalar.addi arg39 c3_i32_120
  let v206 : BitVec 1 := Scalar.cmpi .slt v205 v55
  let v375 : BitVec 32 := Scalar.extui v206
  let c0_i32_201 : BitVec 32 := 0#32
  let v376 : BitVec 1 := Scalar.cmpi .ne v375 c0_i32_201
  v376

def k0_off106 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_251 : BitVec 32 := 0#32
  let c0_i32_252 : BitVec 32 := 0#32
  ![v202.toNat, 0, 0]
def k0_off107 (v211 : BitVec 32) : Fin 3 → Nat :=
  let c0_i32_253 : BitVec 32 := 0#32
  let c0_i32_254 : BitVec 32 := 0#32
  ![v211.toNat, 0, 0]
def k0_off108 (v55 : BitVec 32) (k0_t4 : Fin (k0_t4_loop v55).trips) : Fin 2 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c1_i32_204 : BitVec 32 := 1#32
  ![v202.toNat, 1]
def k0_off109 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_205 : BitVec 32 := 0#32
  let c1024_i32_206 : BitVec 32 := 1024#32
  ![v202.toNat, 0, 1024]
def k0_off110 (v204 : BitVec 32) : Fin 3 → Nat :=
  let c0_i32_207 : BitVec 32 := 0#32
  let c1024_i32_208 : BitVec 32 := 1024#32
  ![v204.toNat, 0, 1024]
def k0_off111 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let v387 : Index := Scalar.indexCast v202
  let c0_209 : Index := 0#32
  let c1024 : Index := 1024#32
  ![v387.toNat, 0, 1024]
def k0_off112 (v204 : BitVec 32) : Fin 2 → Nat :=
  let v392 : Index := Scalar.indexCast v204
  let c1024_213 : Index := 1024#32
  ![v392.toNat, 1024]
def k0_off113 (v55 : BitVec 32) (k0_t4 : Fin (k0_t4_loop v55).trips) : Fin 2 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c1_i32_250 : BitVec 32 := 1#32
  ![v202.toNat, 1]
def k0_cond15 (v55 : BitVec 32) (k0_t4 : Fin (k0_t4_loop v55).trips) : BitVec 1 :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_120 : BitVec 32 := 3#32
  let v205 : BitVec 32 := Scalar.addi arg39 c3_i32_120
  let v206 : BitVec 1 := Scalar.cmpi .slt v205 v55
  let v402 : BitVec 32 := Scalar.extui v206
  let c0_i32_216 : BitVec 32 := 0#32
  let v403 : BitVec 1 := Scalar.cmpi .ne v402 c0_i32_216
  v403

def k0_off114 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_251 : BitVec 32 := 0#32
  let c1024_i32_252 : BitVec 32 := 1024#32
  ![v202.toNat, 0, 1024]
def k0_off115 (v211 : BitVec 32) : Fin 3 → Nat :=
  let c0_i32_253 : BitVec 32 := 0#32
  let c1024_i32_254 : BitVec 32 := 1024#32
  ![v211.toNat, 0, 1024]
def k0_off116 (v55 : BitVec 32) (k0_t4 : Fin (k0_t4_loop v55).trips) : Fin 2 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c2_i32_219 : BitVec 32 := 2#32
  ![v202.toNat, 2]
def k0_off117 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_220 : BitVec 32 := 0#32
  let c2048_i32_221 : BitVec 32 := 2048#32
  ![v202.toNat, 0, 2048]
def k0_off118 (v204 : BitVec 32) : Fin 3 → Nat :=
  let c0_i32_222 : BitVec 32 := 0#32
  let c2048_i32_223 : BitVec 32 := 2048#32
  ![v204.toNat, 0, 2048]
def k0_off119 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let v414 : Index := Scalar.indexCast v202
  let c0_224 : Index := 0#32
  let c2048 : Index := 2048#32
  ![v414.toNat, 0, 2048]
def k0_off120 (v204 : BitVec 32) : Fin 2 → Nat :=
  let v419 : Index := Scalar.indexCast v204
  let c2048_228 : Index := 2048#32
  ![v419.toNat, 2048]
def k0_off121 (v55 : BitVec 32) (k0_t4 : Fin (k0_t4_loop v55).trips) : Fin 2 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c2_i32_250 : BitVec 32 := 2#32
  ![v202.toNat, 2]
def k0_cond17 (v55 : BitVec 32) (k0_t4 : Fin (k0_t4_loop v55).trips) : BitVec 1 :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_120 : BitVec 32 := 3#32
  let v205 : BitVec 32 := Scalar.addi arg39 c3_i32_120
  let v206 : BitVec 1 := Scalar.cmpi .slt v205 v55
  let v429 : BitVec 32 := Scalar.extui v206
  let c0_i32_231 : BitVec 32 := 0#32
  let v430 : BitVec 1 := Scalar.cmpi .ne v429 c0_i32_231
  v430

def k0_off122 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_251 : BitVec 32 := 0#32
  let c2048_i32_252 : BitVec 32 := 2048#32
  ![v202.toNat, 0, 2048]
def k0_off123 (v211 : BitVec 32) : Fin 3 → Nat :=
  let c0_i32_253 : BitVec 32 := 0#32
  let c2048_i32_254 : BitVec 32 := 2048#32
  ![v211.toNat, 0, 2048]
def k0_off124 (v55 : BitVec 32) (k0_t4 : Fin (k0_t4_loop v55).trips) : Fin 2 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c3_i32_234 : BitVec 32 := 3#32
  ![v202.toNat, 3]
def k0_off125 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_235 : BitVec 32 := 0#32
  let c3072_i32_236 : BitVec 32 := 3072#32
  ![v202.toNat, 0, 3072]
def k0_off126 (v204 : BitVec 32) : Fin 3 → Nat :=
  let c0_i32_237 : BitVec 32 := 0#32
  let c3072_i32_238 : BitVec 32 := 3072#32
  ![v204.toNat, 0, 3072]
def k0_off127 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let v441 : Index := Scalar.indexCast v202
  let c0_239 : Index := 0#32
  let c3072 : Index := 3072#32
  ![v441.toNat, 0, 3072]
def k0_off128 (v204 : BitVec 32) : Fin 2 → Nat :=
  let v446 : Index := Scalar.indexCast v204
  let c3072_243 : Index := 3072#32
  ![v446.toNat, 3072]

def k0_chk8 (v204 : BitVec 32) : Prop :=
  (∀ a, (k0_off82 v204) a + S1x128x4096.size a ≤ S32x128x4096.size a) ∧
  (∀ (hinb : ∀ a, (k0_off82 v204) a + S1x128x4096.size a ≤ S32x128x4096.size a), (Rect.unit (s := S32x128x4096) (k0_off82 v204) S1x128x4096.size hinb).WholeWords (EltTy.packing .bf16)) ∧
  (∀ a, (k0_off85 v204) a + S1x128x1408.size a ≤ S32x128x1408.size a) ∧
  (∀ (hinb : ∀ a, (k0_off85 v204) a + S1x128x1408.size a ≤ S32x128x1408.size a), (Rect.unit (s := S32x128x1408) (k0_off85 v204) S1x128x1408.size hinb).WholeWords (EltTy.packing .bf16)) ∧
  (∀ a, (k0_off89 v204) a + S1x4096x1408.size a ≤ S32x4096x1408.size a) ∧
  (∀ (hinb : ∀ a, (k0_off89 v204) a + S1x4096x1408.size a ≤ S32x4096x1408.size a), (Rect.unit (s := S32x4096x1408) (k0_off89 v204) S1x4096x1408.size hinb).WholeWords (EltTy.packing .fp8e4m3)) ∧
  (∀ a, (k0_off91 v204) a + S1x1408.size a ≤ S32x1408.size a) ∧
  (∀ a, (k0_off102 v204) a + S1x1408x1024.size a ≤ S32x1408x4096.size a) ∧
  (∀ (hinb : ∀ a, (k0_off102 v204) a + S1x1408x1024.size a ≤ S32x1408x4096.size a), (Rect.unit (s := S32x1408x4096) (k0_off102 v204) S1x1408x1024.size hinb).WholeWords (EltTy.packing .fp8e4m3)) ∧
  (∀ a, (k0_off104 v204) a + S1x1024.size a ≤ S32x4096.size a) ∧
  (∀ a, (k0_off110 v204) a + S1x1408x1024.size a ≤ S32x1408x4096.size a) ∧
  (∀ (hinb : ∀ a, (k0_off110 v204) a + S1x1408x1024.size a ≤ S32x1408x4096.size a), (Rect.unit (s := S32x1408x4096) (k0_off110 v204) S1x1408x1024.size hinb).WholeWords (EltTy.packing .fp8e4m3)) ∧
  (∀ a, (k0_off112 v204) a + S1x1024.size a ≤ S32x4096.size a) ∧
  (∀ a, (k0_off118 v204) a + S1x1408x1024.size a ≤ S32x1408x4096.size a) ∧
  (∀ (hinb : ∀ a, (k0_off118 v204) a + S1x1408x1024.size a ≤ S32x1408x4096.size a), (Rect.unit (s := S32x1408x4096) (k0_off118 v204) S1x1408x1024.size hinb).WholeWords (EltTy.packing .fp8e4m3)) ∧
  (∀ a, (k0_off120 v204) a + S1x1024.size a ≤ S32x4096.size a) ∧
  (∀ a, (k0_off126 v204) a + S1x1408x1024.size a ≤ S32x1408x4096.size a) ∧
  (∀ (hinb : ∀ a, (k0_off126 v204) a + S1x1408x1024.size a ≤ S32x1408x4096.size a), (Rect.unit (s := S32x1408x4096) (k0_off126 v204) S1x1408x1024.size hinb).WholeWords (EltTy.packing .fp8e4m3)) ∧
  (∀ a, (k0_off128 v204) a + S1x1024.size a ≤ S32x4096.size a)
theorem k0_off82_inb : ∀ (v204 : BitVec 32) (k0_hw8 : k0_chk8 v204), ∀ a, (k0_off82 v204) a + S1x128x4096.size a ≤ S32x128x4096.size a := fun v204 k0_hw8 => k0_hw8.1
theorem k0_off82_wordsbf16 : ∀ (v204 : BitVec 32) (k0_hw8 : k0_chk8 v204), (Rect.unit (s := S32x128x4096) (k0_off82 v204) S1x128x4096.size (k0_off82_inb v204 k0_hw8)).WholeWords (EltTy.packing .bf16) := fun v204 k0_hw8 => k0_hw8.2.1 (k0_off82_inb v204 k0_hw8)
theorem k0_off85_inb : ∀ (v204 : BitVec 32) (k0_hw8 : k0_chk8 v204), ∀ a, (k0_off85 v204) a + S1x128x1408.size a ≤ S32x128x1408.size a := fun v204 k0_hw8 => k0_hw8.2.2.1
theorem k0_off85_wordsbf16 : ∀ (v204 : BitVec 32) (k0_hw8 : k0_chk8 v204), (Rect.unit (s := S32x128x1408) (k0_off85 v204) S1x128x1408.size (k0_off85_inb v204 k0_hw8)).WholeWords (EltTy.packing .bf16) := fun v204 k0_hw8 => k0_hw8.2.2.2.1 (k0_off85_inb v204 k0_hw8)
theorem k0_off89_inb : ∀ (v204 : BitVec 32) (k0_hw8 : k0_chk8 v204), ∀ a, (k0_off89 v204) a + S1x4096x1408.size a ≤ S32x4096x1408.size a := fun v204 k0_hw8 => k0_hw8.2.2.2.2.1
theorem k0_off89_wordsfp8e4m3 : ∀ (v204 : BitVec 32) (k0_hw8 : k0_chk8 v204), (Rect.unit (s := S32x4096x1408) (k0_off89 v204) S1x4096x1408.size (k0_off89_inb v204 k0_hw8)).WholeWords (EltTy.packing .fp8e4m3) := fun v204 k0_hw8 => k0_hw8.2.2.2.2.2.1 (k0_off89_inb v204 k0_hw8)
theorem k0_off91_inb : ∀ (v204 : BitVec 32) (k0_hw8 : k0_chk8 v204), ∀ a, (k0_off91 v204) a + S1x1408.size a ≤ S32x1408.size a := fun v204 k0_hw8 => k0_hw8.2.2.2.2.2.2.1
theorem k0_off102_inb : ∀ (v204 : BitVec 32) (k0_hw8 : k0_chk8 v204), ∀ a, (k0_off102 v204) a + S1x1408x1024.size a ≤ S32x1408x4096.size a := fun v204 k0_hw8 => k0_hw8.2.2.2.2.2.2.2.1
theorem k0_off102_wordsfp8e4m3 : ∀ (v204 : BitVec 32) (k0_hw8 : k0_chk8 v204), (Rect.unit (s := S32x1408x4096) (k0_off102 v204) S1x1408x1024.size (k0_off102_inb v204 k0_hw8)).WholeWords (EltTy.packing .fp8e4m3) := fun v204 k0_hw8 => k0_hw8.2.2.2.2.2.2.2.2.1 (k0_off102_inb v204 k0_hw8)
theorem k0_off104_inb : ∀ (v204 : BitVec 32) (k0_hw8 : k0_chk8 v204), ∀ a, (k0_off104 v204) a + S1x1024.size a ≤ S32x4096.size a := fun v204 k0_hw8 => k0_hw8.2.2.2.2.2.2.2.2.2.1
theorem k0_off110_inb : ∀ (v204 : BitVec 32) (k0_hw8 : k0_chk8 v204), ∀ a, (k0_off110 v204) a + S1x1408x1024.size a ≤ S32x1408x4096.size a := fun v204 k0_hw8 => k0_hw8.2.2.2.2.2.2.2.2.2.2.1
theorem k0_off110_wordsfp8e4m3 : ∀ (v204 : BitVec 32) (k0_hw8 : k0_chk8 v204), (Rect.unit (s := S32x1408x4096) (k0_off110 v204) S1x1408x1024.size (k0_off110_inb v204 k0_hw8)).WholeWords (EltTy.packing .fp8e4m3) := fun v204 k0_hw8 => k0_hw8.2.2.2.2.2.2.2.2.2.2.2.1 (k0_off110_inb v204 k0_hw8)
theorem k0_off112_inb : ∀ (v204 : BitVec 32) (k0_hw8 : k0_chk8 v204), ∀ a, (k0_off112 v204) a + S1x1024.size a ≤ S32x4096.size a := fun v204 k0_hw8 => k0_hw8.2.2.2.2.2.2.2.2.2.2.2.2.1
theorem k0_off118_inb : ∀ (v204 : BitVec 32) (k0_hw8 : k0_chk8 v204), ∀ a, (k0_off118 v204) a + S1x1408x1024.size a ≤ S32x1408x4096.size a := fun v204 k0_hw8 => k0_hw8.2.2.2.2.2.2.2.2.2.2.2.2.2.1
theorem k0_off118_wordsfp8e4m3 : ∀ (v204 : BitVec 32) (k0_hw8 : k0_chk8 v204), (Rect.unit (s := S32x1408x4096) (k0_off118 v204) S1x1408x1024.size (k0_off118_inb v204 k0_hw8)).WholeWords (EltTy.packing .fp8e4m3) := fun v204 k0_hw8 => k0_hw8.2.2.2.2.2.2.2.2.2.2.2.2.2.2.1 (k0_off118_inb v204 k0_hw8)
theorem k0_off120_inb : ∀ (v204 : BitVec 32) (k0_hw8 : k0_chk8 v204), ∀ a, (k0_off120 v204) a + S1x1024.size a ≤ S32x4096.size a := fun v204 k0_hw8 => k0_hw8.2.2.2.2.2.2.2.2.2.2.2.2.2.2.2.1
theorem k0_off126_inb : ∀ (v204 : BitVec 32) (k0_hw8 : k0_chk8 v204), ∀ a, (k0_off126 v204) a + S1x1408x1024.size a ≤ S32x1408x4096.size a := fun v204 k0_hw8 => k0_hw8.2.2.2.2.2.2.2.2.2.2.2.2.2.2.2.2.1
theorem k0_off126_wordsfp8e4m3 : ∀ (v204 : BitVec 32) (k0_hw8 : k0_chk8 v204), (Rect.unit (s := S32x1408x4096) (k0_off126 v204) S1x1408x1024.size (k0_off126_inb v204 k0_hw8)).WholeWords (EltTy.packing .fp8e4m3) := fun v204 k0_hw8 => k0_hw8.2.2.2.2.2.2.2.2.2.2.2.2.2.2.2.2.2.1 (k0_off126_inb v204 k0_hw8)
theorem k0_off128_inb : ∀ (v204 : BitVec 32) (k0_hw8 : k0_chk8 v204), ∀ a, (k0_off128 v204) a + S1x1024.size a ≤ S32x4096.size a := fun v204 k0_hw8 => k0_hw8.2.2.2.2.2.2.2.2.2.2.2.2.2.2.2.2.2.2

def k0_off129 (v55 : BitVec 32) (k0_t4 : Fin (k0_t4_loop v55).trips) : Fin 2 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c3_i32_250 : BitVec 32 := 3#32
  ![v202.toNat, 3]
def k0_cond19 (v55 : BitVec 32) (k0_t4 : Fin (k0_t4_loop v55).trips) : BitVec 1 :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_120 : BitVec 32 := 3#32
  let v205 : BitVec 32 := Scalar.addi arg39 c3_i32_120
  let v206 : BitVec 1 := Scalar.cmpi .slt v205 v55
  let v456 : BitVec 32 := Scalar.extui v206
  let c0_i32_246 : BitVec 32 := 0#32
  let v457 : BitVec 1 := Scalar.cmpi .ne v456 c0_i32_246
  v457

def k0_off130 (v55 : BitVec 32) (k0_t4 : Fin (k0_t4_loop v55).trips) : Fin 3 → Nat :=
  let c0_i32_98 : BitVec 32 := 0#32
  let v187 : BitVec 32 := Scalar.subi v55 c0_i32_98
  let c1_i32_100 : BitVec 32 := 1#32
  let v189 : BitVec 32 := Scalar.divsi v187 c1_i32_100
  let v190 : BitVec 32 := Scalar.muli v189 c1_i32_100
  let v191 : BitVec 32 := Scalar.addi c0_i32_98 v190
  let c1_i32_102 : BitVec 32 := 1#32
  let arg39 : BitVec 32 := Scf.iv v191 c1_i32_102 k0_t4
  let c3_i32_119 : BitVec 32 := 3#32
  let v202 : BitVec 32 := Scalar.remsi arg39 c3_i32_119
  let c0_i32_251 : BitVec 32 := 0#32
  let c3072_i32_252 : BitVec 32 := 3072#32
  ![v202.toNat, 0, 3072]
def k0_off131 (v211 : BitVec 32) : Fin 3 → Nat :=
  let c0_i32_253 : BitVec 32 := 0#32
  let c3072_i32_254 : BitVec 32 := 3072#32
  ![v211.toNat, 0, 3072]

def k0_chk9 (v55 : BitVec 32) (k0_t4 : Fin (k0_t4_loop v55).trips) (v211 : BitVec 32) : Prop :=
  (∀ (k0_h12 : k0_cond12 v55 k0_t4 = 1#1), ∀ a, (k0_off94 v211) a + S1x128x4096.size a ≤ S32x128x4096.size a) ∧
  (∀ (k0_h12 : k0_cond12 v55 k0_t4 = 1#1), ∀ (hinb : ∀ a, (k0_off94 v211) a + S1x128x4096.size a ≤ S32x128x4096.size a), (Rect.unit (s := S32x128x4096) (k0_off94 v211) S1x128x4096.size hinb).WholeWords (EltTy.packing .bf16)) ∧
  (∀ (k0_h12 : k0_cond12 v55 k0_t4 = 1#1), ∀ a, (k0_off97 v211) a + S1x128x1408.size a ≤ S32x128x1408.size a) ∧
  (∀ (k0_h12 : k0_cond12 v55 k0_t4 = 1#1), ∀ (hinb : ∀ a, (k0_off97 v211) a + S1x128x1408.size a ≤ S32x128x1408.size a), (Rect.unit (s := S32x128x1408) (k0_off97 v211) S1x128x1408.size hinb).WholeWords (EltTy.packing .bf16)) ∧
  (∀ (k0_h12 : k0_cond12 v55 k0_t4 = 1#1), ∀ a, (k0_off99 v211) a + S1x4096x1408.size a ≤ S32x4096x1408.size a) ∧
  (∀ (k0_h12 : k0_cond12 v55 k0_t4 = 1#1), ∀ (hinb : ∀ a, (k0_off99 v211) a + S1x4096x1408.size a ≤ S32x4096x1408.size a), (Rect.unit (s := S32x4096x1408) (k0_off99 v211) S1x4096x1408.size hinb).WholeWords (EltTy.packing .fp8e4m3)) ∧
  (∀ (k0_h13 : k0_cond13 v55 k0_t4 = 1#1), ∀ a, (k0_off107 v211) a + S1x1408x1024.size a ≤ S32x1408x4096.size a) ∧
  (∀ (k0_h13 : k0_cond13 v55 k0_t4 = 1#1), ∀ (hinb : ∀ a, (k0_off107 v211) a + S1x1408x1024.size a ≤ S32x1408x4096.size a), (Rect.unit (s := S32x1408x4096) (k0_off107 v211) S1x1408x1024.size hinb).WholeWords (EltTy.packing .fp8e4m3)) ∧
  (∀ (k0_h15 : k0_cond15 v55 k0_t4 = 1#1), ∀ a, (k0_off115 v211) a + S1x1408x1024.size a ≤ S32x1408x4096.size a) ∧
  (∀ (k0_h15 : k0_cond15 v55 k0_t4 = 1#1), ∀ (hinb : ∀ a, (k0_off115 v211) a + S1x1408x1024.size a ≤ S32x1408x4096.size a), (Rect.unit (s := S32x1408x4096) (k0_off115 v211) S1x1408x1024.size hinb).WholeWords (EltTy.packing .fp8e4m3)) ∧
  (∀ (k0_h17 : k0_cond17 v55 k0_t4 = 1#1), ∀ a, (k0_off123 v211) a + S1x1408x1024.size a ≤ S32x1408x4096.size a) ∧
  (∀ (k0_h17 : k0_cond17 v55 k0_t4 = 1#1), ∀ (hinb : ∀ a, (k0_off123 v211) a + S1x1408x1024.size a ≤ S32x1408x4096.size a), (Rect.unit (s := S32x1408x4096) (k0_off123 v211) S1x1408x1024.size hinb).WholeWords (EltTy.packing .fp8e4m3)) ∧
  (∀ (k0_h19 : k0_cond19 v55 k0_t4 = 1#1), ∀ a, (k0_off131 v211) a + S1x1408x1024.size a ≤ S32x1408x4096.size a) ∧
  (∀ (k0_h19 : k0_cond19 v55 k0_t4 = 1#1), ∀ (hinb : ∀ a, (k0_off131 v211) a + S1x1408x1024.size a ≤ S32x1408x4096.size a), (Rect.unit (s := S32x1408x4096) (k0_off131 v211) S1x1408x1024.size hinb).WholeWords (EltTy.packing .fp8e4m3))
theorem k0_off94_inb : ∀ (v55 : BitVec 32) (k0_t4 : Fin (k0_t4_loop v55).trips) (v211 : BitVec 32) (k0_hw9 : k0_chk9 v55 k0_t4 v211), ∀ (k0_h12 : k0_cond12 v55 k0_t4 = 1#1), ∀ a, (k0_off94 v211) a + S1x128x4096.size a ≤ S32x128x4096.size a := fun v55 k0_t4 v211 k0_hw9 k0_h12 => k0_hw9.1 k0_h12
theorem k0_off94_wordsbf16 : ∀ (v55 : BitVec 32) (k0_t4 : Fin (k0_t4_loop v55).trips) (v211 : BitVec 32) (k0_hw9 : k0_chk9 v55 k0_t4 v211), ∀ (k0_h12 : k0_cond12 v55 k0_t4 = 1#1), (Rect.unit (s := S32x128x4096) (k0_off94 v211) S1x128x4096.size (k0_off94_inb v55 k0_t4 v211 k0_hw9 k0_h12)).WholeWords (EltTy.packing .bf16) := fun v55 k0_t4 v211 k0_hw9 k0_h12 => k0_hw9.2.1 k0_h12 (k0_off94_inb v55 k0_t4 v211 k0_hw9 k0_h12)
theorem k0_off97_inb : ∀ (v55 : BitVec 32) (k0_t4 : Fin (k0_t4_loop v55).trips) (v211 : BitVec 32) (k0_hw9 : k0_chk9 v55 k0_t4 v211), ∀ (k0_h12 : k0_cond12 v55 k0_t4 = 1#1), ∀ a, (k0_off97 v211) a + S1x128x1408.size a ≤ S32x128x1408.size a := fun v55 k0_t4 v211 k0_hw9 k0_h12 => k0_hw9.2.2.1 k0_h12
theorem k0_off97_wordsbf16 : ∀ (v55 : BitVec 32) (k0_t4 : Fin (k0_t4_loop v55).trips) (v211 : BitVec 32) (k0_hw9 : k0_chk9 v55 k0_t4 v211), ∀ (k0_h12 : k0_cond12 v55 k0_t4 = 1#1), (Rect.unit (s := S32x128x1408) (k0_off97 v211) S1x128x1408.size (k0_off97_inb v55 k0_t4 v211 k0_hw9 k0_h12)).WholeWords (EltTy.packing .bf16) := fun v55 k0_t4 v211 k0_hw9 k0_h12 => k0_hw9.2.2.2.1 k0_h12 (k0_off97_inb v55 k0_t4 v211 k0_hw9 k0_h12)
theorem k0_off99_inb : ∀ (v55 : BitVec 32) (k0_t4 : Fin (k0_t4_loop v55).trips) (v211 : BitVec 32) (k0_hw9 : k0_chk9 v55 k0_t4 v211), ∀ (k0_h12 : k0_cond12 v55 k0_t4 = 1#1), ∀ a, (k0_off99 v211) a + S1x4096x1408.size a ≤ S32x4096x1408.size a := fun v55 k0_t4 v211 k0_hw9 k0_h12 => k0_hw9.2.2.2.2.1 k0_h12
theorem k0_off99_wordsfp8e4m3 : ∀ (v55 : BitVec 32) (k0_t4 : Fin (k0_t4_loop v55).trips) (v211 : BitVec 32) (k0_hw9 : k0_chk9 v55 k0_t4 v211), ∀ (k0_h12 : k0_cond12 v55 k0_t4 = 1#1), (Rect.unit (s := S32x4096x1408) (k0_off99 v211) S1x4096x1408.size (k0_off99_inb v55 k0_t4 v211 k0_hw9 k0_h12)).WholeWords (EltTy.packing .fp8e4m3) := fun v55 k0_t4 v211 k0_hw9 k0_h12 => k0_hw9.2.2.2.2.2.1 k0_h12 (k0_off99_inb v55 k0_t4 v211 k0_hw9 k0_h12)
theorem k0_off107_inb : ∀ (v55 : BitVec 32) (k0_t4 : Fin (k0_t4_loop v55).trips) (v211 : BitVec 32) (k0_hw9 : k0_chk9 v55 k0_t4 v211), ∀ (k0_h13 : k0_cond13 v55 k0_t4 = 1#1), ∀ a, (k0_off107 v211) a + S1x1408x1024.size a ≤ S32x1408x4096.size a := fun v55 k0_t4 v211 k0_hw9 k0_h13 => k0_hw9.2.2.2.2.2.2.1 k0_h13
theorem k0_off107_wordsfp8e4m3 : ∀ (v55 : BitVec 32) (k0_t4 : Fin (k0_t4_loop v55).trips) (v211 : BitVec 32) (k0_hw9 : k0_chk9 v55 k0_t4 v211), ∀ (k0_h13 : k0_cond13 v55 k0_t4 = 1#1), (Rect.unit (s := S32x1408x4096) (k0_off107 v211) S1x1408x1024.size (k0_off107_inb v55 k0_t4 v211 k0_hw9 k0_h13)).WholeWords (EltTy.packing .fp8e4m3) := fun v55 k0_t4 v211 k0_hw9 k0_h13 => k0_hw9.2.2.2.2.2.2.2.1 k0_h13 (k0_off107_inb v55 k0_t4 v211 k0_hw9 k0_h13)
theorem k0_off115_inb : ∀ (v55 : BitVec 32) (k0_t4 : Fin (k0_t4_loop v55).trips) (v211 : BitVec 32) (k0_hw9 : k0_chk9 v55 k0_t4 v211), ∀ (k0_h15 : k0_cond15 v55 k0_t4 = 1#1), ∀ a, (k0_off115 v211) a + S1x1408x1024.size a ≤ S32x1408x4096.size a := fun v55 k0_t4 v211 k0_hw9 k0_h15 => k0_hw9.2.2.2.2.2.2.2.2.1 k0_h15
theorem k0_off115_wordsfp8e4m3 : ∀ (v55 : BitVec 32) (k0_t4 : Fin (k0_t4_loop v55).trips) (v211 : BitVec 32) (k0_hw9 : k0_chk9 v55 k0_t4 v211), ∀ (k0_h15 : k0_cond15 v55 k0_t4 = 1#1), (Rect.unit (s := S32x1408x4096) (k0_off115 v211) S1x1408x1024.size (k0_off115_inb v55 k0_t4 v211 k0_hw9 k0_h15)).WholeWords (EltTy.packing .fp8e4m3) := fun v55 k0_t4 v211 k0_hw9 k0_h15 => k0_hw9.2.2.2.2.2.2.2.2.2.1 k0_h15 (k0_off115_inb v55 k0_t4 v211 k0_hw9 k0_h15)
theorem k0_off123_inb : ∀ (v55 : BitVec 32) (k0_t4 : Fin (k0_t4_loop v55).trips) (v211 : BitVec 32) (k0_hw9 : k0_chk9 v55 k0_t4 v211), ∀ (k0_h17 : k0_cond17 v55 k0_t4 = 1#1), ∀ a, (k0_off123 v211) a + S1x1408x1024.size a ≤ S32x1408x4096.size a := fun v55 k0_t4 v211 k0_hw9 k0_h17 => k0_hw9.2.2.2.2.2.2.2.2.2.2.1 k0_h17
theorem k0_off123_wordsfp8e4m3 : ∀ (v55 : BitVec 32) (k0_t4 : Fin (k0_t4_loop v55).trips) (v211 : BitVec 32) (k0_hw9 : k0_chk9 v55 k0_t4 v211), ∀ (k0_h17 : k0_cond17 v55 k0_t4 = 1#1), (Rect.unit (s := S32x1408x4096) (k0_off123 v211) S1x1408x1024.size (k0_off123_inb v55 k0_t4 v211 k0_hw9 k0_h17)).WholeWords (EltTy.packing .fp8e4m3) := fun v55 k0_t4 v211 k0_hw9 k0_h17 => k0_hw9.2.2.2.2.2.2.2.2.2.2.2.1 k0_h17 (k0_off123_inb v55 k0_t4 v211 k0_hw9 k0_h17)
theorem k0_off131_inb : ∀ (v55 : BitVec 32) (k0_t4 : Fin (k0_t4_loop v55).trips) (v211 : BitVec 32) (k0_hw9 : k0_chk9 v55 k0_t4 v211), ∀ (k0_h19 : k0_cond19 v55 k0_t4 = 1#1), ∀ a, (k0_off131 v211) a + S1x1408x1024.size a ≤ S32x1408x4096.size a := fun v55 k0_t4 v211 k0_hw9 k0_h19 => k0_hw9.2.2.2.2.2.2.2.2.2.2.2.2.1 k0_h19
theorem k0_off131_wordsfp8e4m3 : ∀ (v55 : BitVec 32) (k0_t4 : Fin (k0_t4_loop v55).trips) (v211 : BitVec 32) (k0_hw9 : k0_chk9 v55 k0_t4 v211), ∀ (k0_h19 : k0_cond19 v55 k0_t4 = 1#1), (Rect.unit (s := S32x1408x4096) (k0_off131 v211) S1x1408x1024.size (k0_off131_inb v55 k0_t4 v211 k0_hw9 k0_h19)).WholeWords (EltTy.packing .fp8e4m3) := fun v55 k0_t4 v211 k0_hw9 k0_h19 => k0_hw9.2.2.2.2.2.2.2.2.2.2.2.2.2 k0_h19 (k0_off131_inb v55 k0_t4 v211 k0_hw9 k0_h19)

def k0_chk5_0 (v55 : BitVec 32) : Prop :=
  ((k0_t3_loop v55).OK) ∧
  (∀ k0_t3 : Fin (k0_t3_loop v55).trips, ∀ a, (k0_off24 v55 k0_t3) a + S1.size a ≤ S33.size a) ∧
  (∀ k0_t3 : Fin (k0_t3_loop v55).trips, ∀ a, (k0_off25 v55 k0_t3) a + S1.size a ≤ S33.size a) ∧
  (∀ k0_t3 : Fin (k0_t3_loop v55).trips, ∀ a, (k0_off26 v55 k0_t3) a + S1.size a ≤ S3.size a) ∧
  (∀ k0_t3 : Fin (k0_t3_loop v55).trips, ∀ a, (k0_off27 v55 k0_t3) a + S1x128x4096.size a ≤ S3x128x4096.size a) ∧
  (∀ k0_t3 : Fin (k0_t3_loop v55).trips, ∀ (hinb : ∀ a, (k0_off27 v55 k0_t3) a + S1x128x4096.size a ≤ S3x128x4096.size a), (Rect.unit (s := S3x128x4096) (k0_off27 v55 k0_t3) S1x128x4096.size hinb).WholeWords (EltTy.packing .bf16)) ∧
  (∀ k0_t3 : Fin (k0_t3_loop v55).trips, ∀ a, (k0_off29 v55 k0_t3) a + S1.size a ≤ S3.size a) ∧
  (∀ k0_t3 : Fin (k0_t3_loop v55).trips, ∀ a, (k0_off30 v55 k0_t3) a + S1x128x1408.size a ≤ S3x128x1408.size a) ∧
  (∀ k0_t3 : Fin (k0_t3_loop v55).trips, ∀ (hinb : ∀ a, (k0_off30 v55 k0_t3) a + S1x128x1408.size a ≤ S3x128x1408.size a), (Rect.unit (s := S3x128x1408) (k0_off30 v55 k0_t3) S1x128x1408.size hinb).WholeWords (EltTy.packing .bf16)) ∧
  (∀ k0_t3 : Fin (k0_t3_loop v55).trips, ∀ a, (k0_off32 v55 k0_t3) a + S1x128x4096.size a ≤ S3x128x4096.size a) ∧
  (∀ k0_t3 : Fin (k0_t3_loop v55).trips, ∀ a, (k0_off33 v55 k0_t3) a + S1x128x1408.size a ≤ S3x128x1408.size a) ∧
  (∀ k0_t3 : Fin (k0_t3_loop v55).trips, ∀ a, (k0_off34 v55 k0_t3) a + S1x4096x1408.size a ≤ S3x4096x1408.size a) ∧
  (∀ k0_t3 : Fin (k0_t3_loop v55).trips, ∀ (hinb : ∀ a, (k0_off34 v55 k0_t3) a + S1x4096x1408.size a ≤ S3x4096x1408.size a), (Rect.unit (s := S3x4096x1408) (k0_off34 v55 k0_t3) S1x4096x1408.size hinb).WholeWords (EltTy.packing .fp8e4m3)) ∧
  (∀ k0_t3 : Fin (k0_t3_loop v55).trips, ∀ a, (k0_off36 v55 k0_t3) a + S1x4096x1408.size a ≤ S3x4096x1408.size a) ∧
  (∀ k0_t3 : Fin (k0_t3_loop v55).trips, ∀ (k0_h3 : k0_cond3 v55 k0_t3 = 1#1), ∀ a, (k0_off38 v55 k0_t3) a + S1.size a ≤ S3.size a) ∧
  (∀ k0_t3 : Fin (k0_t3_loop v55).trips, ∀ (k0_h3 : k0_cond3 v55 k0_t3 = 1#1), ∀ a, (k0_off39 v55 k0_t3) a + S1x128x4096.size a ≤ S3x128x4096.size a) ∧
  (∀ k0_t3 : Fin (k0_t3_loop v55).trips, ∀ (k0_h3 : k0_cond3 v55 k0_t3 = 1#1), ∀ (hinb : ∀ a, (k0_off39 v55 k0_t3) a + S1x128x4096.size a ≤ S3x128x4096.size a), (Rect.unit (s := S3x128x4096) (k0_off39 v55 k0_t3) S1x128x4096.size hinb).WholeWords (EltTy.packing .bf16)) ∧
  (∀ k0_t3 : Fin (k0_t3_loop v55).trips, ∀ (k0_h3 : k0_cond3 v55 k0_t3 = 1#1), ∀ a, (k0_off41 v55 k0_t3) a + S1.size a ≤ S3.size a) ∧
  (∀ k0_t3 : Fin (k0_t3_loop v55).trips, ∀ (k0_h3 : k0_cond3 v55 k0_t3 = 1#1), ∀ a, (k0_off42 v55 k0_t3) a + S1x128x1408.size a ≤ S3x128x1408.size a) ∧
  (∀ k0_t3 : Fin (k0_t3_loop v55).trips, ∀ (k0_h3 : k0_cond3 v55 k0_t3 = 1#1), ∀ (hinb : ∀ a, (k0_off42 v55 k0_t3) a + S1x128x1408.size a ≤ S3x128x1408.size a), (Rect.unit (s := S3x128x1408) (k0_off42 v55 k0_t3) S1x128x1408.size hinb).WholeWords (EltTy.packing .bf16)) ∧
  (∀ k0_t3 : Fin (k0_t3_loop v55).trips, ∀ (k0_h3 : k0_cond3 v55 k0_t3 = 1#1), ∀ a, (k0_off44 v55 k0_t3) a + S1x4096x1408.size a ≤ S3x4096x1408.size a) ∧
  (∀ k0_t3 : Fin (k0_t3_loop v55).trips, ∀ (k0_h3 : k0_cond3 v55 k0_t3 = 1#1), ∀ (hinb : ∀ a, (k0_off44 v55 k0_t3) a + S1x4096x1408.size a ≤ S3x4096x1408.size a), (Rect.unit (s := S3x4096x1408) (k0_off44 v55 k0_t3) S1x4096x1408.size hinb).WholeWords (EltTy.packing .fp8e4m3)) ∧
  (∀ k0_t3 : Fin (k0_t3_loop v55).trips, ∀ a, (k0_off46 v55 k0_t3) a + S1x1.size a ≤ S3x4.size a) ∧
  (∀ k0_t3 : Fin (k0_t3_loop v55).trips, ∀ a, (k0_off47 v55 k0_t3) a + S1x1408x1024.size a ≤ S3x1408x4096.size a) ∧
  (∀ k0_t3 : Fin (k0_t3_loop v55).trips, ∀ (hinb : ∀ a, (k0_off47 v55 k0_t3) a + S1x1408x1024.size a ≤ S3x1408x4096.size a), (Rect.unit (s := S3x1408x4096) (k0_off47 v55 k0_t3) S1x1408x1024.size hinb).WholeWords (EltTy.packing .fp8e4m3)) ∧
  (∀ k0_t3 : Fin (k0_t3_loop v55).trips, ∀ a, (k0_off49 v55 k0_t3) a + S1x1408x1024.size a ≤ S3x1408x4096.size a) ∧
  (∀ k0_t3 : Fin (k0_t3_loop v55).trips, ∀ (k0_h4 : k0_cond4 v55 k0_t3 = 1#1), ∀ a, (k0_off51 v55 k0_t3) a + S1x1.size a ≤ S3x4.size a) ∧
  (∀ k0_t3 : Fin (k0_t3_loop v55).trips, ∀ (k0_h4 : k0_cond4 v55 k0_t3 = 1#1), ∀ a, (k0_off52 v55 k0_t3) a + S1x1408x1024.size a ≤ S3x1408x4096.size a) ∧
  (∀ k0_t3 : Fin (k0_t3_loop v55).trips, ∀ (k0_h4 : k0_cond4 v55 k0_t3 = 1#1), ∀ (hinb : ∀ a, (k0_off52 v55 k0_t3) a + S1x1408x1024.size a ≤ S3x1408x4096.size a), (Rect.unit (s := S3x1408x4096) (k0_off52 v55 k0_t3) S1x1408x1024.size hinb).WholeWords (EltTy.packing .fp8e4m3)) ∧
  (∀ k0_t3 : Fin (k0_t3_loop v55).trips, ∀ a, (k0_off54 v55 k0_t3) a + S1x1.size a ≤ S3x4.size a) ∧
  (∀ k0_t3 : Fin (k0_t3_loop v55).trips, ∀ a, (k0_off55 v55 k0_t3) a + S1x1408x1024.size a ≤ S3x1408x4096.size a) ∧
  (∀ k0_t3 : Fin (k0_t3_loop v55).trips, ∀ (hinb : ∀ a, (k0_off55 v55 k0_t3) a + S1x1408x1024.size a ≤ S3x1408x4096.size a), (Rect.unit (s := S3x1408x4096) (k0_off55 v55 k0_t3) S1x1408x1024.size hinb).WholeWords (EltTy.packing .fp8e4m3))
def k0_chk5_1 (v55 : BitVec 32) : Prop :=
  (∀ k0_t3 : Fin (k0_t3_loop v55).trips, ∀ a, (k0_off57 v55 k0_t3) a + S1x1408x1024.size a ≤ S3x1408x4096.size a) ∧
  (∀ k0_t3 : Fin (k0_t3_loop v55).trips, ∀ (k0_h6 : k0_cond6 v55 k0_t3 = 1#1), ∀ a, (k0_off59 v55 k0_t3) a + S1x1.size a ≤ S3x4.size a) ∧
  (∀ k0_t3 : Fin (k0_t3_loop v55).trips, ∀ (k0_h6 : k0_cond6 v55 k0_t3 = 1#1), ∀ a, (k0_off60 v55 k0_t3) a + S1x1408x1024.size a ≤ S3x1408x4096.size a) ∧
  (∀ k0_t3 : Fin (k0_t3_loop v55).trips, ∀ (k0_h6 : k0_cond6 v55 k0_t3 = 1#1), ∀ (hinb : ∀ a, (k0_off60 v55 k0_t3) a + S1x1408x1024.size a ≤ S3x1408x4096.size a), (Rect.unit (s := S3x1408x4096) (k0_off60 v55 k0_t3) S1x1408x1024.size hinb).WholeWords (EltTy.packing .fp8e4m3)) ∧
  (∀ k0_t3 : Fin (k0_t3_loop v55).trips, ∀ a, (k0_off62 v55 k0_t3) a + S1x1.size a ≤ S3x4.size a) ∧
  (∀ k0_t3 : Fin (k0_t3_loop v55).trips, ∀ a, (k0_off63 v55 k0_t3) a + S1x1408x1024.size a ≤ S3x1408x4096.size a) ∧
  (∀ k0_t3 : Fin (k0_t3_loop v55).trips, ∀ (hinb : ∀ a, (k0_off63 v55 k0_t3) a + S1x1408x1024.size a ≤ S3x1408x4096.size a), (Rect.unit (s := S3x1408x4096) (k0_off63 v55 k0_t3) S1x1408x1024.size hinb).WholeWords (EltTy.packing .fp8e4m3)) ∧
  (∀ k0_t3 : Fin (k0_t3_loop v55).trips, ∀ a, (k0_off65 v55 k0_t3) a + S1x1408x1024.size a ≤ S3x1408x4096.size a) ∧
  (∀ k0_t3 : Fin (k0_t3_loop v55).trips, ∀ (k0_h8 : k0_cond8 v55 k0_t3 = 1#1), ∀ a, (k0_off67 v55 k0_t3) a + S1x1.size a ≤ S3x4.size a) ∧
  (∀ k0_t3 : Fin (k0_t3_loop v55).trips, ∀ (k0_h8 : k0_cond8 v55 k0_t3 = 1#1), ∀ a, (k0_off68 v55 k0_t3) a + S1x1408x1024.size a ≤ S3x1408x4096.size a) ∧
  (∀ k0_t3 : Fin (k0_t3_loop v55).trips, ∀ (k0_h8 : k0_cond8 v55 k0_t3 = 1#1), ∀ (hinb : ∀ a, (k0_off68 v55 k0_t3) a + S1x1408x1024.size a ≤ S3x1408x4096.size a), (Rect.unit (s := S3x1408x4096) (k0_off68 v55 k0_t3) S1x1408x1024.size hinb).WholeWords (EltTy.packing .fp8e4m3)) ∧
  (∀ k0_t3 : Fin (k0_t3_loop v55).trips, ∀ a, (k0_off70 v55 k0_t3) a + S1x1.size a ≤ S3x4.size a) ∧
  (∀ k0_t3 : Fin (k0_t3_loop v55).trips, ∀ a, (k0_off71 v55 k0_t3) a + S1x1408x1024.size a ≤ S3x1408x4096.size a) ∧
  (∀ k0_t3 : Fin (k0_t3_loop v55).trips, ∀ (hinb : ∀ a, (k0_off71 v55 k0_t3) a + S1x1408x1024.size a ≤ S3x1408x4096.size a), (Rect.unit (s := S3x1408x4096) (k0_off71 v55 k0_t3) S1x1408x1024.size hinb).WholeWords (EltTy.packing .fp8e4m3)) ∧
  (∀ k0_t3 : Fin (k0_t3_loop v55).trips, ∀ a, (k0_off73 v55 k0_t3) a + S1x1408x1024.size a ≤ S3x1408x4096.size a) ∧
  (∀ k0_t3 : Fin (k0_t3_loop v55).trips, ∀ (k0_h10 : k0_cond10 v55 k0_t3 = 1#1), ∀ a, (k0_off75 v55 k0_t3) a + S1x1.size a ≤ S3x4.size a) ∧
  (∀ k0_t3 : Fin (k0_t3_loop v55).trips, ∀ (k0_h10 : k0_cond10 v55 k0_t3 = 1#1), ∀ a, (k0_off76 v55 k0_t3) a + S1x1408x1024.size a ≤ S3x1408x4096.size a) ∧
  (∀ k0_t3 : Fin (k0_t3_loop v55).trips, ∀ (k0_h10 : k0_cond10 v55 k0_t3 = 1#1), ∀ (hinb : ∀ a, (k0_off76 v55 k0_t3) a + S1x1408x1024.size a ≤ S3x1408x4096.size a), (Rect.unit (s := S3x1408x4096) (k0_off76 v55 k0_t3) S1x1408x1024.size hinb).WholeWords (EltTy.packing .fp8e4m3)) ∧
  ((k0_t4_loop v55).OK) ∧
  (∀ k0_t4 : Fin (k0_t4_loop v55).trips, ∀ a, (k0_off78 v55 k0_t4) a + S1.size a ≤ S33.size a) ∧
  (∀ k0_t4 : Fin (k0_t4_loop v55).trips, ∀ a, (k0_off79 v55 k0_t4) a + S1.size a ≤ S33.size a) ∧
  (∀ k0_t4 : Fin (k0_t4_loop v55).trips, ∀ a, (k0_off80 v55 k0_t4) a + S1.size a ≤ S3.size a) ∧
  (∀ k0_t4 : Fin (k0_t4_loop v55).trips, ∀ a, (k0_off81 v55 k0_t4) a + S1x128x4096.size a ≤ S3x128x4096.size a) ∧
  (∀ k0_t4 : Fin (k0_t4_loop v55).trips, ∀ (hinb : ∀ a, (k0_off81 v55 k0_t4) a + S1x128x4096.size a ≤ S3x128x4096.size a), (Rect.unit (s := S3x128x4096) (k0_off81 v55 k0_t4) S1x128x4096.size hinb).WholeWords (EltTy.packing .bf16)) ∧
  (∀ k0_t4 : Fin (k0_t4_loop v55).trips, ∀ a, (k0_off83 v55 k0_t4) a + S1.size a ≤ S3.size a) ∧
  (∀ k0_t4 : Fin (k0_t4_loop v55).trips, ∀ a, (k0_off84 v55 k0_t4) a + S1x128x1408.size a ≤ S3x128x1408.size a) ∧
  (∀ k0_t4 : Fin (k0_t4_loop v55).trips, ∀ (hinb : ∀ a, (k0_off84 v55 k0_t4) a + S1x128x1408.size a ≤ S3x128x1408.size a), (Rect.unit (s := S3x128x1408) (k0_off84 v55 k0_t4) S1x128x1408.size hinb).WholeWords (EltTy.packing .bf16)) ∧
  (∀ k0_t4 : Fin (k0_t4_loop v55).trips, ∀ a, (k0_off86 v55 k0_t4) a + S1x128x4096.size a ≤ S3x128x4096.size a) ∧
  (∀ k0_t4 : Fin (k0_t4_loop v55).trips, ∀ a, (k0_off87 v55 k0_t4) a + S1x128x1408.size a ≤ S3x128x1408.size a) ∧
  (∀ k0_t4 : Fin (k0_t4_loop v55).trips, ∀ a, (k0_off88 v55 k0_t4) a + S1x4096x1408.size a ≤ S3x4096x1408.size a) ∧
  (∀ k0_t4 : Fin (k0_t4_loop v55).trips, ∀ (hinb : ∀ a, (k0_off88 v55 k0_t4) a + S1x4096x1408.size a ≤ S3x4096x1408.size a), (Rect.unit (s := S3x4096x1408) (k0_off88 v55 k0_t4) S1x4096x1408.size hinb).WholeWords (EltTy.packing .fp8e4m3)) ∧
  (∀ k0_t4 : Fin (k0_t4_loop v55).trips, ∀ a, (k0_off90 v55 k0_t4) a + S1x4096x1408.size a ≤ S3x4096x1408.size a)
def k0_chk5_2 (v55 : BitVec 32) : Prop :=
  (∀ k0_t4 : Fin (k0_t4_loop v55).trips, ∀ (k0_h12 : k0_cond12 v55 k0_t4 = 1#1), ∀ a, (k0_off92 v55 k0_t4) a + S1.size a ≤ S3.size a) ∧
  (∀ k0_t4 : Fin (k0_t4_loop v55).trips, ∀ (k0_h12 : k0_cond12 v55 k0_t4 = 1#1), ∀ a, (k0_off93 v55 k0_t4) a + S1x128x4096.size a ≤ S3x128x4096.size a) ∧
  (∀ k0_t4 : Fin (k0_t4_loop v55).trips, ∀ (k0_h12 : k0_cond12 v55 k0_t4 = 1#1), ∀ (hinb : ∀ a, (k0_off93 v55 k0_t4) a + S1x128x4096.size a ≤ S3x128x4096.size a), (Rect.unit (s := S3x128x4096) (k0_off93 v55 k0_t4) S1x128x4096.size hinb).WholeWords (EltTy.packing .bf16)) ∧
  (∀ k0_t4 : Fin (k0_t4_loop v55).trips, ∀ (k0_h12 : k0_cond12 v55 k0_t4 = 1#1), ∀ a, (k0_off95 v55 k0_t4) a + S1.size a ≤ S3.size a) ∧
  (∀ k0_t4 : Fin (k0_t4_loop v55).trips, ∀ (k0_h12 : k0_cond12 v55 k0_t4 = 1#1), ∀ a, (k0_off96 v55 k0_t4) a + S1x128x1408.size a ≤ S3x128x1408.size a) ∧
  (∀ k0_t4 : Fin (k0_t4_loop v55).trips, ∀ (k0_h12 : k0_cond12 v55 k0_t4 = 1#1), ∀ (hinb : ∀ a, (k0_off96 v55 k0_t4) a + S1x128x1408.size a ≤ S3x128x1408.size a), (Rect.unit (s := S3x128x1408) (k0_off96 v55 k0_t4) S1x128x1408.size hinb).WholeWords (EltTy.packing .bf16)) ∧
  (∀ k0_t4 : Fin (k0_t4_loop v55).trips, ∀ (k0_h12 : k0_cond12 v55 k0_t4 = 1#1), ∀ a, (k0_off98 v55 k0_t4) a + S1x4096x1408.size a ≤ S3x4096x1408.size a) ∧
  (∀ k0_t4 : Fin (k0_t4_loop v55).trips, ∀ (k0_h12 : k0_cond12 v55 k0_t4 = 1#1), ∀ (hinb : ∀ a, (k0_off98 v55 k0_t4) a + S1x4096x1408.size a ≤ S3x4096x1408.size a), (Rect.unit (s := S3x4096x1408) (k0_off98 v55 k0_t4) S1x4096x1408.size hinb).WholeWords (EltTy.packing .fp8e4m3)) ∧
  (∀ k0_t4 : Fin (k0_t4_loop v55).trips, ∀ a, (k0_off100 v55 k0_t4) a + S1x1.size a ≤ S3x4.size a) ∧
  (∀ k0_t4 : Fin (k0_t4_loop v55).trips, ∀ a, (k0_off101 v55 k0_t4) a + S1x1408x1024.size a ≤ S3x1408x4096.size a) ∧
  (∀ k0_t4 : Fin (k0_t4_loop v55).trips, ∀ (hinb : ∀ a, (k0_off101 v55 k0_t4) a + S1x1408x1024.size a ≤ S3x1408x4096.size a), (Rect.unit (s := S3x1408x4096) (k0_off101 v55 k0_t4) S1x1408x1024.size hinb).WholeWords (EltTy.packing .fp8e4m3)) ∧
  (∀ k0_t4 : Fin (k0_t4_loop v55).trips, ∀ a, (k0_off103 v55 k0_t4) a + S1x1408x1024.size a ≤ S3x1408x4096.size a) ∧
  (∀ k0_t4 : Fin (k0_t4_loop v55).trips, ∀ (k0_h13 : k0_cond13 v55 k0_t4 = 1#1), ∀ a, (k0_off105 v55 k0_t4) a + S1x1.size a ≤ S3x4.size a) ∧
  (∀ k0_t4 : Fin (k0_t4_loop v55).trips, ∀ (k0_h13 : k0_cond13 v55 k0_t4 = 1#1), ∀ a, (k0_off106 v55 k0_t4) a + S1x1408x1024.size a ≤ S3x1408x4096.size a) ∧
  (∀ k0_t4 : Fin (k0_t4_loop v55).trips, ∀ (k0_h13 : k0_cond13 v55 k0_t4 = 1#1), ∀ (hinb : ∀ a, (k0_off106 v55 k0_t4) a + S1x1408x1024.size a ≤ S3x1408x4096.size a), (Rect.unit (s := S3x1408x4096) (k0_off106 v55 k0_t4) S1x1408x1024.size hinb).WholeWords (EltTy.packing .fp8e4m3)) ∧
  (∀ k0_t4 : Fin (k0_t4_loop v55).trips, ∀ a, (k0_off108 v55 k0_t4) a + S1x1.size a ≤ S3x4.size a) ∧
  (∀ k0_t4 : Fin (k0_t4_loop v55).trips, ∀ a, (k0_off109 v55 k0_t4) a + S1x1408x1024.size a ≤ S3x1408x4096.size a) ∧
  (∀ k0_t4 : Fin (k0_t4_loop v55).trips, ∀ (hinb : ∀ a, (k0_off109 v55 k0_t4) a + S1x1408x1024.size a ≤ S3x1408x4096.size a), (Rect.unit (s := S3x1408x4096) (k0_off109 v55 k0_t4) S1x1408x1024.size hinb).WholeWords (EltTy.packing .fp8e4m3)) ∧
  (∀ k0_t4 : Fin (k0_t4_loop v55).trips, ∀ a, (k0_off111 v55 k0_t4) a + S1x1408x1024.size a ≤ S3x1408x4096.size a) ∧
  (∀ k0_t4 : Fin (k0_t4_loop v55).trips, ∀ (k0_h15 : k0_cond15 v55 k0_t4 = 1#1), ∀ a, (k0_off113 v55 k0_t4) a + S1x1.size a ≤ S3x4.size a) ∧
  (∀ k0_t4 : Fin (k0_t4_loop v55).trips, ∀ (k0_h15 : k0_cond15 v55 k0_t4 = 1#1), ∀ a, (k0_off114 v55 k0_t4) a + S1x1408x1024.size a ≤ S3x1408x4096.size a) ∧
  (∀ k0_t4 : Fin (k0_t4_loop v55).trips, ∀ (k0_h15 : k0_cond15 v55 k0_t4 = 1#1), ∀ (hinb : ∀ a, (k0_off114 v55 k0_t4) a + S1x1408x1024.size a ≤ S3x1408x4096.size a), (Rect.unit (s := S3x1408x4096) (k0_off114 v55 k0_t4) S1x1408x1024.size hinb).WholeWords (EltTy.packing .fp8e4m3)) ∧
  (∀ k0_t4 : Fin (k0_t4_loop v55).trips, ∀ a, (k0_off116 v55 k0_t4) a + S1x1.size a ≤ S3x4.size a) ∧
  (∀ k0_t4 : Fin (k0_t4_loop v55).trips, ∀ a, (k0_off117 v55 k0_t4) a + S1x1408x1024.size a ≤ S3x1408x4096.size a) ∧
  (∀ k0_t4 : Fin (k0_t4_loop v55).trips, ∀ (hinb : ∀ a, (k0_off117 v55 k0_t4) a + S1x1408x1024.size a ≤ S3x1408x4096.size a), (Rect.unit (s := S3x1408x4096) (k0_off117 v55 k0_t4) S1x1408x1024.size hinb).WholeWords (EltTy.packing .fp8e4m3)) ∧
  (∀ k0_t4 : Fin (k0_t4_loop v55).trips, ∀ a, (k0_off119 v55 k0_t4) a + S1x1408x1024.size a ≤ S3x1408x4096.size a) ∧
  (∀ k0_t4 : Fin (k0_t4_loop v55).trips, ∀ (k0_h17 : k0_cond17 v55 k0_t4 = 1#1), ∀ a, (k0_off121 v55 k0_t4) a + S1x1.size a ≤ S3x4.size a) ∧
  (∀ k0_t4 : Fin (k0_t4_loop v55).trips, ∀ (k0_h17 : k0_cond17 v55 k0_t4 = 1#1), ∀ a, (k0_off122 v55 k0_t4) a + S1x1408x1024.size a ≤ S3x1408x4096.size a) ∧
  (∀ k0_t4 : Fin (k0_t4_loop v55).trips, ∀ (k0_h17 : k0_cond17 v55 k0_t4 = 1#1), ∀ (hinb : ∀ a, (k0_off122 v55 k0_t4) a + S1x1408x1024.size a ≤ S3x1408x4096.size a), (Rect.unit (s := S3x1408x4096) (k0_off122 v55 k0_t4) S1x1408x1024.size hinb).WholeWords (EltTy.packing .fp8e4m3)) ∧
  (∀ k0_t4 : Fin (k0_t4_loop v55).trips, ∀ a, (k0_off124 v55 k0_t4) a + S1x1.size a ≤ S3x4.size a) ∧
  (∀ k0_t4 : Fin (k0_t4_loop v55).trips, ∀ a, (k0_off125 v55 k0_t4) a + S1x1408x1024.size a ≤ S3x1408x4096.size a) ∧
  (∀ k0_t4 : Fin (k0_t4_loop v55).trips, ∀ (hinb : ∀ a, (k0_off125 v55 k0_t4) a + S1x1408x1024.size a ≤ S3x1408x4096.size a), (Rect.unit (s := S3x1408x4096) (k0_off125 v55 k0_t4) S1x1408x1024.size hinb).WholeWords (EltTy.packing .fp8e4m3))
def k0_chk5_3 (v55 : BitVec 32) : Prop :=
  (∀ k0_t4 : Fin (k0_t4_loop v55).trips, ∀ a, (k0_off127 v55 k0_t4) a + S1x1408x1024.size a ≤ S3x1408x4096.size a) ∧
  (∀ k0_t4 : Fin (k0_t4_loop v55).trips, ∀ (k0_h19 : k0_cond19 v55 k0_t4 = 1#1), ∀ a, (k0_off129 v55 k0_t4) a + S1x1.size a ≤ S3x4.size a) ∧
  (∀ k0_t4 : Fin (k0_t4_loop v55).trips, ∀ (k0_h19 : k0_cond19 v55 k0_t4 = 1#1), ∀ a, (k0_off130 v55 k0_t4) a + S1x1408x1024.size a ≤ S3x1408x4096.size a) ∧
  (∀ k0_t4 : Fin (k0_t4_loop v55).trips, ∀ (k0_h19 : k0_cond19 v55 k0_t4 = 1#1), ∀ (hinb : ∀ a, (k0_off130 v55 k0_t4) a + S1x1408x1024.size a ≤ S3x1408x4096.size a), (Rect.unit (s := S3x1408x4096) (k0_off130 v55 k0_t4) S1x1408x1024.size hinb).WholeWords (EltTy.packing .fp8e4m3))
def k0_chk5 (v55 : BitVec 32) : Prop :=
  k0_chk5_0 v55 ∧
  k0_chk5_1 v55 ∧
  k0_chk5_2 v55 ∧
  k0_chk5_3 v55
theorem k0_t3_ok : ∀ (v55 : BitVec 32) (k0_hw5 : k0_chk5 v55), (k0_t3_loop v55).OK := fun v55 k0_hw5 => k0_hw5.1.1
theorem k0_off24_inb : ∀ (v55 : BitVec 32) (k0_hw5 : k0_chk5 v55) (k0_t3 : Fin (k0_t3_loop v55).trips), ∀ a, (k0_off24 v55 k0_t3) a + S1.size a ≤ S33.size a := fun v55 k0_hw5 k0_t3 => k0_hw5.1.2.1 k0_t3
theorem k0_off25_inb : ∀ (v55 : BitVec 32) (k0_hw5 : k0_chk5 v55) (k0_t3 : Fin (k0_t3_loop v55).trips), ∀ a, (k0_off25 v55 k0_t3) a + S1.size a ≤ S33.size a := fun v55 k0_hw5 k0_t3 => k0_hw5.1.2.2.1 k0_t3
theorem k0_off26_inb : ∀ (v55 : BitVec 32) (k0_hw5 : k0_chk5 v55) (k0_t3 : Fin (k0_t3_loop v55).trips), ∀ a, (k0_off26 v55 k0_t3) a + S1.size a ≤ S3.size a := fun v55 k0_hw5 k0_t3 => k0_hw5.1.2.2.2.1 k0_t3
theorem k0_off27_inb : ∀ (v55 : BitVec 32) (k0_hw5 : k0_chk5 v55) (k0_t3 : Fin (k0_t3_loop v55).trips), ∀ a, (k0_off27 v55 k0_t3) a + S1x128x4096.size a ≤ S3x128x4096.size a := fun v55 k0_hw5 k0_t3 => k0_hw5.1.2.2.2.2.1 k0_t3
theorem k0_off27_wordsbf16 : ∀ (v55 : BitVec 32) (k0_hw5 : k0_chk5 v55) (k0_t3 : Fin (k0_t3_loop v55).trips), (Rect.unit (s := S3x128x4096) (k0_off27 v55 k0_t3) S1x128x4096.size (k0_off27_inb v55 k0_hw5 k0_t3)).WholeWords (EltTy.packing .bf16) := fun v55 k0_hw5 k0_t3 => k0_hw5.1.2.2.2.2.2.1 k0_t3 (k0_off27_inb v55 k0_hw5 k0_t3)
theorem k0_off29_inb : ∀ (v55 : BitVec 32) (k0_hw5 : k0_chk5 v55) (k0_t3 : Fin (k0_t3_loop v55).trips), ∀ a, (k0_off29 v55 k0_t3) a + S1.size a ≤ S3.size a := fun v55 k0_hw5 k0_t3 => k0_hw5.1.2.2.2.2.2.2.1 k0_t3
theorem k0_off30_inb : ∀ (v55 : BitVec 32) (k0_hw5 : k0_chk5 v55) (k0_t3 : Fin (k0_t3_loop v55).trips), ∀ a, (k0_off30 v55 k0_t3) a + S1x128x1408.size a ≤ S3x128x1408.size a := fun v55 k0_hw5 k0_t3 => k0_hw5.1.2.2.2.2.2.2.2.1 k0_t3
theorem k0_off30_wordsbf16 : ∀ (v55 : BitVec 32) (k0_hw5 : k0_chk5 v55) (k0_t3 : Fin (k0_t3_loop v55).trips), (Rect.unit (s := S3x128x1408) (k0_off30 v55 k0_t3) S1x128x1408.size (k0_off30_inb v55 k0_hw5 k0_t3)).WholeWords (EltTy.packing .bf16) := fun v55 k0_hw5 k0_t3 => k0_hw5.1.2.2.2.2.2.2.2.2.1 k0_t3 (k0_off30_inb v55 k0_hw5 k0_t3)
theorem k0_off32_inb : ∀ (v55 : BitVec 32) (k0_hw5 : k0_chk5 v55) (k0_t3 : Fin (k0_t3_loop v55).trips), ∀ a, (k0_off32 v55 k0_t3) a + S1x128x4096.size a ≤ S3x128x4096.size a := fun v55 k0_hw5 k0_t3 => k0_hw5.1.2.2.2.2.2.2.2.2.2.1 k0_t3
theorem k0_off33_inb : ∀ (v55 : BitVec 32) (k0_hw5 : k0_chk5 v55) (k0_t3 : Fin (k0_t3_loop v55).trips), ∀ a, (k0_off33 v55 k0_t3) a + S1x128x1408.size a ≤ S3x128x1408.size a := fun v55 k0_hw5 k0_t3 => k0_hw5.1.2.2.2.2.2.2.2.2.2.2.1 k0_t3
theorem k0_off34_inb : ∀ (v55 : BitVec 32) (k0_hw5 : k0_chk5 v55) (k0_t3 : Fin (k0_t3_loop v55).trips), ∀ a, (k0_off34 v55 k0_t3) a + S1x4096x1408.size a ≤ S3x4096x1408.size a := fun v55 k0_hw5 k0_t3 => k0_hw5.1.2.2.2.2.2.2.2.2.2.2.2.1 k0_t3
theorem k0_off34_wordsfp8e4m3 : ∀ (v55 : BitVec 32) (k0_hw5 : k0_chk5 v55) (k0_t3 : Fin (k0_t3_loop v55).trips), (Rect.unit (s := S3x4096x1408) (k0_off34 v55 k0_t3) S1x4096x1408.size (k0_off34_inb v55 k0_hw5 k0_t3)).WholeWords (EltTy.packing .fp8e4m3) := fun v55 k0_hw5 k0_t3 => k0_hw5.1.2.2.2.2.2.2.2.2.2.2.2.2.1 k0_t3 (k0_off34_inb v55 k0_hw5 k0_t3)
theorem k0_off36_inb : ∀ (v55 : BitVec 32) (k0_hw5 : k0_chk5 v55) (k0_t3 : Fin (k0_t3_loop v55).trips), ∀ a, (k0_off36 v55 k0_t3) a + S1x4096x1408.size a ≤ S3x4096x1408.size a := fun v55 k0_hw5 k0_t3 => k0_hw5.1.2.2.2.2.2.2.2.2.2.2.2.2.2.1 k0_t3
theorem k0_off38_inb : ∀ (v55 : BitVec 32) (k0_hw5 : k0_chk5 v55) (k0_t3 : Fin (k0_t3_loop v55).trips), ∀ (k0_h3 : k0_cond3 v55 k0_t3 = 1#1), ∀ a, (k0_off38 v55 k0_t3) a + S1.size a ≤ S3.size a := fun v55 k0_hw5 k0_t3 k0_h3 => k0_hw5.1.2.2.2.2.2.2.2.2.2.2.2.2.2.2.1 k0_t3 k0_h3
theorem k0_off39_inb : ∀ (v55 : BitVec 32) (k0_hw5 : k0_chk5 v55) (k0_t3 : Fin (k0_t3_loop v55).trips), ∀ (k0_h3 : k0_cond3 v55 k0_t3 = 1#1), ∀ a, (k0_off39 v55 k0_t3) a + S1x128x4096.size a ≤ S3x128x4096.size a := fun v55 k0_hw5 k0_t3 k0_h3 => k0_hw5.1.2.2.2.2.2.2.2.2.2.2.2.2.2.2.2.1 k0_t3 k0_h3
theorem k0_off39_wordsbf16 : ∀ (v55 : BitVec 32) (k0_hw5 : k0_chk5 v55) (k0_t3 : Fin (k0_t3_loop v55).trips), ∀ (k0_h3 : k0_cond3 v55 k0_t3 = 1#1), (Rect.unit (s := S3x128x4096) (k0_off39 v55 k0_t3) S1x128x4096.size (k0_off39_inb v55 k0_hw5 k0_t3 k0_h3)).WholeWords (EltTy.packing .bf16) := fun v55 k0_hw5 k0_t3 k0_h3 => k0_hw5.1.2.2.2.2.2.2.2.2.2.2.2.2.2.2.2.2.1 k0_t3 k0_h3 (k0_off39_inb v55 k0_hw5 k0_t3 k0_h3)
theorem k0_off41_inb : ∀ (v55 : BitVec 32) (k0_hw5 : k0_chk5 v55) (k0_t3 : Fin (k0_t3_loop v55).trips), ∀ (k0_h3 : k0_cond3 v55 k0_t3 = 1#1), ∀ a, (k0_off41 v55 k0_t3) a + S1.size a ≤ S3.size a := fun v55 k0_hw5 k0_t3 k0_h3 => k0_hw5.1.2.2.2.2.2.2.2.2.2.2.2.2.2.2.2.2.2.1 k0_t3 k0_h3
theorem k0_off42_inb : ∀ (v55 : BitVec 32) (k0_hw5 : k0_chk5 v55) (k0_t3 : Fin (k0_t3_loop v55).trips), ∀ (k0_h3 : k0_cond3 v55 k0_t3 = 1#1), ∀ a, (k0_off42 v55 k0_t3) a + S1x128x1408.size a ≤ S3x128x1408.size a := fun v55 k0_hw5 k0_t3 k0_h3 => k0_hw5.1.2.2.2.2.2.2.2.2.2.2.2.2.2.2.2.2.2.2.1 k0_t3 k0_h3
theorem k0_off42_wordsbf16 : ∀ (v55 : BitVec 32) (k0_hw5 : k0_chk5 v55) (k0_t3 : Fin (k0_t3_loop v55).trips), ∀ (k0_h3 : k0_cond3 v55 k0_t3 = 1#1), (Rect.unit (s := S3x128x1408) (k0_off42 v55 k0_t3) S1x128x1408.size (k0_off42_inb v55 k0_hw5 k0_t3 k0_h3)).WholeWords (EltTy.packing .bf16) := fun v55 k0_hw5 k0_t3 k0_h3 => k0_hw5.1.2.2.2.2.2.2.2.2.2.2.2.2.2.2.2.2.2.2.2.1 k0_t3 k0_h3 (k0_off42_inb v55 k0_hw5 k0_t3 k0_h3)
theorem k0_off44_inb : ∀ (v55 : BitVec 32) (k0_hw5 : k0_chk5 v55) (k0_t3 : Fin (k0_t3_loop v55).trips), ∀ (k0_h3 : k0_cond3 v55 k0_t3 = 1#1), ∀ a, (k0_off44 v55 k0_t3) a + S1x4096x1408.size a ≤ S3x4096x1408.size a := fun v55 k0_hw5 k0_t3 k0_h3 => k0_hw5.1.2.2.2.2.2.2.2.2.2.2.2.2.2.2.2.2.2.2.2.2.1 k0_t3 k0_h3
theorem k0_off44_wordsfp8e4m3 : ∀ (v55 : BitVec 32) (k0_hw5 : k0_chk5 v55) (k0_t3 : Fin (k0_t3_loop v55).trips), ∀ (k0_h3 : k0_cond3 v55 k0_t3 = 1#1), (Rect.unit (s := S3x4096x1408) (k0_off44 v55 k0_t3) S1x4096x1408.size (k0_off44_inb v55 k0_hw5 k0_t3 k0_h3)).WholeWords (EltTy.packing .fp8e4m3) := fun v55 k0_hw5 k0_t3 k0_h3 => k0_hw5.1.2.2.2.2.2.2.2.2.2.2.2.2.2.2.2.2.2.2.2.2.2.1 k0_t3 k0_h3 (k0_off44_inb v55 k0_hw5 k0_t3 k0_h3)
theorem k0_off46_inb : ∀ (v55 : BitVec 32) (k0_hw5 : k0_chk5 v55) (k0_t3 : Fin (k0_t3_loop v55).trips), ∀ a, (k0_off46 v55 k0_t3) a + S1x1.size a ≤ S3x4.size a := fun v55 k0_hw5 k0_t3 => k0_hw5.1.2.2.2.2.2.2.2.2.2.2.2.2.2.2.2.2.2.2.2.2.2.2.1 k0_t3
theorem k0_off47_inb : ∀ (v55 : BitVec 32) (k0_hw5 : k0_chk5 v55) (k0_t3 : Fin (k0_t3_loop v55).trips), ∀ a, (k0_off47 v55 k0_t3) a + S1x1408x1024.size a ≤ S3x1408x4096.size a := fun v55 k0_hw5 k0_t3 => k0_hw5.1.2.2.2.2.2.2.2.2.2.2.2.2.2.2.2.2.2.2.2.2.2.2.2.1 k0_t3
theorem k0_off47_wordsfp8e4m3 : ∀ (v55 : BitVec 32) (k0_hw5 : k0_chk5 v55) (k0_t3 : Fin (k0_t3_loop v55).trips), (Rect.unit (s := S3x1408x4096) (k0_off47 v55 k0_t3) S1x1408x1024.size (k0_off47_inb v55 k0_hw5 k0_t3)).WholeWords (EltTy.packing .fp8e4m3) := fun v55 k0_hw5 k0_t3 => k0_hw5.1.2.2.2.2.2.2.2.2.2.2.2.2.2.2.2.2.2.2.2.2.2.2.2.2.1 k0_t3 (k0_off47_inb v55 k0_hw5 k0_t3)
theorem k0_off49_inb : ∀ (v55 : BitVec 32) (k0_hw5 : k0_chk5 v55) (k0_t3 : Fin (k0_t3_loop v55).trips), ∀ a, (k0_off49 v55 k0_t3) a + S1x1408x1024.size a ≤ S3x1408x4096.size a := fun v55 k0_hw5 k0_t3 => k0_hw5.1.2.2.2.2.2.2.2.2.2.2.2.2.2.2.2.2.2.2.2.2.2.2.2.2.2.1 k0_t3
theorem k0_off51_inb : ∀ (v55 : BitVec 32) (k0_hw5 : k0_chk5 v55) (k0_t3 : Fin (k0_t3_loop v55).trips), ∀ (k0_h4 : k0_cond4 v55 k0_t3 = 1#1), ∀ a, (k0_off51 v55 k0_t3) a + S1x1.size a ≤ S3x4.size a := fun v55 k0_hw5 k0_t3 k0_h4 => k0_hw5.1.2.2.2.2.2.2.2.2.2.2.2.2.2.2.2.2.2.2.2.2.2.2.2.2.2.2.1 k0_t3 k0_h4
theorem k0_off52_inb : ∀ (v55 : BitVec 32) (k0_hw5 : k0_chk5 v55) (k0_t3 : Fin (k0_t3_loop v55).trips), ∀ (k0_h4 : k0_cond4 v55 k0_t3 = 1#1), ∀ a, (k0_off52 v55 k0_t3) a + S1x1408x1024.size a ≤ S3x1408x4096.size a := fun v55 k0_hw5 k0_t3 k0_h4 => k0_hw5.1.2.2.2.2.2.2.2.2.2.2.2.2.2.2.2.2.2.2.2.2.2.2.2.2.2.2.2.1 k0_t3 k0_h4
theorem k0_off52_wordsfp8e4m3 : ∀ (v55 : BitVec 32) (k0_hw5 : k0_chk5 v55) (k0_t3 : Fin (k0_t3_loop v55).trips), ∀ (k0_h4 : k0_cond4 v55 k0_t3 = 1#1), (Rect.unit (s := S3x1408x4096) (k0_off52 v55 k0_t3) S1x1408x1024.size (k0_off52_inb v55 k0_hw5 k0_t3 k0_h4)).WholeWords (EltTy.packing .fp8e4m3) := fun v55 k0_hw5 k0_t3 k0_h4 => k0_hw5.1.2.2.2.2.2.2.2.2.2.2.2.2.2.2.2.2.2.2.2.2.2.2.2.2.2.2.2.2.1 k0_t3 k0_h4 (k0_off52_inb v55 k0_hw5 k0_t3 k0_h4)
theorem k0_off54_inb : ∀ (v55 : BitVec 32) (k0_hw5 : k0_chk5 v55) (k0_t3 : Fin (k0_t3_loop v55).trips), ∀ a, (k0_off54 v55 k0_t3) a + S1x1.size a ≤ S3x4.size a := fun v55 k0_hw5 k0_t3 => k0_hw5.1.2.2.2.2.2.2.2.2.2.2.2.2.2.2.2.2.2.2.2.2.2.2.2.2.2.2.2.2.2.1 k0_t3
theorem k0_off55_inb : ∀ (v55 : BitVec 32) (k0_hw5 : k0_chk5 v55) (k0_t3 : Fin (k0_t3_loop v55).trips), ∀ a, (k0_off55 v55 k0_t3) a + S1x1408x1024.size a ≤ S3x1408x4096.size a := fun v55 k0_hw5 k0_t3 => k0_hw5.1.2.2.2.2.2.2.2.2.2.2.2.2.2.2.2.2.2.2.2.2.2.2.2.2.2.2.2.2.2.2.1 k0_t3
theorem k0_off55_wordsfp8e4m3 : ∀ (v55 : BitVec 32) (k0_hw5 : k0_chk5 v55) (k0_t3 : Fin (k0_t3_loop v55).trips), (Rect.unit (s := S3x1408x4096) (k0_off55 v55 k0_t3) S1x1408x1024.size (k0_off55_inb v55 k0_hw5 k0_t3)).WholeWords (EltTy.packing .fp8e4m3) := fun v55 k0_hw5 k0_t3 => k0_hw5.1.2.2.2.2.2.2.2.2.2.2.2.2.2.2.2.2.2.2.2.2.2.2.2.2.2.2.2.2.2.2.2 k0_t3 (k0_off55_inb v55 k0_hw5 k0_t3)
theorem k0_off57_inb : ∀ (v55 : BitVec 32) (k0_hw5 : k0_chk5 v55) (k0_t3 : Fin (k0_t3_loop v55).trips), ∀ a, (k0_off57 v55 k0_t3) a + S1x1408x1024.size a ≤ S3x1408x4096.size a := fun v55 k0_hw5 k0_t3 => k0_hw5.2.1.1 k0_t3
theorem k0_off59_inb : ∀ (v55 : BitVec 32) (k0_hw5 : k0_chk5 v55) (k0_t3 : Fin (k0_t3_loop v55).trips), ∀ (k0_h6 : k0_cond6 v55 k0_t3 = 1#1), ∀ a, (k0_off59 v55 k0_t3) a + S1x1.size a ≤ S3x4.size a := fun v55 k0_hw5 k0_t3 k0_h6 => k0_hw5.2.1.2.1 k0_t3 k0_h6
theorem k0_off60_inb : ∀ (v55 : BitVec 32) (k0_hw5 : k0_chk5 v55) (k0_t3 : Fin (k0_t3_loop v55).trips), ∀ (k0_h6 : k0_cond6 v55 k0_t3 = 1#1), ∀ a, (k0_off60 v55 k0_t3) a + S1x1408x1024.size a ≤ S3x1408x4096.size a := fun v55 k0_hw5 k0_t3 k0_h6 => k0_hw5.2.1.2.2.1 k0_t3 k0_h6
theorem k0_off60_wordsfp8e4m3 : ∀ (v55 : BitVec 32) (k0_hw5 : k0_chk5 v55) (k0_t3 : Fin (k0_t3_loop v55).trips), ∀ (k0_h6 : k0_cond6 v55 k0_t3 = 1#1), (Rect.unit (s := S3x1408x4096) (k0_off60 v55 k0_t3) S1x1408x1024.size (k0_off60_inb v55 k0_hw5 k0_t3 k0_h6)).WholeWords (EltTy.packing .fp8e4m3) := fun v55 k0_hw5 k0_t3 k0_h6 => k0_hw5.2.1.2.2.2.1 k0_t3 k0_h6 (k0_off60_inb v55 k0_hw5 k0_t3 k0_h6)
theorem k0_off62_inb : ∀ (v55 : BitVec 32) (k0_hw5 : k0_chk5 v55) (k0_t3 : Fin (k0_t3_loop v55).trips), ∀ a, (k0_off62 v55 k0_t3) a + S1x1.size a ≤ S3x4.size a := fun v55 k0_hw5 k0_t3 => k0_hw5.2.1.2.2.2.2.1 k0_t3
theorem k0_off63_inb : ∀ (v55 : BitVec 32) (k0_hw5 : k0_chk5 v55) (k0_t3 : Fin (k0_t3_loop v55).trips), ∀ a, (k0_off63 v55 k0_t3) a + S1x1408x1024.size a ≤ S3x1408x4096.size a := fun v55 k0_hw5 k0_t3 => k0_hw5.2.1.2.2.2.2.2.1 k0_t3
theorem k0_off63_wordsfp8e4m3 : ∀ (v55 : BitVec 32) (k0_hw5 : k0_chk5 v55) (k0_t3 : Fin (k0_t3_loop v55).trips), (Rect.unit (s := S3x1408x4096) (k0_off63 v55 k0_t3) S1x1408x1024.size (k0_off63_inb v55 k0_hw5 k0_t3)).WholeWords (EltTy.packing .fp8e4m3) := fun v55 k0_hw5 k0_t3 => k0_hw5.2.1.2.2.2.2.2.2.1 k0_t3 (k0_off63_inb v55 k0_hw5 k0_t3)
theorem k0_off65_inb : ∀ (v55 : BitVec 32) (k0_hw5 : k0_chk5 v55) (k0_t3 : Fin (k0_t3_loop v55).trips), ∀ a, (k0_off65 v55 k0_t3) a + S1x1408x1024.size a ≤ S3x1408x4096.size a := fun v55 k0_hw5 k0_t3 => k0_hw5.2.1.2.2.2.2.2.2.2.1 k0_t3
theorem k0_off67_inb : ∀ (v55 : BitVec 32) (k0_hw5 : k0_chk5 v55) (k0_t3 : Fin (k0_t3_loop v55).trips), ∀ (k0_h8 : k0_cond8 v55 k0_t3 = 1#1), ∀ a, (k0_off67 v55 k0_t3) a + S1x1.size a ≤ S3x4.size a := fun v55 k0_hw5 k0_t3 k0_h8 => k0_hw5.2.1.2.2.2.2.2.2.2.2.1 k0_t3 k0_h8
theorem k0_off68_inb : ∀ (v55 : BitVec 32) (k0_hw5 : k0_chk5 v55) (k0_t3 : Fin (k0_t3_loop v55).trips), ∀ (k0_h8 : k0_cond8 v55 k0_t3 = 1#1), ∀ a, (k0_off68 v55 k0_t3) a + S1x1408x1024.size a ≤ S3x1408x4096.size a := fun v55 k0_hw5 k0_t3 k0_h8 => k0_hw5.2.1.2.2.2.2.2.2.2.2.2.1 k0_t3 k0_h8
theorem k0_off68_wordsfp8e4m3 : ∀ (v55 : BitVec 32) (k0_hw5 : k0_chk5 v55) (k0_t3 : Fin (k0_t3_loop v55).trips), ∀ (k0_h8 : k0_cond8 v55 k0_t3 = 1#1), (Rect.unit (s := S3x1408x4096) (k0_off68 v55 k0_t3) S1x1408x1024.size (k0_off68_inb v55 k0_hw5 k0_t3 k0_h8)).WholeWords (EltTy.packing .fp8e4m3) := fun v55 k0_hw5 k0_t3 k0_h8 => k0_hw5.2.1.2.2.2.2.2.2.2.2.2.2.1 k0_t3 k0_h8 (k0_off68_inb v55 k0_hw5 k0_t3 k0_h8)
theorem k0_off70_inb : ∀ (v55 : BitVec 32) (k0_hw5 : k0_chk5 v55) (k0_t3 : Fin (k0_t3_loop v55).trips), ∀ a, (k0_off70 v55 k0_t3) a + S1x1.size a ≤ S3x4.size a := fun v55 k0_hw5 k0_t3 => k0_hw5.2.1.2.2.2.2.2.2.2.2.2.2.2.1 k0_t3
theorem k0_off71_inb : ∀ (v55 : BitVec 32) (k0_hw5 : k0_chk5 v55) (k0_t3 : Fin (k0_t3_loop v55).trips), ∀ a, (k0_off71 v55 k0_t3) a + S1x1408x1024.size a ≤ S3x1408x4096.size a := fun v55 k0_hw5 k0_t3 => k0_hw5.2.1.2.2.2.2.2.2.2.2.2.2.2.2.1 k0_t3
theorem k0_off71_wordsfp8e4m3 : ∀ (v55 : BitVec 32) (k0_hw5 : k0_chk5 v55) (k0_t3 : Fin (k0_t3_loop v55).trips), (Rect.unit (s := S3x1408x4096) (k0_off71 v55 k0_t3) S1x1408x1024.size (k0_off71_inb v55 k0_hw5 k0_t3)).WholeWords (EltTy.packing .fp8e4m3) := fun v55 k0_hw5 k0_t3 => k0_hw5.2.1.2.2.2.2.2.2.2.2.2.2.2.2.2.1 k0_t3 (k0_off71_inb v55 k0_hw5 k0_t3)
theorem k0_off73_inb : ∀ (v55 : BitVec 32) (k0_hw5 : k0_chk5 v55) (k0_t3 : Fin (k0_t3_loop v55).trips), ∀ a, (k0_off73 v55 k0_t3) a + S1x1408x1024.size a ≤ S3x1408x4096.size a := fun v55 k0_hw5 k0_t3 => k0_hw5.2.1.2.2.2.2.2.2.2.2.2.2.2.2.2.2.1 k0_t3
theorem k0_off75_inb : ∀ (v55 : BitVec 32) (k0_hw5 : k0_chk5 v55) (k0_t3 : Fin (k0_t3_loop v55).trips), ∀ (k0_h10 : k0_cond10 v55 k0_t3 = 1#1), ∀ a, (k0_off75 v55 k0_t3) a + S1x1.size a ≤ S3x4.size a := fun v55 k0_hw5 k0_t3 k0_h10 => k0_hw5.2.1.2.2.2.2.2.2.2.2.2.2.2.2.2.2.2.1 k0_t3 k0_h10
theorem k0_off76_inb : ∀ (v55 : BitVec 32) (k0_hw5 : k0_chk5 v55) (k0_t3 : Fin (k0_t3_loop v55).trips), ∀ (k0_h10 : k0_cond10 v55 k0_t3 = 1#1), ∀ a, (k0_off76 v55 k0_t3) a + S1x1408x1024.size a ≤ S3x1408x4096.size a := fun v55 k0_hw5 k0_t3 k0_h10 => k0_hw5.2.1.2.2.2.2.2.2.2.2.2.2.2.2.2.2.2.2.1 k0_t3 k0_h10
theorem k0_off76_wordsfp8e4m3 : ∀ (v55 : BitVec 32) (k0_hw5 : k0_chk5 v55) (k0_t3 : Fin (k0_t3_loop v55).trips), ∀ (k0_h10 : k0_cond10 v55 k0_t3 = 1#1), (Rect.unit (s := S3x1408x4096) (k0_off76 v55 k0_t3) S1x1408x1024.size (k0_off76_inb v55 k0_hw5 k0_t3 k0_h10)).WholeWords (EltTy.packing .fp8e4m3) := fun v55 k0_hw5 k0_t3 k0_h10 => k0_hw5.2.1.2.2.2.2.2.2.2.2.2.2.2.2.2.2.2.2.2.1 k0_t3 k0_h10 (k0_off76_inb v55 k0_hw5 k0_t3 k0_h10)
theorem k0_t4_ok : ∀ (v55 : BitVec 32) (k0_hw5 : k0_chk5 v55), (k0_t4_loop v55).OK := fun v55 k0_hw5 => k0_hw5.2.1.2.2.2.2.2.2.2.2.2.2.2.2.2.2.2.2.2.2.1
theorem k0_off78_inb : ∀ (v55 : BitVec 32) (k0_hw5 : k0_chk5 v55) (k0_t4 : Fin (k0_t4_loop v55).trips), ∀ a, (k0_off78 v55 k0_t4) a + S1.size a ≤ S33.size a := fun v55 k0_hw5 k0_t4 => k0_hw5.2.1.2.2.2.2.2.2.2.2.2.2.2.2.2.2.2.2.2.2.2.1 k0_t4
theorem k0_off79_inb : ∀ (v55 : BitVec 32) (k0_hw5 : k0_chk5 v55) (k0_t4 : Fin (k0_t4_loop v55).trips), ∀ a, (k0_off79 v55 k0_t4) a + S1.size a ≤ S33.size a := fun v55 k0_hw5 k0_t4 => k0_hw5.2.1.2.2.2.2.2.2.2.2.2.2.2.2.2.2.2.2.2.2.2.2.1 k0_t4
theorem k0_off80_inb : ∀ (v55 : BitVec 32) (k0_hw5 : k0_chk5 v55) (k0_t4 : Fin (k0_t4_loop v55).trips), ∀ a, (k0_off80 v55 k0_t4) a + S1.size a ≤ S3.size a := fun v55 k0_hw5 k0_t4 => k0_hw5.2.1.2.2.2.2.2.2.2.2.2.2.2.2.2.2.2.2.2.2.2.2.2.1 k0_t4
theorem k0_off81_inb : ∀ (v55 : BitVec 32) (k0_hw5 : k0_chk5 v55) (k0_t4 : Fin (k0_t4_loop v55).trips), ∀ a, (k0_off81 v55 k0_t4) a + S1x128x4096.size a ≤ S3x128x4096.size a := fun v55 k0_hw5 k0_t4 => k0_hw5.2.1.2.2.2.2.2.2.2.2.2.2.2.2.2.2.2.2.2.2.2.2.2.2.1 k0_t4
theorem k0_off81_wordsbf16 : ∀ (v55 : BitVec 32) (k0_hw5 : k0_chk5 v55) (k0_t4 : Fin (k0_t4_loop v55).trips), (Rect.unit (s := S3x128x4096) (k0_off81 v55 k0_t4) S1x128x4096.size (k0_off81_inb v55 k0_hw5 k0_t4)).WholeWords (EltTy.packing .bf16) := fun v55 k0_hw5 k0_t4 => k0_hw5.2.1.2.2.2.2.2.2.2.2.2.2.2.2.2.2.2.2.2.2.2.2.2.2.2.1 k0_t4 (k0_off81_inb v55 k0_hw5 k0_t4)
theorem k0_off83_inb : ∀ (v55 : BitVec 32) (k0_hw5 : k0_chk5 v55) (k0_t4 : Fin (k0_t4_loop v55).trips), ∀ a, (k0_off83 v55 k0_t4) a + S1.size a ≤ S3.size a := fun v55 k0_hw5 k0_t4 => k0_hw5.2.1.2.2.2.2.2.2.2.2.2.2.2.2.2.2.2.2.2.2.2.2.2.2.2.2.1 k0_t4
theorem k0_off84_inb : ∀ (v55 : BitVec 32) (k0_hw5 : k0_chk5 v55) (k0_t4 : Fin (k0_t4_loop v55).trips), ∀ a, (k0_off84 v55 k0_t4) a + S1x128x1408.size a ≤ S3x128x1408.size a := fun v55 k0_hw5 k0_t4 => k0_hw5.2.1.2.2.2.2.2.2.2.2.2.2.2.2.2.2.2.2.2.2.2.2.2.2.2.2.2.1 k0_t4
theorem k0_off84_wordsbf16 : ∀ (v55 : BitVec 32) (k0_hw5 : k0_chk5 v55) (k0_t4 : Fin (k0_t4_loop v55).trips), (Rect.unit (s := S3x128x1408) (k0_off84 v55 k0_t4) S1x128x1408.size (k0_off84_inb v55 k0_hw5 k0_t4)).WholeWords (EltTy.packing .bf16) := fun v55 k0_hw5 k0_t4 => k0_hw5.2.1.2.2.2.2.2.2.2.2.2.2.2.2.2.2.2.2.2.2.2.2.2.2.2.2.2.2.1 k0_t4 (k0_off84_inb v55 k0_hw5 k0_t4)
theorem k0_off86_inb : ∀ (v55 : BitVec 32) (k0_hw5 : k0_chk5 v55) (k0_t4 : Fin (k0_t4_loop v55).trips), ∀ a, (k0_off86 v55 k0_t4) a + S1x128x4096.size a ≤ S3x128x4096.size a := fun v55 k0_hw5 k0_t4 => k0_hw5.2.1.2.2.2.2.2.2.2.2.2.2.2.2.2.2.2.2.2.2.2.2.2.2.2.2.2.2.2.1 k0_t4
theorem k0_off87_inb : ∀ (v55 : BitVec 32) (k0_hw5 : k0_chk5 v55) (k0_t4 : Fin (k0_t4_loop v55).trips), ∀ a, (k0_off87 v55 k0_t4) a + S1x128x1408.size a ≤ S3x128x1408.size a := fun v55 k0_hw5 k0_t4 => k0_hw5.2.1.2.2.2.2.2.2.2.2.2.2.2.2.2.2.2.2.2.2.2.2.2.2.2.2.2.2.2.2.1 k0_t4
theorem k0_off88_inb : ∀ (v55 : BitVec 32) (k0_hw5 : k0_chk5 v55) (k0_t4 : Fin (k0_t4_loop v55).trips), ∀ a, (k0_off88 v55 k0_t4) a + S1x4096x1408.size a ≤ S3x4096x1408.size a := fun v55 k0_hw5 k0_t4 => k0_hw5.2.1.2.2.2.2.2.2.2.2.2.2.2.2.2.2.2.2.2.2.2.2.2.2.2.2.2.2.2.2.2.1 k0_t4
theorem k0_off88_wordsfp8e4m3 : ∀ (v55 : BitVec 32) (k0_hw5 : k0_chk5 v55) (k0_t4 : Fin (k0_t4_loop v55).trips), (Rect.unit (s := S3x4096x1408) (k0_off88 v55 k0_t4) S1x4096x1408.size (k0_off88_inb v55 k0_hw5 k0_t4)).WholeWords (EltTy.packing .fp8e4m3) := fun v55 k0_hw5 k0_t4 => k0_hw5.2.1.2.2.2.2.2.2.2.2.2.2.2.2.2.2.2.2.2.2.2.2.2.2.2.2.2.2.2.2.2.2.1 k0_t4 (k0_off88_inb v55 k0_hw5 k0_t4)
theorem k0_off90_inb : ∀ (v55 : BitVec 32) (k0_hw5 : k0_chk5 v55) (k0_t4 : Fin (k0_t4_loop v55).trips), ∀ a, (k0_off90 v55 k0_t4) a + S1x4096x1408.size a ≤ S3x4096x1408.size a := fun v55 k0_hw5 k0_t4 => k0_hw5.2.1.2.2.2.2.2.2.2.2.2.2.2.2.2.2.2.2.2.2.2.2.2.2.2.2.2.2.2.2.2.2.2 k0_t4
theorem k0_off92_inb : ∀ (v55 : BitVec 32) (k0_hw5 : k0_chk5 v55) (k0_t4 : Fin (k0_t4_loop v55).trips), ∀ (k0_h12 : k0_cond12 v55 k0_t4 = 1#1), ∀ a, (k0_off92 v55 k0_t4) a + S1.size a ≤ S3.size a := fun v55 k0_hw5 k0_t4 k0_h12 => k0_hw5.2.2.1.1 k0_t4 k0_h12
theorem k0_off93_inb : ∀ (v55 : BitVec 32) (k0_hw5 : k0_chk5 v55) (k0_t4 : Fin (k0_t4_loop v55).trips), ∀ (k0_h12 : k0_cond12 v55 k0_t4 = 1#1), ∀ a, (k0_off93 v55 k0_t4) a + S1x128x4096.size a ≤ S3x128x4096.size a := fun v55 k0_hw5 k0_t4 k0_h12 => k0_hw5.2.2.1.2.1 k0_t4 k0_h12
theorem k0_off93_wordsbf16 : ∀ (v55 : BitVec 32) (k0_hw5 : k0_chk5 v55) (k0_t4 : Fin (k0_t4_loop v55).trips), ∀ (k0_h12 : k0_cond12 v55 k0_t4 = 1#1), (Rect.unit (s := S3x128x4096) (k0_off93 v55 k0_t4) S1x128x4096.size (k0_off93_inb v55 k0_hw5 k0_t4 k0_h12)).WholeWords (EltTy.packing .bf16) := fun v55 k0_hw5 k0_t4 k0_h12 => k0_hw5.2.2.1.2.2.1 k0_t4 k0_h12 (k0_off93_inb v55 k0_hw5 k0_t4 k0_h12)
theorem k0_off95_inb : ∀ (v55 : BitVec 32) (k0_hw5 : k0_chk5 v55) (k0_t4 : Fin (k0_t4_loop v55).trips), ∀ (k0_h12 : k0_cond12 v55 k0_t4 = 1#1), ∀ a, (k0_off95 v55 k0_t4) a + S1.size a ≤ S3.size a := fun v55 k0_hw5 k0_t4 k0_h12 => k0_hw5.2.2.1.2.2.2.1 k0_t4 k0_h12
theorem k0_off96_inb : ∀ (v55 : BitVec 32) (k0_hw5 : k0_chk5 v55) (k0_t4 : Fin (k0_t4_loop v55).trips), ∀ (k0_h12 : k0_cond12 v55 k0_t4 = 1#1), ∀ a, (k0_off96 v55 k0_t4) a + S1x128x1408.size a ≤ S3x128x1408.size a := fun v55 k0_hw5 k0_t4 k0_h12 => k0_hw5.2.2.1.2.2.2.2.1 k0_t4 k0_h12
theorem k0_off96_wordsbf16 : ∀ (v55 : BitVec 32) (k0_hw5 : k0_chk5 v55) (k0_t4 : Fin (k0_t4_loop v55).trips), ∀ (k0_h12 : k0_cond12 v55 k0_t4 = 1#1), (Rect.unit (s := S3x128x1408) (k0_off96 v55 k0_t4) S1x128x1408.size (k0_off96_inb v55 k0_hw5 k0_t4 k0_h12)).WholeWords (EltTy.packing .bf16) := fun v55 k0_hw5 k0_t4 k0_h12 => k0_hw5.2.2.1.2.2.2.2.2.1 k0_t4 k0_h12 (k0_off96_inb v55 k0_hw5 k0_t4 k0_h12)
theorem k0_off98_inb : ∀ (v55 : BitVec 32) (k0_hw5 : k0_chk5 v55) (k0_t4 : Fin (k0_t4_loop v55).trips), ∀ (k0_h12 : k0_cond12 v55 k0_t4 = 1#1), ∀ a, (k0_off98 v55 k0_t4) a + S1x4096x1408.size a ≤ S3x4096x1408.size a := fun v55 k0_hw5 k0_t4 k0_h12 => k0_hw5.2.2.1.2.2.2.2.2.2.1 k0_t4 k0_h12
theorem k0_off98_wordsfp8e4m3 : ∀ (v55 : BitVec 32) (k0_hw5 : k0_chk5 v55) (k0_t4 : Fin (k0_t4_loop v55).trips), ∀ (k0_h12 : k0_cond12 v55 k0_t4 = 1#1), (Rect.unit (s := S3x4096x1408) (k0_off98 v55 k0_t4) S1x4096x1408.size (k0_off98_inb v55 k0_hw5 k0_t4 k0_h12)).WholeWords (EltTy.packing .fp8e4m3) := fun v55 k0_hw5 k0_t4 k0_h12 => k0_hw5.2.2.1.2.2.2.2.2.2.2.1 k0_t4 k0_h12 (k0_off98_inb v55 k0_hw5 k0_t4 k0_h12)
theorem k0_off100_inb : ∀ (v55 : BitVec 32) (k0_hw5 : k0_chk5 v55) (k0_t4 : Fin (k0_t4_loop v55).trips), ∀ a, (k0_off100 v55 k0_t4) a + S1x1.size a ≤ S3x4.size a := fun v55 k0_hw5 k0_t4 => k0_hw5.2.2.1.2.2.2.2.2.2.2.2.1 k0_t4
theorem k0_off101_inb : ∀ (v55 : BitVec 32) (k0_hw5 : k0_chk5 v55) (k0_t4 : Fin (k0_t4_loop v55).trips), ∀ a, (k0_off101 v55 k0_t4) a + S1x1408x1024.size a ≤ S3x1408x4096.size a := fun v55 k0_hw5 k0_t4 => k0_hw5.2.2.1.2.2.2.2.2.2.2.2.2.1 k0_t4
theorem k0_off101_wordsfp8e4m3 : ∀ (v55 : BitVec 32) (k0_hw5 : k0_chk5 v55) (k0_t4 : Fin (k0_t4_loop v55).trips), (Rect.unit (s := S3x1408x4096) (k0_off101 v55 k0_t4) S1x1408x1024.size (k0_off101_inb v55 k0_hw5 k0_t4)).WholeWords (EltTy.packing .fp8e4m3) := fun v55 k0_hw5 k0_t4 => k0_hw5.2.2.1.2.2.2.2.2.2.2.2.2.2.1 k0_t4 (k0_off101_inb v55 k0_hw5 k0_t4)
theorem k0_off103_inb : ∀ (v55 : BitVec 32) (k0_hw5 : k0_chk5 v55) (k0_t4 : Fin (k0_t4_loop v55).trips), ∀ a, (k0_off103 v55 k0_t4) a + S1x1408x1024.size a ≤ S3x1408x4096.size a := fun v55 k0_hw5 k0_t4 => k0_hw5.2.2.1.2.2.2.2.2.2.2.2.2.2.2.1 k0_t4
theorem k0_off105_inb : ∀ (v55 : BitVec 32) (k0_hw5 : k0_chk5 v55) (k0_t4 : Fin (k0_t4_loop v55).trips), ∀ (k0_h13 : k0_cond13 v55 k0_t4 = 1#1), ∀ a, (k0_off105 v55 k0_t4) a + S1x1.size a ≤ S3x4.size a := fun v55 k0_hw5 k0_t4 k0_h13 => k0_hw5.2.2.1.2.2.2.2.2.2.2.2.2.2.2.2.1 k0_t4 k0_h13
theorem k0_off106_inb : ∀ (v55 : BitVec 32) (k0_hw5 : k0_chk5 v55) (k0_t4 : Fin (k0_t4_loop v55).trips), ∀ (k0_h13 : k0_cond13 v55 k0_t4 = 1#1), ∀ a, (k0_off106 v55 k0_t4) a + S1x1408x1024.size a ≤ S3x1408x4096.size a := fun v55 k0_hw5 k0_t4 k0_h13 => k0_hw5.2.2.1.2.2.2.2.2.2.2.2.2.2.2.2.2.1 k0_t4 k0_h13
theorem k0_off106_wordsfp8e4m3 : ∀ (v55 : BitVec 32) (k0_hw5 : k0_chk5 v55) (k0_t4 : Fin (k0_t4_loop v55).trips), ∀ (k0_h13 : k0_cond13 v55 k0_t4 = 1#1), (Rect.unit (s := S3x1408x4096) (k0_off106 v55 k0_t4) S1x1408x1024.size (k0_off106_inb v55 k0_hw5 k0_t4 k0_h13)).WholeWords (EltTy.packing .fp8e4m3) := fun v55 k0_hw5 k0_t4 k0_h13 => k0_hw5.2.2.1.2.2.2.2.2.2.2.2.2.2.2.2.2.2.1 k0_t4 k0_h13 (k0_off106_inb v55 k0_hw5 k0_t4 k0_h13)
theorem k0_off108_inb : ∀ (v55 : BitVec 32) (k0_hw5 : k0_chk5 v55) (k0_t4 : Fin (k0_t4_loop v55).trips), ∀ a, (k0_off108 v55 k0_t4) a + S1x1.size a ≤ S3x4.size a := fun v55 k0_hw5 k0_t4 => k0_hw5.2.2.1.2.2.2.2.2.2.2.2.2.2.2.2.2.2.2.1 k0_t4
theorem k0_off109_inb : ∀ (v55 : BitVec 32) (k0_hw5 : k0_chk5 v55) (k0_t4 : Fin (k0_t4_loop v55).trips), ∀ a, (k0_off109 v55 k0_t4) a + S1x1408x1024.size a ≤ S3x1408x4096.size a := fun v55 k0_hw5 k0_t4 => k0_hw5.2.2.1.2.2.2.2.2.2.2.2.2.2.2.2.2.2.2.2.1 k0_t4
theorem k0_off109_wordsfp8e4m3 : ∀ (v55 : BitVec 32) (k0_hw5 : k0_chk5 v55) (k0_t4 : Fin (k0_t4_loop v55).trips), (Rect.unit (s := S3x1408x4096) (k0_off109 v55 k0_t4) S1x1408x1024.size (k0_off109_inb v55 k0_hw5 k0_t4)).WholeWords (EltTy.packing .fp8e4m3) := fun v55 k0_hw5 k0_t4 => k0_hw5.2.2.1.2.2.2.2.2.2.2.2.2.2.2.2.2.2.2.2.2.1 k0_t4 (k0_off109_inb v55 k0_hw5 k0_t4)
theorem k0_off111_inb : ∀ (v55 : BitVec 32) (k0_hw5 : k0_chk5 v55) (k0_t4 : Fin (k0_t4_loop v55).trips), ∀ a, (k0_off111 v55 k0_t4) a + S1x1408x1024.size a ≤ S3x1408x4096.size a := fun v55 k0_hw5 k0_t4 => k0_hw5.2.2.1.2.2.2.2.2.2.2.2.2.2.2.2.2.2.2.2.2.2.1 k0_t4
theorem k0_off113_inb : ∀ (v55 : BitVec 32) (k0_hw5 : k0_chk5 v55) (k0_t4 : Fin (k0_t4_loop v55).trips), ∀ (k0_h15 : k0_cond15 v55 k0_t4 = 1#1), ∀ a, (k0_off113 v55 k0_t4) a + S1x1.size a ≤ S3x4.size a := fun v55 k0_hw5 k0_t4 k0_h15 => k0_hw5.2.2.1.2.2.2.2.2.2.2.2.2.2.2.2.2.2.2.2.2.2.2.1 k0_t4 k0_h15
theorem k0_off114_inb : ∀ (v55 : BitVec 32) (k0_hw5 : k0_chk5 v55) (k0_t4 : Fin (k0_t4_loop v55).trips), ∀ (k0_h15 : k0_cond15 v55 k0_t4 = 1#1), ∀ a, (k0_off114 v55 k0_t4) a + S1x1408x1024.size a ≤ S3x1408x4096.size a := fun v55 k0_hw5 k0_t4 k0_h15 => k0_hw5.2.2.1.2.2.2.2.2.2.2.2.2.2.2.2.2.2.2.2.2.2.2.2.1 k0_t4 k0_h15
theorem k0_off114_wordsfp8e4m3 : ∀ (v55 : BitVec 32) (k0_hw5 : k0_chk5 v55) (k0_t4 : Fin (k0_t4_loop v55).trips), ∀ (k0_h15 : k0_cond15 v55 k0_t4 = 1#1), (Rect.unit (s := S3x1408x4096) (k0_off114 v55 k0_t4) S1x1408x1024.size (k0_off114_inb v55 k0_hw5 k0_t4 k0_h15)).WholeWords (EltTy.packing .fp8e4m3) := fun v55 k0_hw5 k0_t4 k0_h15 => k0_hw5.2.2.1.2.2.2.2.2.2.2.2.2.2.2.2.2.2.2.2.2.2.2.2.2.1 k0_t4 k0_h15 (k0_off114_inb v55 k0_hw5 k0_t4 k0_h15)
theorem k0_off116_inb : ∀ (v55 : BitVec 32) (k0_hw5 : k0_chk5 v55) (k0_t4 : Fin (k0_t4_loop v55).trips), ∀ a, (k0_off116 v55 k0_t4) a + S1x1.size a ≤ S3x4.size a := fun v55 k0_hw5 k0_t4 => k0_hw5.2.2.1.2.2.2.2.2.2.2.2.2.2.2.2.2.2.2.2.2.2.2.2.2.2.1 k0_t4
theorem k0_off117_inb : ∀ (v55 : BitVec 32) (k0_hw5 : k0_chk5 v55) (k0_t4 : Fin (k0_t4_loop v55).trips), ∀ a, (k0_off117 v55 k0_t4) a + S1x1408x1024.size a ≤ S3x1408x4096.size a := fun v55 k0_hw5 k0_t4 => k0_hw5.2.2.1.2.2.2.2.2.2.2.2.2.2.2.2.2.2.2.2.2.2.2.2.2.2.2.1 k0_t4
theorem k0_off117_wordsfp8e4m3 : ∀ (v55 : BitVec 32) (k0_hw5 : k0_chk5 v55) (k0_t4 : Fin (k0_t4_loop v55).trips), (Rect.unit (s := S3x1408x4096) (k0_off117 v55 k0_t4) S1x1408x1024.size (k0_off117_inb v55 k0_hw5 k0_t4)).WholeWords (EltTy.packing .fp8e4m3) := fun v55 k0_hw5 k0_t4 => k0_hw5.2.2.1.2.2.2.2.2.2.2.2.2.2.2.2.2.2.2.2.2.2.2.2.2.2.2.2.1 k0_t4 (k0_off117_inb v55 k0_hw5 k0_t4)
theorem k0_off119_inb : ∀ (v55 : BitVec 32) (k0_hw5 : k0_chk5 v55) (k0_t4 : Fin (k0_t4_loop v55).trips), ∀ a, (k0_off119 v55 k0_t4) a + S1x1408x1024.size a ≤ S3x1408x4096.size a := fun v55 k0_hw5 k0_t4 => k0_hw5.2.2.1.2.2.2.2.2.2.2.2.2.2.2.2.2.2.2.2.2.2.2.2.2.2.2.2.2.1 k0_t4
theorem k0_off121_inb : ∀ (v55 : BitVec 32) (k0_hw5 : k0_chk5 v55) (k0_t4 : Fin (k0_t4_loop v55).trips), ∀ (k0_h17 : k0_cond17 v55 k0_t4 = 1#1), ∀ a, (k0_off121 v55 k0_t4) a + S1x1.size a ≤ S3x4.size a := fun v55 k0_hw5 k0_t4 k0_h17 => k0_hw5.2.2.1.2.2.2.2.2.2.2.2.2.2.2.2.2.2.2.2.2.2.2.2.2.2.2.2.2.2.1 k0_t4 k0_h17
theorem k0_off122_inb : ∀ (v55 : BitVec 32) (k0_hw5 : k0_chk5 v55) (k0_t4 : Fin (k0_t4_loop v55).trips), ∀ (k0_h17 : k0_cond17 v55 k0_t4 = 1#1), ∀ a, (k0_off122 v55 k0_t4) a + S1x1408x1024.size a ≤ S3x1408x4096.size a := fun v55 k0_hw5 k0_t4 k0_h17 => k0_hw5.2.2.1.2.2.2.2.2.2.2.2.2.2.2.2.2.2.2.2.2.2.2.2.2.2.2.2.2.2.2.1 k0_t4 k0_h17
theorem k0_off122_wordsfp8e4m3 : ∀ (v55 : BitVec 32) (k0_hw5 : k0_chk5 v55) (k0_t4 : Fin (k0_t4_loop v55).trips), ∀ (k0_h17 : k0_cond17 v55 k0_t4 = 1#1), (Rect.unit (s := S3x1408x4096) (k0_off122 v55 k0_t4) S1x1408x1024.size (k0_off122_inb v55 k0_hw5 k0_t4 k0_h17)).WholeWords (EltTy.packing .fp8e4m3) := fun v55 k0_hw5 k0_t4 k0_h17 => k0_hw5.2.2.1.2.2.2.2.2.2.2.2.2.2.2.2.2.2.2.2.2.2.2.2.2.2.2.2.2.2.2.2.1 k0_t4 k0_h17 (k0_off122_inb v55 k0_hw5 k0_t4 k0_h17)
theorem k0_off124_inb : ∀ (v55 : BitVec 32) (k0_hw5 : k0_chk5 v55) (k0_t4 : Fin (k0_t4_loop v55).trips), ∀ a, (k0_off124 v55 k0_t4) a + S1x1.size a ≤ S3x4.size a := fun v55 k0_hw5 k0_t4 => k0_hw5.2.2.1.2.2.2.2.2.2.2.2.2.2.2.2.2.2.2.2.2.2.2.2.2.2.2.2.2.2.2.2.2.1 k0_t4
theorem k0_off125_inb : ∀ (v55 : BitVec 32) (k0_hw5 : k0_chk5 v55) (k0_t4 : Fin (k0_t4_loop v55).trips), ∀ a, (k0_off125 v55 k0_t4) a + S1x1408x1024.size a ≤ S3x1408x4096.size a := fun v55 k0_hw5 k0_t4 => k0_hw5.2.2.1.2.2.2.2.2.2.2.2.2.2.2.2.2.2.2.2.2.2.2.2.2.2.2.2.2.2.2.2.2.2.1 k0_t4
theorem k0_off125_wordsfp8e4m3 : ∀ (v55 : BitVec 32) (k0_hw5 : k0_chk5 v55) (k0_t4 : Fin (k0_t4_loop v55).trips), (Rect.unit (s := S3x1408x4096) (k0_off125 v55 k0_t4) S1x1408x1024.size (k0_off125_inb v55 k0_hw5 k0_t4)).WholeWords (EltTy.packing .fp8e4m3) := fun v55 k0_hw5 k0_t4 => k0_hw5.2.2.1.2.2.2.2.2.2.2.2.2.2.2.2.2.2.2.2.2.2.2.2.2.2.2.2.2.2.2.2.2.2.2 k0_t4 (k0_off125_inb v55 k0_hw5 k0_t4)
theorem k0_off127_inb : ∀ (v55 : BitVec 32) (k0_hw5 : k0_chk5 v55) (k0_t4 : Fin (k0_t4_loop v55).trips), ∀ a, (k0_off127 v55 k0_t4) a + S1x1408x1024.size a ≤ S3x1408x4096.size a := fun v55 k0_hw5 k0_t4 => k0_hw5.2.2.2.1 k0_t4
theorem k0_off129_inb : ∀ (v55 : BitVec 32) (k0_hw5 : k0_chk5 v55) (k0_t4 : Fin (k0_t4_loop v55).trips), ∀ (k0_h19 : k0_cond19 v55 k0_t4 = 1#1), ∀ a, (k0_off129 v55 k0_t4) a + S1x1.size a ≤ S3x4.size a := fun v55 k0_hw5 k0_t4 k0_h19 => k0_hw5.2.2.2.2.1 k0_t4 k0_h19
theorem k0_off130_inb : ∀ (v55 : BitVec 32) (k0_hw5 : k0_chk5 v55) (k0_t4 : Fin (k0_t4_loop v55).trips), ∀ (k0_h19 : k0_cond19 v55 k0_t4 = 1#1), ∀ a, (k0_off130 v55 k0_t4) a + S1x1408x1024.size a ≤ S3x1408x4096.size a := fun v55 k0_hw5 k0_t4 k0_h19 => k0_hw5.2.2.2.2.2.1 k0_t4 k0_h19
theorem k0_off130_wordsfp8e4m3 : ∀ (v55 : BitVec 32) (k0_hw5 : k0_chk5 v55) (k0_t4 : Fin (k0_t4_loop v55).trips), ∀ (k0_h19 : k0_cond19 v55 k0_t4 = 1#1), (Rect.unit (s := S3x1408x4096) (k0_off130 v55 k0_t4) S1x1408x1024.size (k0_off130_inb v55 k0_hw5 k0_t4 k0_h19)).WholeWords (EltTy.packing .fp8e4m3) := fun v55 k0_hw5 k0_t4 k0_h19 => k0_hw5.2.2.2.2.2.2 k0_t4 k0_h19 (k0_off130_inb v55 k0_hw5 k0_t4 k0_h19)
-- ==== ReferenceIdeal.lean ====
abbrev S32x1x4096 : Shape := ⟨3, ![32, 1, 4096]⟩
abbrev S32x1x8 : Shape := ⟨3, ![32, 1, 8]⟩
abbrev S32 : Shape := ⟨1, ![32]⟩
abbrev S32x4096x1408 : Shape := ⟨3, ![32, 4096, 1408]⟩
abbrev S32x1408 : Shape := ⟨2, ![32, 1408]⟩
abbrev S32x1408x4096 : Shape := ⟨3, ![32, 1408, 4096]⟩
abbrev S32x4096 : Shape := ⟨2, ![32, 4096]⟩
abbrev S32x8x4096x16 : Shape := ⟨4, ![32, 8, 4096, 16]⟩
abbrev S32x8x16x1408 : Shape := ⟨4, ![32, 8, 16, 1408]⟩
abbrev S32x8 : Shape := ⟨2, ![32, 8]⟩
abbrev S32x1 : Shape := ⟨2, ![32, 1]⟩
abbrev S256x4096x16 : Shape := ⟨3, ![256, 4096, 16]⟩
abbrev S256x16x1408 : Shape := ⟨3, ![256, 16, 1408]⟩
abbrev S1x32 : Shape := ⟨2, ![1, 32]⟩
abbrev S1x32x4096 : Shape := ⟨3, ![1, 32, 4096]⟩
abbrev S32x32x4096 : Shape := ⟨3, ![32, 32, 4096]⟩
abbrev S32x32x1408 : Shape := ⟨3, ![32, 32, 1408]⟩
abbrev S1x32x1 : Shape := ⟨3, ![1, 32, 1]⟩
abbrev S32x1x1408 : Shape := ⟨3, ![32, 1, 1408]⟩
abbrev S256x32x4096 : Shape := ⟨3, ![256, 32, 4096]⟩
abbrev S256x32x16 : Shape := ⟨3, ![256, 32, 16]⟩
abbrev S256x32x1408 : Shape := ⟨3, ![256, 32, 1408]⟩
abbrev S32x8x32x1408 : Shape := ⟨4, ![32, 8, 32, 1408]⟩
abbrev S1x1x32x1 : Shape := ⟨4, ![1, 1, 32, 1]⟩
abbrev S32x32 : Shape := ⟨2, ![32, 32]⟩
abbrev S32x32x1 : Shape := ⟨3, ![32, 32, 1]⟩

abbrev nBuf : Space → Nat
  | .hbm => 19
  | .vmem => 13
  | .smem => 0
  | _ => 0

abbrev bufTy : (tb : Table) → Fin (tcTables nBuf tb) → BufTy
  | .hbm, ⟨0, _⟩ => ⟨S32x1x4096, .bf16⟩
  | .hbm, ⟨1, _⟩ => ⟨S32x1x8, .i32⟩
  | .hbm, ⟨2, _⟩ => ⟨S32x1x8, .f32⟩
  | .hbm, ⟨3, _⟩ => ⟨S32, .i32⟩
  | .hbm, ⟨4, _⟩ => ⟨S32x4096x1408, .fp8e4m3⟩
  | .hbm, ⟨5, _⟩ => ⟨S32x1408, .f32⟩
  | .hbm, ⟨6, _⟩ => ⟨S32x1408x4096, .fp8e4m3⟩
  | .hbm, ⟨7, _⟩ => ⟨S32x4096, .f32⟩
  | .hbm, ⟨8, _⟩ => ⟨S32x8x4096x16, .bf16⟩
  | .hbm, ⟨9, _⟩ => ⟨S32x8x16x1408, .bf16⟩
  | .hbm, ⟨10, _⟩ => ⟨S32x4096, .bf16⟩
  | .hbm, ⟨11, _⟩ => ⟨S32x8, .i32⟩
  | .hbm, ⟨12, _⟩ => ⟨S32x8, .f32⟩
  | .hbm, ⟨13, _⟩ => ⟨S32x1, .i32⟩
  | .hbm, ⟨14, _⟩ => ⟨S256x4096x16, .bf16⟩
  | .hbm, ⟨15, _⟩ => ⟨S256x16x1408, .bf16⟩
  | .hbm, ⟨16, _⟩ => ⟨S32x4096, .bf16⟩
  | .hbm, ⟨17, _⟩ => ⟨S32x4096, .fp8e4m3⟩
  | .hbm, ⟨18, _⟩ => ⟨S1x32, .f32⟩
  | .local _ .vmem, ⟨0, _⟩ => ⟨S32x4096, .bf16⟩
  | .local _ .vmem, ⟨1, _⟩ => ⟨S32x8, .i32⟩
  | .local _ .vmem, ⟨2, _⟩ => ⟨S32x8, .f32⟩
  | .local _ .vmem, ⟨3, _⟩ => ⟨S32x1, .i32⟩
  | .local _ .vmem, ⟨4, _⟩ => ⟨S32x4096x1408, .fp8e4m3⟩
  | .local _ .vmem, ⟨5, _⟩ => ⟨S32x1408, .f32⟩
  | .local _ .vmem, ⟨6, _⟩ => ⟨S32x1408x4096, .fp8e4m3⟩
  | .local _ .vmem, ⟨7, _⟩ => ⟨S32x4096, .f32⟩
  | .local _ .vmem, ⟨8, _⟩ => ⟨S256x4096x16, .bf16⟩
  | .local _ .vmem, ⟨9, _⟩ => ⟨S256x16x1408, .bf16⟩
  | .local _ .vmem, ⟨10, _⟩ => ⟨S32x4096, .bf16⟩
  | .local _ .vmem, ⟨11, _⟩ => ⟨S32x4096, .fp8e4m3⟩
  | .local _ .vmem, ⟨12, _⟩ => ⟨S1x32, .f32⟩
  | _, _ => ⟨S32x1x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x4096x1408 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1408x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x4096x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x16x1408 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x4096 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Base.lean ====
/-
  The names the run is stated in: the kernel's buffers, the three ring slots of the weight buffers with their semaphore
  cells, and one expert's windows of the weight arrays.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.MixedBatch
public import Idealize.ShloMosaic.Lib.Ring
public import Idealize.ShloMosaic.Lib.Tactic
public import Idealize.ShloMosaic.Lib.WordCmp

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

/-- What a buffer of memref `M` holds on core `c`. -/
abbrev BufOf (F : FTy → Type) [FloatOps F] (c : Dev nD) {sp : Space} {S : Shape} {e : EltTy} (M : Memref sig .tc sp S e) : Type :=
  Buf (Elt F) (M.view.loc (c : Thread nD τ))
/-- A buffer held whole at contents `f`. -/
abbrev pt (c : Dev nD) {sp : Space} {S : Shape} {e : EltTy} (M : Memref sig .tc sp S e) (f : BufOf F c M) : sProp 𝕄 :=
  M.view.loc (c : Thread nD τ) ↦{fullShare} f

/-! ## The buffers -/

abbrev mX : Memref sig .tc .hbm S32x4096 .bf16 := Memref.whole main_v0
abbrev mIds : Memref sig .tc .hbm S8x32 .i32 := Memref.whole main_v2
abbrev mGates : Memref sig .tc .hbm S8x32 .f32 := Memref.whole main_v4
abbrev mAid : Memref sig .tc .hbm S1x32 .i32 := Memref.whole main_v6
abbrev mUp : Memref sig .tc .hbm S32x4096x1408 .fp8e4m3 := Memref.whole main_arg4
abbrev mUps : Memref sig .tc .hbm S32x1408 .f32 := Memref.whole main_arg5
abbrev mDn : Memref sig .tc .hbm S32x1408x4096 .fp8e4m3 := Memref.whole main_arg6
abbrev mDns : Memref sig .tc .hbm S32x4096 .f32 := Memref.whole main_arg7
abbrev mLa : Memref sig .tc .hbm S32x128x4096 .bf16 := Memref.whole main_v8
abbrev mLb : Memref sig .tc .hbm S32x128x1408 .bf16 := Memref.whole main_v9
abbrev mY : Memref sig .tc .hbm S32x4096 .bf16 := Memref.whole main_v10_0
abbrev mXc : Memref sig .tc .hbm S32x4096 .fp8e4m3 := Memref.whole main_v10_1
abbrev mXs : Memref sig .tc .hbm S1x32 .f32 := Memref.whole main_v10_2
abbrev sX : Memref sig .tc .vmem S32x4096 .bf16 := Memref.whole cc0_scratch0
abbrev sIds : Memref sig .tc .vmem S8x32 .i32 := Memref.whole cc0_scratch1
abbrev sGates : Memref sig .tc .vmem S8x32 .f32 := Memref.whole cc0_scratch2
abbrev sAid : Memref sig .tc .vmem S1x32 .i32 := Memref.whole cc0_scratch3
abbrev sUps : Memref sig .tc .vmem S32x1408 .f32 := Memref.whole cc0_scratch4
abbrev sDns : Memref sig .tc .vmem S32x4096 .f32 := Memref.whole cc0_scratch5
abbrev sUp : Memref sig .tc .vmem S3x4096x1408 .fp8e4m3 := Memref.whole cc0_scratch6
abbrev sDn : Memref sig .tc .vmem S3x1408x4096 .fp8e4m3 := Memref.whole cc0_scratch7
abbrev sA : Memref sig .tc .vmem S3x128x4096 .bf16 := Memref.whole cc0_scratch8
abbrev sB : Memref sig .tc .vmem S3x128x1408 .bf16 := Memref.whole cc0_scratch9
abbrev sXc : Memref sig .tc .vmem S32x4096 .fp8e4m3 := Memref.whole cc0_scratch10
abbrev sXs : Memref sig .tc .vmem S32x1 .f32 := Memref.whole cc0_scratch11
abbrev sXr : Memref sig .tc .vmem S1x32 .f32 := Memref.whole cc0_scratch12
abbrev sMask : Memref sig .tc .vmem S32x128 .f32 := Memref.whole cc0_scratch13
abbrev sAcc : Memref sig .tc .vmem S32x4096 .f32 := Memref.whole cc0_scratch14
abbrev sY : Memref sig .tc .vmem S32x4096 .bf16 := Memref.whole cc0_scratch15
abbrev sIdsW : Memref sig .tc .smem S8x32 .i32 := Memref.whole cc0_scratch16
abbrev sList : Memref sig .tc .smem S33 .i32 := Memref.whole cc0_scratch17

/-! ## The ring's slots and cells -/

theorem inbA (k : Fin 3) : ∀ a, (![k.val, 0, 0] : Fin 3 → Nat) a + S1x128x4096.size a ≤ S3x128x4096.size a := by
  have := k.isLt; intro a; fin_cases a
  · show k.val + 1 ≤ 3; omega
  · show 0 + 128 ≤ 128; omega
  · show 0 + 4096 ≤ 4096; omega
theorem inbB (k : Fin 3) : ∀ a, (![k.val, 0, 0] : Fin 3 → Nat) a + S1x128x1408.size a ≤ S3x128x1408.size a := by
  have := k.isLt; intro a; fin_cases a
  · show k.val + 1 ≤ 3; omega
  · show 0 + 128 ≤ 128; omega
  · show 0 + 1408 ≤ 1408; omega
theorem inbU (k : Fin 3) : ∀ a, (![k.val, 0, 0] : Fin 3 → Nat) a + S1x4096x1408.size a ≤ S3x4096x1408.size a := by
  have := k.isLt; intro a; fin_cases a
  · show k.val + 1 ≤ 3; omega
  · show 0 + 4096 ≤ 4096; omega
  · show 0 + 1408 ≤ 1408; omega
theorem inbD (k : Fin 3) (o : ℕ) (ho : o + 1024 ≤ 4096) : ∀ a, (![k.val, 0, o] : Fin 3 → Nat) a + S1x1408x1024.size a ≤ S3x1408x4096.size a := by
  have := k.isLt; intro a; fin_cases a
  · show k.val + 1 ≤ 3; omega
  · show 0 + 1408 ≤ 1408; omega
  · show o + 1024 ≤ 4096; omega
theorem inb3 (k : Fin 3) : ∀ a, (![k.val] : Fin 1 → Nat) a + S1.size a ≤ S3.size a := by
  have := k.isLt; intro a; fin_cases a; show k.val + 1 ≤ 3; omega
theorem inb34 (k : Fin 3) (j : Fin 4) : ∀ a, (![k.val, j.val] : Fin 2 → Nat) a + S1x1.size a ≤ S3x4.size a := by
  have := k.isLt; have := j.isLt; intro a; fin_cases a
  · show k.val + 1 ≤ 3; omega
  · show j.val + 1 ≤ 4; omega

/-- Slot `k` of the four weight buffers: the adapters' two, the up weights, and a column window of the down weights. -/
def slotA (k : Fin 3) : Memref sig .tc .vmem S128x4096 .bf16 :=
  (sA.slice (Rect.unit ![k.val, 0, 0] S1x128x4096.size (inbA k)) (fun _ => rfl)).squeeze S128x4096 squeezes_S1x128x4096_S128x4096
def slotB (k : Fin 3) : Memref sig .tc .vmem S128x1408 .bf16 :=
  (sB.slice (Rect.unit ![k.val, 0, 0] S1x128x1408.size (inbB k)) (fun _ => rfl)).squeeze S128x1408 squeezes_S1x128x1408_S128x1408
def slotU (k : Fin 3) : Memref sig .tc .vmem S4096x1408 .fp8e4m3 :=
  (sUp.slice (Rect.unit ![k.val, 0, 0] S1x4096x1408.size (inbU k)) (fun _ => rfl)).squeeze S4096x1408 squeezes_S1x4096x1408_S4096x1408
def slotD (k : Fin 3) (o : ℕ) (ho : o + 1024 ≤ 4096) : Memref sig .tc .vmem S1408x1024 .fp8e4m3 :=
  (sDn.slice (Rect.unit ![k.val, 0, o] S1x1408x1024.size (inbD k o ho)) (fun _ => rfl)).squeeze S1408x1024 squeezes_S1x1408x1024_S1408x1024
abbrev cellA (k : Fin 3) : SemLoc sig := SemLoc.dma ((cc0_scratch21.slice (Rect.unit (s := S3) ![k.val] S1.size (inb3 k))).squeeze S_ squeezes_S1_S_).sem
abbrev cellU (k : Fin 3) : SemLoc sig := SemLoc.dma ((cc0_scratch22.slice (Rect.unit (s := S3) ![k.val] S1.size (inb3 k))).squeeze S_ squeezes_S1_S_).sem
abbrev cellD (k : Fin 3) (j : Fin 4) : SemLoc sig := SemLoc.dma ((cc0_scratch23.slice (Rect.unit (s := S3x4) ![k.val, j.val] S1x1.size (inb34 k j))).squeeze S_ squeezes_S1x1_S_).sem

/-- A word that names an expert. -/
abbrev EW : Type := {w : BitVec 32 // w.toNat < 32}
theorem inbLa (e : EW) : ∀ a, (![e.1.toNat, 0, 0] : Fin 3 → Nat) a + S1x128x4096.size a ≤ S32x128x4096.size a := by
  have := e.2; intro a; fin_cases a
  · show e.1.toNat + 1 ≤ 32; omega
  · show 0 + 128 ≤ 128; omega
  · show 0 + 4096 ≤ 4096; omega
theorem inbLb (e : EW) : ∀ a, (![e.1.toNat, 0, 0] : Fin 3 → Nat) a + S1x128x1408.size a ≤ S32x128x1408.size a := by
  have := e.2; intro a; fin_cases a
  · show e.1.toNat + 1 ≤ 32; omega
  · show 0 + 128 ≤ 128; omega
  · show 0 + 1408 ≤ 1408; omega
theorem inbWu (e : EW) : ∀ a, (![e.1.toNat, 0, 0] : Fin 3 → Nat) a + S1x4096x1408.size a ≤ S32x4096x1408.size a := by
  have := e.2; intro a; fin_cases a
  · show e.1.toNat + 1 ≤ 32; omega
  · show 0 + 4096 ≤ 4096; omega
  · show 0 + 1408 ≤ 1408; omega
theorem inbWd (e : EW) (o : ℕ) (ho : o + 1024 ≤ 4096) : ∀ a, (![e.1.toNat, 0, o] : Fin 3 → Nat) a + S1x1408x1024.size a ≤ S32x1408x4096.size a := by
  have := e.2; intro a; fin_cases a
  · show e.1.toNat + 1 ≤ 32; omega
  · show 0 + 1408 ≤ 1408; omega
  · show o + 1024 ≤ 4096; omega
/-- Expert `e`'s windows of the four weight arrays. -/
abbrev expLa (e : EW) : Memref sig .tc .hbm S128x4096 .bf16 :=
  (mLa.slice (Rect.unit ![e.1.toNat, 0, 0] S1x128x4096.size (inbLa e)) (fun _ => rfl)).squeeze S128x4096 squeezes_S1x128x4096_S128x4096
abbrev expLb (e : EW) : Memref sig .tc .hbm S128x1408 .bf16 :=
  (mLb.slice (Rect.unit ![e.1.toNat, 0, 0] S1x128x1408.size (inbLb e)) (fun _ => rfl)).squeeze S128x1408 squeezes_S1x128x1408_S128x1408
abbrev expWu (e : EW) : Memref sig .tc .hbm S4096x1408 .fp8e4m3 :=
  (mUp.slice (Rect.unit ![e.1.toNat, 0, 0] S1x4096x1408.size (inbWu e)) (fun _ => rfl)).squeeze S4096x1408 squeezes_S1x4096x1408_S4096x1408
abbrev expWd (e : EW) (o : ℕ) (ho : o + 1024 ≤ 4096) : Memref sig .tc .hbm S1408x1024 .fp8e4m3 :=
  (mDn.slice (Rect.unit ![e.1.toNat, 0, o] S1x1408x1024.size (inbWd e o ho)) (fun _ => rfl)).squeeze S1408x1024 squeezes_S1x1408x1024_S1408x1024

/-- The slot of trip `t` of the expert loop, as the kernel computes it. -/
abbrev slotWord {n : ℕ} (t : Fin n) : BitVec 32 := Scalar.remsi (Scf.iv 0#32 1#32 t) 3#32

end Cert.KernelIdeal.Hand

end
-- ==== Proof.Slots.lean ====
/-
  The states of a ring slot: free, or carrying one expert's weights in flight. A slot has six cells: one that carries
  both adapter copies, one for the up weights, and one for each of the four column windows of the down weights.
-/
module

public import proofs.«01_k».proof.Proof.Base

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

/-- A view's own elements held at contents `f`. -/
abbrev ptS (c : Dev nD) {sp : Space} {S : Shape} {e : EltTy} (M : Memref sig .tc sp S e) (f : BufOf F c M) : sProp 𝕄 :=
  M.view.loc (c : Thread nD τ) ↦[M.view.set]{fullShare} f
/-- Elements `S` of an array held at the read share of slot `k`. -/
abbrev tok (c : Dev nD) {sp : Space} {S : Shape} {e : EltTy} (M : Memref sig .tc sp S e) (k : Fin 3)
    (T : Finset (Idx (M.view.loc (c : Thread nD τ)))) (f : BufOf F c M) : sProp 𝕄 :=
  M.view.loc (c : Thread nD τ) ↦[T]{Transfers.shareTok fullShare 3 k} f
/-- The read share of cell `j` of slot `k`, one of twelve. -/
abbrev tokD (c : Dev nD) {sp : Space} {S : Shape} {e : EltTy} (M : Memref sig .tc sp S e) (k : Fin 3) (j : ℕ)
    (T : Finset (Idx (M.view.loc (c : Thread nD τ)))) (f : BufOf F c M) : sProp 𝕄 :=
  M.view.loc (c : Thread nD τ) ↦[T]{Transfers.shareTokN fullShare (4 * k.val + j)} f

/-- What a slot holds once expert `e`'s window has landed in it, over earlier contents `f₀`. -/
abbrev landA (c : Dev nD) (k : Fin 3) (e : EW) (fa : BufOf F c mLa) (f₀ : BufOf F c (slotA k)) : BufOf F c (slotA k) :=
  (slotA k).view.writes (Elt F) f₀ [⟨Rect.whole S128x4096, ReadAs.same.apply ((expLa e).view.read (Elt F) fa)⟩]
abbrev landB (c : Dev nD) (k : Fin 3) (e : EW) (fb : BufOf F c mLb) (f₀ : BufOf F c (slotB k)) : BufOf F c (slotB k) :=
  (slotB k).view.writes (Elt F) f₀ [⟨Rect.whole S128x1408, ReadAs.same.apply ((expLb e).view.read (Elt F) fb)⟩]
abbrev landU (c : Dev nD) (k : Fin 3) (e : EW) (fu : BufOf F c mUp) (f₀ : BufOf F c (slotU k)) : BufOf F c (slotU k) :=
  (slotU k).view.writes (Elt F) f₀ [⟨Rect.whole S4096x1408, ReadAs.same.apply ((expWu e).view.read (Elt F) fu)⟩]
abbrev landD (c : Dev nD) (k : Fin 3) (e : EW) (o : ℕ) (ho : o + 1024 ≤ 4096) (fd : BufOf F c mDn) (f₀ : BufOf F c (slotD k o ho)) : BufOf F c (slotD k o ho) :=
  (slotD k o ho).view.writes (Elt F) f₀ [⟨Rect.whole S1408x1024, ReadAs.same.apply ((expWd e o ho).view.read (Elt F) fd)⟩]

/-- The two adapter copies' amounts and deliveries, in the order they are started. -/
abbrev adAmt : Fin 2 → ℕ := ![32768, 11264]
def adDel (c : Dev nD) (k : Fin 3) (e : EW) (fa : BufOf F c mLa) (fb : BufOf F c mLb) (f₀ : BufOf F c (slotA k)) (f₁ : BufOf F c (slotB k)) : Fin 2 → sProp 𝕄
  | 0 => iprop(ptS c (slotA k) (landA c k e fa f₀) ∗ tok c mLa k (expLa e).view.set fa)
  | 1 => iprop(ptS c (slotB k) (landB c k e fb f₁) ∗ tok c mLb k (expLb e).view.set fb)
instance adDel_storable (c : Dev nD) (k : Fin 3) (e : EW) (fa : BufOf F c mLa) (fb : BufOf F c mLb) (f₀ : BufOf F c (slotA k)) (f₁ : BufOf F c (slotB k)) (t : Fin 2) :
    Storable (upEmb : UEmb _ 𝕄) (adDel c k e fa fb f₀ f₁ t) := by
  fin_cases t <;> simp only [adDel] <;> infer_instance

theorem o0 : 0 + 1024 ≤ 4096 := by decide
theorem o1 : 1024 + 1024 ≤ 4096 := by decide
theorem o2 : 2048 + 1024 ≤ 4096 := by decide
theorem o3 : 3072 + 1024 ≤ 4096 := by decide

section State

variable (c : Dev nD) (fa : BufOf F c mLa) (fb : BufOf F c mLb) (fu : BufOf F c mUp) (fd : BufOf F c mDn)

/-- Cell `j` of slot `k` idle: at zero, its column window at anything, its read share of the down weights whole. -/
abbrev freeD (k : Fin 3) (j : Fin 4) (o : ℕ) (ho : o + 1024 ≤ 4096) : sProp 𝕄 :=
  iprop(semVal ((c : Thread nD τ), cellD k j) 0 ∗ (∃ f, ptS c (slotD k o ho) f) ∗ tokD c mDn k j.val Finset.univ fd)
/-- Cell `j` of slot `k` carrying expert `e`'s column window. -/
abbrev inflD (k : Fin 3) (j : Fin 4) (o : ℕ) (ho : o + 1024 ≤ 4096) (e : EW) : sProp 𝕄 :=
  iprop((∃ f, Transfers.Flight (countersEmb (U := Pipeline.UD sig nD τ)) (c : Thread nD τ) (cellD k j) () 45056
            iprop(ptS c (slotD k o ho) (landD c k e o ho fd f) ∗ tokD c mDn k j.val (expWd e o ho).view.set fd))
    ∗ tokD c mDn k j.val (Finset.univ \ (expWd e o ho).view.set) fd)

/-- Slot `k` idle. -/
abbrev free (k : Fin 3) : sProp 𝕄 :=
  iprop(semVal ((c : Thread nD τ), cellA k) 0 ∗ semVal ((c : Thread nD τ), cellU k) 0
    ∗ (∃ f, ptS c (slotA k) f) ∗ (∃ f, ptS c (slotB k) f) ∗ (∃ f, ptS c (slotU k) f)
    ∗ tok c mLa k Finset.univ fa ∗ tok c mLb k Finset.univ fb ∗ tok c mUp k Finset.univ fu
    ∗ freeD c fd k 0 0 o0 ∗ freeD c fd k 1 1024 o1 ∗ freeD c fd k 2 2048 o2 ∗ freeD c fd k 3 3072 o3)

/-- Slot `k` carrying expert `e`'s weights. -/
abbrev infl (k : Fin 3) (e : EW) : sProp 𝕄 :=
  iprop((∃ f₀ f₁, Transfers.MixedBatch (countersEmb (U := Pipeline.UD sig nD τ)) (c : Thread nD τ) (cellA k) () adAmt (adDel c k e fa fb f₀ f₁) 2 0)
    ∗ (∃ f, Transfers.Flight (countersEmb (U := Pipeline.UD sig nD τ)) (c : Thread nD τ) (cellU k) () 180224
            iprop(ptS c (slotU k) (landU c k e fu f) ∗ tok c mUp k (expWu e).view.set fu))
    ∗ tok c mLa k (Finset.univ \ (expLa e).view.set) fa ∗ tok c mLb k (Finset.univ \ (expLb e).view.set) fb
    ∗ tok c mUp k (Finset.univ \ (expWu e).view.set) fu
    ∗ inflD c fd k 0 0 o0 e ∗ inflD c fd k 1 1024 o1 e ∗ inflD c fd k 2 2048 o2 e ∗ inflD c fd k 3 3072 o3 e)

/-- Slot `k` in state `s`: idle, or carrying an expert. -/
def slotSt (k : Fin 3) (s : Option EW) : sProp 𝕄 :=
  match s with
  | none => free c fa fb fu fd k
  | some e => infl c fa fb fu fd k e

end State

end Cert.KernelIdeal.Hand

end
-- ==== Proof.Step.lean ====
module

public import proofs.«01_k».proof.Proof.Slots

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

/-! ## Windows -/

theorem inbY (o : ℕ) (ho : o + 1024 ≤ 4096) : ∀ a, (![0, o] : Fin 2 → Nat) a + S32x1024.size a ≤ S32x4096.size a := by
  intro a; fin_cases a
  · show 0 + 32 ≤ 32; omega
  · show o + 1024 ≤ 4096; omega
theorem inbUps (e : EW) (o : ℕ) (ho : o + 1408 ≤ 1408) : ∀ a, (![e.1.toNat, o] : Fin 2 → Nat) a + S1x1408.size a ≤ S32x1408.size a := by
  have := e.2; intro a; fin_cases a
  · show e.1.toNat + 1 ≤ 32; omega
  · show o + 1408 ≤ 1408; omega
theorem inbDns (e : EW) (o : ℕ) (ho : o + 1024 ≤ 4096) : ∀ a, (![e.1.toNat, o] : Fin 2 → Nat) a + S1x1024.size a ≤ S32x4096.size a := by
  have := e.2; intro a; fin_cases a
  · show e.1.toNat + 1 ≤ 32; omega
  · show o + 1024 ≤ 4096; omega

/-- A column window of the result, of its staging buffer, and of the accumulator's index space. -/
abbrev mYw (o : ℕ) (ho : o + 1024 ≤ 4096) : Memref sig .tc .hbm S32x1024 .bf16 :=
  mY.slice (Rect.unit (s := S32x4096) ![0, o] S32x1024.size (inbY o ho)) (fun _ => rfl)
abbrev sYw (o : ℕ) (ho : o + 1024 ≤ 4096) : Memref sig .tc .vmem S32x1024 .bf16 :=
  sY.slice (Rect.unit (s := S32x4096) ![0, o] S32x1024.size (inbY o ho)) (fun _ => rfl)
abbrev colW (o : ℕ) (ho : o + 1024 ≤ 4096) : Rect S32x4096 := Rect.unit (s := S32x4096) ![0, o] S32x1024.size (inbY o ho)

/-! ## What one expert adds to the accumulator

The values are spelt exactly as the trip computes them, over the buffers' contents. -/

section Step

/-- The buffers that a trip only reads. -/
structure Reads (F : FTy → Type) [FloatOps F] (c : Dev nD) where
  ids : BufOf F c sIds
  gates : BufOf F c sGates
  x : BufOf F c sX
  mask : BufOf F c sMask
  xc : BufOf F c sXc
  xs : BufOf F c sXs
  ups : BufOf F c sUps
  dns : BufOf F c sDns

/-- The four weight arrays in HBM. -/
structure Wts (F : FTy → Type) [FloatOps F] (c : Dev nD) where
  fa : BufOf F c mLa
  fb : BufOf F c mLb
  fu : BufOf F c mUp
  fd : BufOf F c mDn

variable (c : Dev nD) (w : Wts F c) (r : Reads F c) (k : Fin 3) (e : EW)

/-- The four tiles of slot `k` after expert `e` has landed in it. -/
abbrev tileA : Vec F S1x128x4096 .bf16 :=
  sA.view.readAt (Elt F) (Rect.unit (s := S3x128x4096) ![k.val, 0, 0] S1x128x4096.size (inbA k)).toLoadRect (landA c k e w.fa (slotA k).view.junk)
abbrev tileB : Vec F S1x128x1408 .bf16 :=
  sB.view.readAt (Elt F) (Rect.unit (s := S3x128x1408) ![k.val, 0, 0] S1x128x1408.size (inbB k)).toLoadRect (landB c k e w.fb (slotB k).view.junk)
abbrev tileU : Vec F S1x4096x1408 .fp8e4m3 :=
  sUp.view.readAt (Elt F) (Rect.unit (s := S3x4096x1408) ![k.val, 0, 0] S1x4096x1408.size (inbU k)).toLoadRect (landU c k e w.fu (slotU k).view.junk)
abbrev tileD (o : ℕ) (ho : o + 1024 ≤ 4096) : Vec F S1x1408x1024 .fp8e4m3 :=
  sDn.view.readAt (Elt F) (Rect.unit (s := S3x1408x4096) ![k.val, 0, o] S1x1408x1024.size (inbD k o ho)).toLoadRect (landD c k e o ho w.fd (slotD k o ho).view.junk)

abbrev vIds : Vec F S8x32 .i32 := sIds.view.readAt (Elt F) (Rect.unit (s := S8x32) ![0, 0] S8x32.size inb_S8x32_S8x32_0_0).toLoadRect r.ids
abbrev vGates : Vec F S8x32 .f32 := sGates.view.readAt (Elt F) (Rect.unit (s := S8x32) ![0, 0] S8x32.size inb_S8x32_S8x32_0_0).toLoadRect r.gates
abbrev vX : Vec F S32x4096 .bf16 := sX.view.readAt (Elt F) (Rect.unit (s := S32x4096) ![0, 0] S32x4096.size inb_S32x4096_S32x4096_0_0).toLoadRect r.x
abbrev vMask : Vec F S32x128 .f32 := sMask.view.readAt (Elt F) (Rect.unit (s := S32x128) ![0, 0] S32x128.size inb_S32x128_S32x128_0_0).toLoadRect r.mask
abbrev vXc : Vec F S32x4096 .fp8e4m3 := sXc.view.readAt (Elt F) (Rect.unit (s := S32x4096) ![0, 0] S32x4096.size inb_S32x4096_S32x4096_0_0).toLoadRect r.xc
abbrev vXs : Vec F S32x1 .f32 := sXs.view.readAt (Elt F) (Rect.unit (s := S32x1) ![0, 0] S32x1.size inb_S32x1_S32x1_0_0).toLoadRect r.xs
abbrev vUps : Vec F S1x1408 .f32 := sUps.view.readAt (Elt F) (Rect.unit (s := S32x1408) ![e.1.toNat, 0] S1x1408.size (inbUps e 0 (by decide))).toLoadRect r.ups
abbrev vDns (o : ℕ) (ho : o + 1024 ≤ 4096) : Vec F S1x1024 .f32 := sDns.view.readAt (Elt F) (Rect.unit (s := S32x4096) ![e.1.toNat, o] S1x1024.size (inbDns e o ho)).toLoadRect r.dns

/-- The expert's hidden activations and their row exponents, its quantised codes, and the row factor of its output. -/
def hid : FVec F S32x1408 .f32 :=
  k0_pay6 (k0_pay4 (k0_pay3 e.1 (vIds c r))) (k0_pay5 (vX c r) (tileA c w k e) (vMask c r) (tileB c w k e)) (vXc c r) (tileU c w k e) (vXs c r) (vUps c r e)
def hexp : IVec S32x255 1 :=
  k0_pay7 (k0_pay4 (k0_pay3 e.1 (vIds c r))) (k0_pay5 (vX c r) (tileA c w k e) (vMask c r) (tileB c w k e)) (vXc c r) (tileU c w k e) (vXs c r) (vUps c r e)
def hcodes : FVec F S32x1408 .fp8e4m3 := k0_pay9 (hid c w r k e) (hexp c w r k e) 1#32
def hscale : FVec F S32x1 .f32 := k0_pay10 (k0_pay2 e.1 (vIds c r) (vGates c r)) (hexp c w r k e) 1#32

variable (acc : BufOf F c sAcc)

abbrev accAt (o : ℕ) (ho : o + 1024 ≤ 4096) : Vec F S32x1024 .f32 := sAcc.view.readAt (Elt F) (colW o ho).toLoadRect acc

/-- The accumulator's four column windows after the expert. -/
def chunk0 : FVec F S32x1024 .f32 := k0_pay11 (hcodes c w r k e) (hscale c w r k e) (tileD c w k e 0 o0) (accAt c acc 0 o0) (vDns c r e 0 o0)
def chunk1 : FVec F S32x1024 .f32 := k0_pay14 (hscale c w r k e) (k0_pay13 (hcodes c w r k e) (tileD c w k e 1024 o1)) (accAt c acc 1024 o1) (vDns c r e 1024 o1)
def chunk2 : FVec F S32x1024 .f32 := k0_pay16 (hcodes c w r k e) (hscale c w r k e) (tileD c w k e 2048 o2) (accAt c acc 2048 o2) (vDns c r e 2048 o2)
def chunk3 : FVec F S32x1024 .f32 := k0_pay18 (hcodes c w r k e) (hscale c w r k e) (tileD c w k e 3072 o3) (accAt c acc 3072 o3) (vDns c r e 3072 o3)

/-- The accumulator after the expert. -/
def accNext : BufOf F c sAcc :=
  sAcc.view.writes (Elt F) acc [⟨colW 3072 o3, chunk3 c w r k e acc⟩, ⟨colW 2048 o2, chunk2 c w r k e acc⟩,
    ⟨colW 1024 o1, chunk1 c w r k e acc⟩, ⟨colW 0 o0, chunk0 c w r k e acc⟩]

/-- The buffers that a trip only reads, held; the codes at share `q`, since a copy of them to HBM may be in flight. -/
def readsPt (q : PosShare TreeShare) : sProp 𝕄 :=
  iprop(pt c sIds r.ids ∗ pt c sGates r.gates ∗ pt c sX r.x ∗ pt c sMask r.mask ∗ (sXc.view.loc (c : Thread nD τ) ↦{q} r.xc)
    ∗ pt c sXs r.xs ∗ pt c sUps r.ups ∗ pt c sDns r.dns)

end Step

end Cert.KernelIdeal.Hand

end
-- ==== Proof.Checks.lean ====
/-
  The side conditions the kernel assumes of the words it reads: an expert's number is below 32, and the number of listed
  experts is at most 32.
-/
module

public import proofs.«01_k».proof.Proof.Base

@[expose] public section

set_option maxRecDepth 65536

noncomputable section

namespace Cert.KernelIdeal.Hand

open Cert.KernelIdeal Cert.KernelIdeal.Gen
open Idealize.ShloMosaic

theorem word_eq {n : ℕ} (hn : n ≤ 4294967296) (w : BitVec 32) (h : w.toNat < n) : ∃ k : Fin n, w = BitVec.ofNat 32 k.val := by
  refine ⟨⟨w.toNat, h⟩, ?_⟩
  simp

theorem chk1_all : ∀ k : Fin 32, k0_chk1 (BitVec.ofNat 32 k.val) := by decide +kernel
theorem chk6_all : ∀ k : Fin 32, k0_chk6 (BitVec.ofNat 32 k.val) := by decide +kernel
theorem chk5_all : ∀ k : Fin 33, k0_chk5 (BitVec.ofNat 32 k.val) := by decide +kernel
theorem chk2_all : ∀ k : Fin 33, k0_chk2 (BitVec.ofNat 32 k.val) := by decide +kernel

theorem chk1_of (w : BitVec 32) (h : w.toNat < 32) : k0_chk1 w := by
  obtain ⟨k, rfl⟩ := word_eq (by decide) w h; exact chk1_all k
theorem chk2_of (w : BitVec 32) (h : w.toNat < 33) : k0_chk2 w := by
  obtain ⟨k, rfl⟩ := word_eq (by decide) w h; exact chk2_all k
theorem chk5_of (w : BitVec 32) (h : w.toNat < 33) : k0_chk5 w := by
  obtain ⟨k, rfl⟩ := word_eq (by decide) w h; exact chk5_all k
theorem chk6_of (w : BitVec 32) (h : w.toNat < 32) : k0_chk6 w := by
  obtain ⟨k, rfl⟩ := word_eq (by decide) w h; exact chk6_all k
theorem chk3_of (v : BitVec 32) (w : BitVec 32) (h : w.toNat < 32) : k0_chk3 v w := by
  have H := chk1_of w h
  exact ⟨fun _ => H.1, fun _ => H.2.1, fun _ => H.2.2.1, fun _ => H.2.2.2.1, fun _ => H.2.2.2.2.1, fun _ => H.2.2.2.2.2.1,
    fun _ => H.2.2.2.2.2.2.1, fun _ => H.2.2.2.2.2.2.2.1, fun _ => H.2.2.2.2.2.2.2.2.1, fun _ => H.2.2.2.2.2.2.2.2.2.1,
    fun _ => H.2.2.2.2.2.2.2.2.2.2.1, fun _ => H.2.2.2.2.2.2.2.2.2.2.2.1, fun _ => H.2.2.2.2.2.2.2.2.2.2.2.2.1, fun _ => H.2.2.2.2.2.2.2.2.2.2.2.2.2⟩
theorem chk4_of (v : BitVec 32) (w : BitVec 32) (h : w.toNat < 32) : k0_chk4 v w := by
  have H := chk1_of w h
  exact ⟨fun _ => H.1, fun _ => H.2.1, fun _ => H.2.2.1, fun _ => H.2.2.2.1, fun _ => H.2.2.2.2.1, fun _ => H.2.2.2.2.2.1,
    fun _ => H.2.2.2.2.2.2.1, fun _ => H.2.2.2.2.2.2.2.1, fun _ => H.2.2.2.2.2.2.2.2.1, fun _ => H.2.2.2.2.2.2.2.2.2.1,
    fun _ => H.2.2.2.2.2.2.2.2.2.2.1, fun _ => H.2.2.2.2.2.2.2.2.2.2.2.1, fun _ => H.2.2.2.2.2.2.2.2.2.2.2.2.1, fun _ => H.2.2.2.2.2.2.2.2.2.2.2.2.2⟩
theorem chk7_of (v : BitVec 32) (t : Fin (k0_t3_loop v).trips) (w : BitVec 32) (h : w.toNat < 32) : k0_chk7 v t w := by
  have H := chk1_of w h
  exact ⟨fun _ => H.1, fun _ => H.2.1, fun _ => H.2.2.1, fun _ => H.2.2.2.1, fun _ => H.2.2.2.2.1, fun _ => H.2.2.2.2.2.1,
    fun _ => H.2.2.2.2.2.2.1, fun _ => H.2.2.2.2.2.2.2.1, fun _ => H.2.2.2.2.2.2.2.2.1, fun _ => H.2.2.2.2.2.2.2.2.2.1,
    fun _ => H.2.2.2.2.2.2.2.2.2.2.1, fun _ => H.2.2.2.2.2.2.2.2.2.2.2.1, fun _ => H.2.2.2.2.2.2.2.2.2.2.2.2.1, fun _ => H.2.2.2.2.2.2.2.2.2.2.2.2.2⟩

end Cert.KernelIdeal.Hand

end
-- ==== Proof.Words.lean ====
/-
  The words of the expert loop in closed form: trips, list offsets, slots and conditions, for at most 32 experts listed.
-/
module

public import proofs.«01_k».proof.Proof.Step
public import proofs.«01_k».proof.Proof.Checks
public import Idealize.ShloMosaic.Lib.LoopRemainder
public import Idealize.ShloMosaic.Lib.CellWrites

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

/-! ## The expert loop's words

With `n ≤ 32` experts listed, the loop takes `n` trips; trip `t` reads list entry `t`, refetches entry `t + 3` if there is
one, and uses ring slot `t % 3`; the last trip is `n - 1`. -/

theorem trips_all : ∀ n : Fin 33, (k0_t3_loop (BitVec.ofNat 32 n.val)).trips = n.val := by decide +kernel

theorem cond3_all : ∀ n : Fin 33, ∀ t : Fin (k0_t3_loop (BitVec.ofNat 32 n.val)).trips,
    (k0_cond3 (BitVec.ofNat 32 n.val) t = 1#1 ↔ t.val + 3 < n.val) := by decide +kernel
theorem last_all : ∀ n : Fin 33, ∀ t : Fin (k0_t3_loop (BitVec.ofNat 32 n.val)).trips,
    (Scalar.cmpi .ne (Scalar.extui (Scalar.cmpi .eq (Scf.iv 0#32 1#32 t) (Scalar.subi (BitVec.ofNat 32 n.val) 1#32)) : BitVec 32) 0#32 = 1#1
      ↔ t.val + 1 = n.val) := by decide +kernel
theorem off24_all : ∀ n : Fin 33, ∀ t : Fin (k0_t3_loop (BitVec.ofNat 32 n.val)).trips,
    k0_off24 (BitVec.ofNat 32 n.val) t 0 = t.val := by decide +kernel
theorem off25_all : ∀ n : Fin 33, ∀ t : Fin (k0_t3_loop (BitVec.ofNat 32 n.val)).trips,
    k0_off25 (BitVec.ofNat 32 n.val) t 0 = min (t.val + 3) (n.val - 1) := by decide +kernel
theorem slot_all : ∀ n : Fin 33, ∀ t : Fin (k0_t3_loop (BitVec.ofNat 32 n.val)).trips,
    (slotWord t).toNat = t.val % 3 := by decide +kernel
theorem cond1_all : ∀ n : Fin 33, (k0_cond1 (BitVec.ofNat 32 n.val) = 1#1 ↔ 1 < n.val) := by decide +kernel
theorem cond2_all : ∀ n : Fin 33, (k0_cond2 (BitVec.ofNat 32 n.val) = 1#1 ↔ 2 < n.val) := by decide +kernel

variable (v : BitVec 32) (hv : v.toNat < 33)
include hv

theorem trips_of : (k0_t3_loop v).trips = v.toNat := by
  obtain ⟨k, rfl⟩ := word_eq (by decide) v hv
  rw [trips_all]; simp; omega
theorem cond3_of (t : Fin (k0_t3_loop v).trips) : k0_cond3 v t = 1#1 ↔ t.val + 3 < v.toNat := by
  obtain ⟨k, rfl⟩ := word_eq (by decide) v hv
  rw [cond3_all, show (BitVec.ofNat 32 k.val).toNat = k.val by simp; omega]
theorem cond4_of (t : Fin (k0_t3_loop v).trips) : k0_cond4 v t = 1#1 ↔ t.val + 3 < v.toNat := cond3_of v hv t
theorem cond6_of (t : Fin (k0_t3_loop v).trips) : k0_cond6 v t = 1#1 ↔ t.val + 3 < v.toNat := cond3_of v hv t
theorem cond8_of (t : Fin (k0_t3_loop v).trips) : k0_cond8 v t = 1#1 ↔ t.val + 3 < v.toNat := cond3_of v hv t
theorem cond10_of (t : Fin (k0_t3_loop v).trips) : k0_cond10 v t = 1#1 ↔ t.val + 3 < v.toNat := cond3_of v hv t
theorem last_of (t : Fin (k0_t3_loop v).trips) :
    Scalar.cmpi .ne (Scalar.extui (Scalar.cmpi .eq (Scf.iv 0#32 1#32 t) (Scalar.subi v 1#32)) : BitVec 32) 0#32 = 1#1 ↔ t.val + 1 = v.toNat := by
  obtain ⟨k, rfl⟩ := word_eq (by decide) v hv
  rw [last_all, show (BitVec.ofNat 32 k.val).toNat = k.val by simp; omega]
theorem off24_of (t : Fin (k0_t3_loop v).trips) : k0_off24 v t 0 = t.val := by
  obtain ⟨k, rfl⟩ := word_eq (by decide) v hv
  exact off24_all k t
theorem off25_of (t : Fin (k0_t3_loop v).trips) : k0_off25 v t 0 = min (t.val + 3) (v.toNat - 1) := by
  obtain ⟨k, rfl⟩ := word_eq (by decide) v hv
  rw [off25_all, show (BitVec.ofNat 32 k.val).toNat = k.val by simp; omega]
theorem slot_of (t : Fin (k0_t3_loop v).trips) : (slotWord t).toNat = t.val % 3 := by
  obtain ⟨k, rfl⟩ := word_eq (by decide) v hv
  exact slot_all k t
theorem cond1_of : k0_cond1 v = 1#1 ↔ 1 < v.toNat := by
  obtain ⟨k, rfl⟩ := word_eq (by decide) v hv
  rw [cond1_all, show (BitVec.ofNat 32 k.val).toNat = k.val by simp; omega]
theorem cond2_of : k0_cond2 v = 1#1 ↔ 2 < v.toNat := by
  obtain ⟨k, rfl⟩ := word_eq (by decide) v hv
  rw [cond2_all, show (BitVec.ofNat 32 k.val).toNat = k.val by simp; omega]

end Cert.KernelIdeal.Hand

end
-- ==== Proof.Scan.lean ====
/-
  The two scans over the routing words: the set of routed experts as one word, and the list of them, the first token's
  first expert at its head.
-/
module

public import proofs.«01_k».proof.Proof.Words
public import Idealize.ShloMosaic.Lib.CellWrites.SmemRing

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

/-! ## The set of routed experts as one word -/

/-- The id that trip `t` of the scan reads. -/
abbrev idAt (c : Dev nD) (ids : BufOf F c sIdsW) (t : Fin k0_t1_loop.trips) : BitVec 32 :=
  sIdsW.view.readAt (Elt F) (Rect.unit (s := S8x32) (k0_off8 t) S1x1.size (k0_off8_inb t)).toLoadRect ids (Shape.Idx.first (numel1_S1x1 ▸ Nat.one_pos))

/-- The word after `t` ids: bit `e` is set if one of them is `e`. -/
def presAt (c : Dev nD) (ids : BufOf F c sIdsW) : ℕ → BitVec 32
  | 0 => 0#32
  | t + 1 => if h : t < k0_t1_loop.trips then Scalar.ori (presAt c ids t) (Scalar.shli 1#32 (idAt c ids ⟨t, h⟩)) else presAt c ids t

theorem presAt_succ (c : Dev nD) (ids : BufOf F c sIdsW) (t : Fin k0_t1_loop.trips) :
    presAt c ids (t.val + 1) = Scalar.ori (presAt c ids t.val) (Scalar.shli 1#32 (idAt c ids t)) := by
  rw [presAt, dif_pos t.isLt]

set_option maxHeartbeats 4000000 in
@[sl_loop, instance_reducible] def loopInv1 (c : Dev nD) (ids : BufOf F c sIdsW) :
    Gen.LoopInvTy_k0_t1 (F := F) Unit ℕ (Pipeline.UD sig nD τ) ℕ Variants.none c none Set.univ (Memref.whole main_v0) (Memref.isWhole_whole _) (Memref.whole main_v2) (Memref.isWhole_whole _) (Memref.whole main_v4) (Memref.isWhole_whole _) (Memref.whole main_v6) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v8) (Memref.isWhole_whole _) (Memref.whole main_v9) (Memref.isWhole_whole _) (Memref.whole main_v10_0) (Memref.isWhole_whole _) (Memref.whole main_v10_1) (Memref.isWhole_whole _) (Memref.whole main_v10_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 (0#32) 0#32 0#32 where
  inv t acc := iprop(pt c sIdsW ids ∗ ⌜acc = presAt c ids t⌝)
  step t acc := by
    iintro ⟨HI, %h⟩
    subst h
    unfold k0_t1_body
    sl_exec
    sl_step
    isplitl [HI]
    · iexact HI
    ipureintro
    rw [presAt_succ]
    try rfl

/-! ## The list of routed experts -/

/-- One step of the list's loop: write `e` at the end; keep it there if it is routed and not the first. -/
def scanStep (first present : BitVec 32) (e : BitVec 32) (s : (Fin 33 → BitVec 32) × BitVec 32) : (Fin 33 → BitVec 32) × BitVec 32 :=
  (Function.update s.1 (Fin.ofNat 33 s.2.toNat) e, Scalar.addi s.2 (Scalar.select (Scalar.cmpi .eq first e) 0#32 (Scalar.andi (Scalar.shrsi present e) 1#32)))

def scanAt (first present : BitVec 32) (f : Fin 33 → BitVec 32) : ℕ → (Fin 33 → BitVec 32) × BitVec 32
  | 0 => (f, 1#32)
  | t + 1 => scanStep first present (BitVec.ofNat 32 t) (scanAt first present f t)

/-- The experts listed after the first `t` have been looked at. -/
def lstAt (first present : BitVec 32) (t : ℕ) : List ℕ :=
  first.toNat :: (List.range t).filter fun e => decide (e ≠ first.toNat) && present.getLsbD e

theorem lstAt_succ (first present : BitVec 32) (t : ℕ) :
    lstAt first present (t + 1) = lstAt first present t ++ (if decide (t ≠ first.toNat) && present.getLsbD t then [t] else []) := by
  simp only [lstAt, List.range_succ, List.filter_append, List.cons_append, List.filter_cons, List.filter_nil]

theorem lstAt_lt (first present : BitVec 32) (h : first.toNat < 32) (t : ℕ) (ht : t ≤ 32) : ∀ e ∈ lstAt first present t, e < 32 := by
  intro e he
  rcases List.mem_cons.1 he with rfl | he
  · exact h
  · have := List.mem_range.1 (List.mem_filter.1 he).1; omega

theorem lstAt_nodup (first present : BitVec 32) (t : ℕ) : (lstAt first present t).Nodup := by
  unfold lstAt
  refine List.nodup_cons.2 ⟨fun h => ?_, List.nodup_range.filter _⟩
  have := (List.mem_filter.1 h).2
  simp at this

theorem lstAt_length (first present : BitVec 32) (h : first.toNat < 32) (t : ℕ) (ht : t ≤ 32) : (lstAt first present t).length ≤ 32 := by
  have hs : lstAt first present t ⊆ List.range 32 := fun e he => List.mem_range.2 (lstAt_lt first present h t ht e he)
  simpa using ((lstAt_nodup first present t).subperm hs).length_le

/-- What the loop adds to the count. -/
theorem scan_inc (first present : BitVec 32) (hf : first.toNat < 32) (e : ℕ) (he : e < 32) :
    Scalar.select (Scalar.cmpi .eq first (BitVec.ofNat 32 e)) 0#32 (Scalar.andi (Scalar.shrsi present (BitVec.ofNat 32 e)) 1#32)
      = if decide (e ≠ first.toNat) && present.getLsbD e then 1#32 else 0#32 := by
  have hbit : Scalar.andi (Scalar.shrsi present (BitVec.ofNat 32 e)) 1#32 = if present.getLsbD e then 1#32 else 0#32 := by
    have h1 : (BitVec.ofNat 32 e).toNat = e := by simp; omega
    unfold Scalar.andi Scalar.shrsi IntOp.andi IntOp.shrsi
    rw [if_pos (by omega)]
    apply BitVec.eq_of_getLsbD_eq
    intro i hi
    rw [BitVec.getLsbD_and, BitVec.sshiftRight', BitVec.getLsbD_sshiftRight, h1]
    rcases Nat.eq_zero_or_pos i with rfl | hp
    · cases hb : present.getLsbD e
      · simp [hb, he]
      · simp [hb, he]
    · have : (1#32).getLsbD i = false := by simp [BitVec.getLsbD_one]; omega
      rw [this, Bool.and_false]
      by_cases hb : present.getLsbD e
      · rw [if_pos hb, this]
      · rw [if_neg hb]; simp
  rw [hbit]
  by_cases h : e = first.toNat
  · have : first = BitVec.ofNat 32 e := by rw [h]; simp
    rw [← this]
    simp [h, Scalar.select, Scalar.cmpi, IntOp.cmpi]
  · have : ¬ first = BitVec.ofNat 32 e := fun h' => h (by rw [h']; simp; omega)
    have hz : Scalar.cmpi .eq first (BitVec.ofNat 32 e) = 0#1 := by
      show BitVec.ofBool (first == BitVec.ofNat 32 e) = 0#1
      rw [beq_false_of_ne this]; rfl
    rw [hz]
    simp [h, Scalar.select]

/-- THE LIST after `t` steps: the count is its length, and its cells hold it. -/
theorem scanAt_spec (first present : BitVec 32) (hf : first.toNat < 32) (f : Fin 33 → BitVec 32) (t : ℕ) (ht : t ≤ 32) :
    (scanAt first present f t).2.toNat = (lstAt first present t).length
      ∧ (f 0 = first → ∀ j (hj : j < (lstAt first present t).length), (scanAt first present f t).1 (Fin.ofNat 33 j) = BitVec.ofNat 32 (lstAt first present t)[j]) := by
  induction t with
  | zero =>
    refine ⟨rfl, fun h0 j hj => ?_⟩
    have : j = 0 := by simpa [lstAt] using hj
    subst this
    show f 0 = _
    rw [h0]; simp [lstAt]
  | succ t ih =>
    obtain ⟨ih1, ih2⟩ := ih (by omega)
    have hlen := lstAt_length first present hf t (by omega)
    have hinc := scan_inc first present hf t (by omega)
    simp only [scanAt, scanStep]
    rw [hinc]
    by_cases hb : (decide (t ≠ first.toNat) && present.getLsbD t) = true
    · have hl : lstAt first present (t + 1) = lstAt first present t ++ [t] := by rw [lstAt_succ, if_pos hb]
      constructor
      · rw [if_pos hb, hl, Scalar.addi, IntOp.addi, BitVec.toNat_add, ih1, List.length_append]
        show (_ + 1) % _ = _ + 1
        omega
      · intro h0 j hj
        have hj' : j < (lstAt first present t).length + 1 := by rw [hl] at hj; simpa using hj
        rw [ih1]
        by_cases hjl : j = (lstAt first present t).length
        · subst hjl
          rw [Function.update_self]
          congr 1
          simp [hl]
        · have hlt : j < (lstAt first present t).length := by omega
          rw [Function.update_of_ne, ih2 h0 j hlt]
          · congr 1
            simp only [hl]
            rw [List.getElem_append_left hlt]
          · intro he
            have := congrArg Fin.val he
            simp [Fin.ofNat] at this
            omega
    · have hl : lstAt first present (t + 1) = lstAt first present t := by rw [lstAt_succ, if_neg hb, List.append_nil]
      constructor
      · rw [if_neg hb, hl, Scalar.addi, IntOp.addi, BitVec.add_zero, ih1]
      · intro h0 j hj
        have hlt : j < (lstAt first present t).length := by rw [hl] at hj; exact hj
        rw [ih1, Function.update_of_ne]
        · rw [ih2 h0 j hlt]
          congr 1
          simp only [hl]
        · intro he
          have := congrArg Fin.val he
          simp [Fin.ofNat] at this
          omega

/-- The list's cells. -/
abbrev cellsL (c : Dev nD) (L : BufOf F c sList) : Fin 33 → BitVec 32 := CellWrites.SmemRing.cells sList L

set_option maxHeartbeats 4000000 in
theorem trip2 (c : Dev nD) (v8 : Elt F .i32) (v52 : BitVec 32) (hf : BitVec.toNat v8 < 32) (t : Fin k0_t2_loop.trips) (acc : BitVec 32)
    (hacc : acc.toNat < 33) (L : BufOf F c sList) :
    pt c sList L ⊢ wp frame (wpE (defs₀ (F := F)) Variants.none (c : Thread nD τ) none) Set.univ
      (k0_t2_body (F := F) (Memref.whole main_v0) (Memref.isWhole_whole _) (Memref.whole main_v2) (Memref.isWhole_whole _) (Memref.whole main_v4) (Memref.isWhole_whole _) (Memref.whole main_v6) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v8) (Memref.isWhole_whole _) (Memref.whole main_v9) (Memref.isWhole_whole _) (Memref.whole main_v10_0) (Memref.isWhole_whole _) (Memref.whole main_v10_1) (Memref.isWhole_whole _) (Memref.whole main_v10_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 v8 0#32 v52 t acc)
      (fun n => iprop(∃ L', pt c sList L' ∗ ⌜cellsL c L' = (scanStep v8 v52 (BitVec.ofNat 32 t.val) (cellsL c L, acc)).1
        ∧ n = (scanStep v8 v52 (BitVec.ofNat 32 t.val) (cellsL c L, acc)).2⌝)) := by
  have hc : k0_chk2 acc := chk2_of acc hacc
  iintro HL
  unfold k0_t2_body
  sl_exec
  sl_step
  iexists _
  isplitl [HL]
  · iexact HL
  ipureintro
  have he : Scf.iv 0#32 1#32 t.val = BitVec.ofNat 32 t.val := by simp [Scf.iv]
  have hoff : k0_off9 acc 0 = acc.toNat := rfl
  refine ⟨?_, ?_⟩
  · refine (CellWrites.SmemRing.cells_writes_cons sList L (k0_off9 acc) (k0_off9_inb acc hc) (show k0_off9 acc 0 < 33 from hacc)
      (Scf.iv 0#32 1#32 t.val) []).trans ?_
    rw [he, CellWrites.SmemRing.cells_writes_nil]
    show Function.update (cellsL c L) _ _ = Function.update (cellsL c L) _ _
    congr 1
    apply Fin.ext
    show acc.toNat = acc.toNat % 33
    omega
  · show Scalar.addi acc _ = _
    rw [← he]; rfl

/-- The list's loop: the buffer and the count are `scanAt`'s. -/
@[sl_loop, instance_reducible] def loopInv2 (c : Dev nD) (v8 : Elt F .i32) (v52 : BitVec 32) (f0 : Fin 33 → BitVec 32) (hf : BitVec.toNat v8 < 32) :
    Gen.LoopInvTy_k0_t2 (F := F) Unit ℕ (Pipeline.UD sig nD τ) ℕ Variants.none c none Set.univ (Memref.whole main_v0) (Memref.isWhole_whole _) (Memref.whole main_v2) (Memref.isWhole_whole _) (Memref.whole main_v4) (Memref.isWhole_whole _) (Memref.whole main_v6) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v8) (Memref.isWhole_whole _) (Memref.whole main_v9) (Memref.isWhole_whole _) (Memref.whole main_v10_0) (Memref.isWhole_whole _) (Memref.whole main_v10_1) (Memref.isWhole_whole _) (Memref.whole main_v10_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 v8 0#32 v52 1#32 where
  inv t acc := iprop(∃ L, pt c sList L ∗ ⌜cellsL c L = (scanAt v8 v52 f0 t).1⌝ ∗ ⌜acc = (scanAt v8 v52 f0 t).2⌝)
  step t acc := by
    iintro ⟨%L, HL, %hs, %ha⟩
    have h32 : k0_t2_loop.trips = 32 := by decide
    have ht : t.val < 32 := lt_of_lt_of_eq t.isLt h32
    have hacc : acc.toNat < 33 := by
      have h1 := (scanAt_spec v8 v52 hf f0 t.val (by omega)).1
      have h2 := lstAt_length v8 v52 hf t.val (by omega)
      rw [← ha] at h1
      omega
    iapply (wp_wand_r Idealize.ShloMosaic.frame (wpE (defs₀ (F := F)) Variants.none (c : Thread nD τ) none) Set.univ)
    isplitl [HL]
    · iapply (trip2 c v8 v52 hf t acc hacc L)
      iexact HL
    iintro %n ⟨%L', HL, %h'⟩
    have e : (cellsL c L, acc) = scanAt v8 v52 f0 t.val := Prod.ext hs ha
    iexists L'
    isplitl [HL]
    · iexact HL
    isplitl []
    · ipureintro
      rw [scanAt, ← e]; exact h'.1
    ipureintro
    rw [scanAt, ← e]; exact h'.2

/-- After the list's loop, the count passes the kernel's check. -/
instance exit2 (c : Dev nD) (v8 : Elt F .i32) (v52 : BitVec 32) (f0 : Fin 33 → BitVec 32) (hf : BitVec.toNat v8 < 32) :
    LoopExit (loopInv2 (F := F) c v8 v52 f0 hf) where
  post acc := iprop(∃ L, pt c sList L ∗ ⌜k0_chk5 acc⌝ ∗ ⌜acc.toNat = (lstAt v8 v52 32).length
      ∧ (f0 0 = v8 → ∀ j (hj : j < (lstAt v8 v52 32).length), cellsL c L (Fin.ofNat 33 j) = BitVec.ofNat 32 (lstAt v8 v52 32)[j])⌝)
  exit acc := by
    show iprop(∃ L, pt c sList L ∗ ⌜cellsL c L = (scanAt v8 v52 f0 k0_t2_loop.trips).1⌝ ∗ ⌜acc = (scanAt v8 v52 f0 k0_t2_loop.trips).2⌝) ⊢ _
    iintro ⟨%L, HL, %hs, %ha⟩
    have h32 : k0_t2_loop.trips = 32 := by decide
    have hs' : cellsL c L = (scanAt v8 v52 f0 32).1 := by rw [hs]; exact congrArg (fun n => (scanAt v8 v52 f0 n).1) h32
    have ha' : acc = (scanAt v8 v52 f0 32).2 := by rw [ha]; exact congrArg (fun n => (scanAt v8 v52 f0 n).2) h32
    have h1 := scanAt_spec v8 v52 hf f0 32 (by omega)
    have h2 := lstAt_length v8 v52 hf 32 (by omega)
    rw [← ha', ← hs'] at h1
    iexists L
    isplitl [HL]
    · iexact HL
    ipureintro
    exact ⟨chk5_of acc (by omega), h1⟩

end Cert.KernelIdeal.Hand

end
-- ==== Proof.Loads.lean ====
/-
  The boxes a trip of the expert loop loads lie in the ring slot of that trip.
-/
module

public import proofs.«01_k».proof.Proof.Slots
public import proofs.«01_k».proof.Proof.Checks

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

/-- The box the first adapter's load reads lies in its slot. -/
theorem inA32 (v : BitVec 32) (t : Fin (k0_t3_loop v).trips) (hs : (slotWord t).toNat < 3) (inb) :
    (sA.access (Rect.unit (k0_off32 v t) S1x128x4096.size inb)).set ⊆ (slotA (Ring.slotOfW (slotWord t) hs)).view.set := by
  unfold slotA
  rw [Memref.set_view_squeeze]
  exact Finset.Subset.refl _

/-- The box the second adapter's load reads lies in its slot. -/
theorem inB33 (v : BitVec 32) (t : Fin (k0_t3_loop v).trips) (hs : (slotWord t).toNat < 3) (inb) :
    (sB.access (Rect.unit (k0_off33 v t) S1x128x1408.size inb)).set ⊆ (slotB (Ring.slotOfW (slotWord t) hs)).view.set := by
  unfold slotB
  rw [Memref.set_view_squeeze]
  exact Finset.Subset.refl _

/-- The box the up weights' load reads lies in its slot. -/
theorem inU36 (v : BitVec 32) (t : Fin (k0_t3_loop v).trips) (hs : (slotWord t).toNat < 3) (inb) :
    (sUp.access (Rect.unit (k0_off36 v t) S1x4096x1408.size inb)).set ⊆ (slotU (Ring.slotOfW (slotWord t) hs)).view.set := by
  unfold slotU
  rw [Memref.set_view_squeeze]
  exact Finset.Subset.refl _

/-- The box column window 0's load reads lies in its slot. -/
theorem inD0 (v : BitVec 32) (t : Fin (k0_t3_loop v).trips) (hs : (slotWord t).toNat < 3) (inb) :
    (sDn.access (Rect.unit (k0_off49 v t) S1x1408x1024.size inb)).set ⊆ (slotD (Ring.slotOfW (slotWord t) hs) 0 o0).view.set := by
  unfold slotD
  rw [Memref.set_view_squeeze]
  exact Finset.Subset.refl _

/-- The box column window 1's load reads lies in its slot. -/
theorem inD1 (v : BitVec 32) (t : Fin (k0_t3_loop v).trips) (hs : (slotWord t).toNat < 3) (inb) :
    (sDn.access (Rect.unit (k0_off57 v t) S1x1408x1024.size inb)).set ⊆ (slotD (Ring.slotOfW (slotWord t) hs) 1024 o1).view.set := by
  unfold slotD
  rw [Memref.set_view_squeeze]
  exact Finset.Subset.refl _

/-- The box column window 2's load reads lies in its slot. -/
theorem inD2 (v : BitVec 32) (t : Fin (k0_t3_loop v).trips) (hs : (slotWord t).toNat < 3) (inb) :
    (sDn.access (Rect.unit (k0_off65 v t) S1x1408x1024.size inb)).set ⊆ (slotD (Ring.slotOfW (slotWord t) hs) 2048 o2).view.set := by
  unfold slotD
  rw [Memref.set_view_squeeze]
  exact Finset.Subset.refl _

/-- The box column window 3's load reads lies in its slot. -/
theorem inD3 (v : BitVec 32) (t : Fin (k0_t3_loop v).trips) (hs : (slotWord t).toNat < 3) (inb) :
    (sDn.access (Rect.unit (k0_off73 v t) S1x1408x1024.size inb)).set ⊆ (slotD (Ring.slotOfW (slotWord t) hs) 3072 o3).view.set := by
  unfold slotD
  rw [Memref.set_view_squeeze]
  exact Finset.Subset.refl _

end Cert.KernelIdeal.Hand

end
-- ==== Proof.Out.lean ====
module

public import proofs.«01_k».proof.Proof.Step

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

/-! ## The out cell's five transfers

The codes' copy is started before the expert loop, and the four column windows of the result are started by the last
expert's trip; all five are on one semaphore. -/

section Out

variable (c : Dev nD) (w : Wts F c) (r : Reads F c) (k : Fin 3) (e : EW) (acc : BufOf F c sAcc)

/-- The accumulator's columns written so far in the last trip. -/
abbrev accL0 : List (View.Piece (Elt F) S32x4096 .f32) := [⟨colW 0 o0, chunk0 c w r k e acc⟩]
abbrev accL1 : List (View.Piece (Elt F) S32x4096 .f32) := [⟨colW 1024 o1, chunk1 c w r k e acc⟩, ⟨colW 0 o0, chunk0 c w r k e acc⟩]
abbrev accL2 : List (View.Piece (Elt F) S32x4096 .f32) := [⟨colW 2048 o2, chunk2 c w r k e acc⟩, ⟨colW 1024 o1, chunk1 c w r k e acc⟩, ⟨colW 0 o0, chunk0 c w r k e acc⟩]
abbrev accL3 : List (View.Piece (Elt F) S32x4096 .f32) := [⟨colW 3072 o3, chunk3 c w r k e acc⟩, ⟨colW 2048 o2, chunk2 c w r k e acc⟩, ⟨colW 1024 o1, chunk1 c w r k e acc⟩, ⟨colW 0 o0, chunk0 c w r k e acc⟩]
/-- The four column windows of the result, staged. -/
def yc0 : FVec F S32x1024 .bf16 := k0_pay12 (sAcc.view.readCov (accL0 c w r k e acc) (colW 0 o0).toLoadRect)
def yc1 : FVec F S32x1024 .bf16 := k0_pay15 (sAcc.view.readCov (accL1 c w r k e acc) (colW 1024 o1).toLoadRect)
def yc2 : FVec F S32x1024 .bf16 := k0_pay17 (sAcc.view.readCov (accL2 c w r k e acc) (colW 2048 o2).toLoadRect)
def yc3 : FVec F S32x1024 .bf16 := k0_pay50 (sAcc.view.readCov (accL3 c w r k e acc) (colW 3072 o3).toLoadRect)

variable (yv : BufOf F c sY)

/-- The staging buffer when each window's copy is started. -/
def yv0 : BufOf F c sY := sY.view.writes (Elt F) yv [⟨colW 0 o0, yc0 c w r k e acc⟩]
def yv1 : BufOf F c sY := sY.view.writes (Elt F) yv [⟨colW 1024 o1, yc1 c w r k e acc⟩, ⟨colW 0 o0, yc0 c w r k e acc⟩]
def yv2 : BufOf F c sY := sY.view.writes (Elt F) yv [⟨colW 2048 o2, yc2 c w r k e acc⟩, ⟨colW 1024 o1, yc1 c w r k e acc⟩, ⟨colW 0 o0, yc0 c w r k e acc⟩]
def yv3 : BufOf F c sY := sY.view.writes (Elt F) yv [⟨colW 3072 o3, yc3 c w r k e acc⟩, ⟨colW 2048 o2, yc2 c w r k e acc⟩, ⟨colW 1024 o1, yc1 c w r k e acc⟩, ⟨colW 0 o0, yc0 c w r k e acc⟩]

/-- One window landed in HBM, and its staging window back. -/
abbrev landY (o : ℕ) (ho : o + 1024 ≤ 4096) (y : BufOf F c mY) (f : BufOf F c sY) : sProp 𝕄 :=
  iprop((mY.view.loc (c : Thread nD τ) ↦[(mYw o ho).view.set]{fullShare} (mYw o ho).view.writes (Elt F) y [⟨Rect.whole S32x1024, ReadAs.same.apply ((sYw o ho).view.read (Elt F) f)⟩])
    ∗ sY.view.loc (c : Thread nD τ) ↦[(sYw o ho).view.set]{fullShare} f)

abbrev outCell : SemLoc sig := SemLoc.dma cc0_scratch24.sem
abbrev outAmt : Fin 5 → ℕ := ![4096, 2048, 2048, 2048, 2048]

/-- What the five transfers deliver. -/
def outDel (q : PosShare TreeShare) (xcH : BufOf F c mXc) (y : BufOf F c mY) : Fin 5 → sProp 𝕄
  | 0 => iprop((mXc.view.loc (c : Thread nD τ) ↦{fullShare} mXc.view.write (Elt F) xcH (ReadAs.same.apply (sXc.view.read (Elt F) r.xc)) Finset.univ)
        ∗ sXc.view.loc (c : Thread nD τ) ↦[sXc.view.set]{q} r.xc)
  | 1 => landY c 0 o0 y (yv0 c w r k e acc yv)
  | 2 => landY c 1024 o1 y (yv1 c w r k e acc yv)
  | 3 => landY c 2048 o2 y (yv2 c w r k e acc yv)
  | 4 => landY c 3072 o3 y (yv3 c w r k e acc yv)
instance outDel_storable (q : PosShare TreeShare) (xcH : BufOf F c mXc) (y : BufOf F c mY) (t : Fin 5) :
    Storable (upEmb : UEmb _ 𝕄) (outDel c w r k e acc yv q xcH y t) := by
  fin_cases t <;> simp only [outDel] <;> infer_instance

/-- The out cell's batch after `j` of its five transfers have been started. -/
abbrev outBatch (q : PosShare TreeShare) (xcH : BufOf F c mXc) (y : BufOf F c mY) (j : ℕ) : sProp 𝕄 :=
  Transfers.MixedBatch (countersEmb (U := Pipeline.UD sig nD τ)) (c : Thread nD τ) outCell () outAmt (outDel c w r k e acc yv q xcH y) j 0

end Out

end Cert.KernelIdeal.Hand

end
-- ==== Proof.TripMid.lean ====
module

public import proofs.«01_k».proof.Proof.Loads
public import proofs.«01_k».proof.Proof.Out

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

set_option sl_exec.respelt true
set_option maxHeartbeats 40000000 in
/-- A trip that neither refetches its slot nor is the last: the slot ends idle. -/
theorem trip_mid (c : Dev nD) (v55 : BitVec 32) (hw5 : k0_chk5 v55) (t : Fin (k0_t3_loop v55).trips)
   (v150 : IVec S32x1 32) (v151 : IVec S32x128 32) (c16_i32 : BitVec 32) (v153 : IVec S32x128 32) (v160 : IVec S32x128 32) (v162 : BitVec 32) (c0_i32_90 : BitVec 32)
   (acc0 : BitVec 32)
   (hs : (slotWord t).toNat < 3) (e : EW) (e' : EW)
   (c6 : k0_chk6 e.1) (c7 : k0_chk7 v55 t e'.1)
   (h3 : ¬ k0_cond3 v55 t = 1#1) (h4 : ¬ k0_cond4 v55 t = 1#1) (h6 : ¬ k0_cond6 v55 t = 1#1) (h8 : ¬ k0_cond8 v55 t = 1#1) (h10 : ¬ k0_cond10 v55 t = 1#1)
   (hl : ¬ Scalar.cmpi .ne (Scalar.extui (Scalar.cmpi .eq (Scf.iv 0#32 1#32 t) (Scalar.subi v55 1#32)) : BitVec 32) 0#32 = 1#1)
   (w : Wts F c) (r : Reads F c) (L : BufOf F c sList) (acc : BufOf F c sAcc) (q : PosShare TreeShare)
   (hL1 : ∀ inb, sList.view.readAt (Elt F) (Rect.unit (s := S33) (k0_off24 v55 t) S1.size inb).toLoadRect L = fun _ => e.1)
   (hL2 : ∀ inb, sList.view.readAt (Elt F) (Rect.unit (s := S33) (k0_off25 v55 t) S1.size inb).toLoadRect L = fun _ => e'.1)
   (W : Waits sig Unit) :
   iprop(slotSt c w.fa w.fb w.fu w.fd (Ring.slotOfW (slotWord t) hs) (some e) ∗ pt c sList L ∗ readsPt c r q ∗ pt c sAcc acc
      ∗ owes (c : Thread nD τ) 0 W)
    ⊢ wp frame (wpE (defs₀ (F := F)) Variants.none (c : Thread nD τ) none) Set.univ (k0_t3_body (F := F) (Memref.whole main_v0) (Memref.isWhole_whole _) (Memref.whole main_v2) (Memref.isWhole_whole _) (Memref.whole main_v4) (Memref.isWhole_whole _) (Memref.whole main_v6) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v8) (Memref.isWhole_whole _) (Memref.whole main_v9) (Memref.isWhole_whole _) (Memref.whole main_v10_0) (Memref.isWhole_whole _) (Memref.whole main_v10_1) (Memref.isWhole_whole _) (Memref.whole main_v10_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 v55 hw5 v150 v151 c16_i32 v153 v160 v162 c0_i32_90 t acc0)
      (fun _ => iprop(slotSt c w.fa w.fb w.fu w.fd (Ring.slotOfW (slotWord t) hs) none ∗ pt c sList L ∗ readsPt c r q
        ∗ pt c sAcc (accNext c w r (Ring.slotOfW (slotWord t) hs) e acc) ∗ ∃ W', owes (c : Thread nD τ) 0 W')) := by
  have i1 := inA32 v55 t hs (k0_off32_inb v55 hw5 t)
  have i2 := inB33 v55 t hs (k0_off33_inb v55 hw5 t)
  have i3 := inU36 v55 t hs (k0_off36_inb v55 hw5 t)
  have i4 := inD0 v55 t hs (k0_off49_inb v55 hw5 t)
  have i5 := inD1 v55 t hs (k0_off57_inb v55 hw5 t)
  have i6 := inD2 v55 t hs (k0_off65_inb v55 hw5 t)
  have i7 := inD3 v55 t hs (k0_off73_inb v55 hw5 t)
  unfold slotSt readsPt
  iintro ⟨⟨⟨%fA, %fB, HBt⟩, ⟨%fU, HU⟩, Ta, Tb, Tu, ⟨⟨%g0, HD0⟩, Td0⟩, ⟨⟨%g1, HD1⟩, Td1⟩, ⟨⟨%g2, HD2⟩, Td2⟩, ⟨⟨%g3, HD3⟩, Td3⟩⟩,
     HL, ⟨Hids, Hgates, Hx, Hmask, Hxc, Hxs, Hups, Hdns⟩, Hacc, HO⟩
  unfold adDel
  unfold k0_t3_body
  sl_exec
  sl_step
  isplitl [HBt HU HBt_dst0 HBt_dst1 HU_dst Ta Tb Tu HD0 HD0_dst Td0 HD1 HD1_dst Td1 HD2 HD2_dst Td2 HD3 HD3_dst Td3]
  · skip
    isplitl [HBt]
    · iexact HBt
    isplitl [HU]
    · iexact HU
    isplitl [HBt_dst0]
    · iexists _; iexact HBt_dst0
    isplitl [HBt_dst1]
    · iexists _; iexact HBt_dst1
    isplitl [HU_dst]
    · iexists _; iexact HU_dst
    isplitl [Ta]
    · iexact Ta
    isplitl [Tb]
    · iexact Tb
    isplitl [Tu]
    · iexact Tu
    isplitl [HD0 HD0_dst Td0]
    · isplitl [HD0]
      · iexact HD0
      isplitl [HD0_dst]
      · iexists _; iexact HD0_dst
      iexact Td0
    isplitl [HD1 HD1_dst Td1]
    · isplitl [HD1]
      · iexact HD1
      isplitl [HD1_dst]
      · iexists _; iexact HD1_dst
      iexact Td1
    isplitl [HD2 HD2_dst Td2]
    · isplitl [HD2]
      · iexact HD2
      isplitl [HD2_dst]
      · iexists _; iexact HD2_dst
      iexact Td2
    isplitl [HD3]
    · iexact HD3
    isplitl [HD3_dst]
    · iexists _; iexact HD3_dst
    iexact Td3
  isplitl [HL]
  · iexact HL
  isplitl [Hids Hgates Hx Hmask Hxc Hxs Hups Hdns]
  · iframe
  isplitl [Hacc]
  · iexact Hacc
  iexists _
  iexact HO

end Cert.KernelIdeal.Hand

end
-- ==== Proof.TripNext.lean ====
module

public import proofs.«01_k».proof.Proof.Loads
public import proofs.«01_k».proof.Proof.Out

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

set_option sl_exec.respelt true
set_option maxHeartbeats 40000000 in
/-- A trip that refetches its slot for the expert three places on. -/
theorem trip_next (c : Dev nD) (v55 : BitVec 32) (hw5 : k0_chk5 v55) (t : Fin (k0_t3_loop v55).trips)
   (v150 : IVec S32x1 32) (v151 : IVec S32x128 32) (c16_i32 : BitVec 32) (v153 : IVec S32x128 32) (v160 : IVec S32x128 32) (v162 : BitVec 32) (c0_i32_90 : BitVec 32)
   (acc0 : BitVec 32)
   (hs : (slotWord t).toNat < 3) (e : EW) (e' : EW)
   (c6 : k0_chk6 e.1) (c7 : k0_chk7 v55 t e'.1)
   (h3 : k0_cond3 v55 t = 1#1) (h4 : k0_cond4 v55 t = 1#1) (h6 : k0_cond6 v55 t = 1#1) (h8 : k0_cond8 v55 t = 1#1) (h10 : k0_cond10 v55 t = 1#1)
   (hl : ¬ Scalar.cmpi .ne (Scalar.extui (Scalar.cmpi .eq (Scf.iv 0#32 1#32 t) (Scalar.subi v55 1#32)) : BitVec 32) 0#32 = 1#1)
   (w : Wts F c) (r : Reads F c) (L : BufOf F c sList) (acc : BufOf F c sAcc) (q : PosShare TreeShare)
   (hL1 : ∀ inb, sList.view.readAt (Elt F) (Rect.unit (s := S33) (k0_off24 v55 t) S1.size inb).toLoadRect L = fun _ => e.1)
   (hL2 : ∀ inb, sList.view.readAt (Elt F) (Rect.unit (s := S33) (k0_off25 v55 t) S1.size inb).toLoadRect L = fun _ => e'.1)
   (W : Waits sig Unit) :
   iprop(slotSt c w.fa w.fb w.fu w.fd (Ring.slotOfW (slotWord t) hs) (some e) ∗ pt c sList L ∗ readsPt c r q ∗ pt c sAcc acc
      ∗ owes (c : Thread nD τ) 0 W)
    ⊢ wp frame (wpE (defs₀ (F := F)) Variants.none (c : Thread nD τ) none) Set.univ (k0_t3_body (F := F) (Memref.whole main_v0) (Memref.isWhole_whole _) (Memref.whole main_v2) (Memref.isWhole_whole _) (Memref.whole main_v4) (Memref.isWhole_whole _) (Memref.whole main_v6) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v8) (Memref.isWhole_whole _) (Memref.whole main_v9) (Memref.isWhole_whole _) (Memref.whole main_v10_0) (Memref.isWhole_whole _) (Memref.whole main_v10_1) (Memref.isWhole_whole _) (Memref.whole main_v10_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 v55 hw5 v150 v151 c16_i32 v153 v160 v162 c0_i32_90 t acc0)
      (fun _ => iprop(slotSt c w.fa w.fb w.fu w.fd (Ring.slotOfW (slotWord t) hs) (some e') ∗ pt c sList L ∗ readsPt c r q
        ∗ pt c sAcc (accNext c w r (Ring.slotOfW (slotWord t) hs) e acc) ∗ ∃ W', owes (c : Thread nD τ) 0 W')) := by
  have i1 := inA32 v55 t hs (k0_off32_inb v55 hw5 t)
  have i2 := inB33 v55 t hs (k0_off33_inb v55 hw5 t)
  have i3 := inU36 v55 t hs (k0_off36_inb v55 hw5 t)
  have i4 := inD0 v55 t hs (k0_off49_inb v55 hw5 t)
  have i5 := inD1 v55 t hs (k0_off57_inb v55 hw5 t)
  have i6 := inD2 v55 t hs (k0_off65_inb v55 hw5 t)
  have i7 := inD3 v55 t hs (k0_off73_inb v55 hw5 t)
  unfold slotSt readsPt
  iintro ⟨⟨⟨%fA, %fB, HBt⟩, ⟨%fU, HU⟩, Ta, Tb, Tu, ⟨⟨%g0, HD0⟩, Td0⟩, ⟨⟨%g1, HD1⟩, Td1⟩, ⟨⟨%g2, HD2⟩, Td2⟩, ⟨⟨%g3, HD3⟩, Td3⟩⟩,
     HL, ⟨Hids, Hgates, Hx, Hmask, Hxc, Hxs, Hups, Hdns⟩, Hacc, HO⟩
  unfold adDel
  unfold k0_t3_body
  set_option sl_exec.stopBefore "k0_part6" in sl_exec
  imod (Transfers.mixedBatch_alloc' (Lvl := ℕ) (countersEmb (U := Pipeline.UD sig nD τ)) (c : Thread nD τ) () adAmt
      (adDel c (Ring.slotOfW (slotWord t) hs) e' w.fa w.fb _ _)
       (sm := cellA (Ring.slotOfW (slotWord t) hs)) (E := Set.univ)) $$ HBt with HBn
  unfold adDel
  sl_exec
  sl_step
  isplitl [HBn HU Ta Tb Tu HD0 Td0 HD1 Td1 HD2 Td2 HD3 Td3]
  · skip
    isplitl [HBn]
    · iexists _, _; iexact HBn
    isplitl [HU]
    · iexists _; iexact HU
    isplitl [Ta]
    · iexact Ta
    isplitl [Tb]
    · iexact Tb
    isplitl [Tu]
    · iexact Tu
    isplitl [HD0 Td0]
    · isplitl [HD0]
      · iexists _; iexact HD0
      iexact Td0
    isplitl [HD1 Td1]
    · isplitl [HD1]
      · iexists _; iexact HD1
      iexact Td1
    isplitl [HD2 Td2]
    · isplitl [HD2]
      · iexists _; iexact HD2
      iexact Td2
    isplitl [HD3]
    · iexists _; iexact HD3
    iexact Td3
  isplitl [HL]
  · iexact HL
  isplitl [Hids Hgates Hx Hmask Hxc Hxs Hups Hdns]
  · iframe
  isplitl [Hacc]
  · iexact Hacc
  iexists _
  iexact HO

end Cert.KernelIdeal.Hand

end
-- ==== Proof.TripLast.lean ====
module

public import proofs.«01_k».proof.Proof.Loads
public import proofs.«01_k».proof.Proof.Out

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

set_option sl_exec.respelt true
set_option maxHeartbeats 40000000 in
/-- The last trip: it also stages the result and starts its four copies. -/
theorem trip_last (c : Dev nD) (v55 : BitVec 32) (hw5 : k0_chk5 v55) (t : Fin (k0_t3_loop v55).trips)
   (v150 : IVec S32x1 32) (v151 : IVec S32x128 32) (c16_i32 : BitVec 32) (v153 : IVec S32x128 32) (v160 : IVec S32x128 32) (v162 : BitVec 32) (c0_i32_90 : BitVec 32)
   (acc0 : BitVec 32)
   (hs : (slotWord t).toNat < 3) (e : EW) (e' : EW)
   (c6 : k0_chk6 e.1) (c7 : k0_chk7 v55 t e'.1)
   (h3 : ¬ k0_cond3 v55 t = 1#1) (h4 : ¬ k0_cond4 v55 t = 1#1) (h6 : ¬ k0_cond6 v55 t = 1#1) (h8 : ¬ k0_cond8 v55 t = 1#1) (h10 : ¬ k0_cond10 v55 t = 1#1)
   (hl : Scalar.cmpi .ne (Scalar.extui (Scalar.cmpi .eq (Scf.iv 0#32 1#32 t) (Scalar.subi v55 1#32)) : BitVec 32) 0#32 = 1#1)
   (w : Wts F c) (r : Reads F c) (L : BufOf F c sList) (acc : BufOf F c sAcc) (q : PosShare TreeShare)
   (hL1 : ∀ inb, sList.view.readAt (Elt F) (Rect.unit (s := S33) (k0_off24 v55 t) S1.size inb).toLoadRect L = fun _ => e.1)
   (hL2 : ∀ inb, sList.view.readAt (Elt F) (Rect.unit (s := S33) (k0_off25 v55 t) S1.size inb).toLoadRect L = fun _ => e'.1)
   (W : Waits sig Unit) (yv : BufOf F c sY) (y : BufOf F c mY) (xcH : BufOf F c mXc) (q2 : PosShare TreeShare):
   iprop(slotSt c w.fa w.fb w.fu w.fd (Ring.slotOfW (slotWord t) hs) (some e) ∗ pt c sList L ∗ readsPt c r q ∗ pt c sAcc acc
      ∗ pt c sY yv ∗ ptS c (mYw 0 o0) y ∗ ptS c (mYw 1024 o1) y ∗ ptS c (mYw 2048 o2) y ∗ ptS c (mYw 3072 o3) y ∗ outBatch c w r (Ring.slotOfW (slotWord t) hs) e acc yv q2 xcH y 1 ∗ owes (c : Thread nD τ) 0 W)
    ⊢ wp frame (wpE (defs₀ (F := F)) Variants.none (c : Thread nD τ) none) Set.univ (k0_t3_body (F := F) (Memref.whole main_v0) (Memref.isWhole_whole _) (Memref.whole main_v2) (Memref.isWhole_whole _) (Memref.whole main_v4) (Memref.isWhole_whole _) (Memref.whole main_v6) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v8) (Memref.isWhole_whole _) (Memref.whole main_v9) (Memref.isWhole_whole _) (Memref.whole main_v10_0) (Memref.isWhole_whole _) (Memref.whole main_v10_1) (Memref.isWhole_whole _) (Memref.whole main_v10_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 v55 hw5 v150 v151 c16_i32 v153 v160 v162 c0_i32_90 t acc0)
      (fun _ => iprop(slotSt c w.fa w.fb w.fu w.fd (Ring.slotOfW (slotWord t) hs) none ∗ pt c sList L ∗ readsPt c r q
        ∗ pt c sAcc (accNext c w r (Ring.slotOfW (slotWord t) hs) e acc) ∗ outBatch c w r (Ring.slotOfW (slotWord t) hs) e acc yv q2 xcH y 5 ∗ ∃ W', owes (c : Thread nD τ) 0 W')) := by
  have i1 := inA32 v55 t hs (k0_off32_inb v55 hw5 t)
  have i2 := inB33 v55 t hs (k0_off33_inb v55 hw5 t)
  have i3 := inU36 v55 t hs (k0_off36_inb v55 hw5 t)
  have i4 := inD0 v55 t hs (k0_off49_inb v55 hw5 t)
  have i5 := inD1 v55 t hs (k0_off57_inb v55 hw5 t)
  have i6 := inD2 v55 t hs (k0_off65_inb v55 hw5 t)
  have i7 := inD3 v55 t hs (k0_off73_inb v55 hw5 t)
  unfold slotSt readsPt
  iintro ⟨⟨⟨%fA, %fB, HBt⟩, ⟨%fU, HU⟩, Ta, Tb, Tu, ⟨⟨%g0, HD0⟩, Td0⟩, ⟨⟨%g1, HD1⟩, Td1⟩, ⟨⟨%g2, HD2⟩, Td2⟩, ⟨⟨%g3, HD3⟩, Td3⟩⟩,
     HL, ⟨Hids, Hgates, Hx, Hmask, Hxc, Hxs, Hups, Hdns⟩, Hacc, HsY, HY0, HY1, HY2, HY3, Hout, HO⟩
  unfold adDel
  unfold k0_t3_body
  unfold outBatch outDel landY
  sl_exec
  sl_step
  isplitl [HBt HU HBt_dst0 HBt_dst1 HU_dst Ta Tb Tu HD0 HD0_dst Td0 HD1 HD1_dst Td1 HD2 HD2_dst Td2 HD3 HD3_dst Td3]
  · skip
    isplitl [HBt]
    · iexact HBt
    isplitl [HU]
    · iexact HU
    isplitl [HBt_dst0]
    · iexists _; iexact HBt_dst0
    isplitl [HBt_dst1]
    · iexists _; iexact HBt_dst1
    isplitl [HU_dst]
    · iexists _; iexact HU_dst
    isplitl [Ta]
    · iexact Ta
    isplitl [Tb]
    · iexact Tb
    isplitl [Tu]
    · iexact Tu
    isplitl [HD0 HD0_dst Td0]
    · isplitl [HD0]
      · iexact HD0
      isplitl [HD0_dst]
      · iexists _; iexact HD0_dst
      iexact Td0
    isplitl [HD1 HD1_dst Td1]
    · isplitl [HD1]
      · iexact HD1
      isplitl [HD1_dst]
      · iexists _; iexact HD1_dst
      iexact Td1
    isplitl [HD2 HD2_dst Td2]
    · isplitl [HD2]
      · iexact HD2
      isplitl [HD2_dst]
      · iexists _; iexact HD2_dst
      iexact Td2
    isplitl [HD3]
    · iexact HD3
    isplitl [HD3_dst]
    · iexists _; iexact HD3_dst
    iexact Td3
  isplitl [HL]
  · iexact HL
  isplitl [Hids Hgates Hx Hmask Hxc Hxs Hups Hdns]
  · iframe
  isplitl [Hacc]
  · iexact Hacc
  isplitl [Hout]
  · iexact Hout
  iexists _
  iexact HO

end Cert.KernelIdeal.Hand

end
-- ==== Proof.Loop.lean ====
/-
  The expert loop's invariant: which experts' weights the ring carries, the accumulator as a fold over the experts done,
  and the result's copies, started in the last trip.
-/
module

public import proofs.«01_k».proof.Proof.Scan
public import proofs.«01_k».proof.Proof.TripMid
public import proofs.«01_k».proof.Proof.TripNext
public import proofs.«01_k».proof.Proof.TripLast

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

/-- Entry `j` of a list of experts. -/
def ent (lst : List ℕ) (j : ℕ) : EW := ⟨BitVec.ofNat 32 (lst.getD j 0 % 32), by
  have : lst.getD j 0 % 32 < 32 := Nat.mod_lt _ (by decide)
  simp; omega⟩

/-- The ring slot of trip `i`. -/
def slotN (i : ℕ) : Fin 3 := ⟨i % 3, Nat.mod_lt _ (by decide)⟩

/-- The next list entry that slot `k` carries before trip `i`. -/
def nextFor (i : ℕ) (k : Fin 3) : ℕ := i + (k.val + 3 - i % 3) % 3

/-- What the slots carry before trip `i`: the entries `i`, `i + 1`, `i + 2` there are. -/
def ringSt (lst : List ℕ) (i : ℕ) (k : Fin 3) : Option EW :=
  if nextFor i k < lst.length then some (ent lst (nextFor i k)) else none

theorem ringSt_self (lst : List ℕ) (i : ℕ) (h : i < lst.length) : ringSt lst i (slotN i) = some (ent lst i) := by
  have : nextFor i (slotN i) = i := by unfold nextFor slotN; simp
  rw [ringSt, this, if_pos h]

theorem ringSt_succ (lst : List ℕ) (i : ℕ) :
    ringSt lst (i + 1) = Function.update (ringSt lst i) (slotN i) (if i + 3 < lst.length then some (ent lst (i + 3)) else none) := by
  funext k
  by_cases hk : k = slotN i
  · subst hk
    have : nextFor (i + 1) (slotN i) = i + 3 := by unfold nextFor slotN; simp only; omega
    rw [Function.update_self, ringSt, this]
  · have hne : k.val ≠ i % 3 := fun h => hk (Fin.ext h)
    have : nextFor (i + 1) k = nextFor i k := by unfold nextFor; have := k.isLt; omega
    rw [Function.update_of_ne hk, ringSt, this, ringSt]

section Loop

variable (c : Dev nD) (w : Wts F c) (r : Reads F c) (lst : List ℕ) (acc0 : BufOf F c sAcc)

/-- The accumulator before trip `i`. -/
def accF : ℕ → BufOf F c sAcc
  | 0 => acc0
  | i + 1 => accNext c w r (slotN i) (ent lst i) (accF i)

/-- The whole ring. -/
abbrev ringAt (st : Fin 3 → Option EW) : sProp 𝕄 := Ring.AtW (σ := fun _ => Option EW) (fun k s => slotSt c w.fa w.fb w.fu w.fd k s) st

variable (L : BufOf F c sList) (q q2 : PosShare TreeShare) (yv : BufOf F c sY) (y : BufOf F c mY) (xcH : BufOf F c mXc)

/-- The out cell with `j` of its transfers started, as the last trip fills it. -/
abbrev outLast (j : ℕ) : sProp 𝕄 :=
  outBatch c w r (slotN (lst.length - 1)) (ent lst (lst.length - 1)) (accF c w r lst acc0 (lst.length - 1)) yv q2 xcH y j

/-- The result's part of the loop: nothing started before the last trip is over, everything after. -/
def outPart (i : ℕ) : sProp 𝕄 :=
  if i < lst.length then iprop(pt c sY yv ∗ ptS c (mYw 0 o0) y ∗ ptS c (mYw 1024 o1) y ∗ ptS c (mYw 2048 o2) y ∗ ptS c (mYw 3072 o3) y
    ∗ outLast c w r lst acc0 q2 yv y xcH 1)
  else outLast c w r lst acc0 q2 yv y xcH 5

/-- THE EXPERT LOOP's invariant before trip `i`. -/
def inv3 (i : ℕ) : sProp 𝕄 :=
  iprop(ringAt c w (ringSt lst i) ∗ pt c sList L ∗ readsPt c r q ∗ pt c sAcc (accF c w r lst acc0 i) ∗ outPart c w r lst acc0 q2 yv y xcH i
    ∗ ∃ W, owes (c : Thread nD τ) 0 W)

variable (v55 : BitVec 32) (hw5 : k0_chk5 v55)
  (v150 : IVec S32x1 32) (v151 : IVec S32x128 32) (c16_i32 : BitVec 32) (v153 : IVec S32x128 32) (v160 : IVec S32x128 32) (v162 : BitVec 32) (c0_i32_90 : BitVec 32)
  (hn : v55.toNat = lst.length) (hlen : lst.length ≤ 32) (hlt : ∀ e ∈ lst, e < 32)
  (hL : ∀ j (hj : j < lst.length), cellsL c L (Fin.ofNat 33 j) = BitVec.ofNat 32 lst[j])

include hlt hlen hL in
/-- A load of list entry `j`. -/
theorem list_read (off : Fin 1 → ℕ) (j : ℕ) (hoff : off 0 = j) (hj : j < lst.length) (inb) :
    sList.view.readAt (Elt F) (Rect.unit (s := S33) off S1.size inb).toLoadRect L = fun _ => (ent lst j).1 := by
  funext x
  have h0 : off 0 < 33 := by omega
  have h := CellWrites.SmemRing.readAt_cell sList L off inb h0
  have hx : ∀ x' : (Rect.unit (s := S33) off S1.size inb).toLoadRect.shape.Idx, x = x' := fun x' => by
    funext a
    apply Fin.ext
    have h1 : (x a).val < 1 := (x a).isLt.trans_le (by fin_cases a; exact le_refl 1)
    have h2 : (x' a).val < 1 := (x' a).isLt.trans_le (by fin_cases a; exact le_refl 1)
    omega
  rw [hx (Shape.Idx.first (CellWrites.SmemRing.numel_unit_pos off inb))]
  refine h.trans ?_
  have e1 : (⟨off 0, h0⟩ : Fin 33) = Fin.ofNat 33 j := by apply Fin.ext; show off 0 = j % 33; omega
  rw [e1]
  refine (hL j hj).trans ?_
  show _ = BitVec.ofNat 32 (lst.getD j 0 % 32)
  have hlt' := hlt _ (List.getElem_mem hj)
  have hg : lst.getD j 0 = lst[j] := by simp [List.getD, hj]
  rw [hg, Nat.mod_eq_of_lt hlt']

include hn hlen hlt hL in
theorem trip3 (t : Fin (k0_t3_loop v55).trips) (a0 : BitVec 32) :
    inv3 c w r lst acc0 L q q2 yv y xcH t.val
    ⊢ wp frame (wpE (defs₀ (F := F)) Variants.none (c : Thread nD τ) none) Set.univ (k0_t3_body (F := F) (Memref.whole main_v0) (Memref.isWhole_whole _) (Memref.whole main_v2) (Memref.isWhole_whole _) (Memref.whole main_v4) (Memref.isWhole_whole _) (Memref.whole main_v6) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v8) (Memref.isWhole_whole _) (Memref.whole main_v9) (Memref.isWhole_whole _) (Memref.whole main_v10_0) (Memref.isWhole_whole _) (Memref.whole main_v10_1) (Memref.isWhole_whole _) (Memref.whole main_v10_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 v55 hw5 v150 v151 c16_i32 v153 v160 v162 c0_i32_90 t a0)
      (fun _ => inv3 c w r lst acc0 L q q2 yv y xcH (t.val + 1)) := by
  have hv : v55.toNat < 33 := by omega
  have ht : t.val < lst.length := by have h := t.isLt; have h2 := trips_of v55 hv; omega
  have hs : (slotWord t).toNat < 3 := by rw [slot_of v55 hv t]; omega
  have hk : Ring.slotOfW (slotWord t) hs = slotN t.val := Fin.ext (slot_of v55 hv t)
  have c6 : k0_chk6 (ent lst t.val).1 := chk6_of _ (ent lst t.val).2
  have c7 : k0_chk7 v55 t (ent lst (min (t.val + 3) (lst.length - 1))).1 := chk7_of v55 t _ (ent lst _).2
  have hL1 := fun inb => list_read c lst L hlen hlt hL (k0_off24 v55 t) t.val (off24_of v55 hv t) ht inb
  have hL2 := fun inb => list_read c lst L hlen hlt hL (k0_off25 v55 t) (min (t.val + 3) (lst.length - 1)) (by rw [off25_of v55 hv t, hn]) (by omega) inb
  have hst := ringSt_self lst t.val ht
  unfold inv3
  rw [show ringAt c w (ringSt lst t.val) = _ from Ring.AtW_focus _ _ (slotN t.val), hst, accF, ← hk]
  by_cases h3 : t.val + 3 < lst.length
  · have hc : k0_cond3 v55 t = 1#1 := (cond3_of v55 hv t).2 (by omega)
    have hl : ¬ Scalar.cmpi .ne (Scalar.extui (Scalar.cmpi .eq (Scf.iv 0#32 1#32 t) (Scalar.subi v55 1#32)) : BitVec 32) 0#32 = 1#1 := by
      rw [last_of v55 hv t]; omega
    have hm : min (t.val + 3) (lst.length - 1) = t.val + 3 := by omega
    rw [hm] at c7 hL2
    rw [show outPart c w r lst acc0 q2 yv y xcH (t.val + 1) = outPart c w r lst acc0 q2 yv y xcH t.val by rw [outPart, outPart, if_pos ht, if_pos (by omega)]]
    rw [ringSt_succ, if_pos h3, ← hk]
    iintro ⟨⟨Hslot, Hrest⟩, HL, Hr, Hacc, Hout, ⟨%W, HO⟩⟩
    iapply (wp_wand_r Idealize.ShloMosaic.frame (wpE (defs₀ (F := F)) Variants.none (c : Thread nD τ) none) Set.univ)
    isplitl [Hslot HL Hr Hacc HO]
    · iapply (trip_next c v55 hw5 t v150 v151 c16_i32 v153 v160 v162 c0_i32_90 a0 hs (ent lst t.val) (ent lst (t.val + 3)) c6 c7 hc hc hc hc hc hl w r L
        (accF c w r lst acc0 t.val) q hL1 hL2 W)
      iframe
    iintro %_ ⟨Hslot, HL, Hr, Hacc, HO⟩
    isplitl [Hslot Hrest]
    · iapply (Ring.AtW_update (σ := fun _ => Option EW) (fun k s => slotSt c w.fa w.fb w.fu w.fd k s) (ringSt lst t.val))
      isplitl [Hslot]
      · iexact Hslot
      iexact Hrest
    isplitl [HL]; · iexact HL
    isplitl [Hr]; · iexact Hr
    isplitl [Hacc]; · iexact Hacc
    isplitl [Hout]
    · iexact Hout
    iexact HO
  · have hc : ¬ k0_cond3 v55 t = 1#1 := by rw [cond3_of v55 hv t]; omega
    rw [ringSt_succ, if_neg h3, ← hk]
    by_cases h1 : t.val + 1 = lst.length
    · have hl : Scalar.cmpi .ne (Scalar.extui (Scalar.cmpi .eq (Scf.iv 0#32 1#32 t) (Scalar.subi v55 1#32)) : BitVec 32) 0#32 = 1#1 := by
        rw [last_of v55 hv t]; omega
      have hi : lst.length - 1 = t.val := by omega
      rw [outPart, outPart, if_pos ht, if_neg (by omega)]
      unfold outLast
      rw [hi, ← hk]
      iintro ⟨⟨Hslot, Hrest⟩, HL, Hr, Hacc, ⟨HsY, HY0, HY1, HY2, HY3, Hout⟩, ⟨%W, HO⟩⟩
      iapply (wp_wand_r Idealize.ShloMosaic.frame (wpE (defs₀ (F := F)) Variants.none (c : Thread nD τ) none) Set.univ)
      isplitl [Hslot HL Hr Hacc HO HsY HY0 HY1 HY2 HY3 Hout]
      · iapply (trip_last c v55 hw5 t v150 v151 c16_i32 v153 v160 v162 c0_i32_90 a0 hs (ent lst t.val) _ c6 c7 hc hc hc hc hc hl w r L
          (accF c w r lst acc0 t.val) q hL1 hL2 W yv y xcH q2)
        iframe
      iintro %_ ⟨Hslot, HL, Hr, Hacc, Hout, HO⟩
      isplitl [Hslot Hrest]
      · iapply (Ring.AtW_update (σ := fun _ => Option EW) (fun k s => slotSt c w.fa w.fb w.fu w.fd k s) (ringSt lst t.val))
        isplitl [Hslot]
        · iexact Hslot
        iexact Hrest
      isplitl [HL]; · iexact HL
      isplitl [Hr]; · iexact Hr
      isplitl [Hacc]; · iexact Hacc
      isplitl [Hout]
      · iexact Hout
      iexact HO
    · have hl : ¬ Scalar.cmpi .ne (Scalar.extui (Scalar.cmpi .eq (Scf.iv 0#32 1#32 t) (Scalar.subi v55 1#32)) : BitVec 32) 0#32 = 1#1 := by
        rw [last_of v55 hv t]; omega
      rw [show outPart c w r lst acc0 q2 yv y xcH (t.val + 1) = outPart c w r lst acc0 q2 yv y xcH t.val by rw [outPart, outPart, if_pos ht, if_pos (by omega)]]
      iintro ⟨⟨Hslot, Hrest⟩, HL, Hr, Hacc, Hout, ⟨%W, HO⟩⟩
      iapply (wp_wand_r Idealize.ShloMosaic.frame (wpE (defs₀ (F := F)) Variants.none (c : Thread nD τ) none) Set.univ)
      isplitl [Hslot HL Hr Hacc HO]
      · iapply (trip_mid c v55 hw5 t v150 v151 c16_i32 v153 v160 v162 c0_i32_90 a0 hs (ent lst t.val) _ c6 c7 hc hc hc hc hc hl w r L
          (accF c w r lst acc0 t.val) q hL1 hL2 W)
        iframe
      iintro %_ ⟨Hslot, HL, Hr, Hacc, HO⟩
      isplitl [Hslot Hrest]
      · iapply (Ring.AtW_update (σ := fun _ => Option EW) (fun k s => slotSt c w.fa w.fb w.fu w.fd k s) (ringSt lst t.val))
        isplitl [Hslot]
        · iexact Hslot
        iexact Hrest
      isplitl [HL]; · iexact HL
      isplitl [Hr]; · iexact Hr
      isplitl [Hacc]; · iexact Hacc
      isplitl [Hout]
      · iexact Hout
      iexact HO

/-- The expert loop by its invariant. -/
@[instance_reducible] def loopInv3 :
    Gen.LoopInvTy_k0_t3 (F := F) Unit ℕ (Pipeline.UD sig nD τ) ℕ Variants.none c none Set.univ (Memref.whole main_v0) (Memref.isWhole_whole _) (Memref.whole main_v2) (Memref.isWhole_whole _) (Memref.whole main_v4) (Memref.isWhole_whole _) (Memref.whole main_v6) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v8) (Memref.isWhole_whole _) (Memref.whole main_v9) (Memref.isWhole_whole _) (Memref.whole main_v10_0) (Memref.isWhole_whole _) (Memref.whole main_v10_1) (Memref.isWhole_whole _) (Memref.whole main_v10_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 v55 hw5 v150 v151 c16_i32 v153 v160 v162 c0_i32_90 0#32 where
  inv i _ := inv3 c w r lst acc0 L q q2 yv y xcH i
  step t a0 := trip3 c w r lst acc0 L q q2 yv y xcH v55 hw5 v150 v151 c16_i32 v153 v160 v162 c0_i32_90 hn hlen hlt hL t a0

end Loop

attribute [irreducible] inv3

end Cert.KernelIdeal.Hand

end
-- ==== Proof.Small.lean ====
/-
  Names for the copies of the small inputs and of the scales.
-/
module

public import proofs.«01_k».proof.Proof.Loop

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

/-- Cell `j` of the four small inputs' copies. -/
theorem inb4 (j : Fin 4) : ∀ a, (![j.val] : Fin 1 → Nat) a + S1.size a ≤ S4.size a := by
  have := j.isLt; intro a; fin_cases a; show j.val + 1 ≤ 4; omega
abbrev cellS (j : Fin 4) : SemLoc sig := SemLoc.dma ((cc0_scratch19.slice (Rect.unit (s := S4) ![j.val] S1.size (inb4 j))).squeeze S_ squeezes_S1_S_).sem
abbrev cellI : SemLoc sig := SemLoc.dma cc0_scratch18.sem
abbrev cellK : SemLoc sig := SemLoc.dma cc0_scratch20.sem
abbrev cellX : SemLoc sig := SemLoc.dma cc0_scratch25.sem

/-- An array held at a share. -/
abbrev ptq (c : Dev nD) {sp : Space} {S : Shape} {e : EltTy} (M : Memref sig .tc sp S e) (q : PosShare TreeShare) (f : BufOf F c M) : sProp 𝕄 :=
  M.view.loc (c : Thread nD τ) ↦{q} f

/-- What a whole buffer holds once a copy of `v` has landed in it. -/
abbrev lnd (c : Dev nD) {sp : Space} {S : Shape} {e : EltTy} (M : Memref sig .tc sp S e) (f₀ : BufOf F c M) (v : Vec F S e) : BufOf F c M :=
  M.view.write (Elt F) f₀ (ReadAs.same.apply v) Finset.univ

/-- The two scale copies' amounts and deliveries. -/
abbrev scAmt : Fin 2 → ℕ := ![5632, 16384]
def scDel (c : Dev nD) (us : BufOf F c mUps) (ds : BufOf F c mDns) (f₀ : BufOf F c sUps) (f₁ : BufOf F c sDns) : Fin 2 → sProp 𝕄
  | 0 => iprop(pt c sUps (lnd c sUps f₀ (mUps.view.read (Elt F) us)) ∗ ptS c mUps us)
  | 1 => iprop(pt c sDns (lnd c sDns f₁ (mDns.view.read (Elt F) ds)) ∗ ptS c mDns ds)
instance scDel_storable (c : Dev nD) (us : BufOf F c mUps) (ds : BufOf F c mDns) (f₀ : BufOf F c sUps) (f₁ : BufOf F c sDns) (t : Fin 2) :
    Storable (upEmb : UEmb _ 𝕄) (scDel c us ds f₀ f₁ t) := by
  fin_cases t <;> simp only [scDel] <;> infer_instance
abbrev scBatch (c : Dev nD) (us : BufOf F c mUps) (ds : BufOf F c mDns) (f₀ : BufOf F c sUps) (f₁ : BufOf F c sDns) (j : ℕ) : sProp 𝕄 :=
  Transfers.MixedBatch (countersEmb (U := Pipeline.UD sig nD τ)) (c : Thread nD τ) cellK () scAmt (scDel c us ds f₀ f₁) j 0

end Cert.KernelIdeal.Hand

end
-- ==== Proof.Windows.lean ====
/-
  Buffers held whole and held window by window.
-/
module

public import proofs.«01_k».proof.Proof.Small

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

omit [FloatOps F] in
/-- A buffer held whole at some contents is held block by block, each block at some contents. -/
theorem ex_blocks {ℓ : Loc nD τ sig} {B : Type} [Fintype B] [DecidableEq B] (I : B → Finset (Idx ℓ))
    (hd : ∀ b b', b ≠ b' → Disjoint (I b) (I b')) (hc : Finset.univ.biUnion I = Finset.univ) (f₀ : Buf (Elt F) ℓ) :
    (iprop(∃ f : Buf (Elt F) ℓ, ℓ ↦{fullShare} f) : sProp 𝕄) = bigSep Finset.univ fun b => iprop(∃ f : Buf (Elt F) ℓ, ℓ ↦[I b]{fullShare} f) := by
  have hm : ∀ f : Buf (Elt F) ℓ, (bigSep Finset.univ fun b => (ℓ ↦[I b]{fullShare} f : sProp 𝕄)) ⊢ bigSep Finset.univ fun b => iprop(∃ f : Buf (Elt F) ℓ, ℓ ↦[I b]{fullShare} f) :=
    fun f => bigSep_mono (fun b _ => by
      show (ℓ ↦[I b]{fullShare} f : sProp 𝕄) ⊢ iprop(∃ f : Buf (Elt F) ℓ, ℓ ↦[I b]{fullShare} f)
      iintro H; iexists f; iexact H)
  have h1 : (iprop(∃ f : Buf (Elt F) ℓ, ℓ ↦{fullShare} f) : sProp 𝕄) ⊢ bigSep Finset.univ fun b => iprop(∃ f : Buf (Elt F) ℓ, ℓ ↦[I b]{fullShare} f) := by
    iintro ⟨%f, H⟩
    iapply (hm f)
    irw [← Ring.pointsTo_blocks (q := fullShare) I hd hc f]
    iexact H
  exact Idealize.SL.BI.Entails.antisymm h1 (Ring.pointsTo_blocks_join_exists I hd hc f₀)

theorem setA (k : Fin 3) : (slotA k).view.set = (Rect.unit (s := S3x128x4096) ![k.val, 0, 0] S1x128x4096.size (inbA k)).set := by
  unfold slotA; simp
theorem setB (k : Fin 3) : (slotB k).view.set = (Rect.unit (s := S3x128x1408) ![k.val, 0, 0] S1x128x1408.size (inbB k)).set := by
  unfold slotB; simp
theorem setU (k : Fin 3) : (slotU k).view.set = (Rect.unit (s := S3x4096x1408) ![k.val, 0, 0] S1x4096x1408.size (inbU k)).set := by
  unfold slotU; simp
theorem setD (k : Fin 3) (o : ℕ) (ho : o + 1024 ≤ 4096) : (slotD k o ho).view.set = (Rect.unit (s := S3x1408x4096) ![k.val, 0, o] S1x1408x1024.size (inbD k o ho)).set := by
  unfold slotD; simp
theorem setY (o : ℕ) (ho : o + 1024 ≤ 4096) : (mYw o ho).view.set = (colW o ho).set := by
  simp
theorem setSY (o : ℕ) (ho : o + 1024 ≤ 4096) : (sYw o ho).view.set = (colW o ho).set := by
  simp

theorem exA (c : Dev nD) : (iprop(∃ f, pt c sA f) : sProp 𝕄) = iprop((∃ f, ptS c (slotA 0) f) ∗ (∃ f, ptS c (slotA 1) f) ∗ (∃ f, ptS c (slotA 2) f)) := by
  have h := ex_blocks (F := F) (ℓ := sA.view.loc (c : Thread nD τ)) (fun k : Fin 3 => (Rect.unit (s := S3x128x4096) ![k.val, 0, 0] S1x128x4096.size (inbA k)).set)
    (Ring.lead_disjoint (s := S3x128x4096) (0 : Fin 3) 1 _ _ _ (fun b => by simp) rfl)
    (Ring.lead_cover (s := S3x128x4096) (0 : Fin 3) 1 _ _ _ (fun b => by simp) (fun b a ha => by fin_cases a <;> first | exact absurd rfl ha | rfl) rfl (fun a ha => by fin_cases a <;> first | exact absurd rfl ha | rfl) rfl)
    (sA.view.junk)
  rw [Ring.bigSep_fin3] at h
  refine h.trans ?_
  unfold ptS
  rw [setA, setA, setA]
  rfl

theorem exB (c : Dev nD) : (iprop(∃ f, pt c sB f) : sProp 𝕄) = iprop((∃ f, ptS c (slotB 0) f) ∗ (∃ f, ptS c (slotB 1) f) ∗ (∃ f, ptS c (slotB 2) f)) := by
  have h := ex_blocks (F := F) (ℓ := sB.view.loc (c : Thread nD τ)) (fun k : Fin 3 => (Rect.unit (s := S3x128x1408) ![k.val, 0, 0] S1x128x1408.size (inbB k)).set)
    (Ring.lead_disjoint (s := S3x128x1408) (0 : Fin 3) 1 _ _ _ (fun b => by simp) rfl)
    (Ring.lead_cover (s := S3x128x1408) (0 : Fin 3) 1 _ _ _ (fun b => by simp) (fun b a ha => by fin_cases a <;> first | exact absurd rfl ha | rfl) rfl (fun a ha => by fin_cases a <;> first | exact absurd rfl ha | rfl) rfl)
    (sB.view.junk)
  rw [Ring.bigSep_fin3] at h
  refine h.trans ?_
  unfold ptS
  rw [setB, setB, setB]
  rfl
theorem exU (c : Dev nD) : (iprop(∃ f, pt c sUp f) : sProp 𝕄) = iprop((∃ f, ptS c (slotU 0) f) ∗ (∃ f, ptS c (slotU 1) f) ∗ (∃ f, ptS c (slotU 2) f)) := by
  have h := ex_blocks (F := F) (ℓ := sUp.view.loc (c : Thread nD τ)) (fun k : Fin 3 => (Rect.unit (s := S3x4096x1408) ![k.val, 0, 0] S1x4096x1408.size (inbU k)).set)
    (Ring.lead_disjoint (s := S3x4096x1408) (0 : Fin 3) 1 _ _ _ (fun b => by simp) rfl)
    (Ring.lead_cover (s := S3x4096x1408) (0 : Fin 3) 1 _ _ _ (fun b => by simp) (fun b a ha => by fin_cases a <;> first | exact absurd rfl ha | rfl) rfl (fun a ha => by fin_cases a <;> first | exact absurd rfl ha | rfl) rfl)
    (sUp.view.junk)
  rw [Ring.bigSep_fin3] at h
  refine h.trans ?_
  unfold ptS
  rw [setU, setU, setU]
  rfl

/-- Column window `j` of slot `k` of the down weights. -/
theorem hoD (j : Fin 4) : 1024 * j.val + 1024 ≤ 4096 := by omega
theorem memD (k : Fin 3) (j : Fin 4) (i : S3x1408x4096.Idx) :
    i ∈ (Rect.unit (s := S3x1408x4096) ![k.val, 0, 1024 * j.val] S1x1408x1024.size (inbD k _ (hoD j))).set ↔ (i 0).val = k.val ∧ (i 2).val / 1024 = j.val := by
  rw [Rect.mem_set_unit]
  constructor
  · intro h
    have h0 : k.val ≤ (i 0).val ∧ (i 0).val < k.val + 1 := h 0
    have h2 : 1024 * j.val ≤ (i 2).val ∧ (i 2).val < 1024 * j.val + 1024 := h 2
    omega
  · intro h a
    have h1 : (i 1).val < 1408 := (i 1).isLt
    fin_cases a
    · show k.val ≤ (i 0).val ∧ (i 0).val < k.val + 1; omega
    · show 0 ≤ (i 1).val ∧ (i 1).val < 0 + 1408; omega
    · show 1024 * j.val ≤ (i 2).val ∧ (i 2).val < 1024 * j.val + 1024; omega

theorem exD (c : Dev nD) : (iprop(∃ f, pt c sDn f) : sProp 𝕄)
    = iprop(((∃ f, ptS c (slotD 0 0 o0) f) ∗ (∃ f, ptS c (slotD 0 1024 o1) f) ∗ (∃ f, ptS c (slotD 0 2048 o2) f) ∗ (∃ f, ptS c (slotD 0 3072 o3) f))
      ∗ ((∃ f, ptS c (slotD 1 0 o0) f) ∗ (∃ f, ptS c (slotD 1 1024 o1) f) ∗ (∃ f, ptS c (slotD 1 2048 o2) f) ∗ (∃ f, ptS c (slotD 1 3072 o3) f))
      ∗ ((∃ f, ptS c (slotD 2 0 o0) f) ∗ (∃ f, ptS c (slotD 2 1024 o1) f) ∗ (∃ f, ptS c (slotD 2 2048 o2) f) ∗ (∃ f, ptS c (slotD 2 3072 o3) f))) := by
  have h := ex_blocks (F := F) (ℓ := sDn.view.loc (c : Thread nD τ)) (fun b : Fin 3 × Fin 4 => (Rect.unit (s := S3x1408x4096) ![b.1.val, 0, 1024 * b.2.val] S1x1408x1024.size (inbD b.1 _ (hoD b.2))).set)
    (fun b b' hb => by
      rw [Finset.disjoint_left]
      intro i hi hi'
      have h1 := (memD b.1 b.2 i).1 hi
      have h2 := (memD b'.1 b'.2 i).1 hi'
      exact hb (Prod.ext (Fin.ext (by omega)) (Fin.ext (by omega))))
    (by
      ext i
      simp only [Finset.mem_biUnion, Finset.mem_univ, true_and, iff_true]
      have h0 : (i 0).val < 3 := (i 0).isLt
      have h2 : (i 2).val < 4096 := (i 2).isLt
      exact ⟨(⟨(i 0).val, h0⟩, ⟨(i 2).val / 1024, by omega⟩), (memD _ _ i).2 ⟨rfl, rfl⟩⟩)
    (sDn.view.junk)
  rw [bigSep_univ_prod, Ring.bigSep_fin3] at h
  have h4 : ∀ Φ : Fin 4 → sProp 𝕄, bigSep Finset.univ Φ = iprop(Φ 0 ∗ Φ 1 ∗ Φ 2 ∗ Φ 3) := fun Φ => bigSep_univ_eq_bigSepL [0, 1, 2, 3] (by decide) (by decide) Φ
  rw [h4, h4, h4] at h
  refine h.trans ?_
  unfold ptS
  simp only [setD]
  rfl

/-- The four column windows of a 32 × 4096 array: disjoint, and all of it. -/
theorem colDisj : ∀ b b' : Fin 4, b ≠ b' → Disjoint (colW (1024 * b.val) (hoD b)).set (colW (1024 * b'.val) (hoD b')).set :=
  Ring.lead_disjoint (s := S32x4096) (1 : Fin 2) 1024 _ _ _ (fun b => rfl) rfl
theorem colCover : Finset.univ.biUnion (fun b : Fin 4 => (colW (1024 * b.val) (hoD b)).set) = Finset.univ :=
  Ring.lead_cover (s := S32x4096) (1 : Fin 2) 1024 _ _ _ (fun b => rfl) (fun b a ha => by fin_cases a <;> first | exact absurd rfl ha | rfl) rfl (fun a ha => by fin_cases a <;> first | exact absurd rfl ha | rfl) rfl

/-- The result array at one contents is its four windows at it. -/
theorem colsY (c : Dev nD) (f : BufOf F c mY) :
    pt c mY f = iprop(ptS c (mYw 0 o0) f ∗ ptS c (mYw 1024 o1) f ∗ ptS c (mYw 2048 o2) f ∗ ptS c (mYw 3072 o3) f) := by
  have h := Ring.pointsTo_blocks (Ix := Unit) (Val := Elt F) (Name := ℕ) (Lvl := ℕ) (U := Pipeline.UD sig nD τ) (q := fullShare) (ℓ := mY.view.loc (c : Thread nD τ)) (fun b : Fin 4 => (colW (1024 * b.val) (hoD b)).set) colDisj colCover f
  rw [bigSep_univ_eq_bigSepL [0, 1, 2, 3] (by decide) (by decide)] at h
  refine h.trans ?_
  unfold ptS
  rw [setY, setY, setY, setY]
  rfl
/-- The staging buffer at anything is its four windows at anything. -/
theorem colsSY (c : Dev nD) : (iprop(∃ f, pt c sY f) : sProp 𝕄)
    = iprop((∃ f, ptS c (sYw 0 o0) f) ∗ (∃ f, ptS c (sYw 1024 o1) f) ∗ (∃ f, ptS c (sYw 2048 o2) f) ∗ (∃ f, ptS c (sYw 3072 o3) f)) := by
  have h := ex_blocks (F := F) (ℓ := sY.view.loc (c : Thread nD τ)) (fun b : Fin 4 => (colW (1024 * b.val) (hoD b)).set) colDisj colCover (sY.view.junk)
  rw [bigSep_univ_eq_bigSepL [0, 1, 2, 3] (by decide) (by decide)] at h
  refine h.trans ?_
  unfold ptS
  rw [setSY, setSY, setSY, setSY]
  rfl

/-- An array in three read shares and a rest. -/
theorem toks3 (c : Dev nD) {sp : Space} {S : Shape} {e : EltTy} (M : Memref sig .tc sp S e) (f : BufOf F c M) :
    pt c M f = iprop(ptq c M (Transfers.shareDrop fullShare 3) f ∗ tok c M 0 Finset.univ f ∗ tok c M 1 Finset.univ f ∗ tok c M 2 Finset.univ f) := by
  have h := Idealize.SL.BI.Entails.antisymm (Transfers.pointsTo_toks (Ix := Unit) (Name := ℕ) (Lvl := ℕ) (U := Pipeline.UD sig nD τ) (ℓ := M.view.loc (c : Thread nD τ)) (S := Finset.univ) (f := f) fullShare 3).1 (Transfers.pointsTo_toks fullShare 3).2
  rw [Ring.bigSep_fin3] at h
  exact h
/-- The down weights in twelve read shares and a rest. -/
theorem toks12 (c : Dev nD) (f : BufOf F c mDn) :
    pt c mDn f = iprop(ptq c mDn (Transfers.shareDrop fullShare 12) f
      ∗ tokD c mDn 0 0 Finset.univ f ∗ tokD c mDn 0 1 Finset.univ f ∗ tokD c mDn 0 2 Finset.univ f ∗ tokD c mDn 0 3 Finset.univ f
      ∗ tokD c mDn 1 0 Finset.univ f ∗ tokD c mDn 1 1 Finset.univ f ∗ tokD c mDn 1 2 Finset.univ f ∗ tokD c mDn 1 3 Finset.univ f
      ∗ tokD c mDn 2 0 Finset.univ f ∗ tokD c mDn 2 1 Finset.univ f ∗ tokD c mDn 2 2 Finset.univ f ∗ tokD c mDn 2 3 Finset.univ f) := by
  have h := Idealize.SL.BI.Entails.antisymm (Transfers.pointsTo_toks (Ix := Unit) (Name := ℕ) (Lvl := ℕ) (U := Pipeline.UD sig nD τ) (ℓ := mDn.view.loc (c : Thread nD τ)) (S := Finset.univ) (f := f) fullShare 12).1 (Transfers.pointsTo_toks fullShare 12).2
  rw [bigSep_univ_eq_bigSepL [0, 1, 2, 3, 4, 5, 6, 7, 8, 9, 10, 11] (by decide) (by decide)] at h
  exact h

end Cert.KernelIdeal.Hand

end
-- ==== Proof.P19.lean ====
module

public import proofs.«01_k».proof.Proof.Small

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

/-- A view's own elements held at a share. -/
abbrev ptSq (c : Dev nD) {sp : Space} {S : Shape} {e : EltTy} (M : Memref sig .tc sp S e) (q : PosShare TreeShare) (f : BufOf F c M) : sProp 𝕄 :=
  M.view.loc (c : Thread nD τ) ↦[M.view.set]{q} f

/-- The list of experts, given the first and the words of the ids buffer. -/
abbrev lstOf (c : Dev nD) (e : EW) (ids : BufOf F c sIdsW) : List ℕ := lstAt e.1 (presAt c ids 256) 32
/-- The list's buffer and count hold the list. -/
abbrev ListOK (c : Dev nD) (e : EW) (ids : BufOf F c sIdsW) (L : BufOf F c sList) (n : BitVec 32) : Prop :=
  n.toNat = (lstOf c e ids).length ∧ ∀ j (hj : j < (lstOf c e ids).length), cellsL c L (Fin.ofNat 33 j) = BitVec.ofNat 32 (lstOf c e ids)[j]
abbrev flX (c : Dev nD) (x : BufOf F c mX) (f0 : BufOf F c sX) : sProp 𝕄 :=
  Transfers.Flight (countersEmb (U := Pipeline.UD sig nD τ)) (c : Thread nD τ) (cellS 0) () 8192 iprop(pt c sX (lnd c sX f0 (mX.view.read (Elt F) x)) ∗ ptS c mX x)
abbrev flI (c : Dev nD) (i : BufOf F c mIds) (f0 : BufOf F c sIds) (q : PosShare TreeShare) : sProp 𝕄 :=
  Transfers.Flight (countersEmb (U := Pipeline.UD sig nD τ)) (c : Thread nD τ) (cellS 1) () 128 iprop(pt c sIds (lnd c sIds f0 (mIds.view.read (Elt F) i)) ∗ ptSq c mIds q i)
abbrev flG (c : Dev nD) (x : BufOf F c mGates) (f0 : BufOf F c sGates) : sProp 𝕄 :=
  Transfers.Flight (countersEmb (U := Pipeline.UD sig nD τ)) (c : Thread nD τ) (cellS 2) () 128 iprop(pt c sGates (lnd c sGates f0 (mGates.view.read (Elt F) x)) ∗ ptS c mGates x)
abbrev flA (c : Dev nD) (x : BufOf F c mAid) (f0 : BufOf F c sAid) : sProp 𝕄 :=
  Transfers.Flight (countersEmb (U := Pipeline.UD sig nD τ)) (c : Thread nD τ) (cellS 3) () 16 iprop(pt c sAid (lnd c sAid f0 (mAid.view.read (Elt F) x)) ∗ ptS c mAid x)
/-- What the scratch copy of `x` holds once it has landed, as the kernel loads it. -/
abbrev xLoad (c : Dev nD) (xs : BufOf F c sX) : Vec F S32x4096 .bf16 :=
  sX.view.readAt (Elt F) (Rect.unit (s := S32x4096) ![0, 0] S32x4096.size inb_S32x4096_S32x4096_0_0).toLoadRect xs
def post19 (c : Dev nD) (w : Wts F c) (e : EW) (ids : BufOf F c sIdsW)
   (x : BufOf F c mX) (i : BufOf F c mIds) (g : BufOf F c mGates) (ad : BufOf F c mAid) (qi : PosShare TreeShare)
   (f0 : BufOf F c sX) (f1 : BufOf F c sIds) (f2 : BufOf F c sGates) (f3 : BufOf F c sAid) (res : (Σ' (v55 : BitVec 32) (k0_hw5 : k0_chk5 v55) (v71 : FVec F S32x4096 .f32) (v76 : FVec F S32x1 .f32), IVec S1x255 32)) : sProp 𝕄 :=
  iprop(∃ L, ⌜ListOK c e ids L res.1 ∧ res.2.2.1 = k0_pay37 (xLoad c (lnd c sX f0 (mX.view.read (Elt F) x))) ∧ res.2.2.2.1 = k0_pay38 (xLoad c (lnd c sX f0 (mX.view.read (Elt F) x))) ∧ res.2.2.2.2 = k0_pay39⌝
    ∗ pt c sIdsW ids ∗ pt c sList L ∗ slotSt c w.fa w.fb w.fu w.fd 1 (ringSt (lstOf c e ids) 0 1) ∗ slotSt c w.fa w.fb w.fu w.fd 2 (ringSt (lstOf c e ids) 0 2)
    ∗ (pt c sX (lnd c sX f0 (mX.view.read (Elt F) x)) ∗ ptS c mX x ∗ semVal ((c : Thread nD τ), cellS 0) 0)
    ∗ (pt c sIds (lnd c sIds f1 (mIds.view.read (Elt F) i)) ∗ ptSq c mIds qi i ∗ semVal ((c : Thread nD τ), cellS 1) 0)
    ∗ (pt c sGates (lnd c sGates f2 (mGates.view.read (Elt F) g)) ∗ ptS c mGates g ∗ semVal ((c : Thread nD τ), cellS 2) 0)
    ∗ (pt c sAid (lnd c sAid f3 (mAid.view.read (Elt F) ad)) ∗ ptS c mAid ad ∗ semVal ((c : Thread nD τ), cellS 3) 0)
    ∗ ∃ W', owes (c : Thread nD τ) 0 W')

set_option sl_exec.respelt true
set_option maxHeartbeats 40000000 in
theorem p19 (c : Dev nD) (w : Wts F c) (e : EW) (ids : BufOf F c sIdsW) (l0 : BufOf F c sList) (W : Waits sig Unit)
   (x : BufOf F c mX) (i : BufOf F c mIds) (g : BufOf F c mGates) (ad : BufOf F c mAid) (qi : PosShare TreeShare)
   (f0 : BufOf F c sX) (f1 : BufOf F c sIds) (f2 : BufOf F c sGates) (f3 : BufOf F c sAid) :
   iprop(pt c sIdsW ids ∗ pt c sList l0 ∗ slotSt c w.fa w.fb w.fu w.fd 1 none ∗ slotSt c w.fa w.fb w.fu w.fd 2 none
      ∗ flX c x f0 ∗ flI c i f1 qi ∗ flG c g f2 ∗ flA c ad f3
      ∗ owes (c : Thread nD τ) 0 W)
    ⊢ wp frame (wpE (defs₀ (F := F)) Variants.none (c : Thread nD τ) none) Set.univ (k0_part19 (F := F) (Memref.whole main_v0) (Memref.isWhole_whole _) (Memref.whole main_v2) (Memref.isWhole_whole _) (Memref.whole main_v4) (Memref.isWhole_whole _) (Memref.whole main_v6) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v8) (Memref.isWhole_whole _) (Memref.whole main_v9) (Memref.isWhole_whole _) (Memref.whole main_v10_0) (Memref.isWhole_whole _) (Memref.whole main_v10_1) (Memref.isWhole_whole _) (Memref.whole main_v10_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 e.1 0#32)
      (fun res => post19 c w e ids x i g ad qi f0 f1 f2 f3 res) := by
  unfold slotSt
  iintro ⟨Hw, HL, K1, K2, C0, C1, C2, C3, HO⟩
  have hf := e.2
  have hlen := lstAt_length e.1 (presAt c ids 256) hf 32 (by omega)
  have hlt : ∀ k ∈ lstOf c e ids, k < 32 := lstAt_lt e.1 (presAt c ids 256) hf 32 (by omega)
  unfold k0_part19
  set_option sl_exec.stopBefore "k0_cond1" in sl_exec
  rename_i n
  have h256 : Scf.trips k0_t1_loop.lb k0_t1_loop.ub k0_t1_loop.st = 256 := by decide
  rw [h256] at hL4
  have h0 : cellsL c (sList.view.writes (Elt F) l0 [⟨Rect.unit (s := S33) ![0] S1.size inb_S33_S1_0, fun _ => e.1⟩]) 0 = e.1 := by
    refine (congrFun (CellWrites.SmemRing.cells_writes_cons sList l0 ![0] inb_S33_S1_0 (by decide) e.1 []) 0).trans ?_
    exact Function.update_self _ _ _
  have hOK : ListOK c e ids LL0 n := ⟨hL4.1, hL4.2 h0⟩
  have hLr := fun (off : Fin 1 → ℕ) (j : ℕ) => list_read c (lstOf c e ids) LL0 hlen hlt hOK.2 off j
  have hr1 := fun h inb => hLr ![1] 1 rfl h inb
  have hr2 := fun h inb => hLr ![2] 2 rfl h inb
  have q1 : k0_chk3 n (ent (lstOf c e ids) 1).1 := chk3_of _ _ (ent _ _).2
  have q2 : k0_chk4 n (ent (lstOf c e ids) 2).1 := chk4_of _ _ (ent _ _).2
  have hn33 : n.toNat < 33 := by have := hOK.1; omega
  have hnl := hOK.1
  by_cases h2 : 2 < (lstOf c e ids).length
  · skip
    have hc1 : k0_cond1 n = 1#1 := (cond1_of n hn33).2 (by omega)
    have hc2 : k0_cond2 n = 1#1 := (cond2_of n hn33).2 (by omega)
    replace hr1 := hr1 (by omega)
    icases K1 with ⟨CA1, CU1, ⟨%fA1, SA1⟩, ⟨%fB1, SB1⟩, ⟨%fU1, SU1⟩, Ta1, Tb1, Tu1, ⟨CD01, ⟨%g01, SD01⟩, Td01⟩, ⟨CD11, ⟨%g11, SD11⟩, Td11⟩, ⟨CD21, ⟨%g21, SD21⟩, Td21⟩, ⟨CD31, ⟨%g31, SD31⟩, Td31⟩⟩
    imod (Transfers.mixedBatch_alloc' (Lvl := ℕ) (countersEmb (U := Pipeline.UD sig nD τ)) (c : Thread nD τ) () adAmt (adDel c 1 (ent (lstOf c e ids) 1) w.fa w.fb fA1 fB1) (sm := cellA 1) (E := Set.univ)) $$ CA1 with HA1
    replace hr2 := hr2 (by omega)
    icases K2 with ⟨CA2, CU2, ⟨%fA2, SA2⟩, ⟨%fB2, SB2⟩, ⟨%fU2, SU2⟩, Ta2, Tb2, Tu2, ⟨CD02, ⟨%g02, SD02⟩, Td02⟩, ⟨CD12, ⟨%g12, SD12⟩, Td12⟩, ⟨CD22, ⟨%g22, SD22⟩, Td22⟩, ⟨CD32, ⟨%g32, SD32⟩, Td32⟩⟩
    imod (Transfers.mixedBatch_alloc' (Lvl := ℕ) (countersEmb (U := Pipeline.UD sig nD τ)) (c : Thread nD τ) () adAmt (adDel c 2 (ent (lstOf c e ids) 2) w.fa w.fb fA2 fB2) (sm := cellA 2) (E := Set.univ)) $$ CA2 with HA2
    have hS1 : infl c w.fa w.fb w.fu w.fd 1 (ent (lstOf c e ids) 1) ⊢ slotSt c w.fa w.fb w.fu w.fd 1 (ringSt (lstOf c e ids) 0 1) := by
      rw [show ringSt (lstOf c e ids) 0 1 = some (ent (lstOf c e ids) 1) from if_pos (show 1 < _ by omega)]; exact .rfl
    have hS2 : infl c w.fa w.fb w.fu w.fd 2 (ent (lstOf c e ids) 2) ⊢ slotSt c w.fa w.fb w.fu w.fd 2 (ringSt (lstOf c e ids) 0 2) := by
      rw [show ringSt (lstOf c e ids) 0 2 = some (ent (lstOf c e ids) 2) from if_pos (show 2 < _ by omega)]; exact .rfl
    unfold adDel
    sl_exec
    sl_step
    unfold post19
    iexists LL0
    isplitl []
    · ipureintro; exact ⟨hOK, rfl, rfl, rfl⟩
    isplitl [Hw]; · iexact Hw
    isplitl [HL]; · iexact HL
    isplitl [HA1 CU1 Ta1 Tb1 Tu1 CD01 Td01 CD11 Td11 CD21 Td21 CD31 Td31]
    · skip
      iapply hS1
      isplitl [HA1]
      · iexists _, _; iexact HA1
      isplitl [CU1]
      · iexists _; iexact CU1
      isplitl [Ta1]
      · iexact Ta1
      isplitl [Tb1]
      · iexact Tb1
      isplitl [Tu1]
      · iexact Tu1
      isplitl [CD01 Td01]
      · isplitl [CD01]
        · iexists _; iexact CD01
        iexact Td01
      isplitl [CD11 Td11]
      · isplitl [CD11]
        · iexists _; iexact CD11
        iexact Td11
      isplitl [CD21 Td21]
      · isplitl [CD21]
        · iexists _; iexact CD21
        iexact Td21
      isplitl [CD31]
      · iexists _; iexact CD31
      iexact Td31
    isplitl [HA2 CU2 Ta2 Tb2 Tu2 CD02 Td02 CD12 Td12 CD22 Td22 CD32 Td32]
    · skip
      iapply hS2
      isplitl [HA2]
      · iexists _, _; iexact HA2
      isplitl [CU2]
      · iexists _; iexact CU2
      isplitl [Ta2]
      · iexact Ta2
      isplitl [Tb2]
      · iexact Tb2
      isplitl [Tu2]
      · iexact Tu2
      isplitl [CD02 Td02]
      · isplitl [CD02]
        · iexists _; iexact CD02
        iexact Td02
      isplitl [CD12 Td12]
      · isplitl [CD12]
        · iexists _; iexact CD12
        iexact Td12
      isplitl [CD22 Td22]
      · isplitl [CD22]
        · iexists _; iexact CD22
        iexact Td22
      isplitl [CD32]
      · iexists _; iexact CD32
      iexact Td32
    isplitl [C0 C0_dst C0_src]
    · isplitl [C0_dst]; · iexact C0_dst
      isplitl [C0_src]; · iexact C0_src
      iexact C0
    isplitl [C1 C1_dst C1_src]
    · isplitl [C1_dst]; · iexact C1_dst
      isplitl [C1_src]; · iexact C1_src
      iexact C1
    isplitl [C2 C2_dst C2_src]
    · isplitl [C2_dst]; · iexact C2_dst
      isplitl [C2_src]; · iexact C2_src
      iexact C2
    isplitl [C3 C3_dst C3_src]
    · isplitl [C3_dst]; · iexact C3_dst
      isplitl [C3_src]; · iexact C3_src
      iexact C3
    iexists _
    iexact HO
  by_cases h1 : 1 < (lstOf c e ids).length
  · skip
    have hc1 : k0_cond1 n = 1#1 := (cond1_of n hn33).2 (by omega)
    have hc2 : ¬ k0_cond2 n = 1#1 := by rw [cond2_of n hn33]; omega
    replace hr1 := hr1 (by omega)
    icases K1 with ⟨CA1, CU1, ⟨%fA1, SA1⟩, ⟨%fB1, SB1⟩, ⟨%fU1, SU1⟩, Ta1, Tb1, Tu1, ⟨CD01, ⟨%g01, SD01⟩, Td01⟩, ⟨CD11, ⟨%g11, SD11⟩, Td11⟩, ⟨CD21, ⟨%g21, SD21⟩, Td21⟩, ⟨CD31, ⟨%g31, SD31⟩, Td31⟩⟩
    imod (Transfers.mixedBatch_alloc' (Lvl := ℕ) (countersEmb (U := Pipeline.UD sig nD τ)) (c : Thread nD τ) () adAmt (adDel c 1 (ent (lstOf c e ids) 1) w.fa w.fb fA1 fB1) (sm := cellA 1) (E := Set.univ)) $$ CA1 with HA1
    have hS1 : infl c w.fa w.fb w.fu w.fd 1 (ent (lstOf c e ids) 1) ⊢ slotSt c w.fa w.fb w.fu w.fd 1 (ringSt (lstOf c e ids) 0 1) := by
      rw [show ringSt (lstOf c e ids) 0 1 = some (ent (lstOf c e ids) 1) from if_pos (show 1 < _ by omega)]; exact .rfl
    have hN2 : free c w.fa w.fb w.fu w.fd 2 ⊢ slotSt c w.fa w.fb w.fu w.fd 2 (ringSt (lstOf c e ids) 0 2) := by
      rw [show ringSt (lstOf c e ids) 0 2 = none from if_neg (show ¬ 2 < _ by omega)]; exact .rfl
    unfold adDel
    sl_exec
    sl_step
    unfold post19
    iexists LL0
    isplitl []
    · ipureintro; exact ⟨hOK, rfl, rfl, rfl⟩
    isplitl [Hw]; · iexact Hw
    isplitl [HL]; · iexact HL
    isplitl [HA1 CU1 Ta1 Tb1 Tu1 CD01 Td01 CD11 Td11 CD21 Td21 CD31 Td31]
    · skip
      iapply hS1
      isplitl [HA1]
      · iexists _, _; iexact HA1
      isplitl [CU1]
      · iexists _; iexact CU1
      isplitl [Ta1]
      · iexact Ta1
      isplitl [Tb1]
      · iexact Tb1
      isplitl [Tu1]
      · iexact Tu1
      isplitl [CD01 Td01]
      · isplitl [CD01]
        · iexists _; iexact CD01
        iexact Td01
      isplitl [CD11 Td11]
      · isplitl [CD11]
        · iexists _; iexact CD11
        iexact Td11
      isplitl [CD21 Td21]
      · isplitl [CD21]
        · iexists _; iexact CD21
        iexact Td21
      isplitl [CD31]
      · iexists _; iexact CD31
      iexact Td31
    isplitl [K2]
    · iapply hN2; iexact K2
    isplitl [C0 C0_dst C0_src]
    · isplitl [C0_dst]; · iexact C0_dst
      isplitl [C0_src]; · iexact C0_src
      iexact C0
    isplitl [C1 C1_dst C1_src]
    · isplitl [C1_dst]; · iexact C1_dst
      isplitl [C1_src]; · iexact C1_src
      iexact C1
    isplitl [C2 C2_dst C2_src]
    · isplitl [C2_dst]; · iexact C2_dst
      isplitl [C2_src]; · iexact C2_src
      iexact C2
    isplitl [C3 C3_dst C3_src]
    · isplitl [C3_dst]; · iexact C3_dst
      isplitl [C3_src]; · iexact C3_src
      iexact C3
    iexists _
    iexact HO
  have hc1 : ¬ k0_cond1 n = 1#1 := by rw [cond1_of n hn33]; omega
  have hc2 : ¬ k0_cond2 n = 1#1 := by rw [cond2_of n hn33]; omega
  have hN1 : free c w.fa w.fb w.fu w.fd 1 ⊢ slotSt c w.fa w.fb w.fu w.fd 1 (ringSt (lstOf c e ids) 0 1) := by
    rw [show ringSt (lstOf c e ids) 0 1 = none from if_neg (show ¬ 1 < _ by omega)]; exact .rfl
  have hN2 : free c w.fa w.fb w.fu w.fd 2 ⊢ slotSt c w.fa w.fb w.fu w.fd 2 (ringSt (lstOf c e ids) 0 2) := by
    rw [show ringSt (lstOf c e ids) 0 2 = none from if_neg (show ¬ 2 < _ by omega)]; exact .rfl
  sl_exec
  sl_step
  unfold post19
  iexists LL0
  isplitl []
  · ipureintro; exact ⟨hOK, rfl, rfl, rfl⟩
  isplitl [Hw]; · iexact Hw
  isplitl [HL]; · iexact HL
  isplitl [K1]
  · iapply hN1; iexact K1
  isplitl [K2]
  · iapply hN2; iexact K2
  isplitl [C0 C0_dst C0_src]
  · isplitl [C0_dst]; · iexact C0_dst
    isplitl [C0_src]; · iexact C0_src
    iexact C0
  isplitl [C1 C1_dst C1_src]
  · isplitl [C1_dst]; · iexact C1_dst
    isplitl [C1_src]; · iexact C1_src
    iexact C1
  isplitl [C2 C2_dst C2_src]
  · isplitl [C2_dst]; · iexact C2_dst
    isplitl [C2_src]; · iexact C2_src
    iexact C2
  isplitl [C3 C3_dst C3_src]
  · isplitl [C3_dst]; · iexact C3_dst
    isplitl [C3_src]; · iexact C3_src
    iexact C3
  iexists _
  iexact HO

end Cert.KernelIdeal.Hand

end
-- ==== Proof.P22.lean ====
/-
  From the mask to the first wait for the result: the expert loop in its place.
-/
module

public import proofs.«01_k».proof.Proof.P19

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

theorem ringSt_end (lst : List ℕ) : ringSt lst lst.length = fun _ => none := by
  funext k
  exact if_neg (by unfold nextFor; omega)

section

variable (c : Dev nD) (w : Wts F c) (r : Reads F c) (lst : List ℕ) (acc0 : BufOf F c sAcc) (L : BufOf F c sList) (q q2 : PosShare TreeShare)
    (yv : BufOf F c sY) (y : BufOf F c mY) (xcH : BufOf F c mXc) (v55 : BitVec 32) (hw5 : k0_chk5 v55)
    (hn : v55.toNat = lst.length) (hlen : lst.length ≤ 32) (hlt : ∀ e ∈ lst, e < 32)
    (hL : ∀ j (hj : j < lst.length), cellsL c L (Fin.ofNat 33 j) = BitVec.ofNat 32 lst[j])

/-- The expert loop's invariant, at the arguments that the loop's region does not read. -/
@[sl_loop, instance_reducible] def loopInv3u :
    Gen.LoopInvTy_k0_t3 (F := F) Unit ℕ (Pipeline.UD sig nD τ) ℕ Variants.none c none Set.univ (Memref.whole main_v0) (Memref.isWhole_whole _) (Memref.whole main_v2) (Memref.isWhole_whole _) (Memref.whole main_v4) (Memref.isWhole_whole _) (Memref.whole main_v6) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v8) (Memref.isWhole_whole _) (Memref.whole main_v9) (Memref.isWhole_whole _) (Memref.whole main_v10_0) (Memref.isWhole_whole _) (Memref.whole main_v10_1) (Memref.isWhole_whole _) (Memref.whole main_v10_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 v55 hw5
      (fun _ => 0#32) (fun _ => 0#32) 0#32 (fun _ => 0#32) (fun _ => 0#32) 0#32 0#32 0#32 :=
  loopInv3 c w r lst acc0 L q q2 yv y xcH v55 hw5 (fun _ => 0#32) (fun _ => 0#32) 0#32 (fun _ => 0#32) (fun _ => 0#32) 0#32 0#32 hn hlen hlt hL

/-- After the expert loop: an idle ring, every expert's share added, and the result's copies started. -/
instance exit3 : LoopExit (loopInv3u c w r lst acc0 L q q2 yv y xcH v55 hw5 hn hlen hlt hL) where
  post _ := iprop(ringAt c w (fun _ => none) ∗ pt c sList L ∗ readsPt c r q ∗ pt c sAcc (accF c w r lst acc0 lst.length) ∗ outLast c w r lst acc0 q2 yv y xcH 5
    ∗ ∃ W, owes (c : Thread nD τ) 0 W)
  exit acc := by
    show inv3 c w r lst acc0 L q q2 yv y xcH (k0_t3_loop v55).trips ⊢ _
    rw [trips_of v55 (by omega), hn]
    unfold inv3 outPart
    rw [ringSt_end, if_neg (by omega)]

end

/-- The mask's buffer and the accumulator's as they are first filled. -/
abbrev maskW (c : Dev nD) (v : FVec F S32x128 .f32) : BufOf F c sMask :=
  sMask.view.writes (Elt F) sMask.view.junk [⟨Rect.unit (s := S32x128) ![0, 0] S32x128.size inb_S32x128_S32x128_0_0, v⟩]
abbrev accW (c : Dev nD) : BufOf F c sAcc :=
  sAcc.view.writes (Elt F) sAcc.view.junk [⟨Rect.unit (s := S32x4096) ![0, 0] S32x4096.size inb_S32x4096_S32x4096_0_0, k0_pay49 (F := F)⟩]

/-- The out cell with all five transfers started and the codes' and one column window's amounts consumed. -/
abbrev outMid (c : Dev nD) (w : Wts F c) (r : Reads F c) (lst : List ℕ) (acc0 : BufOf F c sAcc) (q2 : PosShare TreeShare) (yv : BufOf F c sY) (y : BufOf F c mY) (xcH : BufOf F c mXc) : sProp 𝕄 :=
  Transfers.MixedBatch (countersEmb (U := Pipeline.UD sig nD τ)) (c : Thread nD τ) outCell () outAmt
    (outDel c w r (slotN (lst.length - 1)) (ent lst (lst.length - 1)) (accF c w r lst acc0 (lst.length - 1)) yv q2 xcH y) 5 6144

/-- The row scales' copy under way. -/
abbrev flXs (c : Dev nD) (xr : BufOf F c sXr) (f0 : BufOf F c mXs) : sProp 𝕄 :=
  Transfers.Flight (countersEmb (U := Pipeline.UD sig nD τ)) (c : Thread nD τ) cellX () 16 iprop(pt c mXs (lnd c mXs f0 (sXr.view.read (Elt F) xr)) ∗ ptS c sXr xr)

set_option sl_exec.respelt true
set_option maxHeartbeats 40000000 in
theorem p22 (c : Dev nD) (w : Wts F c) (lst : List ℕ) (L : BufOf F c sList) (q q2 : PosShare TreeShare)
    (us : BufOf F c mUps) (ds : BufOf F c mDns) (f4 : BufOf F c sUps) (f5 : BufOf F c sDns) (m0 : BufOf F c sMask) (a0 : BufOf F c sAcc)
    (ids : BufOf F c sIds) (gates : BufOf F c sGates) (x : BufOf F c sX) (xc : BufOf F c sXc) (xs : BufOf F c sXs) (xr : BufOf F c sXr) (xsH : BufOf F c mXs)
    (yv : BufOf F c sY) (y : BufOf F c mY) (xcH : BufOf F c mXc) (v55 : BitVec 32) (hw5 : k0_chk5 v55)
    (v150 : IVec S32x1 32) (v151 : IVec S32x128 32) (c16_i32 : BitVec 32) (v153 : IVec S32x128 32) (v160 : IVec S32x128 32) (v162 : BitVec 32) (c0_i32_90 : BitVec 32)
    (hn : v55.toNat = lst.length) (hpos : 0 < lst.length) (hlen : lst.length ≤ 32) (hlt : ∀ e ∈ lst, e < 32)
    (hL : ∀ j (hj : j < lst.length), cellsL c L (Fin.ofNat 33 j) = BitVec.ofNat 32 lst[j])
    (r : Reads F c) (hr : r = ⟨ids, gates, x, maskW c (k0_pay48 (F := F) v150 v151 c16_i32 v153 v160 v162 c0_i32_90), xc, xs, lnd c sUps f4 (mUps.view.read (Elt F) us), lnd c sDns f5 (mDns.view.read (Elt F) ds)⟩)
    (W : Waits sig Unit) :
   iprop(pt c sMask m0 ∗ pt c sAcc a0 ∗ scBatch c us ds f4 f5 2 ∗ ringAt c w (ringSt lst 0) ∗ pt c sList L
      ∗ pt c sIds ids ∗ pt c sGates gates ∗ pt c sX x ∗ ptq c sXc q xc ∗ pt c sXs xs ∗ flXs c xr xsH
      ∗ pt c sY yv ∗ ptS c (mYw 0 o0) y ∗ ptS c (mYw 1024 o1) y ∗ ptS c (mYw 2048 o2) y ∗ ptS c (mYw 3072 o3) y
      ∗ outLast c w r lst (accW c) q2 yv y xcH 1
      ∗ owes (c : Thread nD τ) 0 W)
    ⊢ wp frame (wpE (defs₀ (F := F)) Variants.none (c : Thread nD τ) none) Set.univ (k0_part22 (F := F) (Memref.whole main_v0) (Memref.isWhole_whole _) (Memref.whole main_v2) (Memref.isWhole_whole _) (Memref.whole main_v4) (Memref.isWhole_whole _) (Memref.whole main_v6) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v8) (Memref.isWhole_whole _) (Memref.whole main_v9) (Memref.isWhole_whole _) (Memref.whole main_v10_0) (Memref.isWhole_whole _) (Memref.whole main_v10_1) (Memref.isWhole_whole _) (Memref.whole main_v10_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 v55 hw5 v150 v151 c16_i32 v153 v160 v162 c0_i32_90)
      (fun _ => iprop(ringAt c w (fun _ => none) ∗ pt c sList L ∗ readsPt c r q ∗ pt c sAcc (accF c w r lst (accW c) lst.length)
        ∗ outMid c w r lst (accW c) q2 yv y xcH
        ∗ (pt c mXs (lnd c mXs xsH (sXr.view.read (Elt F) xr)) ∗ ptS c sXr xr ∗ semVal ((c : Thread nD τ), cellX) 0)
        ∗ (ptS c mUps us ∗ ptS c mDns ds ∗ semVal ((c : Thread nD τ), cellK) 0) ∗ ∃ W', owes (c : Thread nD τ) 0 W')) := by
  have hE : iprop(ringAt c w (ringSt lst 0) ∗ pt c sList L ∗ readsPt c r q ∗ pt c sAcc (accF c w r lst (accW c) 0)
      ∗ (pt c sY yv ∗ ptS c (mYw 0 o0) y ∗ ptS c (mYw 1024 o1) y ∗ ptS c (mYw 2048 o2) y ∗ ptS c (mYw 3072 o3) y
      ∗ outLast c w r lst (accW c) q2 yv y xcH 1) ∗ ∃ W, owes (c : Thread nD τ) 0 W) ⊢ inv3 c w r lst (accW c) L q q2 yv y xcH 0 := by
    unfold inv3 outPart
    rw [if_pos hpos]
  subst hr
  iintro ⟨HM, HA, HK, HR, HL, Hids, Hg, Hx, Hxc, Hxs, FX, HY, Y0, Y1, Y2, Y3, HB, HO⟩
  unfold scBatch scDel
  unfold k0_part22
  set_option sl_exec.stopBefore "k0_t3_loop" in sl_exec
  ihave HI := hE $$ [HR HL Hids Hg Hx HM Hxc Hxs HK_dst0 HK_dst1 HA HY Y0 Y1 Y2 Y3 HB HO]
  · isplitl [HR]; · iexact HR
    isplitl [HL]; · iexact HL
    isplitl [Hids Hg Hx HM Hxc Hxs HK_dst0 HK_dst1]
    · unfold readsPt
      isplitl [Hids]; · iexact Hids
      isplitl [Hg]; · iexact Hg
      isplitl [Hx]; · iexact Hx
      isplitl [HM]; · iexact HM
      isplitl [Hxc]; · iexact Hxc
      isplitl [Hxs]; · iexact Hxs
      isplitl [HK_dst0]; · iexact HK_dst0
      iexact HK_dst1
    isplitl [HA]; · iexact HA
    isplitl [HY Y0 Y1 Y2 Y3 HB]
    · isplitl [HY]; · iexact HY
      isplitl [Y0]; · iexact Y0
      isplitl [Y1]; · iexact Y1
      isplitl [Y2]; · iexact Y2
      isplitl [Y3]; · iexact Y3
      iexact HB
    iexists _; iexact HO
  sl_exec
  sl_step
  isplitl [HL0]; · iexact HL0
  isplitl [HL1]; · iexact HL1
  isplitl [HL2 HL3 HL4 HL5 HL6 HL7 HL8 HL9]
  · unfold readsPt
    isplitl [HL2]; · iexact HL2
    isplitl [HL3]; · iexact HL3
    isplitl [HL4]; · iexact HL4
    isplitl [HL5]; · iexact HL5
    isplitl [HL6]; · iexact HL6
    isplitl [HL7]; · iexact HL7
    isplitl [HL8]; · iexact HL8
    iexact HL9
  isplitl [HL10]; · iexact HL10
  isplitl [HL11]; · iexact HL11
  isplitl [FX FX_dst FX_src]
  · isplitl [FX_dst]; · iexact FX_dst
    isplitl [FX_src]; · iexact FX_src
    iexact FX
  isplitl [HK HK_src0 HK_src1]
  · isplitl [HK_src0]; · iexact HK_src0
    isplitl [HK_src1]; · iexact HK_src1
    iexact HK
  iexists _; iexact HL12

end Cert.KernelIdeal.Hand

end
-- ==== Proof.P21.lean ====
/-
  The two copies of the quantised rows that are started before the expert loop.
-/
module

public import proofs.«01_k».proof.Proof.P19
public import proofs.«01_k».proof.Proof.P22

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

theorem bind_wp {α β : Type} (c : Dev nD) (p : Prog (TpuEff nD τ sig (Elt F) Λ₀ .tc) β) (k : β → Prog (TpuEff nD τ sig (Elt F) Λ₀ .tc) α) (Q : α → sProp 𝕄) :
    wp frame (wpE (defs₀ (F := F)) Variants.none (c : Thread nD τ) none) Set.univ p (fun x => wp frame (wpE (defs₀ (F := F)) Variants.none (c : Thread nD τ) none) Set.univ (k x) Q)
      ⊢ wp frame (wpE (defs₀ (F := F)) Variants.none (c : Thread nD τ) none) Set.univ (p >>= k) Q := by
  rw [wp_bind]

/-- The codes, the scales by column and the scales by row as the kernel stores them, of the rows it loaded. -/
def xcW (c : Dev nD) (g : BufOf F c sXc) (v : Vec F S32x4096 .bf16) : BufOf F c sXc :=
  sXc.view.writes (Elt F) g [⟨Rect.unit (s := S32x4096) ![0, 0] S32x4096.size inb_S32x4096_S32x4096_0_0, k0_pay42 (k0_pay37 v) (k0_pay38 v) k0_pay39⟩]
def xsW (c : Dev nD) (g : BufOf F c sXs) (v : Vec F S32x4096 .bf16) : BufOf F c sXs :=
  sXs.view.writes (Elt F) g [⟨Rect.unit (s := S32x1) ![0, 0] S32x1.size inb_S32x1_S32x1_0_0, k0_pay43 (k0_pay41 (k0_pay38 v) k0_pay39)⟩]
def xrW (c : Dev nD) (g : BufOf F c sXr) (v : Vec F S32x4096 .bf16) : BufOf F c sXr :=
  sXr.view.writes (Elt F) g [⟨Rect.unit (s := S1x32) ![0, 0] S1x32.size inb_S1x32_S1x32_0_0, k0_pay44 (k0_pay41 (k0_pay38 v) k0_pay39)⟩]
/-- The adapter ids as the kernel loads them. -/
abbrev aidLoad (c : Dev nD) (ad : BufOf F c sAid) : Vec F S1x32 .i32 :=
  sAid.view.readAt (Elt F) (Rect.unit (s := S1x32) ![0, 0] S1x32.size inb_S1x32_S1x32_0_0).toLoadRect ad
/-- The mask over the adapters' lanes. -/
def maskV (c : Dev nD) (ad : BufOf F c sAid) : FVec F S32x128 .f32 :=
  k0_pay48 (k0_pay45 (aidLoad c ad)) (iota .tc S32x128 32 [1] iota_S32x128_d1_w32) 16#32 k0_pay46 k0_pay47 (Scalar.extui (Scalar.cmpi .sgt 16#32 0#32)) 0#32
/-- What the expert loop reads. -/
def readsOf (c : Dev nD) (x : BufOf F c sX) (ids : BufOf F c sIds) (g : BufOf F c sGates) (ad : BufOf F c sAid) (us : BufOf F c sUps) (ds : BufOf F c sDns) (g0 : BufOf F c sXc) (g1 : BufOf F c sXs) : Reads F c :=
  ⟨ids, g, x, maskW c (maskV c ad), xcW c g0 (xLoad c x), xsW c g1 (xLoad c x), us, ds⟩

/-- A buffer's share in two. -/
theorem split2 (c : Dev nD) {sp : Space} {S : Shape} {e : EltTy} (M : Memref sig .tc sp S e) (f : BufOf F c M) :
    pt c M f = iprop(ptq c M (Transfers.shareDrop fullShare 1) f ∗ ptq c M (Transfers.shareTokN fullShare 0) f) :=
  Idealize.SL.BI.Entails.antisymm
    ((Transfers.pointsTo_toks_range fullShare 1).1.trans (by rw [Finset.range_one, bigSep_singleton]))
    (Idealize.SL.BI.Entails.trans (by rw [Finset.range_one, bigSep_singleton]) (Transfers.pointsTo_toks_range fullShare 1).2)

set_option maxHeartbeats 40000000 in
theorem p21 (c : Dev nD) (w : Wts F c) (r : Reads F c) (k : Fin 3) (e : EW) (acc : BufOf F c sAcc) (yv : BufOf F c sY) (q : PosShare TreeShare) (xcH : BufOf F c mXc) (y : BufOf F c mY)
   (xsH : BufOf F c mXs) (g1 : BufOf F c sXs) (g2 : BufOf F c sXr) (ad : BufOf F c sAid) (v106 : FVec F S32x1 .f32) (W : Waits sig Unit) :
   iprop(outBatch c w r k e acc yv q xcH y 0 ∗ ptq c sXc q r.xc ∗ pt c mXc xcH ∗ pt c mXs xsH ∗ pt c sXs g1 ∗ pt c sXr g2 ∗ pt c sAid ad
     ∗ semVal ((c : Thread nD τ), cellX) 0 ∗ owes (c : Thread nD τ) 0 W)
    ⊢ wp frame (wpE (defs₀ (F := F)) Variants.none (c : Thread nD τ) none) Set.univ (k0_part21 (F := F) (Memref.whole main_v0) (Memref.isWhole_whole _) (Memref.whole main_v2) (Memref.isWhole_whole _) (Memref.whole main_v4) (Memref.isWhole_whole _) (Memref.whole main_v6) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v8) (Memref.isWhole_whole _) (Memref.whole main_v9) (Memref.isWhole_whole _) (Memref.whole main_v10_0) (Memref.isWhole_whole _) (Memref.whole main_v10_1) (Memref.isWhole_whole _) (Memref.whole main_v10_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25 v106) (fun res =>
      iprop(⌜res = ⟨k0_pay45 (aidLoad c ad), iota .tc S32x128 32 [1] iota_S32x128_d1_w32, 16#32, k0_pay46, k0_pay47, Scalar.extui (Scalar.cmpi .sgt 16#32 0#32), 0#32⟩⌝
        ∗ outBatch c w r k e acc yv q xcH y 1 ∗ flXs c (sXr.view.writes (Elt F) g2 [⟨Rect.unit (s := S1x32) ![0, 0] S1x32.size inb_S1x32_S1x32_0_0, k0_pay44 v106⟩]) xsH
        ∗ pt c sXs (sXs.view.writes (Elt F) g1 [⟨Rect.unit (s := S32x1) ![0, 0] S32x1.size inb_S32x1_S32x1_0_0, k0_pay43 v106⟩])
        ∗ pt c sAid ad ∗ ∃ W', owes (c : Thread nD τ) 0 W')) := by
  iintro ⟨HB, XcT, Hxc, Hxs, SXs, SXr, A0, CX, HO⟩
  unfold outBatch outDel
  unfold k0_part21
  sl_exec
  sl_step
  isplitl []; · ipureintro; rfl
  isplitl [HB]; · iexact HB
  isplitl [CX]; · iexact CX
  isplitl [SXs]; · iexact SXs
  isplitl [A0]; · iexact A0
  iexists _; iexact HO

end Cert.KernelIdeal.Hand

end
-- ==== Proof.Top.lean ====
module

public import proofs.«01_k».proof.Proof.P21

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

/-- The elements of a whole buffer are all there are. -/
theorem wholeq (c : Dev nD) {sp : Space} {S : Shape} {e : EltTy} (M : Memref sig .tc sp S e) (q : PosShare TreeShare) (f : BufOf F c M) (h : M.view.set = Finset.univ) :
    ptSq c M q f ⊢ ptq c M q f := by
  unfold ptSq ptq; rw [h]

theorem readsOf_xc (c : Dev nD) (x : BufOf F c sX) (ids : BufOf F c sIds) (g : BufOf F c sGates) (ad : BufOf F c sAid) (us : BufOf F c sUps) (ds : BufOf F c sDns) (g0 : BufOf F c sXc) (g1 : BufOf F c sXs)
   (r : Reads F c) (hr : r = readsOf c x ids g ad us ds g0 g1) : r.xc = xcW c g0 (xLoad c x) := by
  rw [hr, readsOf]
theorem ring_fold (c : Dev nD) (w : Wts F c) (st : Fin 3 → Option EW) :
    iprop(slotSt c w.fa w.fb w.fu w.fd 0 (st 0) ∗ slotSt c w.fa w.fb w.fu w.fd 1 (st 1) ∗ slotSt c w.fa w.fb w.fu w.fd 2 (st 2)) = ringAt c w st := by
  unfold ringAt Ring.AtW
  rw [Ring.bigSep_fin3]
theorem ent_zero (e : EW) (l : List ℕ) : ent (e.1.toNat :: l) 0 = e := by
  apply Subtype.ext
  show BitVec.ofNat 32 (e.1.toNat % 32) = e.1
  rw [Nat.mod_eq_of_lt e.2]; simp
theorem first_fold (c : Dev nD) (w : Wts F c) (e : EW) (lst : List ℕ) (hpos : 0 < lst.length) (hent : ent lst 0 = e) :
    infl c w.fa w.fb w.fu w.fd 0 e ⊢ slotSt c w.fa w.fb w.fu w.fd 0 (ringSt lst 0 0) := by
  rw [show ringSt lst 0 0 = some (ent lst 0) from if_pos (show 0 < _ from hpos), hent]; exact .rfl

section Post

variable (c : Dev nD) (w : Wts F c) (r : Reads F c) (lst : List ℕ) (ids : BufOf F c mIds) (x : BufOf F c mX) (g : BufOf F c mGates) (ad : BufOf F c mAid) (us : BufOf F c mUps) (ds : BufOf F c mDns)
   (xr : BufOf F c sXr) (yv : BufOf F c sY) (y : BufOf F c mY) (xcH : BufOf F c mXc) (xsH : BufOf F c mXs)

/-- The accumulator before the last trip. -/
abbrev topAcc : BufOf F c sAcc := accF c w r lst (accW c) (lst.length - 1)
/-- What the staging buffer holds when a window's copy is started, by the contents `yvN` names. -/
abbrev topY (yvN : (c : Dev nD) → Wts F c → Reads F c → Fin 3 → EW → BufOf F c sAcc → BufOf F c sY → BufOf F c sY) : BufOf F c sY :=
  yvN c w r (slotN (lst.length - 1)) (ent lst (lst.length - 1)) (topAcc c w r lst) yv

/-- WHAT THE KERNEL LEAVES: the inputs as they were, the scratch buffers at anything, the semaphores at zero, the
    result's four windows, the codes and the scales as written, and the ring free. -/
def topPost : sProp 𝕄 :=
  iprop((ptq c mIds (Transfers.shareTok fullShare 2 0) ids ∗ ptq c mIds (Transfers.shareTok fullShare 2 1) ids ∗ pt c mX x ∗ pt c mGates g ∗ pt c mAid ad ∗ pt c mUps us ∗ pt c mDns ds)
    ∗ ((∃ f, pt c sX f) ∗ (∃ f, pt c sIds f) ∗ (∃ f, pt c sGates f) ∗ (∃ f, pt c sAid f) ∗ (∃ f, pt c sUps f) ∗ (∃ f, pt c sDns f) ∗ (∃ f, pt c sIdsW f)
      ∗ (∃ f, pt c sList f) ∗ (∃ f, pt c sXc f) ∗ (∃ f, pt c sXs f) ∗ (∃ f, pt c sXr f) ∗ (∃ f, pt c sMask f) ∗ (∃ f, pt c sAcc f))
    ∗ (semVal ((c : Thread nD τ), cellI) 0 ∗ semVal ((c : Thread nD τ), cellS 0) 0 ∗ semVal ((c : Thread nD τ), cellS 1) 0 ∗ semVal ((c : Thread nD τ), cellS 2) 0 ∗ semVal ((c : Thread nD τ), cellS 3) 0
      ∗ semVal ((c : Thread nD τ), cellK) 0 ∗ semVal ((c : Thread nD τ), cellX) 0 ∗ semVal ((c : Thread nD τ), outCell) 0)
    ∗ (landY c 0 o0 y (topY c w r lst yv yv0) ∗ landY c 1024 o1 y (topY c w r lst yv yv1) ∗ landY c 2048 o2 y (topY c w r lst yv yv2) ∗ landY c 3072 o3 y (topY c w r lst yv yv3))
    ∗ pt c mXc (lnd c mXc xcH (sXc.view.read (Elt F) r.xc))
    ∗ pt c mXs (lnd c mXs xsH (sXr.view.read (Elt F) xr))
    ∗ ringAt c w (fun _ => none) ∗ ∃ W', owes (c : Thread nD τ) 0 W')

end Post

set_option maxHeartbeats 40000000 in
theorem topA (c : Dev nD) (w : Wts F c) (ids : BufOf F c mIds) (x : BufOf F c mX) (g : BufOf F c mGates) (ad : BufOf F c mAid) (us : BufOf F c mUps) (ds : BufOf F c mDns)
   (f0 : BufOf F c sX) (f1 : BufOf F c sIds) (f2 : BufOf F c sGates) (f3 : BufOf F c sAid) (f4 : BufOf F c sUps) (f5 : BufOf F c sDns) (f16 : BufOf F c sIdsW)
   (l0 : BufOf F c sList) (g0 : BufOf F c sXc) (g1 : BufOf F c sXs) (g2 : BufOf F c sXr) (m0 : BufOf F c sMask) (a0 : BufOf F c sAcc) (yv : BufOf F c sY)
   (y : BufOf F c mY) (xcH : BufOf F c mXc) (xsH : BufOf F c mXs)
   (e : EW) (he : ∀ inb, sIdsW.view.readAt (Elt F) (Rect.unit (s := S8x32) ![0, 0] S1x1.size inb).toLoadRect (lnd c sIdsW f16 (mIds.view.read (Elt F) ids)) = fun _ => e.1)
   (r : Reads F c) (lst : List ℕ) (xr : BufOf F c sXr)
   (hr : r = readsOf c (lnd c sX f0 (mX.view.read (Elt F) x)) (lnd c sIds f1 (mIds.view.read (Elt F) ids)) (lnd c sGates f2 (mGates.view.read (Elt F) g)) (lnd c sAid f3 (mAid.view.read (Elt F) ad))
    (lnd c sUps f4 (mUps.view.read (Elt F) us)) (lnd c sDns f5 (mDns.view.read (Elt F) ds)) g0 g1)
   (hl : lst = lstOf c e (lnd c sIdsW f16 (mIds.view.read (Elt F) ids))) (hxr : xr = xrW c g2 (xLoad c (lnd c sX f0 (mX.view.read (Elt F) x))))
   (W : Waits sig Unit) :
   iprop(ptq c mIds (Transfers.shareTok fullShare 2 0) ids ∗ ptq c mIds (Transfers.shareTok fullShare 2 1) ids ∗ pt c mX x ∗ pt c mGates g ∗ pt c mAid ad ∗ pt c mUps us ∗ pt c mDns ds
     ∗ pt c sX f0 ∗ pt c sIds f1 ∗ pt c sGates f2 ∗ pt c sAid f3 ∗ pt c sUps f4 ∗ pt c sDns f5 ∗ pt c sIdsW f16
     ∗ semVal ((c : Thread nD τ), cellI) 0 ∗ semVal ((c : Thread nD τ), cellS 0) 0 ∗ semVal ((c : Thread nD τ), cellS 1) 0 ∗ semVal ((c : Thread nD τ), cellS 2) 0 ∗ semVal ((c : Thread nD τ), cellS 3) 0
     ∗ semVal ((c : Thread nD τ), cellK) 0 ∗ semVal ((c : Thread nD τ), cellX) 0 ∗ semVal ((c : Thread nD τ), outCell) 0
     ∗ pt c sList l0 ∗ pt c sXc g0 ∗ pt c sXs g1 ∗ pt c sXr g2 ∗ pt c sMask m0 ∗ pt c sAcc a0 ∗ pt c sY yv
     ∗ ptS c (mYw 0 o0) y ∗ ptS c (mYw 1024 o1) y ∗ ptS c (mYw 2048 o2) y ∗ ptS c (mYw 3072 o3) y ∗ pt c mXc xcH ∗ pt c mXs xsH
     ∗ slotSt c w.fa w.fb w.fu w.fd 0 none ∗ slotSt c w.fa w.fb w.fu w.fd 1 none ∗ slotSt c w.fa w.fb w.fu w.fd 2 none ∗ owes (c : Thread nD τ) 0 W)
    ⊢ wp frame (wpE (defs₀ (F := F)) Variants.none (c : Thread nD τ) none) Set.univ (cc0_moe_fp8_multi_lora (F := F) (Memref.whole main_v0) (Memref.isWhole_whole _) (Memref.whole main_v2) (Memref.isWhole_whole _) (Memref.whole main_v4) (Memref.isWhole_whole _) (Memref.whole main_v6) (Memref.isWhole_whole _) (Memref.whole main_arg4) (Memref.isWhole_whole _) (Memref.whole main_arg5) (Memref.isWhole_whole _) (Memref.whole main_arg6) (Memref.isWhole_whole _) (Memref.whole main_arg7) (Memref.isWhole_whole _) (Memref.whole main_v8) (Memref.isWhole_whole _) (Memref.whole main_v9) (Memref.isWhole_whole _) (Memref.whole main_v10_0) (Memref.isWhole_whole _) (Memref.whole main_v10_1) (Memref.isWhole_whole _) (Memref.whole main_v10_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 cc0_scratch23 cc0_scratch24 cc0_scratch25) (fun _ => topPost c w r lst ids x g ad us ds xr yv y xcH xsH) := by
  have hc : k0_chk1 e.1 := chk1_of e.1 e.2
  have hst0 : slotSt c w.fa w.fb w.fu w.fd 0 none = free c w.fa w.fb w.fu w.fd 0 := rfl
  rw [hst0]
  iintro ⟨Hi0, Hi1, Hx, Hg, Had, Hus, Hds, S0, S1, S2, S3, S4, S5, S16, CI, C0, C1, C2, C3, CK, CX, CO, SL, SXc, SXs, SXr, SM, SA', SY, Y0, Y1, Y2, Y3, Hxc, Hxs,
    ⟨CA, CU, ⟨%fA, SA⟩, ⟨%fB, SB⟩, ⟨%fU, SU⟩, Ta, Tb, Tu, ⟨CD0, ⟨%h0, SD0⟩, Td0⟩, ⟨CD1, ⟨%h1, SD1⟩, Td1⟩, ⟨CD2, ⟨%h2, SD2⟩, Td2⟩, ⟨CD3, ⟨%h3, SD3⟩, Td3⟩⟩, K1, K2, HO⟩
  imod (Transfers.mixedBatch_alloc' (Lvl := ℕ) (countersEmb (U := Pipeline.UD sig nD τ)) (c : Thread nD τ) () adAmt (adDel c 0 e w.fa w.fb fA fB) (sm := cellA 0) (E := Set.univ)) $$ CA with HA
  imod (Transfers.mixedBatch_alloc' (Lvl := ℕ) (countersEmb (U := Pipeline.UD sig nD τ)) (c : Thread nD τ) () scAmt (scDel c us ds f4 f5) (sm := cellK) (E := Set.univ)) $$ CK with HK
  unfold adDel scDel
  unfold cc0_moe_fp8_multi_lora
  set_option sl_exec.stopBefore "k0_part19" in sl_exec
  iapply (bind_wp c)
  iapply (wp_wand_r Idealize.ShloMosaic.frame (wpE (defs₀ (F := F)) Variants.none (c : Thread nD τ) none) Set.univ)
  isplitl [S16 SL K1 K2 C0 C1 C2 C3 HO]
  · iapply (p19 c w e (lnd c sIdsW f16 (mIds.view.read (Elt F) ids)) l0 _ x ids g ad (Transfers.shareTok fullShare 2 1) f0 f1 f2 f3)
    isplitl [S16]; · iexact S16
    isplitl [SL]; · iexact SL
    isplitl [K1]; · iexact K1
    isplitl [K2]; · iexact K2
    isplitl [C0]; · iexact C0
    isplitl [C1]; · iexact C1
    isplitl [C2]; · iexact C2
    isplitl [C3]; · iexact C3
    iexact HO
  iintro %res Hp
  obtain ⟨n, hw5, v71, v76, v79⟩ := res
  unfold post19
  icases Hp with ⟨%L, %hres, HW, HL, K1, K2, ⟨X0, X1, C0⟩, ⟨I0, I1, C1⟩, ⟨G0, G1, C2⟩, ⟨A0, A1, C3⟩, ⟨%W', HO⟩⟩
  obtain ⟨hL, h71, h76, h79⟩ := hres
  have hL' : ListOK c e (lnd c sIdsW f16 (mIds.view.read (Elt F) ids)) L n := hL
  have h71' : v71 = _ := h71
  have h76' : v76 = _ := h76
  have h79' : v79 = _ := h79
  subst h71' h76' h79'
  set_option sl_exec.stopBefore "k0_part21" in sl_exec
  have hL2 : n.toNat = lst.length ∧ ∀ j (hj : j < lst.length), cellsL c L (Fin.ofNat 33 j) = BitVec.ofNat 32 lst[j] := by subst hl; exact hL'
  have hK1 : ∀ k, slotSt c w.fa w.fb w.fu w.fd k (ringSt (lstOf c e (lnd c sIdsW f16 (mIds.view.read (Elt F) ids))) 0 k) ⊢ slotSt c w.fa w.fb w.fu w.fd k (ringSt lst 0 k) := fun k => by rw [hl]
  have hn : n.toNat = lst.length := hL2.1
  have hlen : lst.length ≤ 32 := by rw [hl]; exact lstAt_length e.1 _ e.2 32 (by omega)
  have hlt : ∀ k ∈ lst, k < 32 := by rw [hl]; exact lstAt_lt e.1 _ e.2 32 (by omega)
  have hpos : 0 < lst.length := by rw [hl]; simp [lstOf, lstAt]
  have hent : ent lst 0 = e := by rw [hl]; exact ent_zero e _
  have hN0 := first_fold c w e lst hpos hent
  have hRing := Entails.of_eq (ring_fold c w (ringSt lst 0))
  have hxc : r.xc = xcW c g0 (xLoad c (lnd c sX f0 (mX.view.read (Elt F) x))) := readsOf_xc c _ _ _ _ _ _ g0 g1 r hr
  have hXcT : ptq c sXc (Transfers.shareTokN fullShare 0) (xcW c g0 (xLoad c (lnd c sX f0 (mX.view.read (Elt F) x))))
      ⊢ ptq c sXc (Transfers.shareTokN fullShare 0) r.xc := by rw [hxc]
  have hXr : flXs c (sXr.view.writes (Elt F) g2 [⟨Rect.unit (s := S1x32) ![0, 0] S1x32.size inb_S1x32_S1x32_0_0, k0_pay44 (k0_pay41 (k0_pay38 (xLoad c (lnd c sX f0 (mX.view.read (Elt F) x)))) k0_pay39)⟩]) xsH
      ⊢ flXs c xr xsH := by rw [hxr, xrW]
  ihave H2 := (Entails.of_eq (split2 c sXc (xcW c g0 (xLoad c (lnd c sX f0 (mX.view.read (Elt F) x)))))) $$ [SXc]
  · iexact SXc
  icases H2 with ⟨XcD, XcT⟩
  imod (Transfers.mixedBatch_alloc' (Lvl := ℕ) (countersEmb (U := Pipeline.UD sig nD τ)) (c : Thread nD τ) () outAmt
    (outDel c w r (slotN (lst.length - 1)) (ent lst (lst.length - 1))
      (topAcc c w r lst) yv (Transfers.shareTokN fullShare 0) xcH y) (sm := outCell) (E := Set.univ)) $$ CO with HB
  iapply (bind_wp c)
  iapply (wp_wand_r Idealize.ShloMosaic.frame (wpE (defs₀ (F := F)) Variants.none (c : Thread nD τ) none) Set.univ)
  isplitl [HB XcT Hxc Hxs SXs SXr A0 CX HO]
  · iapply (p21 c w r (slotN (lst.length - 1)) (ent lst (lst.length - 1))
      (topAcc c w r lst) yv (Transfers.shareTokN fullShare 0) xcH y xsH g1 g2 (lnd c sAid f3 (mAid.view.read (Elt F) ad)) _ _)
    isplitl [HB]; · iexact HB
    isplitl [XcT]; · iapply hXcT; iexact XcT
    isplitl [Hxc]; · iexact Hxc
    isplitl [Hxs]; · iexact Hxs
    isplitl [SXs]; · iexact SXs
    isplitl [SXr]; · iexact SXr
    isplitl [A0]; · iexact A0
    isplitl [CX]; · iexact CX
    iexact HO
  iintro %res ⟨%hres, HB, FX, SXs, A0, ⟨%W2, HO⟩⟩
  subst hres
  iapply (bind_wp c)
  iapply (wp_wand_r Idealize.ShloMosaic.frame (wpE (defs₀ (F := F)) Variants.none (c : Thread nD τ) none) Set.univ)
  isplitl [SM SA' HK HA CU CD0 CD1 CD2 CD3 Ta Tb Tu Td0 Td1 Td2 Td3 K1 K2 HL I0 G0 X0 XcD SXs FX SY Y0 Y1 Y2 Y3 HB HO]
  · iapply (p22 c w lst L (Transfers.shareDrop fullShare 1) (Transfers.shareTokN fullShare 0) us ds f4 f5 m0 a0
      (lnd c sIds f1 (mIds.view.read (Elt F) ids)) (lnd c sGates f2 (mGates.view.read (Elt F) g)) (lnd c sX f0 (mX.view.read (Elt F) x)) (xcW c g0 (xLoad c (lnd c sX f0 (mX.view.read (Elt F) x))))
      (xsW c g1 (xLoad c (lnd c sX f0 (mX.view.read (Elt F) x)))) xr xsH yv y xcH n hw5 _ _ _ _ _ _ _ hn hpos hlen hlt hL2.2
      r (by rw [hr, readsOf, maskV]) _)
    isplitl [SM]; · iexact SM
    isplitl [SA']; · iexact SA'
    isplitl [HK]; · iexact HK
    isplitl [HA CU CD0 CD1 CD2 CD3 Ta Tb Tu Td0 Td1 Td2 Td3 K1 K2]
    · iapply hRing
      isplitl [HA CU CD0 CD1 CD2 CD3 Ta Tb Tu Td0 Td1 Td2 Td3]
      · iapply hN0
        isplitl [HA]
        · iexists _, _; iexact HA
        isplitl [CU]
        · iexists _; iexact CU
        isplitl [Ta]; · iexact Ta
        isplitl [Tb]; · iexact Tb
        isplitl [Tu]; · iexact Tu
        isplitl [CD0 Td0]
        · isplitl [CD0]
          · iexists _; iexact CD0
          iexact Td0
        isplitl [CD1 Td1]
        · isplitl [CD1]
          · iexists _; iexact CD1
          iexact Td1
        isplitl [CD2 Td2]
        · isplitl [CD2]
          · iexists _; iexact CD2
          iexact Td2
        isplitl [CD3]
        · iexists _; iexact CD3
        iexact Td3
      isplitl [K1]; · iapply hK1 1; iexact K1
      iapply hK1 2; iexact K2
    isplitl [HL]; · iexact HL
    isplitl [I0]; · iexact I0
    isplitl [G0]; · iexact G0
    isplitl [X0]; · iexact X0
    isplitl [XcD]; · iexact XcD
    isplitl [SXs]; · iexact SXs
    isplitl [FX]; · iapply hXr; iexact FX
    isplitl [SY]; · iexact SY
    isplitl [Y0]; · iexact Y0
    isplitl [Y1]; · iexact Y1
    isplitl [Y2]; · iexact Y2
    isplitl [Y3]; · iexact Y3
    isplitl [HB]; · iexact HB
    iexact HO
  iintro %_ ⟨HR, HL, Hrd, HAcc, HB, ⟨Xs1, Xs2, CX⟩, ⟨Hus', Hds', CK⟩, ⟨%W3, HO⟩⟩
  unfold outMid outDel
  sl_exec
  sl_step
  unfold topPost
  unfold readsPt
  icases Hrd with ⟨R0, R1, R2, R3, R4, R5, R6, R7⟩
  isplitl [Hi0 I1 X1 G1 A1 Hus' Hds']
  · isplitl [Hi0]; · iexact Hi0
    isplitl [I1]; · iapply (wholeq c mIds _ ids (View.set_whole _)); iexact I1
    isplitl [X1]; · iapply (wholeq c mX _ x (View.set_whole _)); iexact X1
    isplitl [G1]; · iapply (wholeq c mGates _ g (View.set_whole _)); iexact G1
    isplitl [A1]; · iapply (wholeq c mAid _ ad (View.set_whole _)); iexact A1
    isplitl [Hus']; · iapply (wholeq c mUps _ us (View.set_whole _)); iexact Hus'
    iapply (wholeq c mDns _ ds (View.set_whole _)); iexact Hds'
  isplitl [R0 R1 R2 R3 R4 R5 R6 R7 A0 HW HL HB_src0 Xs2 HAcc]
  · isplitl [R2]; · iexists _; iexact R2
    isplitl [R0]; · iexists _; iexact R0
    isplitl [R1]; · iexists _; iexact R1
    isplitl [A0]; · iexists _; iexact A0
    isplitl [R6]; · iexists _; iexact R6
    isplitl [R7]; · iexists _; iexact R7
    isplitl [HW]; · iexists _; iexact HW
    isplitl [HL]; · iexists _; iexact HL
    isplitl [R4 HB_src0]
    · iexists r.xc
      iapply (Entails.of_eq (split2 c sXc r.xc).symm)
      isplitl [R4]; · iexact R4
      iapply (wholeq c sXc _ r.xc (View.set_whole _)); iexact HB_src0
    isplitl [R5]; · iexists _; iexact R5
    isplitl [Xs2]; · iexists _; iapply (wholeq c sXr _ xr (View.set_whole _)); iexact Xs2
    isplitl [R3]; · iexists _; iexact R3
    iexists _; iexact HAcc
  isplitl [CI C0 C1 C2 C3 CK CX HB]
  · isplitl [CI]; · iexact CI
    isplitl [C0]; · iexact C0
    isplitl [C1]; · iexact C1
    isplitl [C2]; · iexact C2
    isplitl [C3]; · iexact C3
    isplitl [CK]; · iexact CK
    isplitl [CX]; · iexact CX
    iexact HB
  isplitl [HB_dst1 HB_src1 HB_dst2 HB_src2 HB_dst3 HB_src3 HB_dst4 HB_src4]
  · isplitl [HB_dst1 HB_src1]
    · isplitl [HB_dst1]; · iexact HB_dst1
      iexact HB_src1
    isplitl [HB_dst2 HB_src2]
    · isplitl [HB_dst2]; · iexact HB_dst2
      iexact HB_src2
    isplitl [HB_dst3 HB_src3]
    · isplitl [HB_dst3]; · iexact HB_dst3
      iexact HB_src3
    isplitl [HB_dst4]; · iexact HB_dst4
    iexact HB_src4
  isplitl [HB_dst0]; · iexact HB_dst0
  isplitl [Xs1]; · iexact Xs1
  isplitl [HR]; · iexact HR
  iexists _; iexact HO

end Cert.KernelIdeal.Hand

end
-- ==== Proof.Clean.lean ====
/-
  The contents that the run leaves do not depend on what the scratch buffers held before it.
-/
module

public import proofs.«01_k».proof.Proof.Windows
public import proofs.«01_k».proof.Proof.Top
public import Idealize.ShloMosaic.Lib.VecWindow

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run: the launch's beside the transfers' counters. -/
local notation "𝕄" => MT nD τ sig Unit (Elt F) ℕ (Pipeline.UD sig nD τ) ℕ

/-- A copy landed in a whole buffer leaves what it carried. -/
theorem lnd_sX (c : Dev nD) (f : BufOf F c sX) (v : Vec F S32x4096 .bf16) : lnd c sX f v = v := View.write_whole_univ cc0_scratch0 f v
theorem lnd_sIds (c : Dev nD) (f : BufOf F c sIds) (v : Vec F S8x32 .i32) : lnd c sIds f v = v := View.write_whole_univ cc0_scratch1 f v
theorem lnd_sGates (c : Dev nD) (f : BufOf F c sGates) (v : Vec F S8x32 .f32) : lnd c sGates f v = v := View.write_whole_univ cc0_scratch2 f v
theorem lnd_sAid (c : Dev nD) (f : BufOf F c sAid) (v : Vec F S1x32 .i32) : lnd c sAid f v = v := View.write_whole_univ cc0_scratch3 f v
theorem lnd_sUps (c : Dev nD) (f : BufOf F c sUps) (v : Vec F S32x1408 .f32) : lnd c sUps f v = v := View.write_whole_univ cc0_scratch4 f v
theorem lnd_sDns (c : Dev nD) (f : BufOf F c sDns) (v : Vec F S32x4096 .f32) : lnd c sDns f v = v := View.write_whole_univ cc0_scratch5 f v
theorem lnd_sIdsW (c : Dev nD) (f : BufOf F c sIdsW) (v : Vec F S8x32 .i32) : lnd c sIdsW f v = v := View.write_whole_univ cc0_scratch16 f v
theorem lnd_mXc (c : Dev nD) (f : BufOf F c mXc) (v : Vec F S32x4096 .fp8e4m3) : lnd c mXc f v = v := View.write_whole_univ main_v10_1 f v
theorem lnd_mXs (c : Dev nD) (f : BufOf F c mXs) (v : Vec F S1x32 .f32) : lnd c mXs f v = v := View.write_whole_univ main_v10_2 f v

/-- The codes, the scales as a column and the scales as a row, of the loaded activations. -/
def xcV (v : Vec F S32x4096 .bf16) : Vec F S32x4096 .fp8e4m3 := k0_pay42 (k0_pay37 v) (k0_pay38 v) k0_pay39
def xsV (v : Vec F S32x4096 .bf16) : Vec F S32x1 .f32 := k0_pay43 (k0_pay41 (k0_pay38 v) k0_pay39)
def xrV (v : Vec F S32x4096 .bf16) : Vec F S1x32 .f32 := k0_pay44 (k0_pay41 (k0_pay38 v) k0_pay39)

theorem xcW_eq (c : Dev nD) (g : BufOf F c sXc) (v : Vec F S32x4096 .bf16) : xcW c g v = xcV v := by
  unfold xcW xcV
  generalize k0_pay42 (k0_pay37 v) (k0_pay38 v) k0_pay39 = u
  have h := View.read_writes_full (Val := Elt F) sXc.view g (off := ![0, 0]) inb_S32x4096_S32x4096_0_0 u []
  generalize hZ : sXc.view.writes (Elt F) g _ = Z at h
  have h2 : sXc.view.read (Elt F) Z = Z := rfl
  rw [h2] at h
  exact h
theorem xsW_eq (c : Dev nD) (g : BufOf F c sXs) (v : Vec F S32x4096 .bf16) : xsW c g v = xsV v := by
  unfold xsW xsV
  generalize k0_pay43 (k0_pay41 (k0_pay38 v) k0_pay39) = u
  have h := View.read_writes_full (Val := Elt F) sXs.view g (off := ![0, 0]) inb_S32x1_S32x1_0_0 u []
  generalize hZ : sXs.view.writes (Elt F) g _ = Z at h
  have h2 : sXs.view.read (Elt F) Z = Z := rfl
  rw [h2] at h
  exact h
theorem xrW_eq (c : Dev nD) (g : BufOf F c sXr) (v : Vec F S32x4096 .bf16) : xrW c g v = xrV v := by
  unfold xrW xrV
  generalize k0_pay44 (k0_pay41 (k0_pay38 v) k0_pay39) = u
  have h := View.read_writes_full (Val := Elt F) sXr.view g (off := ![0, 0]) inb_S1x32_S1x32_0_0 u []
  generalize hZ : sXr.view.writes (Elt F) g _ = Z at h
  have h2 : sXr.view.read (Elt F) Z = Z := rfl
  rw [h2] at h
  exact h
theorem xLoad_eq (c : Dev nD) (x : BufOf F c sX) : xLoad c x = x := by
  unfold xLoad
  exact View.readAt_full sX.view x (by decide)

/-- What the trips read, of the arrays' contents. -/
def readsV (c : Dev nD) (x : BufOf F c mX) (ids : BufOf F c mIds) (g : BufOf F c mGates) (ad : BufOf F c mAid) (us : BufOf F c mUps) (ds : BufOf F c mDns) : Reads F c :=
  ⟨ids, g, x, maskW c (maskV c ad), xcV x, xsV x, us, ds⟩

theorem readsV_eq (c : Dev nD) (x : BufOf F c mX) (ids : BufOf F c mIds) (g : BufOf F c mGates) (ad : BufOf F c mAid) (us : BufOf F c mUps) (ds : BufOf F c mDns)
    (f0 : BufOf F c sX) (f1 : BufOf F c sIds) (f2 : BufOf F c sGates) (f3 : BufOf F c sAid) (f4 : BufOf F c sUps) (f5 : BufOf F c sDns) (g0 : BufOf F c sXc) (g1 : BufOf F c sXs) :
    readsV c x ids g ad us ds = readsOf c (lnd c sX f0 (mX.view.read (Elt F) x)) (lnd c sIds f1 (mIds.view.read (Elt F) ids)) (lnd c sGates f2 (mGates.view.read (Elt F) g)) (lnd c sAid f3 (mAid.view.read (Elt F) ad))
      (lnd c sUps f4 (mUps.view.read (Elt F) us)) (lnd c sDns f5 (mDns.view.read (Elt F) ds)) g0 g1 := by
  rw [lnd_sX, lnd_sIds, lnd_sGates, lnd_sAid, lnd_sUps, lnd_sDns]
  unfold readsOf
  rw [xLoad_eq, xcW_eq, xsW_eq]
  rfl

/-! ## The result's four windows -/

section Y

variable (c : Dev nD) (w : Wts F c) (r : Reads F c) (k : Fin 3) (e : EW) (acc : BufOf F c sAcc)

/-- The result. -/
def yFin : BufOf F c mY := mY.view.writes (Elt F) mY.view.junk
  [⟨colW 3072 o3, yc3 c w r k e acc⟩, ⟨colW 2048 o2, yc2 c w r k e acc⟩, ⟨colW 1024 o1, yc1 c w r k e acc⟩, ⟨colW 0 o0, yc0 c w r k e acc⟩]

/-- A landed window holds what the staging window held, whatever the array held before. -/
theorem landY_val (o : ℕ) (ho : o + 1024 ≤ 4096) (y : BufOf F c mY) (f : BufOf F c sY) (Y : BufOf F c mY) (v : FVec F S32x1024 .bf16)
    (hf : ∀ x, f ((colW o ho).emb x) = v x) (hY : ∀ x, Y ((colW o ho).emb x) = v x) :
    landY c o ho y f ⊢ iprop((∃ f, ptS c (sYw o ho) f) ∗ ptS c (mYw o ho) Y) := by
  have hc : (mY.view.loc (c : Thread nD τ) ↦[(mYw o ho).view.set]{fullShare} (mYw o ho).view.writes (Elt F) y [⟨Rect.whole S32x1024, ReadAs.same.apply ((sYw o ho).view.read (Elt F) f)⟩] : sProp 𝕄)
      = ptS c (mYw o ho) Y := by
    refine pointsTo_congr fun i hi => ?_
    obtain ⟨x, -, hx⟩ := Finset.mem_map.mp hi
    subst hx
    generalize hw : ReadAs.same.apply ((sYw o ho).view.read (Elt F) f) = u
    have hu : u x = v x := by rw [← hw]; exact hf x
    have h := View.read_writes_cons_emb (Val := Elt F) (v := (mYw o ho).view) (f := y) (Rect.whole S32x1024) u [] x
    rw [Rect.emb_whole_apply] at h
    generalize (mYw o ho).view.writes (Elt F) y [⟨Rect.whole S32x1024, u⟩] = Z at h ⊢
    have h2 : (mYw o ho).view.read (Elt F) Z x = Z ((mYw o ho).view.emb x) := rfl
    rw [← h2, h, hu]
    exact (hY x).symm
  iintro ⟨H1, H2⟩
  isplitl [H2]
  · iexists f; iexact H2
  · irw [← hc]; iexact H1

theorem mem_col (o : ℕ) (ho : o + 1024 ≤ 4096) (x : (colW o ho).shape.Idx) : (((colW o ho).emb x) 1).val = o + (x 1).val := by
  show o + 1 * (x 1).val = _; omega

/-- A column window just written holds what was written; a later window written keeps it. -/
theorem colY_mem (f : BufOf F c mY) (o : ℕ) (ho : o + 1024 ≤ 4096) (v : FVec F S32x1024 .bf16) (L : List (View.Piece (Elt F) S32x4096 .bf16)) (x : (colW o ho).shape.Idx) :
    mY.view.writes (Elt F) f (⟨colW o ho, v⟩ :: L) ((colW o ho).emb x) = v x := by
  have h := View.read_writes_cons_emb (v := mY.view) (f := f) (colW o ho) v L x
  generalize mY.view.writes (Elt F) f (⟨colW o ho, v⟩ :: L) = Z at h ⊢
  exact h
theorem colSY_mem (f : BufOf F c sY) (o : ℕ) (ho : o + 1024 ≤ 4096) (v : FVec F S32x1024 .bf16) (L : List (View.Piece (Elt F) S32x4096 .bf16)) (x : (colW o ho).shape.Idx) :
    sY.view.writes (Elt F) f (⟨colW o ho, v⟩ :: L) ((colW o ho).emb x) = v x := by
  have h := View.read_writes_cons_emb (v := sY.view) (f := f) (colW o ho) v L x
  generalize sY.view.writes (Elt F) f (⟨colW o ho, v⟩ :: L) = Z at h ⊢
  exact h
theorem colY_skip (f : BufOf F c mY) (o : ℕ) (ho : o + 1024 ≤ 4096) (o' : ℕ) (ho' : o' + 1024 ≤ 4096) (h : o' + 1024 ≤ o) (v : FVec F S32x1024 .bf16)
    (L : List (View.Piece (Elt F) S32x4096 .bf16)) (x : (colW o' ho').shape.Idx) :
    mY.view.writes (Elt F) f (⟨colW o ho, v⟩ :: L) ((colW o' ho').emb x) = mY.view.writes (Elt F) f L ((colW o' ho').emb x) := by
  have hx : (x 1).val < 1024 := (x 1).isLt
  have hm := mem_col o' ho' x
  have h := View.read_writes_cons_unit_of_not_mem mY.view f (inbY o ho) v L ((colW o' ho').emb x) rfl (1 : Fin 2) (.inl (by
    show (((colW o' ho').emb x) 1).val < o
    omega))
  generalize mY.view.writes (Elt F) f (⟨colW o ho, v⟩ :: L) = Z at h ⊢
  generalize mY.view.writes (Elt F) f L = Z' at h ⊢
  exact h

theorem yFin0 (x : (colW 0 o0).shape.Idx) : yFin c w r k e acc ((colW 0 o0).emb x) = yc0 c w r k e acc x := by
  unfold yFin
  generalize yc0 c w r k e acc = v0, yc1 c w r k e acc = v1, yc2 c w r k e acc = v2, yc3 c w r k e acc = v3
  rw [colY_skip c _ _ _ _ _ (by decide), colY_skip c _ _ _ _ _ (by decide), colY_skip c _ _ _ _ _ (by decide), colY_mem c]
theorem yFin1 (x : (colW 1024 o1).shape.Idx) : yFin c w r k e acc ((colW 1024 o1).emb x) = yc1 c w r k e acc x := by
  unfold yFin
  generalize yc0 c w r k e acc = v0, yc1 c w r k e acc = v1, yc2 c w r k e acc = v2, yc3 c w r k e acc = v3
  rw [colY_skip c _ _ _ _ _ (by decide), colY_skip c _ _ _ _ _ (by decide), colY_mem c]
theorem yFin2 (x : (colW 2048 o2).shape.Idx) : yFin c w r k e acc ((colW 2048 o2).emb x) = yc2 c w r k e acc x := by
  unfold yFin
  generalize yc0 c w r k e acc = v0, yc1 c w r k e acc = v1, yc2 c w r k e acc = v2, yc3 c w r k e acc = v3
  rw [colY_skip c _ _ _ _ _ (by decide), colY_mem c]
theorem yFin3 (x : (colW 3072 o3).shape.Idx) : yFin c w r k e acc ((colW 3072 o3).emb x) = yc3 c w r k e acc x := by
  unfold yFin
  exact colY_mem c _ _ _ _ _ x

variable (yv : BufOf F c sY) (y : BufOf F c mY)

/-- The four landed windows are the result, and the staging buffer is whole again. -/
theorem landY_all : iprop(landY c 0 o0 y (yv0 c w r k e acc yv) ∗ landY c 1024 o1 y (yv1 c w r k e acc yv) ∗ landY c 2048 o2 y (yv2 c w r k e acc yv) ∗ landY c 3072 o3 y (yv3 c w r k e acc yv))
    ⊢ iprop((∃ f, pt c sY f) ∗ pt c mY (yFin c w r k e acc)) := by
  have hs0 : ∀ x, yv0 c w r k e acc yv ((colW 0 o0).emb x) = yc0 c w r k e acc x := fun x => colSY_mem c yv 0 o0 _ _ x
  have hs1 : ∀ x, yv1 c w r k e acc yv ((colW 1024 o1).emb x) = yc1 c w r k e acc x := fun x => colSY_mem c yv 1024 o1 _ _ x
  have hs2 : ∀ x, yv2 c w r k e acc yv ((colW 2048 o2).emb x) = yc2 c w r k e acc x := fun x => colSY_mem c yv 2048 o2 _ _ x
  have hs3 : ∀ x, yv3 c w r k e acc yv ((colW 3072 o3).emb x) = yc3 c w r k e acc x := fun x => colSY_mem c yv 3072 o3 _ _ x
  rw [colsSY, colsY]
  iintro ⟨H0, H1, H2, H3⟩
  ihave K0 := (landY_val c 0 o0 y _ (yFin c w r k e acc) (yc0 c w r k e acc) (hs0) (yFin0 c w r k e acc)) $$ H0
  ihave K1 := (landY_val c 1024 o1 y _ (yFin c w r k e acc) (yc1 c w r k e acc) (hs1) (yFin1 c w r k e acc)) $$ H1
  ihave K2 := (landY_val c 2048 o2 y _ (yFin c w r k e acc) (yc2 c w r k e acc) (hs2) (yFin2 c w r k e acc)) $$ H2
  ihave K3 := (landY_val c 3072 o3 y _ (yFin c w r k e acc) (yc3 c w r k e acc) (hs3) (yFin3 c w r k e acc)) $$ H3
  icases K0 with ⟨S0, Y0⟩
  icases K1 with ⟨S1, Y1⟩
  icases K2 with ⟨S2, Y2⟩
  icases K3 with ⟨S3, Y3⟩
  iframe

end Y

end Cert.KernelIdeal.Hand

end
-- ==== Proof.Launch.lean ====
/-
  The region's resources, named; what the run leaves; the ring's slots as the launch hands them.
-/
module

public import proofs.«01_k».proof.Proof.Clean
public import proofs.«01_k».proof.Proof.Gen.KernelIdeal.Frame
public import Idealize.ShloMosaic.Lib.Pipeline.FrameValue

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

/-- The resource algebra of the run: the launch's beside the transfers' counters. -/
local notation "𝕄" => MT nD τ sig Unit (Elt F) ℕ (Pipeline.UD sig nD τ) ℕ

variable (m : (ℓ : Loc nD τ sig) → Buf (Elt F) ℓ) (ρ : Dev nD → PrngReg)

/-! ## The launch's resources, named -/

/-- The region's own semaphore cells: all twenty-six. -/
abbrev osem0 : Fin 26 → SemLoc sig := fun j => SemLoc.dma j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), cellI) 0 ∗ semVal ((c : Thread nD τ), cellS 0) 0 ∗ semVal ((c : Thread nD τ), cellS 1) 0 ∗ semVal ((c : Thread nD τ), cellS 2) 0 ∗ semVal ((c : Thread nD τ), cellS 3) 0 ∗ semVal ((c : Thread nD τ), cellK) 0 ∗ semVal ((c : Thread nD τ), cellA 0) 0 ∗ semVal ((c : Thread nD τ), cellA 1) 0 ∗ semVal ((c : Thread nD τ), cellA 2) 0 ∗ semVal ((c : Thread nD τ), cellU 0) 0 ∗ semVal ((c : Thread nD τ), cellU 1) 0 ∗ semVal ((c : Thread nD τ), cellU 2) 0 ∗ semVal ((c : Thread nD τ), cellD 0 0) 0 ∗ semVal ((c : Thread nD τ), cellD 0 1) 0 ∗ semVal ((c : Thread nD τ), cellD 0 2) 0 ∗ semVal ((c : Thread nD τ), cellD 0 3) 0 ∗ semVal ((c : Thread nD τ), cellD 1 0) 0 ∗ semVal ((c : Thread nD τ), cellD 1 1) 0 ∗ semVal ((c : Thread nD τ), cellD 1 2) 0 ∗ semVal ((c : Thread nD τ), cellD 1 3) 0 ∗ semVal ((c : Thread nD τ), cellD 2 0) 0 ∗ semVal ((c : Thread nD τ), cellD 2 1) 0 ∗ semVal ((c : Thread nD τ), cellD 2 2) 0 ∗ semVal ((c : Thread nD τ), cellD 2 3) 0 ∗ semVal ((c : Thread nD τ), outCell) 0 ∗ semVal ((c : Thread nD τ), cellX) 0) := by
  rw [Pipeline.ownSems0_eq_of_list c osem0 [0, 1, 2, 3, 4, 5, 6, 7, 8, 9, 10, 11, 12, 13, 14, 15, 16, 17, 18, 19, 20, 21, 22, 23, 24, 25] (by decide) (by decide)]; rfl

/-- The arrays in HBM that the kernel reads, and those that it writes. -/
def H0 : Finset (Ref sig .tc) := {main_v0, main_v2, main_v4, main_v6, main_arg4, main_arg5, main_arg6, main_arg7, main_v8, main_v9}
def R0 : Finset (Ref sig .tc) := {main_v10_0, main_v10_1, main_v10_2}
theorem H0_sub : H0 ⊆ Pipeline.restRefs sig cfg0.spec := by decide
theorem R0_sub : R0 ⊆ Pipeline.restRefs sig cfg0.spec \ H0 := by decide
theorem hbmPts0_eq (c : Dev nD) :
    (bigSep H0 (fun b => ((c : Thread nD τ).loc b) ↦{fullShare} V m c b) : sProp 𝕄)
      = iprop(pt c mX (V m c main_v0) ∗ pt c mIds (V m c main_v2) ∗ pt c mGates (V m c main_v4) ∗ pt c mAid (V m c main_v6) ∗ pt c mUp (V m c main_arg4) ∗ pt c mUps (V m c main_arg5) ∗ pt c mDn (V m c main_arg6) ∗ pt c mDns (V m c main_arg7) ∗ pt c mLa (V m c main_v8) ∗ pt c mLb (V m c main_v9)) := by
  rw [BI.bigSep_eq_bigSepL_of_eq [main_v0, main_v2, main_v4, main_v6, main_arg4, main_arg5, main_arg6, main_arg7, main_v8, main_v9] (by decide) (by decide)]; rfl
theorem routed0_eq (c : Dev nD) (G : (b : Ref sig .tc) → Buf (Elt F) ((c.tc : Thread nD τ).loc b)) :
    (Pipeline.routed R0 c G : sProp 𝕄) = iprop(pt c mY (G main_v10_0) ∗ pt c mXc (G main_v10_1) ∗ pt c mXs (G main_v10_2)) := by
  unfold Pipeline.routed; rw [BI.bigSep_eq_bigSepL_of_eq [main_v10_0, main_v10_1, main_v10_2] (by decide) (by decide)]; rfl

set_option maxHeartbeats 4000000 in
theorem PhiDRG0_eq (c : Dev nD) (G : (c : Dev nD) → (b : Ref sig .tc) → Buf (Elt F) ((c.tc : Thread nD τ).loc b)) :
    (Pipeline.ΦDRG osem0 cfg0.spec H0 R0 (V m) G c : sProp 𝕄)
      = iprop(((∃ f, pt c sX f) ∗ (∃ f, pt c sIds f) ∗ (∃ f, pt c sGates f) ∗ (∃ f, pt c sAid f) ∗ (∃ f, pt c sUps f) ∗ (∃ f, pt c sDns f) ∗ (∃ f, pt c sUp f) ∗ (∃ f, pt c sDn f) ∗ (∃ f, pt c sA f) ∗ (∃ f, pt c sB f) ∗ (∃ f, pt c sXc f) ∗ (∃ f, pt c sXs f) ∗ (∃ f, pt c sXr f) ∗ (∃ f, pt c sMask f) ∗ (∃ f, pt c sAcc f) ∗ (∃ f, pt c sY f) ∗ (∃ f, pt c sIdsW f) ∗ (∃ f, pt c sList f))
        ∗ (∃ r, prngReg c r)
        ∗ (semVal ((c : Thread nD τ), cellI) 0 ∗ semVal ((c : Thread nD τ), cellS 0) 0 ∗ semVal ((c : Thread nD τ), cellS 1) 0 ∗ semVal ((c : Thread nD τ), cellS 2) 0 ∗ semVal ((c : Thread nD τ), cellS 3) 0 ∗ semVal ((c : Thread nD τ), cellK) 0 ∗ semVal ((c : Thread nD τ), cellA 0) 0 ∗ semVal ((c : Thread nD τ), cellA 1) 0 ∗ semVal ((c : Thread nD τ), cellA 2) 0 ∗ semVal ((c : Thread nD τ), cellU 0) 0 ∗ semVal ((c : Thread nD τ), cellU 1) 0 ∗ semVal ((c : Thread nD τ), cellU 2) 0 ∗ semVal ((c : Thread nD τ), cellD 0 0) 0 ∗ semVal ((c : Thread nD τ), cellD 0 1) 0 ∗ semVal ((c : Thread nD τ), cellD 0 2) 0 ∗ semVal ((c : Thread nD τ), cellD 0 3) 0 ∗ semVal ((c : Thread nD τ), cellD 1 0) 0 ∗ semVal ((c : Thread nD τ), cellD 1 1) 0 ∗ semVal ((c : Thread nD τ), cellD 1 2) 0 ∗ semVal ((c : Thread nD τ), cellD 1 3) 0 ∗ semVal ((c : Thread nD τ), cellD 2 0) 0 ∗ semVal ((c : Thread nD τ), cellD 2 1) 0 ∗ semVal ((c : Thread nD τ), cellD 2 2) 0 ∗ semVal ((c : Thread nD τ), cellD 2 3) 0 ∗ semVal ((c : Thread nD τ), outCell) 0 ∗ semVal ((c : Thread nD τ), cellX) 0)
        ∗ (pt c mX (V m c main_v0) ∗ pt c mIds (V m c main_v2) ∗ pt c mGates (V m c main_v4) ∗ pt c mAid (V m c main_v6) ∗ pt c mUp (V m c main_arg4) ∗ pt c mUps (V m c main_arg5) ∗ pt c mDn (V m c main_arg6) ∗ pt c mDns (V m c main_arg7) ∗ pt c mLa (V m c main_v8) ∗ pt c mLb (V m c main_v9))
        ∗ (pt c mY (G c main_v10_0) ∗ pt c mXc (G c main_v10_1) ∗ pt c mXs (G c main_v10_2))) := by
  rw [Pipeline.ΦDRG_eq, scopedRest0_eq, ownSems00_eq, hbmPts0_eq, routed0_eq]

/-! ## The values that the run leaves -/

/-- The weights and the other arrays that the kernel reads. -/
def wV (c : Dev nD) : Wts F c := ⟨V m c main_v8, V m c main_v9, V m c main_arg4, V m c main_arg6⟩
def rV (c : Dev nD) : Reads F c := readsV c (V m c main_v0) (V m c main_v2) (V m c main_v4) (V m c main_v6) (V m c main_arg5) (V m c main_arg7)
/-- The first word of the ids, and the list of experts. -/
def ix00 : S8x32.Idx := fun a => ⟨0, by fin_cases a <;> decide⟩
def firstW (c : Dev nD) : BitVec 32 := (V m c main_v2 : S8x32.Idx → BitVec 32) ix00
def eV (c : Dev nD) : EW := ⟨BitVec.ofNat 32 ((firstW m c).toNat % 32), by
  have : (firstW m c).toNat % 32 < 32 := Nat.mod_lt _ (by decide)
  simp; omega⟩
def lstV (c : Dev nD) : List ℕ := lstOf c (eV m c) (V m c main_v2)
/-- The result, the codes and the scales. -/
def yV (c : Dev nD) : BufOf F c mY :=
  yFin c (wV m c) (rV m c) (slotN ((lstV m c).length - 1)) (ent (lstV m c) ((lstV m c).length - 1)) (topAcc c (wV m c) (rV m c) (lstV m c))
def GV (c : Dev nD) : (b : Ref sig .tc) → Buf (Elt F) ((c.tc : Thread nD τ).loc b) :=
  Function.update (Function.update (Function.update (V m c) main_v10_0 (yV m c)) main_v10_1 (xcV (V m c main_v0) : Vec F S32x4096 .fp8e4m3)) main_v10_2 (xrV (V m c main_v0) : Vec F S1x32 .f32)
theorem GV_y (c : Dev nD) : GV m c main_v10_0 = yV m c := by
  unfold GV
  rw [Function.update_of_ne (by decide), Function.update_of_ne (by decide), Function.update_self]
theorem GV_xc (c : Dev nD) : GV m c main_v10_1 = (xcV (V m c main_v0) : Vec F S32x4096 .fp8e4m3) := by
  unfold GV
  rw [Function.update_of_ne (by decide), Function.update_self]
theorem GV_xs (c : Dev nD) : GV m c main_v10_2 = (xrV (V m c main_v0) : Vec F S1x32 .f32) := by
  unfold GV
  rw [Function.update_self]

theorem first_word (c : Dev nD) (f : BufOf F c sIdsW) (hE : (firstW m c).toNat < 32) :
    ∀ inb, sIdsW.view.readAt (Elt F) (Rect.unit (s := S8x32) ![0, 0] S1x1.size inb).toLoadRect (lnd c sIdsW f (mIds.view.read (Elt F) (V m c main_v2))) = fun _ => (eV m c).1 := by
  intro inb
  rw [lnd_sIdsW]
  have h : (eV m c).1 = firstW m c := by
    show BitVec.ofNat 32 ((firstW m c).toNat % 32) = firstW m c
    rw [Nat.mod_eq_of_lt hE]; simp
  rw [h]
  unfold firstW
  generalize V m c main_v2 = Z
  funext x
  show Z _ = Z _
  congr 1
  funext a
  apply Fin.ext
  fin_cases a
  · show 0 + 1 * (x 0).val = 0
    have : (x 0).val < 1 := (x 0).isLt
    omega
  · show 0 + 1 * (x 1).val = 0
    have : (x 1).val < 1 := (x 1).isLt
    omega

/-! ## The run of the body -/

theorem toks2 (c : Dev nD) (f : BufOf F c mIds) :
    pt c mIds f = iprop(ptq c mIds (Transfers.shareDrop fullShare 2) f ∗ ptq c mIds (Transfers.shareTok fullShare 2 0) f ∗ ptq c mIds (Transfers.shareTok fullShare 2 1) f) := by
  have h := Idealize.SL.BI.Entails.antisymm (Transfers.pointsTo_toks (Ix := Unit) (Name := ℕ) (Lvl := ℕ) (U := Pipeline.UD sig nD τ) (ℓ := mIds.view.loc (c : Thread nD τ)) (S := Finset.univ) (f := f) fullShare 2).1 (Transfers.pointsTo_toks fullShare 2).2
  rw [bigSep_univ_eq_bigSepL [0, 1] (by decide) (by decide)] at h
  exact h

theorem anti {P Q : sProp 𝕄} (h1 : P ⊢ Q) (h2 : Q ⊢ P) : P = Q := Idealize.SL.BI.Entails.antisymm h1 h2
/-- The resources of the ring's three slots, idle. -/
theorem slots_in (c : Dev nD) (w : Wts F c) :
    iprop((∃ f, pt c sUp f) ∗ (∃ f, pt c sDn f) ∗ (∃ f, pt c sA f) ∗ (∃ f, pt c sB f) ∗ pt c mLa w.fa ∗ pt c mLb w.fb ∗ pt c mUp w.fu ∗ pt c mDn w.fd
      ∗ semVal ((c : Thread nD τ), cellA 0) 0 ∗ semVal ((c : Thread nD τ), cellA 1) 0 ∗ semVal ((c : Thread nD τ), cellA 2) 0 ∗ semVal ((c : Thread nD τ), cellU 0) 0 ∗ semVal ((c : Thread nD τ), cellU 1) 0 ∗ semVal ((c : Thread nD τ), cellU 2) 0 ∗ semVal ((c : Thread nD τ), cellD 0 0) 0 ∗ semVal ((c : Thread nD τ), cellD 0 1) 0 ∗ semVal ((c : Thread nD τ), cellD 0 2) 0 ∗ semVal ((c : Thread nD τ), cellD 0 3) 0 ∗ semVal ((c : Thread nD τ), cellD 1 0) 0 ∗ semVal ((c : Thread nD τ), cellD 1 1) 0 ∗ semVal ((c : Thread nD τ), cellD 1 2) 0 ∗ semVal ((c : Thread nD τ), cellD 1 3) 0 ∗ semVal ((c : Thread nD τ), cellD 2 0) 0 ∗ semVal ((c : Thread nD τ), cellD 2 1) 0 ∗ semVal ((c : Thread nD τ), cellD 2 2) 0 ∗ semVal ((c : Thread nD τ), cellD 2 3) 0)
    = iprop((slotSt c w.fa w.fb w.fu w.fd 0 none ∗ slotSt c w.fa w.fb w.fu w.fd 1 none ∗ slotSt c w.fa w.fb w.fu w.fd 2 none)
      ∗ ptq c mLa (Transfers.shareDrop fullShare 3) w.fa ∗ ptq c mLb (Transfers.shareDrop fullShare 3) w.fb ∗ ptq c mUp (Transfers.shareDrop fullShare 3) w.fu ∗ ptq c mDn (Transfers.shareDrop fullShare 12) w.fd) := by
  have hst : ∀ k, slotSt c w.fa w.fb w.fu w.fd k none = free c w.fa w.fb w.fu w.fd k := fun _ => rfl
  rw [hst, hst, hst, exA, exB, exU, exD, toks3, toks3, toks3, toks12]
  unfold free freeD
  refine anti ?_ ?_
  · · iintro ⟨⟨U0, U1, U2⟩, ⟨⟨D00, D01, D02, D03⟩, ⟨D10, D11, D12, D13⟩, ⟨D20, D21, D22, D23⟩⟩, ⟨A0, A1, A2⟩, ⟨B0, B1, B2⟩, ⟨Ld, L0, L1, L2⟩, ⟨Md, M0, M1, M2⟩, ⟨Pd, P0, P1, P2⟩,
        ⟨Td, T00, T01, T02, T03, T10, T11, T12, T13, T20, T21, T22, T23⟩, C6, C7, C8, C9, C10, C11, C12, C13, C14, C15, C16, C17, C18, C19, C20, C21, C22, C23⟩
      isplitr [Ld Md Pd Td]
      · isplitl [C6 C9 A0 B0 U0 L0 M0 P0 C12 D00 T00 C13 D01 T01 C14 D02 T02 C15 D03 T03]
        · iframe
        isplitl [C7 C10 A1 B1 U1 L1 M1 P1 C16 D10 T10 C17 D11 T11 C18 D12 T12 C19 D13 T13]
        · iframe
        iframe
      · iframe
  · · iintro ⟨⟨⟨C6, C9, A0, B0, U0, L0, M0, P0, ⟨C12, D00, T00⟩, ⟨C13, D01, T01⟩, ⟨C14, D02, T02⟩, ⟨C15, D03, T03⟩⟩,
        ⟨C7, C10, A1, B1, U1, L1, M1, P1, ⟨C16, D10, T10⟩, ⟨C17, D11, T11⟩, ⟨C18, D12, T12⟩, ⟨C19, D13, T13⟩⟩,
        ⟨C8, C11, A2, B2, U2, L2, M2, P2, ⟨C20, D20, T20⟩, ⟨C21, D21, T21⟩, ⟨C22, D22, T22⟩, ⟨C23, D23, T23⟩⟩⟩, Ld, Md, Pd, Td⟩
      isplitl [U0 U1 U2]; · iframe
      isplitl [D00 D01 D02 D03 D10 D11 D12 D13 D20 D21 D22 D23]
      · isplitl [D00 D01 D02 D03]; · iframe
        isplitl [D10 D11 D12 D13]; · iframe
        iframe
      isplitl [A0 A1 A2]; · iframe
      isplitl [B0 B1 B2]; · iframe
      isplitl [Ld L0 L1 L2]; · iframe
      isplitl [Md M0 M1 M2]; · iframe
      isplitl [Pd P0 P1 P2]; · iframe
      isplitl [Td T00 T01 T02 T03 T10 T11 T12 T13 T20 T21 T22 T23]; · iframe
      iframe

end Cert.KernelIdeal.Hand

end
-- ==== Proof.Run.lean ====
/-
  The run of @main: the body's run between the resources of the launch, and what it leaves.
-/
module

public import proofs.«01_k».proof.Proof.Launch
public import proofs.«01_k».proof.Proof.Gen.KernelIdeal.Frame
public import Idealize.ShloMosaic.Lib.Pipeline.FrameValue

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

/-- The resource algebra of the run: the launch's beside the transfers' counters. -/
local notation "𝕄" => MT nD τ sig Unit (Elt F) ℕ (Pipeline.UD sig nD τ) ℕ

variable (m : (ℓ : Loc nD τ sig) → Buf (Elt F) ℓ) (ρ : Dev nD → PrngReg)

variable (m : (ℓ : Loc nD τ sig) → Buf (Elt F) ℓ) (ρ : Dev nD → PrngReg)

theorem lstV_eq (c : Dev nD) (f : BufOf F c sIdsW) : lstV m c = lstOf c (eV m c) (lnd c sIdsW f (mIds.view.read (Elt F) (V m c main_v2))) := by
  rw [lnd_sIdsW]; rfl
theorem xrV_eq' (c : Dev nD) (g : BufOf F c sXr) (f : BufOf F c sX) :
    xrV (V m c main_v0) = xrW c g (xLoad c (lnd c sX f (mX.view.read (Elt F) (V m c main_v0)))) := by
  rw [lnd_sX, xLoad_eq, xrW_eq]; rfl
theorem codes_end (c : Dev nD) : (pt c mXc (lnd c mXc (V m c main_v10_1) (sXc.view.read (Elt F) (rV m c).xc)) : sProp 𝕄) = pt c mXc (xcV (V m c main_v0) : Vec F S32x4096 .fp8e4m3) := by
  rw [lnd_mXc]; rfl
theorem scales_end (c : Dev nD) : (pt c mXs (lnd c mXs (V m c main_v10_2) (sXr.view.read (Elt F) (xrV (V m c main_v0)))) : sProp 𝕄) = pt c mXs (xrV (V m c main_v0) : Vec F S1x32 .f32) := by
  rw [lnd_mXs]; rfl

set_option maxHeartbeats 4000000 in
/-- THE BODY'S RUN: from what the launch hands it, to what the launch takes back with the three results at their values. -/
theorem body_run (c : Dev nD) (hE : (firstW m c).toNat < 32) (t : Fin cfg0.N) (W : Waits sig Unit) :
    iprop(Pipeline.ΦDRG osem0 cfg0.spec H0 R0 (V m) (V m) c ∗ owes (c : Thread nD τ) 0 W)
    ⊢ wp frame (wpE (defs₀ (F := F)) Variants.none (c : Thread nD τ) none) Set.univ (bodyAt0 t)
      (fun _ => iprop(Pipeline.ΦDRG osem0 cfg0.spec H0 R0 (V m) (GV m) c ∗ ∃ W', owes (c : Thread nD τ) 0 W')) := by
  rw [PhiDRG0_eq, PhiDRG0_eq, GV_y, GV_xc, GV_xs]
  unfold bodyAt0
  iintro ⟨⟨⟨⟨%f_sX, S_sX⟩, ⟨%f_sIds, S_sIds⟩, ⟨%f_sGates, S_sGates⟩, ⟨%f_sAid, S_sAid⟩, ⟨%f_sUps, S_sUps⟩, ⟨%f_sDns, S_sDns⟩, S_sUp, S_sDn, S_sA, S_sB, ⟨%f_sXc, S_sXc⟩, ⟨%f_sXs, S_sXs⟩, ⟨%f_sXr, S_sXr⟩, ⟨%f_sMask, S_sMask⟩, ⟨%f_sAcc, S_sAcc⟩, ⟨%f_sY, S_sY⟩, ⟨%f_sIdsW, S_sIdsW⟩, ⟨%f_sList, S_sList⟩⟩, Hg, ⟨C0, C1, C2, C3, C4, C5, C6, C7, C8, C9, C10, C11, C12, C13, C14, C15, C16, C17, C18, C19, C20, C21, C22, C23, C24, C25⟩, ⟨H_mX, H_mIds, H_mGates, H_mAid, H_mUp, H_mUps, H_mDn, H_mDns, H_mLa, H_mLb⟩, ⟨H_mY, H_mXc, H_mXs⟩⟩, HO⟩
  ihave HS := (Entails.of_eq (slots_in c (wV m c))) $$ [S_sUp S_sDn S_sA S_sB H_mLa H_mLb H_mUp H_mDn C6 C7 C8 C9 C10 C11 C12 C13 C14 C15 C16 C17 C18 C19 C20 C21 C22 C23]
  · unfold wV; iframe
  icases HS with ⟨⟨K0, K1, K2⟩, Ld, Md, Pd, Td⟩
  ihave HI := (Entails.of_eq (toks2 c (V m c main_v2))) $$ H_mIds
  icases HI with ⟨Id, I0, I1⟩
  ihave HY := (Entails.of_eq (colsY c (V m c main_v10_0))) $$ H_mY
  icases HY with ⟨Y0, Y1, Y2, Y3⟩
  iapply (wp_wand_r Idealize.ShloMosaic.frame (wpE (defs₀ (F := F)) Variants.none (c : Thread nD τ) none) Set.univ)
  isplitr [Ld Md Pd Td Id Hg]
  · iapply (topA c (wV m c) (V m c main_v2) (V m c main_v0) (V m c main_v4) (V m c main_v6) (V m c main_arg5) (V m c main_arg7)
      f_sX f_sIds f_sGates f_sAid f_sUps f_sDns f_sIdsW f_sList f_sXc f_sXs f_sXr f_sMask f_sAcc f_sY
      (V m c main_v10_0) (V m c main_v10_1) (V m c main_v10_2) (eV m c) (first_word m c f_sIdsW hE) (rV m c) (lstV m c) (xrV (V m c main_v0))
      (readsV_eq c _ _ _ _ _ _ _ _ _ _ _ _ _ _) (lstV_eq m c f_sIdsW) (xrV_eq' m c f_sXr f_sX) W)
    isplitl [I0]; · iexact I0
    isplitl [I1]; · iexact I1
    isplitl [H_mX]; · iexact H_mX
    isplitl [H_mGates]; · iexact H_mGates
    isplitl [H_mAid]; · iexact H_mAid
    isplitl [H_mUps]; · iexact H_mUps
    isplitl [H_mDns]; · iexact H_mDns
    isplitl [S_sX]; · iexact S_sX
    isplitl [S_sIds]; · iexact S_sIds
    isplitl [S_sGates]; · iexact S_sGates
    isplitl [S_sAid]; · iexact S_sAid
    isplitl [S_sUps]; · iexact S_sUps
    isplitl [S_sDns]; · iexact S_sDns
    isplitl [S_sIdsW]; · iexact S_sIdsW
    isplitl [C0]; · iexact C0
    isplitl [C1]; · iexact C1
    isplitl [C2]; · iexact C2
    isplitl [C3]; · iexact C3
    isplitl [C4]; · iexact C4
    isplitl [C5]; · iexact C5
    isplitl [C25]; · iexact C25
    isplitl [C24]; · iexact C24
    isplitl [S_sList]; · iexact S_sList
    isplitl [S_sXc]; · iexact S_sXc
    isplitl [S_sXs]; · iexact S_sXs
    isplitl [S_sXr]; · iexact S_sXr
    isplitl [S_sMask]; · iexact S_sMask
    isplitl [S_sAcc]; · iexact S_sAcc
    isplitl [S_sY]; · iexact S_sY
    isplitl [Y0]; · iexact Y0
    isplitl [Y1]; · iexact Y1
    isplitl [Y2]; · iexact Y2
    isplitl [Y3]; · iexact Y3
    isplitl [H_mXc]; · iexact H_mXc
    isplitl [H_mXs]; · iexact H_mXs
    isplitl [K0]; · iexact K0
    isplitl [K1]; · iexact K1
    isplitl [K2]; · iexact K2
    iexact HO
  iintro %u Hp
  unfold topPost
  icases Hp with ⟨⟨I0, I1, H_mX, H_mGates, H_mAid, H_mUps, H_mDns⟩,
    ⟨S_sX, S_sIds, S_sGates, S_sAid, S_sUps, S_sDns, S_sIdsW, S_sList, S_sXc, S_sXs, S_sXr, S_sMask, S_sAcc⟩,
    ⟨C0, C1, C2, C3, C4, C5, C25, C24⟩, HYs, H_mXc, H_mXs, HR, HO⟩
  ihave HR2 := (Entails.of_eq (ring_fold c (wV m c) (fun _ => none)).symm) $$ HR
  ihave HS := (Entails.of_eq (slots_in c (wV m c)).symm) $$ [HR2 Ld Md Pd Td]
  · isplitl [HR2]; · iexact HR2
    iframe
  unfold wV
  icases HS with ⟨S_sUp, S_sDn, S_sA, S_sB, H_mLa, H_mLb, H_mUp, H_mDn, C6, C7, C8, C9, C10, C11, C12, C13, C14, C15, C16, C17, C18, C19, C20, C21, C22, C23⟩
  ihave H_mIds := (Entails.of_eq (toks2 c (V m c main_v2)).symm) $$ [Id I0 I1]
  · iframe
  ihave HY := (landY_all c (wV m c) (rV m c) (slotN ((lstV m c).length - 1)) (ent (lstV m c) ((lstV m c).length - 1)) (topAcc c (wV m c) (rV m c) (lstV m c)) f_sY (V m c main_v10_0)) $$ [HYs]
  · iexact HYs
  icases HY with ⟨S_sY, H_mY⟩
  ihave H_c := (Entails.of_eq (codes_end m c)) $$ H_mXc
  ihave H_s := (Entails.of_eq (scales_end m c)) $$ H_mXs
  isplitr [HO]
  · isplitl [S_sX S_sIds S_sGates S_sAid S_sUps S_sDns S_sUp S_sDn S_sA S_sB S_sXc S_sXs S_sXr S_sMask S_sAcc S_sY S_sIdsW S_sList]
    · isplitl [S_sX]; · iexact S_sX
      isplitl [S_sIds]; · iexact S_sIds
      isplitl [S_sGates]; · iexact S_sGates
      isplitl [S_sAid]; · iexact S_sAid
      isplitl [S_sUps]; · iexact S_sUps
      isplitl [S_sDns]; · iexact S_sDns
      isplitl [S_sUp]; · iexact S_sUp
      isplitl [S_sDn]; · iexact S_sDn
      isplitl [S_sA]; · iexact S_sA
      isplitl [S_sB]; · iexact S_sB
      isplitl [S_sXc]; · iexact S_sXc
      isplitl [S_sXs]; · iexact S_sXs
      isplitl [S_sXr]; · iexact S_sXr
      isplitl [S_sMask]; · iexact S_sMask
      isplitl [S_sAcc]; · iexact S_sAcc
      isplitl [S_sY]; · iexact S_sY
      isplitl [S_sIdsW]; · iexact S_sIdsW
      iexact S_sList
    isplitl [Hg]; · iexact Hg
    isplitl [C0 C1 C2 C3 C4 C5 C6 C7 C8 C9 C10 C11 C12 C13 C14 C15 C16 C17 C18 C19 C20 C21 C22 C23 C24 C25]
    · isplitl [C0]; · iexact C0
      isplitl [C1]; · iexact C1
      isplitl [C2]; · iexact C2
      isplitl [C3]; · iexact C3
      isplitl [C4]; · iexact C4
      isplitl [C5]; · iexact C5
      isplitl [C6]; · iexact C6
      isplitl [C7]; · iexact C7
      isplitl [C8]; · iexact C8
      isplitl [C9]; · iexact C9
      isplitl [C10]; · iexact C10
      isplitl [C11]; · iexact C11
      isplitl [C12]; · iexact C12
      isplitl [C13]; · iexact C13
      isplitl [C14]; · iexact C14
      isplitl [C15]; · iexact C15
      isplitl [C16]; · iexact C16
      isplitl [C17]; · iexact C17
      isplitl [C18]; · iexact C18
      isplitl [C19]; · iexact C19
      isplitl [C20]; · iexact C20
      isplitl [C21]; · iexact C21
      isplitl [C22]; · iexact C22
      isplitl [C23]; · iexact C23
      isplitl [C24]; · iexact C24
      iexact C25
    isplitl [H_mX H_mIds H_mGates H_mAid H_mUp H_mUps H_mDn H_mDns H_mLa H_mLb]
    · isplitl [H_mX]; · iexact H_mX
      isplitl [H_mIds]; · iexact H_mIds
      isplitl [H_mGates]; · iexact H_mGates
      isplitl [H_mAid]; · iexact H_mAid
      isplitl [H_mUp]; · iexact H_mUp
      isplitl [H_mUps]; · iexact H_mUps
      isplitl [H_mDn]; · iexact H_mDn
      isplitl [H_mDns]; · iexact H_mDns
      isplitl [H_mLa]; · iexact H_mLa
      iexact H_mLb
    isplitl [H_mY]; · iexact H_mY
    isplitl [H_c]; · iexact H_c
    iexact H_s
  · iexact HO

/-! ## The launch -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The proof data of the one pipeline, which has no windows. -/
def dats (_ : Fin 1) (c : Dev nD) : Dat τ (Elt F) Unit ℕ (Pipeline.UD sig nD τ) ℕ cfg0 c where
  A w := V m c (Pipeline.arrRef cfg0.spec w)
  after w t := w.elim0
  Φ i := if i.val = 0 then Pipeline.ΦDRG osem0 cfg0.spec H0 R0 (V m) (V m) c else Pipeline.ΦDRG osem0 cfg0.spec H0 R0 (V m) (GV m) c
  q _ := fullShare
  owed _ := 0

theorem Phi_first (c : Dev nD) (t : Fin cfg0.N) : (dats m 0 c).Φ t.castSucc = Pipeline.ΦDRG osem0 cfg0.spec H0 R0 (V m) (V m) c := by
  have h : t.castSucc.val = 0 := by
    have := t.isLt; have h1 : cfg0.N = 1 := N_0
    show t.val = 0; omega
  exact if_pos h
theorem Phi_last (c : Dev nD) (t : Fin cfg0.N) : (dats m 0 c).Φ t.succ = Pipeline.ΦDRG osem0 cfg0.spec H0 R0 (V m) (GV m) c := by
  have h : ¬ t.succ.val = 0 := by rw [Fin.val_succ]; omega
  simp only [dats]
  simp only [if_neg h]

def bodyPre (c : Dev nD) (t : Fin cfg0.N) : sProp 𝕄 := iprop((dats m 0 c).Φ t.castSucc ∗ (dats m 0 c).owesAt () t.castSucc)
def bodyPost (c : Dev nD) (t : Fin cfg0.N) : sProp 𝕄 := iprop((dats m 0 c).Φ t.succ ∗ (dats m 0 c).owesAt () t.succ)

theorem sound_body (c : Dev nD) (hE : (firstW m c).toNat < 32) (t : Fin cfg0.N) :
    bodyPre m c t ⊢ wp frame (wpE (defs₀ (F := F)) Variants.none (c : Thread nD τ) none) Set.univ (bodyAt0 t) (fun _ => bodyPost m c t) := by
  unfold bodyPre bodyPost
  rw [Phi_first, Phi_last]
  unfold Dat.owesAt Pipeline.owesWithin
  rw [show (dats m 0 c).owed t.castSucc = 0 from rfl, show (dats m 0 c).owed t.succ = 0 from rfl]
  iintro ⟨HΦ, ⟨%W, -, HW⟩⟩
  iapply (wp_wand_r Idealize.ShloMosaic.frame (wpE (defs₀ (F := F)) Variants.none (c : Thread nD τ) none) Set.univ)
  isplitl [HΦ HW]
  · iapply (body_run m c hE t W)
    isplitl [HΦ]; · iexact HΦ
    iexact HW
  iintro %u ⟨HΦ, ⟨%W', HW'⟩⟩
  isplitl [HΦ]; · iexact HΦ
  iexists W'; isplitr; · ipureintro; exact fun _ _ => Or.inl trivial
  iexact HW'

theorem defs₀_row (t : Fin cfg0.N) : defs₀ (F := F) .tc cfg0.body (cfg0.bodyArgs t (cfg0.slots t)) = bodyAt0 t := by
  unfold defs₀; rw [Defs.onTc_tc]

theorem no_windows (Φ : Fin cfg0.W → sProp 𝕄) : bigSep Finset.univ Φ = BI.emp := by
  rw [show (Finset.univ : Finset (Fin cfg0.W)) = ∅ from rfl, BI.bigSep_empty]

theorem body_obligation (c : Dev nD) (hE : (firstW m c).toNat < 32) : BodyObligation (dats (F := F) m 0 c) (defs₀ (F := F)) Variants.none () Set.univ := fun t => by
  rw [no_windows, no_windows, defs₀_row]
  have h1 : iprop((dats m 0 c).Φ t.castSucc ∗ (dats m 0 c).owesAt () t.castSucc ∗ BI.emp) ⊢ bodyPre m c t := by
    unfold bodyPre; iintro ⟨H1, H2, -⟩; iframe
  have h2 : bodyPost m c t ⊢ iprop((dats m 0 c).Φ t.succ ∗ (dats m 0 c).owesAt () t.succ ∗ BI.emp) := by
    unfold bodyPost; iintro ⟨H1, H2⟩
    isplitl [H1]; · iexact H1
    isplitl [H2]; · iexact H2
    iempintro
  exact triple_restated (sound_body m c hE t) rfl h1 fun _ => h2

set_option backward.isDefEq.respectTransparency.types false in
/-- THE RUN OF @main: it ends, nothing outside the three results changes, they hold their values, every counter is zero. -/
theorem run_main (hE : ∀ c, (firstW m c).toNat < 32) :
    θ_run defs (onTc (τ := τ) (main (F := F))) (s₀ m ρ) (fun r => Pipeline.FramePostRG cfgs (dats m) 0 R0 (V m) (GV m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c (hE c)).loose) (hshare := fun c => (dats m 0 c).share_full fun _ => rfl)
    (howed := fun _ _ => rfl) (V := V m) (hmain := hmainD m Variants.none) (hA := fun _ w => w.elim0) (G := GV m)
    (hin := fun _ => .rfl) (hout := fun _ => .rfl)

/-- What a run leaves in the arguments and in the three results. -/
theorem run_values (hE : ∀ c, (firstW m c).toNat < 32) :
    θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)
      ∧ ∀ c : Dev nD, r.2.mem ((c.tc : Thread nD τ).loc main_v10_0) = yV m c
        ∧ r.2.mem ((c.tc : Thread nD τ).loc main_v10_1) = (xcV (V m c main_v0) : Vec F S32x4096 .fp8e4m3)
        ∧ r.2.mem ((c.tc : Thread nD τ).loc main_v10_2) = (xrV (V m c main_v0) : Vec F S1x32 .f32)) :=
  (θ_run defs _ _).mono (fun r h => ⟨⟨fun c => ⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      ((h.1.1 c).2 main_arg4 (Finset.mem_sdiff.mpr ⟨Pipeline.mem_restRefs_of main_arg4 (by decide) (by decide), by decide⟩)).trans (V_main_arg4 m c),
      ((h.1.1 c).2 main_arg5 (Finset.mem_sdiff.mpr ⟨Pipeline.mem_restRefs_of main_arg5 (by decide) (by decide), by decide⟩)).trans (V_main_arg5 m c),
      ((h.1.1 c).2 main_arg6 (Finset.mem_sdiff.mpr ⟨Pipeline.mem_restRefs_of main_arg6 (by decide) (by decide), by decide⟩)).trans (V_main_arg6 m c),
      ((h.1.1 c).2 main_arg7 (Finset.mem_sdiff.mpr ⟨Pipeline.mem_restRefs_of main_arg7 (by decide) (by decide), by decide⟩)).trans (V_main_arg7 m c),
      ((h.1.1 c).2 main_arg8 (Finset.mem_sdiff.mpr ⟨Pipeline.mem_restRefs_of main_arg8 (by decide) (by decide), by decide⟩)).trans (V_main_arg8 m c),
      ((h.1.1 c).2 main_arg9 (Finset.mem_sdiff.mpr ⟨Pipeline.mem_restRefs_of main_arg9 (by decide) (by decide), by decide⟩)).trans (V_main_arg9 m c)⟩, h.2⟩,
    fun c => ⟨(h.1.2 c main_v10_0 (by decide)).trans (GV_y m c), (h.1.2 c main_v10_1 (by decide)).trans (GV_xc m c), (h.1.2 c main_v10_2 (by decide)).trans (GV_xs m c)⟩⟩)
    (run_main m ρ hE)

end Cert.KernelIdeal.Hand

end
-- ==== Proof.Ids.lean ====
/-
  The first routed expert is one of the 32, from the precondition.
-/
module

public import proofs.«01_k».proof.Proof.Launch
public import proofs.«01_k».proof.Pre_experts_exist
public import Idealize.ShloMosaic.Lib.ReduceAll
public import Idealize.ShloMosaic.Lib.StableHlo.RunRead

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- The ids as the kernel reads them: the argument's, one row per routed position. -/
theorem V_ids (c : Dev nD) : V m c main_v2
    = transpose S8x32 [1, 0] (shapeCast S32x8 (m ((c.tc : Thread nD τ).loc main_arg1) : S32x1x8.Idx → BitVec 32) shapeCasts_S32x1x8_S32x8) transposes_S32x8_S8x32_1_0 := by
  unfold V
  after_reads_simp
  rfl

/-- The activations as the kernel reads them. -/
theorem V_x (c : Dev nD) : V m c main_v0
    = shapeCast S32x4096 (m ((c.tc : Thread nD τ).loc main_arg0) : S32x1x4096.Idx → F .bf16) shapeCasts_S32x1x4096_S32x4096 := by
  unfold V
  after_reads_simp
  rfl

/-- The first word of the ids is an entry of the argument. -/
theorem first_id (c : Dev nD) : ∃ i : S32x1x8.Idx, firstW m c = (m ((c.tc : Thread nD τ).loc main_arg1) : S32x1x8.Idx → BitVec 32) i := by
  unfold firstW
  rw [V_ids]
  exact ⟨_, rfl⟩

/-- A word that is at least 0 and below 32, read as a signed number, is below 32. -/
theorem word_small (w : BitVec 32) (h0 : IntOp.cmpi .sge w 0#32 = 1#1) (h1 : IntOp.cmpi .slt w 32#32 = 1#1) : w.toNat < 32 := by
  rw [IntOp.cmpi_sge] at h0
  rw [IntOp.cmpi_slt] at h1
  simp only [BitVec.toInt_eq_toNat_cond] at h0 h1
  have := w.isLt
  have e0 : (0#32 : BitVec 32).toNat = 0 := rfl
  have e1 : (32#32 : BitVec 32).toNat = 32 := rfl
  rw [e0] at h0
  rw [e1] at h1
  split at h0 <;> split at h1 <;> simp at h0 h1 <;> omega

/-- Every id is below 32 when the precondition holds of the arguments. -/
theorem ids_small [Cert.Pre_experts_exist.Facts] (a0 a1 a2 a3 a4 a5 a6 a7 a8 a9) (j)
    (h : Cert.Pre_experts_exist.fn (F := F) a0 a1 a2 a3 a4 a5 a6 a7 a8 a9 j = 1#1) (i : S32x1x8.Idx) : (a1 i).toNat < 32 := by
  haveI : Subsingleton Cert.Pre_experts_exist.S_.Idx := ⟨fun a b => funext fun x => x.elim0⟩
  have h2 := Host.reduce_andi_all _ _ _ _ j h i
  obtain ⟨h3, h4⟩ := IntOp.andi_eq_one.1 h2
  exact word_small _ h3 h4

end Cert.KernelIdeal.Hand

end
-- ==== Proof.Power.lean ====
/-
  The quantiser's exponent as a number, and the two ways to it: the floor of a logarithm, and the count of the powers of
  two that do not exceed the scale.
-/
module

public import Idealize.ShloMosaic.PureOps
public import Idealize.ShloMosaic.PureOps.Ideal
public import Mathlib.Analysis.SpecialFunctions.Pow.Real

@[expose] public section

noncomputable section

namespace Cert.Power

open Idealize.ShloMosaic

/-- A power of two as an extended real. -/
def pow2 (e : ℤ) : EReal := (((2 : ℝ) ^ e : ℝ) : EReal)

theorem pow2_pos (e : ℤ) : (0 : ℝ) < (2 : ℝ) ^ e := by positivity

theorem pow2_mono {a b : ℤ} (h : a ≤ b) : pow2 a ≤ pow2 b :=
  EReal.coe_le_coe_iff.2 (zpow_le_zpow_right₀ (by norm_num) h)

/-- The floor of the logarithm to the base two. -/
def flog (r : ℝ) : ℤ := ⌊Real.log r * (1 / Real.log 2)⌋

theorem pow_le_iff {r : ℝ} (h0 : 0 < r) (e : ℤ) : (2 : ℝ) ^ e ≤ r ↔ e ≤ flog r := by
  have h2 : (0 : ℝ) < Real.log 2 := Real.log_pos (by norm_num)
  rw [flog, Int.le_floor, mul_one_div, le_div_iff₀ h2, ← Real.log_zpow, Real.log_le_log_iff (pow2_pos e) h0]

/-- The exponent the quantiser takes of a scale: the first power of two above it, and 0 outside the range. -/
def qexp (s : EReal) : ℤ := if pow2 (-126) ≤ s ∧ s < pow2 126 then flog s.toReal + 1 else 0

/-- A scale inside the range is a positive real. -/
theorem real_of_range {s : EReal} (h : pow2 (-126) ≤ s ∧ s < pow2 126) : ∃ r : ℝ, s = (r : EReal) ∧ 0 < r ∧ (2 : ℝ) ^ (-126 : ℤ) ≤ r ∧ r < (2 : ℝ) ^ (126 : ℤ) := by
  obtain ⟨h1, h2⟩ := h
  induction s using EReal.rec with
  | bot => exact absurd h1 (by simp [pow2])
  | top => exact absurd h2 (by simp [pow2])
  | coe r =>
    have a := EReal.coe_le_coe_iff.1 h1
    exact ⟨r, rfl, lt_of_lt_of_le (pow2_pos _) a, a, EReal.coe_lt_coe_iff.1 h2⟩

/-- Its logarithm's bounds. -/
theorem log_range {r : ℝ} (h0 : 0 < r) (h1 : (2 : ℝ) ^ (-126 : ℤ) ≤ r) (h2 : r < (2 : ℝ) ^ (126 : ℤ)) :
    -126 ≤ flog r ∧ flog r ≤ 125 := by
  constructor
  · exact (pow_le_iff h0 _).1 h1
  · have := mt (pow_le_iff h0 126).2 (not_le.2 h2)
    omega

theorem qexp_range (s : EReal) : -125 ≤ qexp s ∧ qexp s ≤ 126 := by
  unfold qexp
  split
  · next h =>
    obtain ⟨r, rfl, h0, h1, h2⟩ := real_of_range h
    have := log_range h0 h1 h2
    rw [EReal.toReal_coe]
    omega
  · omega

/-- How many of the 255 thresholds a scale reaches. -/
def reached (s : EReal) : ℕ := ∑ k : Fin 255, if pow2 ((min (k.val + 1) 253 : ℕ) - 127) ≤ s then 1 else 0

/-- A count of the numbers below a bound. -/
theorem count_below (n : ℕ) (h : n ≤ 255) : (∑ k : Fin 255, if k.val < n then 1 else 0) = n := by
  rw [Fin.sum_univ_eq_sum_range (fun k => if k < n then 1 else 0) 255, Finset.sum_boole]
  have : (Finset.range 255).filter (fun k => k < n) = Finset.range n := by
    ext k; simp only [Finset.mem_filter, Finset.mem_range]; omega
  rw [this, Finset.card_range]; rfl

/-- The exponent from the count, as the quantiser takes it. -/
theorem qexp_reached (s : EReal) : reached s ≤ 255 ∧ qexp s = if reached s = 0 ∨ reached s = 255 then 0 else (reached s : ℤ) - 126 := by
  by_cases h : pow2 (-126) ≤ s ∧ s < pow2 126
  · have hq : qexp s = flog s.toReal + 1 := if_pos h
    obtain ⟨r, rfl, h0, h1, h2⟩ := real_of_range h
    have hl := log_range h0 h1 h2
    rw [EReal.toReal_coe] at hq
    have hr : reached (r : EReal) = (flog r + 127).toNat := by
      refine (Finset.sum_congr rfl fun k _ => ?_).trans (count_below _ (by omega))
      refine if_congr ?_ rfl rfl
      have : pow2 ((min (k.val + 1) 253 : ℕ) - 127) ≤ (r : EReal) ↔ ((min (k.val + 1) 253 : ℕ) - 127 : ℤ) ≤ flog r := by
        rw [← pow_le_iff h0]
        exact EReal.coe_le_coe_iff
      rw [this]
      omega
    rw [hr, hq, if_neg (by omega)]
    omega
  · rw [show qexp s = 0 from if_neg h]
    by_cases h1 : pow2 (-126) ≤ s
    · have h2 : pow2 126 ≤ s := not_lt.1 fun h2 => h ⟨h1, h2⟩
      have : reached s = 255 := by
        refine (Finset.sum_congr rfl fun k _ => ?_).trans (count_below 255 le_rfl)
        rw [if_pos k.isLt, if_pos ((pow2_mono (by omega)).trans h2)]
      rw [this]; exact ⟨le_rfl, (if_pos (.inr rfl)).symm⟩
    · have : reached s = 0 := by
        refine (Finset.sum_congr rfl fun k _ => ?_).trans (count_below 0 (by omega))
        rw [if_neg fun hk => h1 ((pow2_mono (by omega)).trans hk), if_neg (Nat.not_lt_zero _)]
      rw [this]; exact ⟨by omega, (if_pos (.inl rfl)).symm⟩

/-- A binary32 word with no sign and no fraction is the power of two of its exponent field. -/
theorem ofBits_field (f : ℕ) (h1 : 1 ≤ f) (h2 : f ≤ 254) (w : BitVec 32) (hw : w.toNat = f * 2 ^ 23) :
    Ideal.ofBits .f32 w = pow2 ((f : ℤ) - 127) := by
  have e1 : (w.extractLsb' 23 8).toNat = f := by
    rw [BitVec.extractLsb'_toNat, hw, Nat.shiftRight_eq_div_pow, Nat.mul_div_cancel _ (by norm_num)]; omega
  have e2 : (w.extractLsb' 0 23).toNat = 0 := by
    rw [BitVec.extractLsb'_toNat, hw, Nat.shiftRight_zero]; omega
  have e3 : (w.extractLsb' (8 + 23) 1 == 1#1) = false := by
    have : (w.extractLsb' (8 + 23) 1).toNat = 0 := by
      rw [BitVec.extractLsb'_toNat, hw, Nat.shiftRight_eq_div_pow]; omega
    rw [BitVec.eq_of_toNat_eq (y := 0#1) this]; rfl
  show Ideal.ieee 8 23 w = _
  unfold Ideal.ieee
  simp only [e1, e2, e3]
  rw [if_neg (by omega), if_neg (by omega)]
  unfold pow2
  congr 1
  have : ((f : ℤ) - 127) = 23 + ((f : ℤ) - (2 ^ (8 - 1) - 1) - 23) := by norm_num
  rw [show ((f : ℤ) - 127) = 23 + ((f : ℤ) - (2 ^ (8 - 1) - 1) - (23 : ℕ)) by norm_num, zpow_add₀ (by norm_num)]
  norm_num

/-- Two to a whole exponent. -/
theorem exp2_int (e : ℤ) : Ideal.exp2 (((e : ℤ) : ℝ) : EReal) = pow2 e := by
  show ((Real.rpow 2 (e : ℝ) : ℝ) : EReal) = _
  unfold pow2
  congr 1
  exact Real.rpow_intCast 2 e

end Cert.Power

end
-- ==== Proof.Count.lean ====
/-
  The kernel's exponent of a scale: it counts the powers of two that the scale reaches.
-/
module

public import proofs.«01_k».proof.Proof.Gen.KernelIdeal
public import proofs.«01_k».proof.Proof.Gen.KernelIdeal.Skeleton
public import proofs.«01_k».proof.Proof.Power
public import Idealize.ShloMosaic.Lib.ValueIdx
public import Idealize.ShloMosaic.Lib.ValueLayout
public import Idealize.ShloMosaic.Lib.ValueLayoutCasts
public import Idealize.ShloMosaic.Lib.WordSum
public import Idealize.ShloMosaic.Lib.Affine
public import Idealize.ShloMosaic.Lib.Pipeline.Value

@[expose] public section

noncomputable section

namespace Cert.KernelIdeal.Hand

open Cert.KernelIdeal Cert.KernelIdeal.Gen Cert.Power
open Idealize.ShloMosaic Idealize.ShloMosaic.ValueIdx

/-- A one-column array broadcast along its rows reads the column. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The word of the threshold number `k`. -/
def threshold (k : Fin 255) : BitVec 32 := IntOp.shli .vector (IntOp.minsi (BitVec.ofNat 32 k.val + 1#32) 253#32) 23#32

theorem threshold_toNat : ∀ k : Fin 255, (threshold k).toNat = (min (k.val + 1) 253) * 2 ^ 23 := by decide +kernel

theorem threshold_value (k : Fin 255) : Ideal.ofBits .f32 (threshold k) = pow2 ((min (k.val + 1) 253 : ℕ) - 127) :=
  ofBits_field _ (by omega) (by omega) _ (threshold_toNat k)

/-- The kernel's row of numbers. -/
theorem numbers (k : Fin 255) : k0_pay39 (ix2 (0 : Fin 1) k) = BitVec.ofNat 32 k.val + 1#32 := by
  have h : iota .tc S1x255 32 [1] iota_S1x255_d1_w32 (ix2 (0 : Fin 1) k) = BitVec.ofNat 32 k.val := by
    revert k; decide +kernel
  rw [← h]; rfl

/-- The words the kernel adds up along a row. -/
def marks (s : FVec Ideal S32x1 .f32) : IVec S32x255 32 :=
  select (cmpf .oge (broadcastTo S32x255 s broadcasts_S32x1_S32x255)
    (broadcastTo S32x255 (bitcastToFloat (F := Ideal) .f32 (shli (minsi k0_pay39 (broadcast S1x255 253#32)) (broadcast S1x255 23#32))) broadcasts_S1x255_S32x255))
    (broadcast S32x255 1#32) (broadcast S32x255 0#32)

theorem marks_toNat (s : FVec Ideal S32x1 .f32) (r : Fin 32) (k : Fin 255) :
    (marks s (ix2 r k)).toNat = if pow2 ((min (k.val + 1) 253 : ℕ) - 127) ≤ s (ix2 r (0 : Fin 1)) then 1 else 0 := by
  have h1 : broadcastTo S32x255 s broadcasts_S32x1_S32x255 (ix2 r k) = s (ix2 r (0 : Fin 1)) := broadcastTo_a1_ab_apply _ _ _ _
  have h2 : broadcastTo S32x255 (bitcastToFloat (F := Ideal) .f32 (shli (minsi k0_pay39 (broadcast S1x255 253#32)) (broadcast S1x255 23#32))) broadcasts_S1x255_S32x255 (ix2 r k)
      = Ideal.ofBits .f32 (threshold k) := by
    refine (broadcastTo_1b_ab_apply _ _ _ _).trans ?_
    have h : shli (minsi k0_pay39 (broadcast S1x255 253#32)) (broadcast S1x255 23#32) (ix2 (0 : Fin 1) k) = threshold k := by
      unfold threshold; rw [← numbers]; rfl
    exact congrArg (Ideal.ofBits .f32) h
  have h3 : marks s (ix2 r k) = Scalar.select (BitVec.ofBool (decide (Ideal.ofBits .f32 (threshold k) ≤ s (ix2 r (0 : Fin 1))))) 1#32 0#32 := by
    rw [← h2, ← h1]; rfl
  rw [h3, threshold_value]
  by_cases h : pow2 ((min (k.val + 1) 253 : ℕ) - 127) ≤ s (ix2 r (0 : Fin 1))
  · rw [if_pos h, decide_eq_true h]; rfl
  · rw [if_neg h, decide_eq_false h]; rfl

/-- The count of each row. -/
def count (s : FVec Ideal S32x1 .f32) : IVec S32 32 := multiReductionI .add [1] S32 (marks s) 0#32 reduces_S32x255_S32 rfl

theorem count_eq (s : FVec Ideal S32x1 .f32) (r : Fin 32) : count s (ix1 r) = BitVec.ofNat 32 (reached (s (ix2 r (0 : Fin 1)))) := by
  have e : ∑ i ∈ Finset.univ.filter (fun i => reduces_S32x255_S32.drop i = ix1 r), (marks s i).toNat = reached (s (ix2 r (0 : Fin 1))) := by
    rw [Shape.Reduces.sum_filter_drop_single reduces_S32x255_S32 (fun i => (marks s i).toNat) (ix1 r)]
    refine Finset.sum_congr rfl fun k _ => ?_
    rw [← marks_toNat s r k]
    refine congrArg (fun i => (marks s i).toNat) (funext fun a => Fin.ext ?_)
    match a with | ⟨0, _⟩ => rfl | ⟨1, _⟩ => rfl
  have hb := (qexp_reached (s (ix2 r (0 : Fin 1)))).1
  apply BitVec.eq_of_toNat_eq
  rw [BitVec.toNat_ofNat, Nat.mod_eq_of_lt (by omega), ← e]
  exact WordSum.toNat_multiReductionI_add (marks s) reduces_S32x255_S32 rfl (ix1 r) (by rw [e]; omega)

/-- The exponent from the count, as the kernel selects it. -/
def fromCount (n : BitVec 32) : BitVec 32 := Scalar.select (IntOp.ori (IntOp.cmpi .eq n 0#32) (IntOp.cmpi .eq n 255#32)) 0#32 (n - 126#32)

theorem fromCount_eq : ∀ n : Fin 256, fromCount (BitVec.ofNat 32 n.val) = BitVec.ofInt 32 (if n.val = 0 ∨ n.val = 255 then 0 else (n.val : ℤ) - 126) := by
  decide +kernel

/-- The kernel's exponent of a row. -/
theorem exponent_eq (s : FVec Ideal S32x1 .f32) (r : Fin 32) : k0_pay40 s k0_pay39 (ix2 r (0 : Fin 1)) = BitVec.ofInt 32 (qexp (s (ix2 r (0 : Fin 1)))) := by
  have h1 : shapeCast S32x1 (count s) shapeCasts_S32_S32x1 (ix2 r (0 : Fin 1)) = count s (ix1 r) := shapeCast_a_a1_apply _ _ _ _
  have h2 : k0_pay40 s k0_pay39 (ix2 r (0 : Fin 1)) = fromCount (count s (ix1 r)) := by rw [← h1]; rfl
  have hb := qexp_reached (s (ix2 r (0 : Fin 1)))
  rw [h2, count_eq, hb.2]
  exact fromCount_eq ⟨_, Nat.lt_succ_of_le hb.1⟩

/-- The fields of the scale and of its inverse. -/
theorem fields : ∀ k : ℕ, k < 252 →
    (IntOp.shli .vector (BitVec.ofInt 32 ((k : ℤ) - 125) + 127#32) 23#32).toNat = (k + 2) * 2 ^ 23
      ∧ (IntOp.shli .vector (127#32 - BitVec.ofInt 32 ((k : ℤ) - 125)) 23#32).toNat = (252 - k) * 2 ^ 23 := by decide +kernel

theorem powers (q : ℤ) (h1 : -125 ≤ q) (h2 : q ≤ 126) :
    Ideal.ofBits .f32 (IntOp.shli .vector (BitVec.ofInt 32 q + 127#32) 23#32) = pow2 q
      ∧ Ideal.ofBits .f32 (IntOp.shli .vector (127#32 - BitVec.ofInt 32 q) 23#32) = pow2 (-q) := by
  obtain ⟨k, hk⟩ : ∃ k : ℕ, q = (k : ℤ) - 125 := ⟨(q + 125).toNat, by omega⟩
  subst hk
  obtain ⟨a, b⟩ := fields k (by omega)
  generalize IntOp.shli .vector (BitVec.ofInt 32 ((k : ℤ) - 125) + 127#32) 23#32 = w at a ⊢
  generalize IntOp.shli .vector (127#32 - BitVec.ofInt 32 ((k : ℤ) - 125)) 23#32 = w' at b ⊢
  have a' := ofBits_field (k + 2) (by omega) (by omega) w a
  have b' := ofBits_field (252 - k) (by omega) (by omega) w' b
  rw [a', b']
  constructor <;> congr 1 <;> omega

/-- The scale of a row: two to the row's exponent. -/
theorem scale_eq (s : FVec Ideal S32x1 .f32) (r : Fin 32) : k0_pay41 s k0_pay39 (ix2 r (0 : Fin 1)) = pow2 (qexp (s (ix2 r (0 : Fin 1)))) := by
  obtain ⟨h1, h2⟩ := qexp_range (s (ix2 r (0 : Fin 1)))
  rw [← (powers _ h1 h2).1, ← exponent_eq]; rfl

/-- A code: the element over its row's scale, held in the format's range. -/
theorem code_eq (v : FVec Ideal S32x4096 .f32) (s : FVec Ideal S32x1 .f32) (r : Fin 32) (c : Fin 4096) :
    k0_pay42 v s k0_pay39 (ix2 r c)
      = min (Ideal.ofBits .f32 0x43E00000#32) (max (Ideal.ofBits .f32 0xC3E00000#32) (v (ix2 r c) * pow2 (-(qexp (s (ix2 r (0 : Fin 1))))))) := by
  obtain ⟨h1, h2⟩ := qexp_range (s (ix2 r (0 : Fin 1)))
  have e : broadcastTo S32x4096 (bitcastToFloat (F := Ideal) .f32 (shli (subi (broadcast S32x1 127#32) (k0_pay40 s k0_pay39)) (broadcast S32x1 23#32))) broadcasts_S32x1_S32x4096 (ix2 r c)
      = pow2 (-(qexp (s (ix2 r (0 : Fin 1))))) := by
    rw [← (powers _ h1 h2).2, ← exponent_eq]
    exact (broadcastTo_a1_ab_apply _ _ _ _).trans rfl
  rw [← e]
  unfold k0_pay42
  exact (shapeCast_apply _ _ (ix2 r c) (ix2 r c) rfl).trans rfl

end Cert.KernelIdeal.Hand

end
-- ==== Proof.RefQuant.lean ====
/-
  The reference's quantiser at the ideal floats: its exponent is the floor of the logarithm, and the codes and the scales
  that it leaves are the same functions of the rows' scales as the kernel's.
-/
module

public import proofs.«01_k».proof.Proof.Gen.ReferenceIdeal
public import proofs.«01_k».proof.Proof.Gen.ReferenceIdeal.Skeleton
public import proofs.«01_k».proof.Proof.Count
public import Idealize.ShloMosaic.PureOps.Ideal.Laws

@[expose] public section

set_option maxRecDepth 65536

noncomputable section

namespace Cert.ReferenceIdeal.Hand

open Cert.ReferenceIdeal Cert.ReferenceIdeal.Gen Cert.Power
open Idealize.ShloMosaic Idealize.ShloMosaic.ValueIdx

/-- The exponent as the reference writes it, of one scale. -/
def logExp (s : EReal) : EReal :=
  Scalar.select (IntOp.andi (Ideal.cmp .oge s (Ideal.ofBits .f32 0x00800000#32)) (Ideal.cmp .olt s (Ideal.ofBits .f32 0x7E800000#32)))
    (Ideal.liftRound Int.floor (Ideal.div (Ideal.log s) (Ideal.log (Ideal.ofBits .f32 0x40000000#32))) + Ideal.ofBits .f32 0x3F800000#32)
    (Ideal.ofBits .f32 0x00000000#32)

theorem bits_one : Ideal.ofBits .f32 0x3F800000#32 = ((1 : ℝ) : EReal) := by
  rw [ofBits_field 127 (by omega) (by omega) _ (by decide)]; unfold pow2; norm_num
theorem bits_two : Ideal.ofBits .f32 0x40000000#32 = ((2 : ℝ) : EReal) := by
  rw [ofBits_field 128 (by omega) (by omega) _ (by decide)]; unfold pow2; norm_num
theorem bits_low : Ideal.ofBits .f32 0x00800000#32 = pow2 (-126) := ofBits_field 1 (by omega) (by omega) _ (by decide)
theorem bits_high : Ideal.ofBits .f32 0x7E800000#32 = pow2 126 := ofBits_field 253 (by omega) (by omega) _ (by decide)
theorem bits_zero : Ideal.ofBits .f32 0x00000000#32 = ((0 : ℝ) : EReal) := by simp [Ideal.ofBits, Ideal.ieee]

theorem logExp_eq (s : EReal) : logExp s = (((qexp s : ℤ) : ℝ) : EReal) := by
  unfold logExp
  rw [bits_one, bits_two, bits_low, bits_high, bits_zero]
  by_cases h : pow2 (-126) ≤ s ∧ s < pow2 126
  · rw [show qexp s = flog s.toReal + 1 from if_pos h]
    have hc : IntOp.andi (Ideal.cmp .oge s (pow2 (-126))) (Ideal.cmp .olt s (pow2 126)) = 1#1 := by
      show IntOp.andi (BitVec.ofBool (decide (pow2 (-126) ≤ s))) (BitVec.ofBool (decide (s < pow2 126))) = 1#1
      rw [decide_eq_true h.1, decide_eq_true h.2]; rfl
    rw [hc, select_one]
    obtain ⟨r, rfl, h0, h1, h2⟩ := real_of_range h
    have l1 : Ideal.log (r : EReal) = ((Real.log r : ℝ) : EReal) := if_neg (not_le.2 h0)
    have l2 : Ideal.log ((2 : ℝ) : EReal) = ((Real.log 2 : ℝ) : EReal) := if_neg (by norm_num)
    have hn : Real.log 2 ≠ 0 := (Real.log_pos (by norm_num)).ne'
    rw [l1, l2, Ideal.div_coe hn, EReal.toReal_coe, ← EReal.coe_mul]
    show (((⌊Real.log r * (1 / Real.log 2)⌋ : ℤ) : ℝ) : EReal) + ((1 : ℝ) : EReal) = _
    rw [← EReal.coe_add]
    congr 1
    unfold flog
    push_cast
    rfl
  · rw [show qexp s = 0 from if_neg h]
    have hc : IntOp.andi (Ideal.cmp .oge s (pow2 (-126))) (Ideal.cmp .olt s (pow2 126)) = 0#1 := by
      show IntOp.andi (BitVec.ofBool (decide (pow2 (-126) ≤ s))) (BitVec.ofBool (decide (s < pow2 126))) = 0#1
      by_cases h1 : pow2 (-126) ≤ s
      · rw [decide_eq_true h1, decide_eq_false fun h2 => h ⟨h1, h2⟩]; rfl
      · rw [decide_eq_false h1]; cases decide (s < pow2 126) <;> rfl
    rw [hc, select_zero]
    norm_num

/-- The reference's vector term at a row. -/
theorem logExp_at (s : FVec Ideal S32x1 .f32) (i : S32x1.Idx) :
    select (andi (cmpf .oge s (broadcast S32x1 (Scalar.ofBits .f32 0x00800000#32))) (cmpf .olt s (broadcast S32x1 (Scalar.ofBits .f32 0x7E800000#32))))
      (addf (floor (divf (log s) (log (broadcast S32x1 (Scalar.ofBits .f32 0x40000000#32))))) (broadcast S32x1 (Scalar.ofBits .f32 0x3F800000#32)))
      (broadcast S32x1 (Scalar.ofBits .f32 0x00000000#32)) i = logExp (s i) := by
  unfold logExp
  have h1 : cmpf .oge s (broadcast S32x1 (Scalar.ofBits .f32 0x00800000#32)) i = Ideal.cmp .oge (s i) (Ideal.ofBits .f32 0x00800000#32) := rfl
  have h2 : cmpf .olt s (broadcast S32x1 (Scalar.ofBits .f32 0x7E800000#32)) i = Ideal.cmp .olt (s i) (Ideal.ofBits .f32 0x7E800000#32) := rfl
  have h3 : addf (floor (divf (log s) (log (broadcast S32x1 (Scalar.ofBits .f32 0x40000000#32))))) (broadcast S32x1 (Scalar.ofBits .f32 0x3F800000#32)) i
      = Ideal.liftRound Int.floor (Ideal.div (Ideal.log (s i)) (Ideal.log (Ideal.ofBits .f32 0x40000000#32))) + Ideal.ofBits .f32 0x3F800000#32 := rfl
  rw [select_apply, ← h1, ← h2, ← h3]
  rfl

/-- The rows' scales, before the rounding to powers of two: the same term in both programs. -/
theorem exponents (v : Vec Ideal S32x4096 .bf16) (i : S32x1.Idx) :
    k0_pay4 v i = (((qexp (Cert.KernelIdeal.Gen.k0_pay38 (k0_pay2 v) i) : ℤ) : ℝ) : EReal) := by
  rw [← logExp_eq, ← logExp_at]
  rfl

theorem same_cast (v : Vec Ideal S32x4096 .bf16) : k0_pay2 v = v :=
  funext fun i => shapeCast_apply v shapeCasts_S32x4096_S32x4096 i i rfl

/-- The scales of the reference, one to a lane. -/
theorem scales_at (v : Vec Ideal S32x4096 .bf16) (r : Fin 32) :
    k0_pay7 v (ix2 (0 : Fin 1) r) = pow2 (qexp (Cert.KernelIdeal.Gen.k0_pay38 v (ix2 r (0 : Fin 1)))) := by
  have h : k0_pay7 v (ix2 (0 : Fin 1) r) = k0_pay6 v (ix2 r (0 : Fin 1)) :=
    shapeCast_apply (k0_pay6 v) shapeCasts_S32x1_S1x32 (ix2 (0 : Fin 1) r) (ix2 r (0 : Fin 1)) (by
      rw [Shape.rowMajor_val_two, Shape.rowMajor_val_two]
      show r.val * 1 + 0 = 0 * 32 + r.val
      omega)
  have h2 : k0_pay6 v (ix2 r (0 : Fin 1)) = Ideal.exp2 (k0_pay4 v (ix2 r (0 : Fin 1))) := rfl
  rw [h, h2, exponents, exp2_int, same_cast]

/-- The codes of the reference. -/
theorem codes_at (v : Vec Ideal S32x4096 .bf16) (r : Fin 32) (c : Fin 4096) :
    k0_pay5 v (ix2 r c)
      = min (Ideal.ofBits .f32 0x43E00000#32) (max (Ideal.ofBits .f32 0xC3E00000#32)
        (Cert.KernelIdeal.Gen.k0_pay37 v (ix2 r c) * pow2 (-(qexp (Cert.KernelIdeal.Gen.k0_pay38 v (ix2 r (0 : Fin 1))))))) := by
  have e : broadcastTo S32x4096 (exp2 (subf (broadcast S32x1 (Scalar.ofBits .f32 0x00000000#32)) (k0_pay4 v))) broadcasts_S32x1_S32x4096 (ix2 r c)
      = pow2 (-(qexp (Cert.KernelIdeal.Gen.k0_pay38 v (ix2 r (0 : Fin 1))))) := by
    refine (Cert.KernelIdeal.Hand.broadcastTo_a1_ab_apply _ _ _ _).trans ?_
    show Ideal.exp2 (Ideal.ofBits .f32 0x00000000#32 - k0_pay4 v (ix2 r (0 : Fin 1))) = _
    rw [exponents, same_cast, bits_zero, ← EReal.coe_sub, zero_sub, ← Int.cast_neg, exp2_int]
  have e2 : k0_pay3 v = Cert.KernelIdeal.Gen.k0_pay37 v := by
    unfold k0_pay3; rw [same_cast]; rfl
  rw [← e, ← e2]
  rfl

end Cert.ReferenceIdeal.Hand

namespace Cert.KernelIdeal.Hand

open Cert.KernelIdeal Cert.KernelIdeal.Gen Cert.Power
open Idealize.ShloMosaic Idealize.ShloMosaic.ValueIdx

/-- The column of scales turned into a row by the identity's choice and a sum. -/
theorem row_of_column (x : FVec Ideal S32x1 .f32) (r : Fin 32) : k0_pay44 x (ix2 (0 : Fin 1) r) = x (ix2 r (0 : Fin 1)) := by
  have same : shapeCast S32x1 x shapeCasts_S32x1_S32x1 = x := funext fun i => shapeCast_apply x shapeCasts_S32x1_S32x1 i i rfl
  have pick : ∀ k r : Fin 32, select (cmpi .eq (iota .tc S32x32 32 [0] iota_S32x32_d0_w32) (iota .tc S32x32 32 [1] iota_S32x32_d1_w32))
      (broadcastTo S32x32 (shapeCast S32x1 x shapeCasts_S32x1_S32x1) broadcasts_S32x1_S32x32)
      (broadcastTo S32x32 (shapeCast S32x1 (broadcast S32x1 (Scalar.ofBits (F := Ideal) .f32 0x00000000#32)) shapeCasts_S32x1_S32x1) broadcasts_S32x1_S32x32) (ix2 k r)
      = if k = r then x (ix2 k (0 : Fin 1)) else (0 : EReal) := by
    intro k r
    have hc : cmpi .eq (iota .tc S32x32 32 [0] iota_S32x32_d0_w32) (iota .tc S32x32 32 [1] iota_S32x32_d1_w32) (ix2 k r) = if k = r then 1#1 else 0#1 := by
      clear same; revert k r; decide +kernel
    have h1 : broadcastTo S32x32 (shapeCast S32x1 x shapeCasts_S32x1_S32x1) broadcasts_S32x1_S32x32 (ix2 k r) = x (ix2 k (0 : Fin 1)) := by
      rw [same]; exact broadcastTo_a1_ab_apply _ _ _ _
    rw [select_apply, hc, h1]
    split
    · exact select_one _ _
    · refine (select_zero _ _).trans ((broadcastTo_a1_ab_apply _ _ _ _).trans ?_)
      show Ideal.ofBits .f32 0x00000000#32 = 0
      simp [Ideal.ofBits, Ideal.ieee]
  unfold k0_pay44
  refine (shapeCast_apply _ _ (ix2 (0 : Fin 1) r) (ix2 (0 : Fin 1) r) rfl).trans ?_
  refine (shapeCast_a_1a_apply _ _ _ _).trans ?_
  refine (Ideal.multiReduction_add_single _ _ reduces_S32x32_S32 (.inl rfl) rfl (ix1 r)).trans ?_
  refine (Finset.sum_congr rfl fun k _ => ?_).trans ((Finset.sum_ite_eq' Finset.univ r fun k => x (ix2 k (0 : Fin 1))).trans (if_pos (Finset.mem_univ r)))
  refine Eq.trans (congrArg _ (?_ : _ = ix2 k r)) (pick k r)
  funext a
  match a with | ⟨0, _⟩ => rfl | ⟨1, _⟩ => rfl

/-- The kernel's codes are the reference's. -/
theorem codes_eq (v : Vec Ideal S32x4096 .bf16) : k0_pay42 (k0_pay37 v) (k0_pay38 v) k0_pay39 = Cert.ReferenceIdeal.Gen.k0_pay5 v := by
  funext i
  obtain ⟨r, c, rfl⟩ : ∃ r c, i = ix2 r c := ⟨_, _, eq_ix2 i⟩
  exact (code_eq _ _ r c).trans (Cert.ReferenceIdeal.Hand.codes_at v r c).symm

/-- The kernel's scales are the reference's. -/
theorem scales_eq (v : Vec Ideal S32x4096 .bf16) : k0_pay44 (k0_pay41 (k0_pay38 v) k0_pay39) = Cert.ReferenceIdeal.Gen.k0_pay7 v := by
  funext i
  obtain ⟨u, r, rfl⟩ : ∃ u r, i = ix2 u r := ⟨_, _, eq_ix2 i⟩
  obtain rfl : u = (0 : Fin 1) := Subsingleton.elim _ _
  exact ((row_of_column _ r).trans (scale_eq _ r)).trans (Cert.ReferenceIdeal.Hand.scales_at v r).symm

end Cert.KernelIdeal.Hand

end
-- ==== Proof.RefRun.lean ====
/-
  The reference's codes and scales as functions of its first argument.
-/
module

public import proofs.«01_k».proof.Proof.Gen.ReferenceIdeal.Frame
public import Idealize.ShloMosaic.Lib.Pipeline.ValueKit
public import Idealize.ShloMosaic.Lib.StableHlo.RunRead

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ)

/-- The activations as the reference reads them. -/
theorem V_x (c : Dev nD) : V m c main_v0
    = shapeCast S32x4096 (m ((c.tc : Thread nD τ).loc main_arg0) : S32x1x4096.Idx → F .bf16) shapeCasts_S32x1x4096_S32x4096 := by
  unfold V
  after_reads_simp
  rfl

theorem index_x : win0_0.index t0_0 0 = 0 ∧ win0_0.index t0_0 1 = 0 := by decide +kernel

/-- The one block of the activations is the array. -/
theorem block_x (c : Dev nD) (t : Fin cfg0.N) : iblk m c 0 t = (V m c main_v0 : Vec F S32x4096 .bf16) := by
  obtain rfl := fin_N0 t
  funext i
  blk_simp [iblk]
  refine congrArg (V m c main_v0) (funext fun a => Fin.ext ?_)
  match a with
  | ⟨0, _⟩ => blk_simp; rw [index_x.1, Nat.zero_mul, Nat.zero_add]
  | ⟨1, _⟩ => blk_simp; rw [index_x.2, Nat.zero_mul, Nat.zero_add]

theorem codes (c : Dev nD) : (dats m 0 c).arrAt 11 cfg0.N = k0_pay5 (V m c main_v0 : Vec F S32x4096 .bf16) := by
  refine (dats m 0 c).arrAt_eq_of_after_last 11 t0_0 (by decide +kernel) _ fun j => ?_
  blk_simp
  rw [after0_11]
  frame_out
  rw [block_x]

theorem scales (c : Dev nD) : (dats m 0 c).arrAt 12 cfg0.N = k0_pay7 (V m c main_v0 : Vec F S32x4096 .bf16) := by
  refine (dats m 0 c).arrAt_eq_of_after_last 12 t0_0 (by decide +kernel) _ fun j => ?_
  blk_simp
  rw [after0_12]
  frame_out
  rw [block_x]

variable (ρ : Dev nD → PrngReg)

/-- What the reference leaves in its results. -/
theorem run_values : θ_run defs (onTc (τ := τ) (main (F := F))) ⟨m, fun _ => 0, ρ⟩ (fun r => ∀ c : Dev nD,
      r.2.mem ((c.tc : Thread nD τ).loc main_v6_0) = (dats m 0 c).arrAt 10 cfg0.N
      ∧ r.2.mem ((c.tc : Thread nD τ).loc main_v6_1) = (k0_pay5 (V m c main_v0 : Vec F S32x4096 .bf16) : Vec F S32x4096 .fp8e4m3)
      ∧ r.2.mem ((c.tc : Thread nD τ).loc main_v6_2) = (k0_pay7 (V m c main_v0 : Vec F S32x4096 .bf16) : Vec F S1x32 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1 10, ((h c).1 11).trans (codes m c), ((h c).1 12).trans (scales m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩)
    (run_main m ρ)

end Cert.ReferenceIdeal.Hand

end
-- ==== Proof.Differ.lean ====
/-
  The stronger precondition: each routed expert is one of the 32, and the experts of one token are different ones.
-/
module

public import proofs.«01_k».proof.Proof.Ids
public import proofs.«01_k».proof.Pre_experts_differ
public import Idealize.ShloMosaic.Lib.Pointwise
public import Idealize.ShloMosaic.Lib.WordCmp

@[expose] public section

set_option maxRecDepth 65536

noncomputable section

namespace Cert.Pre_experts_differ.Hand

open Cert.Pre_experts_differ
open Idealize.ShloMosaic Idealize.ShloMosaic.Tactic

/-- The side conditions of the function's operations. -/
instance facts : Cert.Pre_experts_differ.Facts where
  shapeCasts_S32x1x8_S32x8x1 := by decide
  bcast_S_S32x1x8 := by decide
  reducesTo_S32x1x8_S_d0_1_2 := by decide
  h_S_ := by decide
  bcast_S32x8x1_S32x8x8_0_1_2 := by decide
  bcast_S32x1x8_S32x8x8_0_1_2 := by decide
  reducesTo_S32x8x8_S_d0_1_2 := by decide

variable {F : FTy → Type} [FloatOps F]

instance : Subsingleton S_.Idx := ⟨fun a b => funext fun x => x.elim0⟩

/-- Every id is below 32. -/
theorem ids_small (a0 a1 a2 a3 a4 a5 a6 a7 a8 a9) (j)
    (h : Cert.Pre_experts_differ.fn (F := F) a0 a1 a2 a3 a4 a5 a6 a7 a8 a9 j = 1#1) (i : S32x1x8.Idx) : (a1 i).toNat < 32 := by
  have h0 := (IntOp.andi_eq_one.1 h).1
  obtain ⟨h3, h4⟩ := IntOp.andi_eq_one.1 (Host.reduce_andi_all _ _ _ _ j h0 i)
  exact Cert.KernelIdeal.Hand.word_small _ h3 h4

theorem first_at (a : S32x1x8.Idx → BitVec 32) (t : Fin 32) (k l : Fin 8) :
    broadcastInDim S32x8x8 ![0, 1, 2] facts.bcast_S32x8x1_S32x8x8_0_1_2 (shapeCast S32x8x1 a facts.shapeCasts_S32x1x8_S32x8x1) (ix3 t k l) = a (ix3 t 0 k) := by
  pointwise []

theorem second_at (a : S32x1x8.Idx → BitVec 32) (t : Fin 32) (k l : Fin 8) :
    broadcastInDim S32x8x8 ![0, 1, 2] facts.bcast_S32x1x8_S32x8x8_0_1_2 a (ix3 t k l) = a (ix3 t 0 l) := by
  pointwise []

/-- A token names an expert once. -/
theorem ids_differ (a0 a1 a2 a3 a4 a5 a6 a7 a8 a9) (j)
    (h : Cert.Pre_experts_differ.fn (F := F) a0 a1 a2 a3 a4 a5 a6 a7 a8 a9 j = 1#1) (t : Fin 32) (k l : Fin 8)
    (he : a1 (ix3 t 0 k) = a1 (ix3 t 0 l)) : k = l := by
  have h0 := (IntOp.andi_eq_one.1 h).2
  have h1 := Host.reduce_andi_all _ _ _ _ j h0 (ix3 t k l)
  have h2 : IntOp.ori (IntOp.cmpi .ne (a1 (ix3 t 0 k)) (a1 (ix3 t 0 l))) (IntOp.cmpi .eq (BitVec.ofNat 32 k.val) (BitVec.ofNat 32 l.val)) = 1#1 := by
    rw [← first_at a1 t k l, ← second_at a1 t k l]
    exact h1
  rw [he, WordCmp.cmpi_ne_eq, WordCmp.cmpi_eq_ofNat (by have := k.isLt; omega) (by have := l.isLt; omega)] at h2
  by_contra hk
  have hv : ¬ k.val = l.val := fun hv => hk (Fin.ext hv)
  simp [hv, IntOp.ori] at h2

end Cert.Pre_experts_differ.Hand

end
-- ==== Proof.Moe.lean ====
/-
  The mixture of experts as plain sums over the arguments' entries, and the order in which it is summed: over the tokens'
  routed positions, or over the experts.
-/
module

public import proofs.«01_k».proof.Proof.Power

@[expose] public section

noncomputable section

namespace Cert.Moe

open Cert.Power
open Idealize.ShloMosaic

/-- A row's scale before the rounding to a power of two: its largest magnitude over the format's largest number. -/
def top (h : Fin 1408 → EReal) : EReal :=
  Finset.fold max (Ideal.ofBits .f32 0xFF800000#32) (fun f => FloatOps.absf (F := Ideal) (φ := .f32) (h f)) Finset.univ * Ideal.ofBits .f32 0x3B124925#32
/-- An element of a row over the row's power of two, held in the format's range. -/
def code (h : Fin 1408 → EReal) (f : Fin 1408) : EReal :=
  min (Ideal.ofBits .f32 0x43E00000#32) (max (Ideal.ofBits .f32 0xC3E00000#32) (h f * pow2 (-(qexp (top h)))))

/-- The arguments' entries: the activations, their codes and scales, the routing, the weights with their scales, the adapters. -/
structure Args where
  x : Fin 32 → Fin 4096 → EReal
  xc : Fin 32 → Fin 4096 → EReal
  xs : Fin 32 → EReal
  ids : Fin 8 → Fin 32 → BitVec 32
  gates : Fin 8 → Fin 32 → EReal
  aid : Fin 32 → BitVec 32
  wu : Fin 32 → Fin 4096 → Fin 1408 → EReal
  us : Fin 32 → Fin 1408 → EReal
  wd : Fin 32 → Fin 1408 → Fin 4096 → EReal
  ds : Fin 32 → Fin 4096 → EReal
  la : Fin 32 → Fin 8 → Fin 4096 → Fin 16 → EReal
  lb : Fin 32 → Fin 8 → Fin 16 → Fin 1408 → EReal

variable (A : Args) (e t : Fin 32) (j : Fin 4096)

/-- The part of the hidden activation that the token's own adapter adds. -/
def adapted (f : Fin 1408) : EReal :=
  ∑ g : Fin 8, if BitVec.ofNat 32 g.val = A.aid t then ∑ r : Fin 16, (∑ d : Fin 4096, A.x t d * A.la e g d r) * A.lb e g r f else 0
/-- The hidden activation before its nonlinearity. -/
def up (f : Fin 1408) : EReal :=
  (∑ d : Fin 4096, A.xc t d * A.wu e d f) * A.xs t * A.us e f + Ideal.ofBits .f32 0x40000000#32 * adapted A e t f
def hidden (f : Fin 1408) : EReal := up A e t f * Ideal.logistic (up A e t f)
/-- The product of the hidden row's codes with the down weights. -/
def down : EReal := ∑ f : Fin 1408, code (hidden A e t) f * A.wd e f j
/-- What expert `e` gives for token `t`. -/
def expert : EReal := down A e t j * pow2 (qexp (top (hidden A e t))) * A.ds e j
/-- The weights that token `t` gives to expert `e`, summed over its positions. -/
def gate : EReal := ∑ k : Fin 8, if A.ids k t = BitVec.ofNat 32 e.val then A.gates k t else 0
/-- What expert `e` adds to the result, summed over the positions first. -/
def share : EReal := down A e t j * A.ds e j * (pow2 (qexp (top (hidden A e t))) * gate A e t)

/-- The result, position after position. -/
def result : EReal := ∑ k : Fin 8, (∑ e : Fin 32, if BitVec.ofNat 32 e.val = A.ids k t then expert A e t j else 0) * A.gates k t

theorem ofNat_eq_iff (w : BitVec 32) (hw : w.toNat < 32) : BitVec.ofNat 32 e.val = w ↔ e = ⟨w.toNat, hw⟩ := by
  constructor
  · intro h
    apply Fin.ext
    have := congrArg BitVec.toNat h
    rw [BitVec.toNat_ofNat] at this
    have := e.isLt
    show e.val = w.toNat
    omega
  · rintro rfl
    apply BitVec.eq_of_toNat_eq
    rw [BitVec.toNat_ofNat]
    show w.toNat % 2 ^ 32 = w.toNat
    omega

/-- An expert that the token is not routed to has weight zero. -/
theorem gate_unrouted (h : ∀ k, A.ids k t ≠ BitVec.ofNat 32 e.val) : gate A e t = 0 :=
  Finset.sum_eq_zero fun k _ => if_neg (h k)

theorem share_unrouted (h : ∀ k, A.ids k t ≠ BitVec.ofNat 32 e.val) : share A e t j = 0 := by
  rw [share, gate_unrouted A e t h, mul_zero, mul_zero]

variable (hlt : ∀ k, (A.ids k t).toNat < 32) (hd : ∀ k l, A.ids k t = A.ids l t → k = l)

include hd in
/-- With different experts in a token's positions at most one position has weight for an expert. -/
theorem share_eq : share A e t j = ∑ k : Fin 8, if A.ids k t = BitVec.ofNat 32 e.val then expert A e t j * A.gates k t else 0 := by
  by_cases h : ∃ k, A.ids k t = BitVec.ofNat 32 e.val
  · obtain ⟨k, hk⟩ := h
    have hu : ∀ l, A.ids l t = BitVec.ofNat 32 e.val ↔ l = k := fun l => ⟨fun hl => hd _ _ (hl.trans hk.symm), fun hl => by rw [hl, hk]⟩
    have hg : gate A e t = A.gates k t := by
      unfold gate
      simp only [hu, Finset.sum_ite_eq', Finset.mem_univ, if_true]
    rw [share, hg, expert]
    simp only [hu, Finset.sum_ite_eq', Finset.mem_univ, if_true]
    rw [← mul_assoc, mul_right_comm (down A e t j)]
  · have h' : ∀ k, A.ids k t ≠ BitVec.ofNat 32 e.val := fun k hk => h ⟨k, hk⟩
    rw [share_unrouted A e t j h']
    exact (Finset.sum_eq_zero fun k _ => if_neg (h' k)).symm

include hlt hd in
/-- Summed over the experts or over the positions, the result is the same. -/
theorem sum_share : ∑ e : Fin 32, share A e t j = result A t j := by
  have h1 : ∀ e : Fin 32, share A e t j = ∑ k : Fin 8, if e = ⟨(A.ids k t).toNat, hlt k⟩ then expert A e t j * A.gates k t else 0 := fun e => by
    rw [share_eq A e t j hd]
    refine Finset.sum_congr rfl fun k _ => ?_
    have : A.ids k t = BitVec.ofNat 32 e.val ↔ e = ⟨(A.ids k t).toNat, hlt k⟩ := eq_comm.trans (ofNat_eq_iff e _ (hlt k))
    simp only [this]
  rw [Finset.sum_congr rfl fun e _ => h1 e, Finset.sum_comm]
  refine Finset.sum_congr rfl fun k _ => ?_
  simp only [ofNat_eq_iff _ _ (hlt k), Finset.sum_ite_eq', Finset.mem_univ, if_true]

end Cert.Moe

end
-- ==== Proof.KPay.lean ====
/-
  The kernel's values of one expert at an index.
-/
module

public import proofs.«01_k».proof.Proof.Count
public import proofs.«01_k».proof.Proof.Moe
public import Idealize.ShloMosaic.Lib.Pointwise

@[expose] public section

set_option maxRecDepth 65536

noncomputable section

namespace Cert.KernelIdeal.Hand

open Cert.KernelIdeal Cert.KernelIdeal.Gen Cert.Power
open Idealize.ShloMosaic

/-- One column window's addition. -/
theorem pay11_at (hc : FVec Ideal S32x1408 .fp8e4m3) (hs : FVec Ideal S32x1 .f32) (wd : FVec Ideal S1x1408x1024 .fp8e4m3) (acc : FVec Ideal S32x1024 .f32)
    (ds : FVec Ideal S1x1024 .f32) (t : Fin 32) (j : Fin 1024) :
    k0_pay11 hc hs wd acc ds (ix2 t j) = acc (ix2 t j) + (∑ f : Fin 1408, hc (ix2 t f) * wd (ix3 0 f j)) * ds (ix2 0 j) * hs (ix2 t 0) := by
  pointwise [k0_pay11]

theorem pay14_eq (hc : FVec Ideal S32x1408 .fp8e4m3) (hs : FVec Ideal S32x1 .f32) (wd : FVec Ideal S1x1408x1024 .fp8e4m3) (acc : FVec Ideal S32x1024 .f32)
    (ds : FVec Ideal S1x1024 .f32) : k0_pay14 hs (k0_pay13 hc wd) acc ds = k0_pay11 hc hs wd acc ds := rfl
theorem pay16_eq (hc : FVec Ideal S32x1408 .fp8e4m3) (hs : FVec Ideal S32x1 .f32) (wd : FVec Ideal S1x1408x1024 .fp8e4m3) (acc : FVec Ideal S32x1024 .f32)
    (ds : FVec Ideal S1x1024 .f32) : k0_pay16 hc hs wd acc ds = k0_pay11 hc hs wd acc ds := rfl
theorem pay18_eq (hc : FVec Ideal S32x1408 .fp8e4m3) (hs : FVec Ideal S32x1 .f32) (wd : FVec Ideal S1x1408x1024 .fp8e4m3) (acc : FVec Ideal S32x1024 .f32)
    (ds : FVec Ideal S1x1024 .f32) : k0_pay18 hc hs wd acc ds = k0_pay11 hc hs wd acc ds := rfl

theorem pay6_at (q : IVec S32x1 1) (a : FVec Ideal S32x1408 .f32) (xc : FVec Ideal S32x4096 .fp8e4m3) (u : FVec Ideal S1x4096x1408 .fp8e4m3)
    (s : FVec Ideal S32x1 .f32) (us : FVec Ideal S1x1408 .f32) (t : Fin 32) (f : Fin 1408) (U : EReal)
    (hU : (∑ d : Fin 4096, xc (ix2 t d) * u (ix3 0 d f)) * s (ix2 t 0) * us (ix2 0 f) + Ideal.ofBits .f32 0x40000000#32 * a (ix2 t f) = U) :
    k0_pay6 q a xc u s us (ix2 t f) = Scalar.select (q (ix2 t 0)) (U * Ideal.logistic U) 0 := by
  subst hU
  pointwise [k0_pay6]

theorem pay5_at (x : FVec Ideal S32x4096 .bf16) (a : FVec Ideal S1x128x4096 .bf16) (mk : FVec Ideal S32x128 .f32) (b : FVec Ideal S1x128x1408 .bf16)
    (t : Fin 32) (f : Fin 1408) :
    (k0_pay5 (F := Ideal) x a mk b (ix2 t f) : EReal) = ∑ r : Fin 128, (if 0 < (mk (ix2 t r) : EReal) then ∑ d : Fin 4096, (x (ix2 t d) * a (ix3 0 r d) : EReal) else (0 : EReal)) * (b (ix3 0 r f) : EReal) := by
  pointwise [k0_pay5]

theorem select_eq {α : Type} {w : ℕ} (a b : BitVec w) (x y : α) : Scalar.select (IntOp.cmpi .eq a b) x y = if a = b then x else y := by
  show (if BitVec.ofBool (a == b) = 1#1 then x else y) = _
  by_cases h : a = b
  · subst h; simp
  · rw [beq_false_of_ne h, if_neg h]; rfl

theorem ofNat_inj (a b : Fin 32) : BitVec.ofNat 32 a.val = BitVec.ofNat 32 b.val ↔ a = b := by
  constructor
  · intro h
    have := congrArg BitVec.toNat h
    rw [BitVec.toNat_ofNat, BitVec.toNat_ofNat] at this
    have := a.isLt; have := b.isLt
    apply Fin.ext; omega
  · rintro rfl; rfl

/-- A sum that an equality of row numbers narrows to one row. -/
theorem sum_pick (t : Fin 32) (f : Fin 32 → EReal) :
    ∑ x : Fin 32, Scalar.select (IntOp.cmpi .eq (BitVec.ofNat 32 t.val) (BitVec.ofNat 32 x.val)) (f x) 0 = f t := by
  simp only [select_eq, ofNat_inj, Finset.sum_ite_eq, Finset.mem_univ, if_true]

theorem pay1_at (e : BitVec 32) (i : IVec S8x32 32) (k : Fin 8) (t : Fin 32) : k0_pay1 (F := Ideal) e i (ix2 k t) = IntOp.cmpi .eq (i (ix2 k t)) e := by
  pointwise [k0_pay1]

theorem pay2_at (e : BitVec 32) (i : IVec S8x32 32) (g : FVec Ideal S8x32 .f32) (t : Fin 32) :
    k0_pay2 e i g (ix2 t 0) = ∑ k : Fin 8, if i (ix2 k t) = e then g (ix2 k t) else 0 := by
  pointwise [k0_pay2]
  refine (sum_pick t _).trans (Finset.sum_congr rfl fun k _ => ?_)
  rw [pay1_at, select_eq]

theorem hit_value (a b : BitVec 32) : FloatOps.sitofp (F := Ideal) .f32 (BitVec.setWidth 32 (IntOp.cmpi .eq a b)) = if a = b then (1 : EReal) else 0 := by
  show FloatOps.sitofp (F := Ideal) .f32 (BitVec.setWidth 32 (BitVec.ofBool (a == b))) = _
  by_cases h : a = b
  · subst h
    rw [if_pos rfl, beq_self_eq_true]
    show (((BitVec.setWidth 32 (BitVec.ofBool true)).toInt : ℝ) : EReal) = 1
    rw [show (BitVec.setWidth 32 (BitVec.ofBool true)).toInt = 1 by decide]
    norm_num
  · rw [beq_false_of_ne h, if_neg h]
    show (((BitVec.setWidth 32 (BitVec.ofBool false)).toInt : ℝ) : EReal) = 0
    rw [show (BitVec.setWidth 32 (BitVec.ofBool false)).toInt = 0 by decide]
    norm_num

/-- A token is routed to an expert if one of its ids is the expert's. -/
theorem pay4_at (e : BitVec 32) (i : IVec S8x32 32) (t : Fin 32) :
    k0_pay4 (F := Ideal) (k0_pay3 e i) (ix2 t 0) = if ∃ k : Fin 8, i (ix2 k t) = e then 1#1 else 0#1 := by
  pointwise [k0_pay4, k0_pay3]
  rw [sum_pick t]
  simp only [pay1_at, hit_value]
  have hn : ∀ k : Fin 8, (0 : EReal) ≤ if i (ix2 k t) = e then 1 else 0 := fun k => by split <;> norm_num
  by_cases h : ∃ k : Fin 8, i (ix2 k t) = e
  · rw [if_pos h]
    obtain ⟨k, hk⟩ := h
    have : (0 : EReal) < ∑ k : Fin 8, if i (ix2 k t) = e then 1 else 0 := by
      refine lt_of_lt_of_le ?_ (Finset.single_le_sum (f := fun k : Fin 8 => if i (ix2 k t) = e then (1 : EReal) else 0) (fun k _ => hn k) (Finset.mem_univ k))
      simp only [hk, if_true]; norm_num
    rw [decide_eq_true this]; rfl
  · rw [if_neg h, Finset.sum_eq_zero fun k _ => if_neg fun hk => h ⟨k, hk⟩, decide_eq_false (lt_irrefl _)]; rfl

/-- The mark of threshold `k`: the row's scale reaches it. -/
theorem pay7_at (q : IVec S32x1 1) (a : FVec Ideal S32x1408 .f32) (xc : FVec Ideal S32x4096 .fp8e4m3) (u : FVec Ideal S1x4096x1408 .fp8e4m3)
    (s : FVec Ideal S32x1 .f32) (us : FVec Ideal S1x1408 .f32) (t : Fin 32) (k : Fin 255) :
    k0_pay7 q a xc u s us (ix2 t k) = BitVec.ofBool (decide (Ideal.ofBits .f32 (threshold k) ≤ Moe.top fun f => k0_pay6 q a xc u s us (ix2 t f))) := by
  pointwise [k0_pay7]
  rfl

theorem pay9_at (h : FVec Ideal S32x1408 .f32) (mk : IVec S32x255 1) (t : Fin 32) (f : Fin 1408) :
    k0_pay9 h mk 1#32 (ix2 t f) = min (Ideal.ofBits .f32 0x43E00000#32) (max (Ideal.ofBits .f32 0xC3E00000#32)
      (h (ix2 t f) * Ideal.ofBits .f32 (IntOp.shli .vector (127#32 - k0_pay8 mk 1#32 (ix2 t 0)) 23#32))) := by
  pointwise [k0_pay9]
  rfl

theorem pay10_at (g : FVec Ideal S32x1 .f32) (mk : IVec S32x255 1) (t : Fin 32) :
    k0_pay10 g mk 1#32 (ix2 t 0) = Ideal.ofBits .f32 (IntOp.shli .vector (k0_pay8 mk 1#32 (ix2 t 0) + 127#32) 23#32) * g (ix2 t 0) := by
  pointwise [k0_pay10]
  rfl

/-- The exponent counted from a row's marks. -/
theorem marks_exponent (mk : IVec S32x255 1) (s : FVec Ideal S32x1 .f32)
    (h : ∀ t k, mk (ix2 t k) = BitVec.ofBool (decide (Ideal.ofBits .f32 (threshold k) ≤ s (ix2 t 0)))) (t : Fin 32) :
    k0_pay8 mk 1#32 (ix2 t 0) = BitVec.ofInt 32 (qexp (s (ix2 t 0))) := by
  have e : mk = cmpf .oge (broadcastTo S32x255 s broadcasts_S32x1_S32x255)
      (broadcastTo S32x255 (bitcastToFloat (F := Ideal) .f32 (shli (minsi k0_pay39 (broadcast S1x255 253#32)) (broadcast S1x255 23#32))) broadcasts_S1x255_S32x255) := by
    funext i
    idx_vars i
    rw [h]
    pointwise [k0_pay39]
    rfl
  rw [e]
  exact exponent_eq s t

/-- The word sum of a row of which an equality of numbers keeps one entry. -/
theorem fold_pick (t : Fin 32) (f : Fin 32 → BitVec 32) (s : Finset (Fin 32)) :
    Finset.fold IntOp.addi 0#32 (fun x => if t = x then f x else 0#32) s = if t ∈ s then f t else 0#32 := by
  induction s using Finset.induction_on with
  | empty => rfl
  | insert a s ha ih =>
    rw [Finset.fold_insert ha, ih]
    show (if t = a then f a else 0#32) + _ = _
    by_cases h : t = a
    · subst h; simp [ha]
    · simp [h]

/-- The adapter ids as a column. -/
theorem pay45_at (a : IVec S1x32 32) (t : Fin 32) : k0_pay45 (F := Ideal) a (ix2 t 0) = a (ix2 0 t) := by
  pointwise [k0_pay45]
  simp only [select_eq, ofNat_inj]
  rw [fold_pick t (fun x => a (ix2 0 x)), if_pos (Finset.mem_univ t)]

/-- The adapter of a lane. -/
def laneWord (r : BitVec 32) : BitVec 32 :=
  Scalar.select
    (IntOp.andi
      (IntOp.cmpi .ne
        (IntOp.subi (BitVec.setWidth 32 (IntOp.cmpi .sgt r 0#32)) (BitVec.setWidth 32 (IntOp.cmpi .slt r 0#32)))
        (Scalar.subi (Scalar.extui (Scalar.cmpi .sgt 16#32 0#32)) (Scalar.extui (Scalar.cmpi .slt 16#32 0#32))))
      (IntOp.cmpi .ne (IntOp.remsi .vector r 16#32) 0#32))
    (IntOp.subi (IntOp.divsi .vector r 16#32) 1#32)
    (IntOp.divsi .vector r 16#32)

theorem laneWord_eq : ∀ r : Fin 128, laneWord (BitVec.ofNat 32 r.val) = BitVec.ofNat 32 (r.val / 16) := by decide +kernel

/-- The mask: the lanes of the token's own adapter. -/
theorem pay48_at (a : IVec S1x32 32) (t : Fin 32) (r : Fin 128) :
    k0_pay48 (F := Ideal) (k0_pay45 (F := Ideal) a) (iota .tc S32x128 32 [1] iota_S32x128_d1_w32) 16#32 k0_pay46 k0_pay47 (Scalar.extui (Scalar.cmpi .sgt 16#32 0#32)) 0#32 (ix2 t r)
      = if BitVec.ofNat 32 (r.val / 16) = a (ix2 0 t) then (1 : EReal) else 0 := by
  pointwise [k0_pay48, k0_pay46, k0_pay47]
  rw [← pay45_at a t, ← laneWord_eq r, ← hit_value]
  rfl

end Cert.KernelIdeal.Hand

end
-- ==== Proof.Tiles.lean ====
/-
  What a trip of the expert loop reads, at an index: the expert's weights, the small inputs, and the accumulator.
-/
module

public import proofs.«01_k».proof.Proof.Clean
public import Idealize.ShloMosaic.Lib.Pipeline.Value
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe

variable {F : FTy → Type} [FloatOps F]

/-- What a squeezed window of a buffer holds once it is written whole, read by a load of the window. -/
theorem land_at {sg : RefSig} {κ : Kind} {cs : Space} {s s' : Shape} {e : EltTy} {Val : EltTy → Type} (M : Memref sg κ cs s e)
    (r : Rect s) (hr : ∀ a, r.stride a = 1) (hq : r.shape.Squeezes s') (f₀ : ((M.slice r hr).squeeze s' hq).view.ty.Contents Val)
    (u : s'.Idx → Val e) (y : s'.Idx) (x : r.shape.Idx) (hc : r.shape.ShapeCasts s') (hx : (r.shape.rowMajor x).val = (s'.rowMajor y).val) :
    M.view.readAt Val r.toLoadRect (((M.slice r hr).squeeze s' hq).view.writes Val f₀ [⟨Rect.whole s', u⟩]) x = u y := by
  have h := View.read_writes_cons_emb (Val := Val) (v := ((M.slice r hr).squeeze s' hq).view) (f := f₀) (Rect.whole s') u [] y
  rw [Rect.emb_whole_apply] at h
  generalize ((M.slice r hr).squeeze s' hq).view.writes Val f₀ [⟨Rect.whole s', u⟩] = Z at h ⊢
  rw [← h, Memref.read_squeeze_slice M r hr hq hc Z]
  exact (shapeCast_apply (M.view.readAt Val r.toLoadRect Z) hc y x hx).symm

theorem cast3 (a b : ℕ) (r : Fin a) (d : Fin b) :
    ((⟨3, ![1, a, b]⟩ : Shape).rowMajor (ix3 0 r d)).val = ((⟨2, ![a, b]⟩ : Shape).rowMajor (ix2 r d)).val := by
  rw [Shape.rowMajor_val_three, Shape.rowMajor_val_two]
  show (0 * a + r.val) * b + d.val = r.val * b + d.val
  rw [Nat.zero_mul, Nat.zero_add]

/-- The number of an expert. -/
abbrev num (e : EW) : Fin 32 := ⟨e.1.toNat, e.2⟩

/-- Column `j` of the window at `o`. -/
abbrev colN (o : ℕ) (ho : o + 1024 ≤ 4096) (j : Fin 1024) : Fin 4096 := ⟨o + j.val, by have := j.isLt; omega⟩

variable (c : Dev nD) (w : Wts F c) (r : Reads F c) (k : Fin 3) (e : EW)

theorem tileA_at (i : Fin 128) (d : Fin 4096) : tileA c w k e (ix3 0 i d) = (w.fa : S32x128x4096.Idx → F .bf16) (ix3 (num e) i d) := by
  refine (land_at sA (Rect.unit (s := S3x128x4096) ![k.val, 0, 0] S1x128x4096.size (inbA k)) (fun _ => rfl) squeezes_S1x128x4096_S128x4096 _ _
    (ix2 i d) (ix3 0 i d) shapeCasts_S1x128x4096_S128x4096 (cast3 128 4096 i d)).trans ?_
  refine (congrFun (Memref.read_squeeze_slice mLa _ (fun _ => rfl) squeezes_S1x128x4096_S128x4096 shapeCasts_S1x128x4096_S128x4096 w.fa) (ix2 i d)).trans ?_
  refine (shapeCast_apply _ _ (ix2 i d) (ix3 0 i d) (cast3 128 4096 i d)).trans ?_
  refine congrArg (w.fa : S32x128x4096.Idx → F .bf16) (funext fun a => Fin.ext ?_)
  match a with
  | ⟨0, _⟩ => show e.1.toNat + 1 * 0 = e.1.toNat; omega
  | ⟨1, _⟩ => show 0 + 1 * i.val = i.val; omega
  | ⟨2, _⟩ => show 0 + 1 * d.val = d.val; omega

theorem tileB_at (i : Fin 128) (d : Fin 1408) : tileB c w k e (ix3 0 i d) = (w.fb : S32x128x1408.Idx → F .bf16) (ix3 (num e) i d) := by
  refine (land_at sB (Rect.unit (s := S3x128x1408) ![k.val, 0, 0] S1x128x1408.size (inbB k)) (fun _ => rfl) squeezes_S1x128x1408_S128x1408 _ _
    (ix2 i d) (ix3 0 i d) shapeCasts_S1x128x1408_S128x1408 (cast3 128 1408 i d)).trans ?_
  refine (congrFun (Memref.read_squeeze_slice mLb _ (fun _ => rfl) squeezes_S1x128x1408_S128x1408 shapeCasts_S1x128x1408_S128x1408 w.fb) (ix2 i d)).trans ?_
  refine (shapeCast_apply _ _ (ix2 i d) (ix3 0 i d) (cast3 128 1408 i d)).trans ?_
  refine congrArg (w.fb : S32x128x1408.Idx → F .bf16) (funext fun a => Fin.ext ?_)
  match a with
  | ⟨0, _⟩ => show e.1.toNat + 1 * 0 = e.1.toNat; omega
  | ⟨1, _⟩ => show 0 + 1 * i.val = i.val; omega
  | ⟨2, _⟩ => show 0 + 1 * d.val = d.val; omega

theorem tileU_at (i : Fin 4096) (d : Fin 1408) : tileU c w k e (ix3 0 i d) = (w.fu : S32x4096x1408.Idx → F .fp8e4m3) (ix3 (num e) i d) := by
  refine (land_at sUp (Rect.unit (s := S3x4096x1408) ![k.val, 0, 0] S1x4096x1408.size (inbU k)) (fun _ => rfl) squeezes_S1x4096x1408_S4096x1408 _ _
    (ix2 i d) (ix3 0 i d) shapeCasts_S1x4096x1408_S4096x1408 (cast3 4096 1408 i d)).trans ?_
  refine (congrFun (Memref.read_squeeze_slice mUp _ (fun _ => rfl) squeezes_S1x4096x1408_S4096x1408 shapeCasts_S1x4096x1408_S4096x1408 w.fu) (ix2 i d)).trans ?_
  refine (shapeCast_apply _ _ (ix2 i d) (ix3 0 i d) (cast3 4096 1408 i d)).trans ?_
  refine congrArg (w.fu : S32x4096x1408.Idx → F .fp8e4m3) (funext fun a => Fin.ext ?_)
  match a with
  | ⟨0, _⟩ => show e.1.toNat + 1 * 0 = e.1.toNat; omega
  | ⟨1, _⟩ => show 0 + 1 * i.val = i.val; omega
  | ⟨2, _⟩ => show 0 + 1 * d.val = d.val; omega

theorem tileD_at (o : ℕ) (ho : o + 1024 ≤ 4096) (i : Fin 1408) (j : Fin 1024) :
    tileD c w k e o ho (ix3 0 i j) = (w.fd : S32x1408x4096.Idx → F .fp8e4m3) (ix3 (num e) i (colN o ho j)) := by
  refine (land_at sDn (Rect.unit (s := S3x1408x4096) ![k.val, 0, o] S1x1408x1024.size (inbD k o ho)) (fun _ => rfl) squeezes_S1x1408x1024_S1408x1024 _ _
    (ix2 i j) (ix3 0 i j) shapeCasts_S1x1408x1024_S1408x1024 (cast3 1408 1024 i j)).trans ?_
  refine (congrFun (Memref.read_squeeze_slice mDn _ (fun _ => rfl) squeezes_S1x1408x1024_S1408x1024 shapeCasts_S1x1408x1024_S1408x1024 w.fd) (ix2 i j)).trans ?_
  refine (shapeCast_apply _ _ (ix2 i j) (ix3 0 i j) (cast3 1408 1024 i j)).trans ?_
  refine congrArg (w.fd : S32x1408x4096.Idx → F .fp8e4m3) (funext fun a => Fin.ext ?_)
  match a with
  | ⟨0, _⟩ => show e.1.toNat + 1 * 0 = e.1.toNat; omega
  | ⟨1, _⟩ => show 0 + 1 * i.val = i.val; omega
  | ⟨2, _⟩ => show o + 1 * j.val = o + j.val; omega

theorem vUps_at (f : Fin 1408) : vUps c r e (ix2 0 f) = (r.ups : S32x1408.Idx → F .f32) (ix2 (num e) f) := by
  refine congrArg (r.ups : S32x1408.Idx → F .f32) (funext fun a => Fin.ext ?_)
  match a with
  | ⟨0, _⟩ => show e.1.toNat + 1 * 0 = e.1.toNat; omega
  | ⟨1, _⟩ => show 0 + 1 * f.val = f.val; omega

theorem vDns_at (o : ℕ) (ho : o + 1024 ≤ 4096) (j : Fin 1024) : vDns c r e o ho (ix2 0 j) = (r.dns : S32x4096.Idx → F .f32) (ix2 (num e) (colN o ho j)) := by
  refine congrArg (r.dns : S32x4096.Idx → F .f32) (funext fun a => Fin.ext ?_)
  match a with
  | ⟨0, _⟩ => show e.1.toNat + 1 * 0 = e.1.toNat; omega
  | ⟨1, _⟩ => show o + 1 * j.val = o + j.val; omega

theorem vIds_eq : vIds c r = (r.ids : S8x32.Idx → BitVec 32) := View.readAt_full (Val := Elt F) sIds.view r.ids (off := ![0, 0]) inb_S8x32_S8x32_0_0
theorem vGates_eq : vGates c r = (r.gates : S8x32.Idx → F .f32) := View.readAt_full (Val := Elt F) sGates.view r.gates (off := ![0, 0]) inb_S8x32_S8x32_0_0
theorem vX_eq : vX c r = (r.x : S32x4096.Idx → F .bf16) := View.readAt_full (Val := Elt F) sX.view r.x (off := ![0, 0]) inb_S32x4096_S32x4096_0_0
theorem vMask_eq : vMask c r = (r.mask : S32x128.Idx → F .f32) := View.readAt_full (Val := Elt F) sMask.view r.mask (off := ![0, 0]) inb_S32x128_S32x128_0_0
theorem vXc_eq : vXc c r = (r.xc : S32x4096.Idx → F .fp8e4m3) := View.readAt_full (Val := Elt F) sXc.view r.xc (off := ![0, 0]) inb_S32x4096_S32x4096_0_0
theorem vXs_eq : vXs c r = (r.xs : S32x1.Idx → F .f32) := View.readAt_full (Val := Elt F) sXs.view r.xs (off := ![0, 0]) inb_S32x1_S32x1_0_0

theorem maskW_eq (v : FVec F S32x128 .f32) : maskW c v = v := by
  have h := View.read_writes_full (Val := Elt F) sMask.view sMask.view.junk (off := ![0, 0]) inb_S32x128_S32x128_0_0 v []
  unfold maskW
  generalize sMask.view.writes (Elt F) _ _ = Z at h ⊢
  exact h
theorem accW_eq : accW (F := F) c = k0_pay49 := by
  have h := View.read_writes_full (Val := Elt F) sAcc.view sAcc.view.junk (off := ![0, 0]) inb_S32x4096_S32x4096_0_0 (k0_pay49 (F := F)) []
  unfold accW
  generalize sAcc.view.writes (Elt F) _ _ = Z at h ⊢
  exact h
theorem aidLoad_eq (ad : BufOf F c sAid) : aidLoad c ad = (ad : S1x32.Idx → BitVec 32) :=
  View.readAt_full (Val := Elt F) sAid.view ad (off := ![0, 0]) inb_S1x32_S1x32_0_0

/-! ## The accumulator's windows -/

theorem colSA_mem (f : BufOf F c sAcc) (o : ℕ) (ho : o + 1024 ≤ 4096) (v : FVec F S32x1024 .f32) (L : List (View.Piece (Elt F) S32x4096 .f32)) (x : (colW o ho).shape.Idx) :
    sAcc.view.writes (Elt F) f (⟨colW o ho, v⟩ :: L) ((colW o ho).emb x) = v x := by
  have h := View.read_writes_cons_emb (v := sAcc.view) (f := f) (colW o ho) v L x
  generalize sAcc.view.writes (Elt F) f (⟨colW o ho, v⟩ :: L) = Z at h ⊢
  exact h
theorem colSA_skip (f : BufOf F c sAcc) (o : ℕ) (ho : o + 1024 ≤ 4096) (o' : ℕ) (ho' : o' + 1024 ≤ 4096) (hlt : o' + 1024 ≤ o) (v : FVec F S32x1024 .f32)
    (L : List (View.Piece (Elt F) S32x4096 .f32)) (x : (colW o' ho').shape.Idx) :
    sAcc.view.writes (Elt F) f (⟨colW o ho, v⟩ :: L) ((colW o' ho').emb x) = sAcc.view.writes (Elt F) f L ((colW o' ho').emb x) := by
  have hm := mem_col o' ho' x
  have hx : (x 1).val < 1024 := (x 1).isLt
  have h := View.read_writes_cons_unit_of_not_mem sAcc.view f (inbY o ho) v L ((colW o' ho').emb x) rfl (1 : Fin 2) (.inl (by
    show (((colW o' ho').emb x) 1).val < o
    omega))
  generalize sAcc.view.writes (Elt F) f (⟨colW o ho, v⟩ :: L) = Z at h ⊢
  generalize sAcc.view.writes (Elt F) f L = Z' at h ⊢
  exact h

variable (acc : BufOf F c sAcc)

theorem accNext0 (x : (colW 0 o0).shape.Idx) : accNext c w r k e acc ((colW 0 o0).emb x) = chunk0 c w r k e acc x := by
  unfold accNext
  generalize chunk0 c w r k e acc = v0, chunk1 c w r k e acc = v1, chunk2 c w r k e acc = v2, chunk3 c w r k e acc = v3
  rw [colSA_skip c _ _ _ _ _ (by decide), colSA_skip c _ _ _ _ _ (by decide), colSA_skip c _ _ _ _ _ (by decide), colSA_mem c]
theorem accNext1 (x : (colW 1024 o1).shape.Idx) : accNext c w r k e acc ((colW 1024 o1).emb x) = chunk1 c w r k e acc x := by
  unfold accNext
  generalize chunk0 c w r k e acc = v0, chunk1 c w r k e acc = v1, chunk2 c w r k e acc = v2, chunk3 c w r k e acc = v3
  rw [colSA_skip c _ _ _ _ _ (by decide), colSA_skip c _ _ _ _ _ (by decide), colSA_mem c]
theorem accNext2 (x : (colW 2048 o2).shape.Idx) : accNext c w r k e acc ((colW 2048 o2).emb x) = chunk2 c w r k e acc x := by
  unfold accNext
  generalize chunk0 c w r k e acc = v0, chunk1 c w r k e acc = v1, chunk2 c w r k e acc = v2, chunk3 c w r k e acc = v3
  rw [colSA_skip c _ _ _ _ _ (by decide), colSA_mem c]
theorem accNext3 (x : (colW 3072 o3).shape.Idx) : accNext c w r k e acc ((colW 3072 o3).emb x) = chunk3 c w r k e acc x := by
  unfold accNext
  exact colSA_mem c _ _ _ _ _ x

theorem emb_col (o : ℕ) (ho : o + 1024 ≤ 4096) (t : Fin 32) (j : Fin 1024) : (colW o ho).emb (ix2 t j) = ix2 t (colN o ho j) :=
  funext fun a => Fin.ext (match a with
    | ⟨0, _⟩ => (by show 0 + 1 * t.val = t.val; omega)
    | ⟨1, _⟩ => (by show o + 1 * j.val = o + j.val; omega))

theorem accAt_at (o : ℕ) (ho : o + 1024 ≤ 4096) (t : Fin 32) (j : Fin 1024) :
    accAt c acc o ho (ix2 t j) = (acc : S32x4096.Idx → F .f32) (ix2 t (colN o ho j)) := by
  rw [← emb_col]; rfl

/-- A window staged for the result is the accumulator's, loaded right after it is written. -/
theorem cov_at (o : ℕ) (ho : o + 1024 ≤ 4096) (v : FVec F S32x1024 .f32) (L : List (View.Piece (Elt F) S32x4096 .f32)) :
    sAcc.view.readCov (⟨colW o ho, v⟩ :: L) (colW o ho).toLoadRect = v := by
  funext x
  have h := View.read_writes_cons_emb (Val := Elt F) (v := sAcc.view) (f := sAcc.view.junk) (colW o ho) v L x
  unfold View.readCov
  generalize sAcc.view.writes (Elt F) sAcc.view.junk (⟨colW o ho, v⟩ :: L) = Z at h ⊢
  exact h

/-- A column lies in one of the four windows. -/
theorem col_cases {P : Fin 4096 → Prop} (h0 : ∀ j, P (colN 0 o0 j)) (h1 : ∀ j, P (colN 1024 o1 j)) (h2 : ∀ j, P (colN 2048 o2 j)) (h3 : ∀ j, P (colN 3072 o3 j))
    (j : Fin 4096) : P j := by
  have hj := j.isLt
  rcases Nat.lt_or_ge j.val 1024 with h | h
  · exact (show colN 0 o0 ⟨j.val, h⟩ = j from Fin.ext (Nat.zero_add _)) ▸ h0 ⟨j.val, h⟩
  rcases Nat.lt_or_ge j.val 2048 with h' | h'
  · exact (show colN 1024 o1 ⟨j.val - 1024, by omega⟩ = j from Fin.ext (by show 1024 + (j.val - 1024) = j.val; omega)) ▸ h1 ⟨j.val - 1024, by omega⟩
  rcases Nat.lt_or_ge j.val 3072 with h'' | h''
  · exact (show colN 2048 o2 ⟨j.val - 2048, by omega⟩ = j from Fin.ext (by show 2048 + (j.val - 2048) = j.val; omega)) ▸ h2 ⟨j.val - 2048, by omega⟩
  · exact (show colN 3072 o3 ⟨j.val - 3072, by omega⟩ = j from Fin.ext (by show 3072 + (j.val - 3072) = j.val; omega)) ▸ h3 ⟨j.val - 3072, by omega⟩

end Cert.KernelIdeal.Hand

end
-- ==== Proof.Entries.lean ====
/-
  The arrays that the kernel reads, at an index, as entries of the arguments.
-/
module

public import proofs.«01_k».proof.Proof.Ids
public import Idealize.ShloMosaic.Lib.Pointwise

@[expose] public section

set_option maxRecDepth 65536

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

theorem ids_at (c : Dev nD) (k : Fin 8) (t : Fin 32) :
    (V m c main_v2 : S8x32.Idx → BitVec 32) (ix2 k t) = (m ((c.tc : Thread nD τ).loc main_arg1) : S32x1x8.Idx → BitVec 32) (ix3 t 0 k) := by
  rw [V_ids]
  generalize (m ((c.tc : Thread nD τ).loc main_arg1) : S32x1x8.Idx → BitVec 32) = a
  pointwise []

theorem V_gates (c : Dev nD) : V m c main_v4
    = transpose S8x32 [1, 0] (shapeCast S32x8 (m ((c.tc : Thread nD τ).loc main_arg2) : S32x1x8.Idx → F .f32) shapeCasts_S32x1x8_S32x8) transposes_S32x8_S8x32_1_0 := by
  unfold V
  after_reads_simp
  rfl

theorem gates_at (c : Dev nD) (k : Fin 8) (t : Fin 32) :
    (V m c main_v4 : S8x32.Idx → F .f32) (ix2 k t) = (m ((c.tc : Thread nD τ).loc main_arg2) : S32x1x8.Idx → F .f32) (ix3 t 0 k) := by
  rw [V_gates]
  generalize (m ((c.tc : Thread nD τ).loc main_arg2) : S32x1x8.Idx → F .f32) = a
  pointwise []

theorem V_aid (c : Dev nD) : V m c main_v6
    = shapeCast S1x32 (broadcastInDim S32x1 ![0] bcast_S32_S32x1_0 (m ((c.tc : Thread nD τ).loc main_arg3) : S32.Idx → BitVec 32)) shapeCasts_S32x1_S1x32 := by
  unfold V
  after_reads_simp
  rfl

theorem aid_at (c : Dev nD) (t : Fin 32) :
    (V m c main_v6 : S1x32.Idx → BitVec 32) (ix2 0 t) = (m ((c.tc : Thread nD τ).loc main_arg3) : S32.Idx → BitVec 32) (ix1 t) := by
  rw [V_aid]
  generalize (m ((c.tc : Thread nD τ).loc main_arg3) : S32.Idx → BitVec 32) = a
  pointwise []

/-- The lane of rank `r` of adapter `g`. -/
abbrev lane (g : Fin 8) (r : Fin 16) : Fin 128 := ⟨g.val * 16 + r.val, by have := g.isLt; have := r.isLt; omega⟩

theorem V_la (c : Dev nD) : V m c main_v8
    = shapeCast S32x128x4096 (transpose S32x8x16x4096 [0, 1, 3, 2] (m ((c.tc : Thread nD τ).loc main_arg8) : S32x8x4096x16.Idx → F .bf16)
        transposes_S32x8x4096x16_S32x8x16x4096_0_1_3_2) shapeCasts_S32x8x16x4096_S32x128x4096 := by
  unfold V
  after_reads_simp
  rfl

theorem lanes (n : ℕ) (e : Fin 32) (g : Fin 8) (r : Fin 16) (d : Fin n) :
    ((⟨4, ![32, 8, 16, n]⟩ : Shape).rowMajor (ix4 e g r d)).val = ((⟨3, ![32, 128, n]⟩ : Shape).rowMajor (ix3 e (lane g r) d)).val := by
  rw [Shape.rowMajor_val_four, Shape.rowMajor_val_three]
  show ((e.val * 8 + g.val) * 16 + r.val) * n + d.val = (e.val * 128 + (g.val * 16 + r.val)) * n + d.val
  rw [show (e.val * 8 + g.val) * 16 + r.val = e.val * 128 + (g.val * 16 + r.val) by omega]

theorem la_at (c : Dev nD) (e : Fin 32) (g : Fin 8) (r : Fin 16) (d : Fin 4096) :
    (V m c main_v8 : S32x128x4096.Idx → F .bf16) (ix3 e (lane g r) d) = (m ((c.tc : Thread nD τ).loc main_arg8) : S32x8x4096x16.Idx → F .bf16) (ix4 e g d r) := by
  rw [V_la]
  generalize (m ((c.tc : Thread nD τ).loc main_arg8) : S32x8x4096x16.Idx → F .bf16) = a
  refine (shapeCast_apply _ _ (ix3 e (lane g r) d) (ix4 e g r d) (lanes 4096 e g r d)).trans ?_
  pointwise []

theorem V_lb (c : Dev nD) : V m c main_v9
    = shapeCast S32x128x1408 (m ((c.tc : Thread nD τ).loc main_arg9) : S32x8x16x1408.Idx → F .bf16) shapeCasts_S32x8x16x1408_S32x128x1408 := by
  unfold V
  after_reads_simp
  rfl

theorem lb_at (c : Dev nD) (e : Fin 32) (g : Fin 8) (r : Fin 16) (f : Fin 1408) :
    (V m c main_v9 : S32x128x1408.Idx → F .bf16) (ix3 e (lane g r) f) = (m ((c.tc : Thread nD τ).loc main_arg9) : S32x8x16x1408.Idx → F .bf16) (ix4 e g r f) := by
  rw [V_lb]
  exact shapeCast_apply _ _ (ix3 e (lane g r) f) (ix4 e g r f) (lanes 1408 e g r f)

end Cert.KernelIdeal.Hand

end
-- ==== Proof.Expert.lean ====
/-
  One trip of the expert loop adds the expert's share to the accumulator.
-/
module

public import proofs.«01_k».proof.Proof.KPay
public import proofs.«01_k».proof.Proof.Tiles
public import proofs.«01_k».proof.Proof.Entries

@[expose] public section

set_option maxRecDepth 65536

noncomputable section

namespace Cert.KernelIdeal.Hand

open Cert.KernelIdeal Cert.KernelIdeal.Gen Cert.Power
open Idealize.ShloMosaic Idealize.ShloMosaic.TcCoe

/-- A sum over the lanes is a sum over the adapters and their ranks. -/
theorem sum_lanes (F : Fin 128 → EReal) : ∑ r : Fin 128, F r = ∑ g : Fin 8, ∑ r : Fin 16, F (lane g r) := by
  rw [← Fintype.sum_prod_type' (f := fun (g : Fin 8) (r : Fin 16) => F (lane g r))]
  exact (Fintype.sum_equiv (finProdFinEquiv (m := 8) (n := 16)) _ _ fun p => congrArg F (Fin.ext (by
    show p.1.val * 16 + p.2.val = p.2.val + 16 * p.1.val
    omega))).symm

variable (c : Dev nD) (w : Wts Ideal c) (r : Reads Ideal c) (aid : Fin 32 → BitVec 32) (k : Fin 3) (e : EW)

/-- The entries of the arrays that the trips read. -/
def argsK : Moe.Args where
  x t d := (r.x : S32x4096.Idx → EReal) (ix2 t d)
  xc t d := (r.xc : S32x4096.Idx → EReal) (ix2 t d)
  xs t := (r.xs : S32x1.Idx → EReal) (ix2 t 0)
  ids k t := (r.ids : S8x32.Idx → BitVec 32) (ix2 k t)
  gates k t := (r.gates : S8x32.Idx → EReal) (ix2 k t)
  aid := aid
  wu e d f := (w.fu : S32x4096x1408.Idx → EReal) (ix3 e d f)
  us e f := (r.ups : S32x1408.Idx → EReal) (ix2 e f)
  wd e f j := (w.fd : S32x1408x4096.Idx → EReal) (ix3 e f j)
  ds e j := (r.dns : S32x4096.Idx → EReal) (ix2 e j)
  la e g d r := (w.fa : S32x128x4096.Idx → EReal) (ix3 e (lane g r) d)
  lb e g r f := (w.fb : S32x128x1408.Idx → EReal) (ix3 e (lane g r) f)

theorem num_word : BitVec.ofNat 32 (num e).val = e.1 := BitVec.eq_of_toNat_eq (by
  rw [BitVec.toNat_ofNat]; exact Nat.mod_eq_of_lt e.1.isLt)

variable (hmask : ∀ (t : Fin 32) (i : Fin 128), (r.mask : S32x128.Idx → EReal) (ix2 t i) = if BitVec.ofNat 32 (i.val / 16) = aid t then (1 : EReal) else 0)

include hmask in
theorem adapted_at (t : Fin 32) (f : Fin 1408) :
    (k0_pay5 (F := Ideal) (vX c r) (tileA c w k e) (vMask c r) (tileB c w k e) (ix2 t f) : EReal) = Moe.adapted (argsK c w r aid) (num e) t f := by
  rw [pay5_at, vX_eq, vMask_eq, sum_lanes]
  refine Finset.sum_congr rfl fun g _ => ?_
  have hl : ∀ i : Fin 16, (lane g i).val / 16 = g.val := fun i => by
    show (g.val * 16 + i.val) / 16 = g.val
    have := i.isLt
    omega
  by_cases h : BitVec.ofNat 32 g.val = aid t
  · rw [if_pos (show BitVec.ofNat 32 g.val = (argsK c w r aid).aid t from h)]
    refine Finset.sum_congr rfl fun i _ => ?_
    rw [hmask, hl, if_pos h, if_pos zero_lt_one, tileB_at]
    refine congrArg (· * _) (Finset.sum_congr rfl fun d _ => ?_)
    rw [tileA_at]
    rfl
  · rw [if_neg (show ¬ BitVec.ofNat 32 g.val = (argsK c w r aid).aid t from h)]
    refine Finset.sum_eq_zero fun i _ => ?_
    rw [hmask, hl, if_neg h, if_neg (lt_irrefl _), zero_mul]

include hmask in
/-- The hidden row of a token routed to the expert. -/
theorem hid_routed (t : Fin 32) (h : ∃ l, (argsK c w r aid).ids l t = e.1) (f : Fin 1408) :
    (hid c w r k e (ix2 t f) : EReal) = Moe.hidden (argsK c w r aid) (num e) t f := by
  have hU : (∑ d : Fin 4096, vXc c r (ix2 t d) * tileU c w k e (ix3 0 d f)) * vXs c r (ix2 t 0) * vUps c r e (ix2 0 f)
      + Ideal.ofBits .f32 0x40000000#32 * k0_pay5 (F := Ideal) (vX c r) (tileA c w k e) (vMask c r) (tileB c w k e) (ix2 t f)
      = Moe.up (argsK c w r aid) (num e) t f := by
    rw [adapted_at c w r aid k e hmask, vXc_eq, vXs_eq, vUps_at]
    refine congrArg (fun z : EReal => z * _ * _ + _) (Finset.sum_congr rfl fun d _ => ?_)
    rw [tileU_at]
    rfl
  refine (pay6_at _ _ _ _ _ _ t f _ hU).trans ?_
  rw [pay4_at, vIds_eq, if_pos (show ∃ l, (r.ids : S8x32.Idx → BitVec 32) (ix2 l t) = e.1 from h)]
  rfl

theorem exponent_at (t : Fin 32) : k0_pay8 (hexp c w r k e) 1#32 (ix2 t 0) = BitVec.ofInt 32 (qexp (Moe.top fun f => hid c w r k e (ix2 t f))) :=
  marks_exponent (hexp c w r k e) (fun i => Moe.top fun f => hid c w r k e (ix2 (i 0) f)) (fun t k' => pay7_at _ _ _ _ _ _ t k') t

theorem hcodes_at (t : Fin 32) (f : Fin 1408) : (hcodes c w r k e (ix2 t f) : EReal) = Moe.code (fun f => hid c w r k e (ix2 t f)) f := by
  obtain ⟨h1, h2⟩ := qexp_range (Moe.top fun f => hid c w r k e (ix2 t f))
  refine (pay9_at _ _ t f).trans ?_
  rw [exponent_at, (powers _ h1 h2).2]
  rfl

theorem hscale_at (t : Fin 32) : (hscale c w r k e (ix2 t 0) : EReal)
    = pow2 (qexp (Moe.top fun f => hid c w r k e (ix2 t f))) * Moe.gate (argsK c w r aid) (num e) t := by
  obtain ⟨h1, h2⟩ := qexp_range (Moe.top fun f => hid c w r k e (ix2 t f))
  refine (pay10_at _ _ t).trans ?_
  rw [exponent_at, (powers _ h1 h2).1, pay2_at, vIds_eq, vGates_eq]
  unfold Moe.gate
  rw [num_word]
  rfl

/-- An entry of the accumulator. -/
abbrev accE (acc : BufOf Ideal c sAcc) (t : Fin 32) (j : Fin 4096) : EReal := acc (ix2 t j)

include hmask in
/-- What the four payloads add at an index. -/
theorem added (o : ℕ) (ho : o + 1024 ≤ 4096) (acc : BufOf Ideal c sAcc) (t : Fin 32) (j : Fin 1024) :
    (k0_pay11 (hcodes c w r k e) (hscale c w r k e) (tileD c w k e o ho) (accAt c acc o ho) (vDns c r e o ho) (ix2 t j) : EReal)
      = accE c acc t (colN o ho j) + Moe.share (argsK c w r aid) (num e) t (colN o ho j) := by
  rw [pay11_at, accAt_at, vDns_at, hscale_at c w r aid]
  refine congrArg (fun z : EReal => accE c acc t (colN o ho j) + z) ?_
  by_cases h : ∃ l, (argsK c w r aid).ids l t = e.1
  · have hr : (fun f => hid c w r k e (ix2 t f)) = Moe.hidden (argsK c w r aid) (num e) t := funext fun f => hid_routed c w r aid k e hmask t h f
    unfold Moe.share Moe.down
    rw [← hr]
    refine congrArg (fun z : EReal => z * _ * _) (Finset.sum_congr rfl fun f _ => ?_)
    rw [hcodes_at, tileD_at]
    rfl
  · have h' : ∀ l, (argsK c w r aid).ids l t ≠ BitVec.ofNat 32 (num e).val := fun l hl => h ⟨l, hl.trans (num_word e)⟩
    rw [Moe.share_unrouted _ _ _ _ h', Moe.gate_unrouted _ _ _ h', mul_zero, mul_zero]

include hmask in
/-- The accumulator after the trip. -/
theorem accNext_at (acc : BufOf Ideal c sAcc) (t : Fin 32) (j : Fin 4096) :
    accE c (accNext c w r k e acc) t j = accE c acc t j + Moe.share (argsK c w r aid) (num e) t j := by
  induction j using col_cases with
  | h0 j => exact (congrArg (accNext c w r k e acc) (emb_col 0 o0 t j).symm).trans ((accNext0 c w r k e acc (ix2 t j)).trans (added c w r aid k e hmask 0 o0 acc t j))
  | h1 j => exact (congrArg (accNext c w r k e acc) (emb_col 1024 o1 t j).symm).trans ((accNext1 c w r k e acc (ix2 t j)).trans (added c w r aid k e hmask 1024 o1 acc t j))
  | h2 j => exact (congrArg (accNext c w r k e acc) (emb_col 2048 o2 t j).symm).trans ((accNext2 c w r k e acc (ix2 t j)).trans (added c w r aid k e hmask 2048 o2 acc t j))
  | h3 j => exact (congrArg (accNext c w r k e acc) (emb_col 3072 o3 t j).symm).trans ((accNext3 c w r k e acc (ix2 t j)).trans (added c w r aid k e hmask 3072 o3 acc t j))

end Cert.KernelIdeal.Hand

end
-- ==== Proof.ListSum.lean ====
/-
  The kernel's first result: the sum of every expert's share.
-/
module

public import proofs.«01_k».proof.Proof.Expert

@[expose] public section

set_option maxRecDepth 65536

noncomputable section

namespace Cert.KernelIdeal.Hand

open Cert.KernelIdeal Cert.KernelIdeal.Gen Cert.Power
open Idealize.ShloMosaic Idealize.ShloMosaic.TcCoe

/-! ## Every routed expert is listed -/

section Listed

variable (c : Dev nD) (ids : BufOf Ideal c sIdsW)

/-- The trips of the first scan go through the ids row by row. -/
theorem off8_at : ∀ s : Fin k0_t1_loop.trips, k0_off8 s 0 = s.val / 32 ∧ k0_off8 s 1 = s.val % 32 := by decide +kernel

theorem trips1 : k0_t1_loop.trips = 256 := by decide

/-- The trip that reads position `k` of token `t`. -/
abbrev trip (k : Fin 8) (t : Fin 32) : Fin k0_t1_loop.trips :=
  ⟨k.val * 32 + t.val, by rw [trips1]; have := k.isLt; have := t.isLt; omega⟩

theorem idAt_at (k : Fin 8) (t : Fin 32) : idAt c ids (trip k t) = (ids : S8x32.Idx → BitVec 32) (ix2 k t) := by
  obtain ⟨h0, h1⟩ := off8_at (trip k t)
  refine congrArg (ids : S8x32.Idx → BitVec 32) (funext fun a => Fin.ext ?_)
  have := t.isLt
  match a with
  | ⟨0, _⟩ =>
    show k0_off8 (trip k t) 0 + 1 * 0 = k.val
    rw [h0]; show (k.val * 32 + t.val) / 32 + 1 * 0 = k.val; omega
  | ⟨1, _⟩ =>
    show k0_off8 (trip k t) 1 + 1 * 0 = t.val
    rw [h1]; show (k.val * 32 + t.val) % 32 + 1 * 0 = t.val; omega

/-- A read id's bit is set from then on. -/
theorem pres_bit (s : Fin k0_t1_loop.trips) (e : ℕ) (he : e < 32) (hs : (idAt c ids s).toNat = e) (n : ℕ) (h1 : s.val < n) (h2 : n ≤ k0_t1_loop.trips) :
    (presAt c ids n).getLsbD e = true := by
  induction n with
  | zero => omega
  | succ n ih =>
    rw [presAt_succ c ids ⟨n, h2⟩, Scalar.ori, IntOp.ori, BitVec.getLsbD_or]
    by_cases h : s.val = n
    · obtain rfl : s = ⟨n, h2⟩ := Fin.ext h
      have hb : (Scalar.shli 1#32 (idAt c ids ⟨n, h2⟩)).getLsbD e = true := by
        generalize idAt c ids ⟨n, h2⟩ = v at hs ⊢
        unfold Scalar.shli IntOp.shli
        rw [if_pos (by omega)]
        simp [hs, he]
      rw [hb, Bool.or_true]
    · rw [ih (by omega) (by omega), Bool.true_or]

theorem listed (e0 : EW) (e : Fin 32) (k : Fin 8) (t : Fin 32) (h : (ids : S8x32.Idx → BitVec 32) (ix2 k t) = BitVec.ofNat 32 e.val) :
    e.val ∈ lstOf c e0 ids := by
  have he := e.isLt
  have hv : (idAt c ids (trip k t)).toNat = e.val := by
    rw [idAt_at, h, BitVec.toNat_ofNat]
    omega
  have hb := pres_bit c ids (trip k t) e.val he hv 256 (lt_of_lt_of_eq (trip k t).isLt trips1) (le_of_eq trips1.symm)
  unfold lstOf lstAt
  by_cases hf : e.val = e0.1.toNat
  · exact hf ▸ List.mem_cons_self
  · exact List.mem_cons_of_mem _ (List.mem_filter.2 ⟨List.mem_range.2 he, by rw [hb, Bool.and_true]; exact decide_eq_true hf⟩)

end Listed

/-! ## The sum over the list -/

theorem sum_getD (g : ℕ → EReal) (l : List ℕ) : ∑ i ∈ Finset.range l.length, g (l.getD i 0) = (l.map g).sum := by
  induction l with
  | nil => rfl
  | cons a l ih =>
    rw [List.length_cons, Finset.sum_range_succ', List.map_cons, List.sum_cons, ← ih, add_comm]
    rfl

/-- A function of the experts, of their numbers. -/
def ofNumber (f : Fin 32 → EReal) (n : ℕ) : EReal := f ⟨n % 32, Nat.mod_lt _ (by decide)⟩

/-- A sum along a list without repetitions is a sum over all experts, if the others add nothing. -/
theorem sum_list (f : Fin 32 → EReal) (l : List ℕ) (hd : l.Nodup) (hlt : ∀ e ∈ l, e < 32) (h0 : ∀ e : Fin 32, e.val ∉ l → f e = 0) :
    ∑ i ∈ Finset.range l.length, f (num (ent l i)) = ∑ e : Fin 32, f e := by
  have hg : ∀ i, f (num (ent l i)) = ofNumber f (l.getD i 0) := fun i => by
    refine congrArg f (Fin.ext ?_)
    show (BitVec.ofNat 32 (l.getD i 0 % 32)).toNat = l.getD i 0 % 32
    rw [BitVec.toNat_ofNat]
    omega
  have hm : ∀ n (h : n < 32), ofNumber f n = f ⟨n, h⟩ := fun n h => congrArg f (Fin.ext (Nat.mod_eq_of_lt h))
  rw [Finset.sum_congr rfl fun i _ => hg i, sum_getD (ofNumber f) l, ← List.sum_toFinset _ hd,
    Finset.sum_subset (fun e he => Finset.mem_range.2 (hlt e (List.mem_toFinset.1 he)) : l.toFinset ⊆ Finset.range 32) fun n hn hl => by
      rw [hm n (Finset.mem_range.1 hn)]
      exact h0 _ fun h => hl (List.mem_toFinset.2 h),
    Finset.sum_range]
  exact Finset.sum_congr rfl fun e _ => hm e.val e.isLt

/-! ## The result -/

section Result

variable (c : Dev nD) (w : Wts Ideal c) (r : Reads Ideal c) (aid : Fin 32 → BitVec 32) (k : Fin 3) (e : EW)

theorem zero_at (t : Fin 32) (j : Fin 4096) : accE c (accW c) t j = 0 := by
  unfold accE
  rw [accW_eq]
  pointwise [k0_pay49]

theorem cast12 (v : FVec Ideal S32x1024 .f32) (i : S32x1024.Idx) : (k0_pay12 (F := Ideal) v i : EReal) = (v i : EReal) :=
  shapeCast_apply (truncf (F := Ideal) .bf16 v bitsLt_bf16_f32) shapeCasts_S32x1024_S32x1024 i i rfl

variable (hmask : ∀ (t : Fin 32) (i : Fin 128), (r.mask : S32x128.Idx → EReal) (ix2 t i) = if BitVec.ofNat 32 (i.val / 16) = aid t then (1 : EReal) else 0)

include hmask in
theorem accF_at (l : List ℕ) (n : ℕ) (t : Fin 32) (j : Fin 4096) :
    accE c (accF c w r l (accW c) n) t j = ∑ i ∈ Finset.range n, Moe.share (argsK c w r aid) (num (ent l i)) t j := by
  induction n with
  | zero => exact zero_at c t j
  | succ n ih => rw [Finset.sum_range_succ, ← ih]; exact accNext_at c w r aid _ _ hmask _ t j

/-- An entry of the result. -/
abbrev yE (y : BufOf Ideal c mY) (t : Fin 32) (j : Fin 4096) : EReal := y (ix2 t j)

include hmask in
theorem yFin_at (acc : BufOf Ideal c sAcc) (t : Fin 32) (j : Fin 4096) :
    yE c (yFin c w r k e acc) t j = accE c acc t j + Moe.share (argsK c w r aid) (num e) t j := by
  induction j using col_cases with
  | h0 j =>
    refine (congrArg (yFin c w r k e acc) (emb_col 0 o0 t j).symm).trans ((yFin0 c w r k e acc (ix2 t j)).trans (Eq.trans ?_ (added c w r aid k e hmask 0 o0 acc t j)))
    exact (cast12 _ _).trans (congrFun (cov_at 0 o0 (chunk0 c w r k e acc) _) (ix2 t j))
  | h1 j =>
    refine (congrArg (yFin c w r k e acc) (emb_col 1024 o1 t j).symm).trans ((yFin1 c w r k e acc (ix2 t j)).trans (Eq.trans ?_ (added c w r aid k e hmask 1024 o1 acc t j)))
    exact (cast12 _ _).trans (congrFun (cov_at 1024 o1 (chunk1 c w r k e acc) _) (ix2 t j))
  | h2 j =>
    refine (congrArg (yFin c w r k e acc) (emb_col 2048 o2 t j).symm).trans ((yFin2 c w r k e acc (ix2 t j)).trans (Eq.trans ?_ (added c w r aid k e hmask 2048 o2 acc t j)))
    exact (cast12 _ _).trans (congrFun (cov_at 2048 o2 (chunk2 c w r k e acc) _) (ix2 t j))
  | h3 j =>
    refine (congrArg (yFin c w r k e acc) (emb_col 3072 o3 t j).symm).trans ((yFin3 c w r k e acc (ix2 t j)).trans (Eq.trans ?_ (added c w r aid k e hmask 3072 o3 acc t j)))
    exact (cast12 _ _).trans (congrFun (cov_at 3072 o3 (chunk3 c w r k e acc) _) (ix2 t j))

end Result

variable (m : (ℓ : Loc nD τ sig) → Buf (Elt Ideal) ℓ) (c : Dev nD)

/-- The adapters of the tokens. -/
def aidK (t : Fin 32) : BitVec 32 := (V m c main_v6 : S1x32.Idx → BitVec 32) (ix2 0 t)

/-- The entries that the kernel works on. -/
def argsV : Moe.Args := argsK c (wV m c) (rV m c) (aidK m c)

theorem mask_at (t : Fin 32) (i : Fin 128) :
    ((rV m c).mask : S32x128.Idx → EReal) (ix2 t i) = if BitVec.ofNat 32 (i.val / 16) = aidK m c t then (1 : EReal) else 0 := by
  refine (congrFun (maskW_eq c (maskV (F := Ideal) c (V m c main_v6))) (ix2 t i)).trans ?_
  unfold maskV
  rw [aidLoad_eq]
  exact pay48_at _ t i

/-- THE KERNEL'S FIRST RESULT at an index. -/
theorem yV_at (t : Fin 32) (j : Fin 4096) : yE c (yV m c) t j = ∑ e : Fin 32, Moe.share (argsV m c) e t j := by
  have hlen : (lstV m c).length = (lstV m c).length - 1 + 1 := (Nat.sub_add_cancel (by
    unfold lstV lstOf lstAt
    exact Nat.succ_pos _)).symm
  rw [← sum_list (fun e => Moe.share (argsV m c) e t j) (lstV m c) (lstAt_nodup _ _ 32) (lstAt_lt _ _ (eV m c).2 32 (le_refl _)) fun e he =>
    Moe.share_unrouted _ e t j fun k hk => he (listed c (V m c main_v2) (eV m c) e k t hk)]
  rw [hlen, Finset.sum_range_succ]
  refine (yFin_at c (wV m c) (rV m c) (aidK m c) _ _ (mask_at m c) _ t j).trans ?_
  refine congrArg (fun z : EReal => z + _) ?_
  exact accF_at c (wV m c) (rV m c) (aidK m c) (mask_at m c) _ _ t j

end Cert.KernelIdeal.Hand

end
-- ==== Proof.RefEntries.lean ====
/-
  The arrays that the reference reads, at an index, as entries of the arguments, and its first result as a function of them.
-/
module

public import proofs.«01_k».proof.Proof.RefRun
public import Idealize.ShloMosaic.Lib.Pointwise

@[expose] public section

set_option maxRecDepth 65536

noncomputable section

namespace Cert.ReferenceIdeal.Hand

open Cert.ReferenceIdeal Cert.ReferenceIdeal.Gen
open Idealize.ShloMosaic Idealize.ShloMosaic.TcCoe Idealize.ShloMosaic.Tactic

variable {F : FTy → Type} [FloatOps F]
variable (m : (ℓ : Loc nD τ sig) → Buf (Elt F) ℓ)

theorem V_ids (c : Dev nD) : V m c main_v1
    = shapeCast S32x8 (m ((c.tc : Thread nD τ).loc main_arg1) : S32x1x8.Idx → BitVec 32) shapeCasts_S32x1x8_S32x8 := by
  unfold V
  after_reads_simp
  rfl
theorem V_gates (c : Dev nD) : V m c main_v2
    = shapeCast S32x8 (m ((c.tc : Thread nD τ).loc main_arg2) : S32x1x8.Idx → F .f32) shapeCasts_S32x1x8_S32x8 := by
  unfold V
  after_reads_simp
  rfl
theorem V_aid (c : Dev nD) : V m c main_v3
    = shapeCast S32x1 (m ((c.tc : Thread nD τ).loc main_arg3) : S32.Idx → BitVec 32) shapeCasts_S32_S32x1 := by
  unfold V
  after_reads_simp
  rfl
theorem V_la (c : Dev nD) : V m c main_v4
    = shapeCast S256x4096x16 (m ((c.tc : Thread nD τ).loc main_arg8) : S32x8x4096x16.Idx → F .bf16) shapeCasts_S32x8x4096x16_S256x4096x16 := by
  unfold V
  after_reads_simp
  rfl
theorem V_lb (c : Dev nD) : V m c main_v5
    = shapeCast S256x16x1408 (m ((c.tc : Thread nD τ).loc main_arg9) : S32x8x16x1408.Idx → F .bf16) shapeCasts_S32x8x16x1408_S256x16x1408 := by
  unfold V
  after_reads_simp
  rfl

theorem ids_at (c : Dev nD) (k : Fin 8) (t : Fin 32) :
    (V m c main_v1 : S32x8.Idx → BitVec 32) (ix2 t k) = (m ((c.tc : Thread nD τ).loc main_arg1) : S32x1x8.Idx → BitVec 32) (ix3 t 0 k) := by
  rw [V_ids]
  generalize (m ((c.tc : Thread nD τ).loc main_arg1) : S32x1x8.Idx → BitVec 32) = a
  pointwise []
theorem gates_at (c : Dev nD) (k : Fin 8) (t : Fin 32) :
    (V m c main_v2 : S32x8.Idx → F .f32) (ix2 t k) = (m ((c.tc : Thread nD τ).loc main_arg2) : S32x1x8.Idx → F .f32) (ix3 t 0 k) := by
  rw [V_gates]
  generalize (m ((c.tc : Thread nD τ).loc main_arg2) : S32x1x8.Idx → F .f32) = a
  pointwise []
theorem aid_at (c : Dev nD) (t : Fin 32) :
    (V m c main_v3 : S32x1.Idx → BitVec 32) (ix2 t 0) = (m ((c.tc : Thread nD τ).loc main_arg3) : S32.Idx → BitVec 32) (ix1 t) := by
  rw [V_aid]
  generalize (m ((c.tc : Thread nD τ).loc main_arg3) : S32.Idx → BitVec 32) = a
  pointwise []

/-- The group of expert `e` and adapter `g`. -/
abbrev group (e : Fin 32) (g : Fin 8) : Fin 256 := ⟨e.val * 8 + g.val, by have := e.isLt; have := g.isLt; omega⟩

theorem groups (a n : ℕ) (e : Fin 32) (g : Fin 8) (r : Fin a) (d : Fin n) :
    ((⟨4, ![32, 8, a, n]⟩ : Shape).rowMajor (ix4 e g r d)).val = ((⟨3, ![256, a, n]⟩ : Shape).rowMajor (ix3 (group e g) r d)).val := by
  rw [Shape.rowMajor_val_four, Shape.rowMajor_val_three]
  rfl

theorem la_at (c : Dev nD) (e : Fin 32) (g : Fin 8) (r : Fin 16) (d : Fin 4096) :
    (V m c main_v4 : S256x4096x16.Idx → F .bf16) (ix3 (group e g) d r) = (m ((c.tc : Thread nD τ).loc main_arg8) : S32x8x4096x16.Idx → F .bf16) (ix4 e g d r) := by
  rw [V_la]
  exact shapeCast_apply _ _ (ix3 (group e g) d r) (ix4 e g d r) (groups 4096 16 e g d r)
theorem lb_at (c : Dev nD) (e : Fin 32) (g : Fin 8) (r : Fin 16) (f : Fin 1408) :
    (V m c main_v5 : S256x16x1408.Idx → F .bf16) (ix3 (group e g) r f) = (m ((c.tc : Thread nD τ).loc main_arg9) : S32x8x16x1408.Idx → F .bf16) (ix4 e g r f) := by
  rw [V_lb]
  exact shapeCast_apply _ _ (ix3 (group e g) r f) (ix4 e g r f) (groups 16 1408 e g r f)

end Cert.ReferenceIdeal.Hand

end
-- ==== Proof.RefBlocks.lean ====
/-
  The reference's first result, as its body computes it from whole arrays.
-/
module

public import proofs.«01_k».proof.Proof.RefEntries

@[expose] public section

set_option maxRecDepth 65536

noncomputable section

namespace Cert.ReferenceIdeal.Hand

open Cert.ReferenceIdeal Cert.ReferenceIdeal.Gen Idealize.ShloMosaic.Tactic
open Idealize.ShloMosaic Idealize.ShloMosaic.TcCoe

variable {F : FTy → Type} [FloatOps F]
variable (m : (ℓ : Loc nD τ sig) → Buf (Elt F) ℓ) (c : Dev nD) (t : Fin cfg0.N)

/-- Every window's one block starts at the array's first entry. -/
theorem index1 : ∀ a, win0_1.index t0_0 a = 0 := by decide +kernel
theorem index2 : ∀ a, win0_2.index t0_0 a = 0 := by decide +kernel
theorem index3 : ∀ a, win0_3.index t0_0 a = 0 := by decide +kernel
theorem index4 : ∀ a, win0_4.index t0_0 a = 0 := by decide +kernel
theorem index5 : ∀ a, win0_5.index t0_0 a = 0 := by decide +kernel
theorem index6 : ∀ a, win0_6.index t0_0 a = 0 := by decide +kernel
theorem index7 : ∀ a, win0_7.index t0_0 a = 0 := by decide +kernel
theorem index8 : ∀ a, win0_8.index t0_0 a = 0 := by decide +kernel
theorem index9 : ∀ a, win0_9.index t0_0 a = 0 := by decide +kernel

/-- An offset of no blocks. -/
theorem off_zero {i : ℕ} (h : i = 0) (n k : ℕ) : i * n + k = k := by rw [h, Nat.zero_mul, Nat.zero_add]

theorem block1 : iblk m c 1 t = (V m c main_v1 : Vec F S32x8 .i32) := by
  obtain rfl := fin_N0 t
  funext i
  blk_simp [iblk]
  refine congrArg (V m c main_v1) (funext fun a => Fin.ext ?_)
  match a with
  | ⟨0, _⟩ => blk_simp; exact off_zero (index1 0) _ _
  | ⟨1, _⟩ => blk_simp; exact off_zero (index1 1) _ _
theorem block2 : iblk m c 2 t = (V m c main_v2 : Vec F S32x8 .f32) := by
  obtain rfl := fin_N0 t
  funext i
  blk_simp [iblk]
  refine congrArg (V m c main_v2) (funext fun a => Fin.ext ?_)
  match a with
  | ⟨0, _⟩ => blk_simp; exact off_zero (index2 0) _ _
  | ⟨1, _⟩ => blk_simp; exact off_zero (index2 1) _ _
theorem block3 : iblk m c 3 t = (V m c main_v3 : Vec F S32x1 .i32) := by
  obtain rfl := fin_N0 t
  funext i
  blk_simp [iblk]
  refine congrArg (V m c main_v3) (funext fun a => Fin.ext ?_)
  match a with
  | ⟨0, _⟩ => blk_simp; exact off_zero (index3 0) _ _
  | ⟨1, _⟩ => blk_simp; exact index3 1
theorem block4 : iblk m c 4 t = (V m c main_arg4 : Vec F S32x4096x1408 .fp8e4m3) := by
  obtain rfl := fin_N0 t
  funext i
  blk_simp [iblk]
  refine congrArg (V m c main_arg4) (funext fun a => Fin.ext ?_)
  match a with
  | ⟨0, _⟩ => blk_simp; exact off_zero (index4 0) _ _
  | ⟨1, _⟩ => blk_simp; exact off_zero (index4 1) _ _
  | ⟨2, _⟩ => blk_simp; exact off_zero (index4 2) _ _
theorem block5 : iblk m c 5 t = (V m c main_arg5 : Vec F S32x1408 .f32) := by
  obtain rfl := fin_N0 t
  funext i
  blk_simp [iblk]
  refine congrArg (V m c main_arg5) (funext fun a => Fin.ext ?_)
  match a with
  | ⟨0, _⟩ => blk_simp; exact off_zero (index5 0) _ _
  | ⟨1, _⟩ => blk_simp; exact off_zero (index5 1) _ _
theorem block6 : iblk m c 6 t = (V m c main_arg6 : Vec F S32x1408x4096 .fp8e4m3) := by
  obtain rfl := fin_N0 t
  funext i
  blk_simp [iblk]
  refine congrArg (V m c main_arg6) (funext fun a => Fin.ext ?_)
  match a with
  | ⟨0, _⟩ => blk_simp; exact off_zero (index6 0) _ _
  | ⟨1, _⟩ => blk_simp; exact off_zero (index6 1) _ _
  | ⟨2, _⟩ => blk_simp; exact off_zero (index6 2) _ _
theorem block7 : iblk m c 7 t = (V m c main_arg7 : Vec F S32x4096 .f32) := by
  obtain rfl := fin_N0 t
  funext i
  blk_simp [iblk]
  refine congrArg (V m c main_arg7) (funext fun a => Fin.ext ?_)
  match a with
  | ⟨0, _⟩ => blk_simp; exact off_zero (index7 0) _ _
  | ⟨1, _⟩ => blk_simp; exact off_zero (index7 1) _ _
theorem block8 : iblk m c 8 t = (V m c main_v4 : Vec F S256x4096x16 .bf16) := by
  obtain rfl := fin_N0 t
  funext i
  blk_simp [iblk]
  refine congrArg (V m c main_v4) (funext fun a => Fin.ext ?_)
  match a with
  | ⟨0, _⟩ => blk_simp; exact off_zero (index8 0) _ _
  | ⟨1, _⟩ => blk_simp; exact off_zero (index8 1) _ _
  | ⟨2, _⟩ => blk_simp; exact off_zero (index8 2) _ _
theorem block9 : iblk m c 9 t = (V m c main_v5 : Vec F S256x16x1408 .bf16) := by
  obtain rfl := fin_N0 t
  funext i
  blk_simp [iblk]
  refine congrArg (V m c main_v5) (funext fun a => Fin.ext ?_)
  match a with
  | ⟨0, _⟩ => blk_simp; exact off_zero (index9 0) _ _
  | ⟨1, _⟩ => blk_simp; exact off_zero (index9 1) _ _
  | ⟨2, _⟩ => blk_simp; exact off_zero (index9 2) _ _

end Cert.ReferenceIdeal.Hand

end
-- ==== Proof.RefHidden.lean ====
/-
  The reference's hidden activations and their scales at an index.
-/
module

public import proofs.«01_k».proof.Proof.RefEntries
public import proofs.«01_k».proof.Proof.RefQuant
public import proofs.«01_k».proof.Proof.Moe

@[expose] public section

set_option maxRecDepth 65536

noncomputable section

namespace Cert.ReferenceIdeal.Hand

open Cert.ReferenceIdeal Cert.ReferenceIdeal.Gen Cert.Power
open Idealize.ShloMosaic Idealize.ShloMosaic.TcCoe

theorem pay8_at (v : FVec Ideal S32x4096 .bf16) (x t : Fin 32) (d : Fin 4096) : k0_pay8 (F := Ideal) v (ix3 x t d) = k0_pay5 (F := Ideal) v (ix2 t d) := by
  pointwise [k0_pay8]

theorem pay9_at (a : FVec Ideal S32x4096 .bf16) (b : FVec Ideal S32x1 .f32) (c : FVec Ideal S32x32x4096 .fp8e4m3) (d : FVec Ideal S32x4096x1408 .fp8e4m3)
    (e : FVec Ideal S32x1408 .f32) (f : FVec Ideal S256x4096x16 .bf16) (g : FVec Ideal S256x16x1408 .bf16) (h : IVec S32x1 32) (x t : Fin 32) (y : Fin 1408) (U : EReal)
    (hU : (∑ i : Fin 4096, (c (ix3 x t i) : EReal) * (d (ix3 x i y) : EReal)) * (b (ix2 t 0) : EReal) * (e (ix2 x y) : EReal)
      + Ideal.ofBits .f32 0x40000000#32 * ∑ q : Fin 8, Scalar.select (IntOp.cmpi .eq (BitVec.ofNat 32 q.val) (h (ix2 t 0)))
        (∑ r : Fin 16, (∑ i : Fin 4096, (a (ix2 t i) : EReal) * (f (ix3 (group x q) i r) : EReal)) * (g (ix3 (group x q) r y) : EReal)) 0 = U) :
    (k0_pay9 a b c d e f g h (ix3 x t y) : EReal) = U * Ideal.logistic U := by
  subst hU
  pointwise [k0_pay9]

theorem pay10_at (a : FVec Ideal S32x4096 .bf16) (b : FVec Ideal S32x1 .f32) (c : FVec Ideal S32x32x4096 .fp8e4m3) (d : FVec Ideal S32x4096x1408 .fp8e4m3)
    (e : FVec Ideal S32x1408 .f32) (f : FVec Ideal S256x4096x16 .bf16) (g : FVec Ideal S256x16x1408 .bf16) (h : IVec S32x1 32) (x t : Fin 32) :
    (k0_pay10 a b c d e f g h (ix3 x t 0) : EReal) = Moe.top fun y => k0_pay9 a b c d e f g h (ix3 x t y) := by
  pointwise [k0_pay10]
  rfl

theorem pay11_at (a : FVec Ideal S32x4096 .bf16) (b : FVec Ideal S32x1 .f32) (c : FVec Ideal S32x32x4096 .fp8e4m3) (d : FVec Ideal S32x4096x1408 .fp8e4m3)
    (e : FVec Ideal S32x1408 .f32) (f : FVec Ideal S256x4096x16 .bf16) (g : FVec Ideal S256x16x1408 .bf16) (h : IVec S32x1 32) (x t : Fin 32) :
    k0_pay11 a b c d e f g h (ix3 x t 0) = Ideal.cmp .oge (k0_pay10 a b c d e f g h (ix3 x t 0)) (Ideal.ofBits .f32 0x00800000#32) := by
  pointwise [k0_pay11]

end Cert.ReferenceIdeal.Hand

end
-- ==== Proof.RefExpert.lean ====
/-
  What an expert gives in the reference, at an index.
-/
module

public import proofs.«01_k».proof.Proof.RefEntries
public import proofs.«01_k».proof.Proof.RefQuant
public import proofs.«01_k».proof.Proof.Moe

@[expose] public section

set_option maxRecDepth 65536

noncomputable section

namespace Cert.ReferenceIdeal.Hand

open Cert.ReferenceIdeal Cert.ReferenceIdeal.Gen Cert.Power
open Idealize.ShloMosaic Idealize.ShloMosaic.TcCoe

/-- The two powers of two of an exponent. -/
theorem exp2_neg (q : ℤ) : FloatOps.exp2 (F := Ideal) (φ := .f32) (0 - (((q : ℤ) : ℝ) : EReal)) = pow2 (-q) := by
  rw [zero_sub, ← EReal.coe_neg, ← Int.cast_neg]
  exact exp2_int _
theorem exp2_pos (q : ℤ) : FloatOps.exp2 (F := Ideal) (φ := .f32) (((q : ℤ) : ℝ) : EReal) = pow2 q := exp2_int _

theorem pay12_at (a : FVec Ideal S32x32x1408 .f32) (b : FVec Ideal S32x32x1 .f32) (d : IVec S32x32x1 1) (e : FVec Ideal S32x1408x4096 .fp8e4m3)
    (f : FVec Ideal S32x4096 .f32) (x t : Fin 32) (y : Fin 4096) (h : Fin 1408 → EReal) (hh : ∀ i, (a (ix3 x t i) : EReal) = h i)
    (hb : (b (ix3 x t 0) : EReal) = Moe.top h) (hd : d (ix3 x t 0) = Ideal.cmp .oge (b (ix3 x t 0)) (Ideal.ofBits .f32 0x00800000#32)) :
    (k0_pay12 a b d e f (ix3 x t y) : EReal) = (∑ i : Fin 1408, Moe.code h i * (e (ix3 x i y) : EReal)) * pow2 (qexp (Moe.top h)) * (f (ix2 x y) : EReal) := by
  pointwise [k0_pay12]
  rw [hd, hb]
  simp only [hh]
  have hl := logExp_eq (Moe.top h)
  unfold logExp at hl
  rw [bits_one, bits_zero, EReal.coe_one, EReal.coe_zero] at hl
  change Scalar.select (IntOp.andi (Ideal.cmp .oge (Moe.top h) _) (BitVec.ofBool (decide (Moe.top h < _)))) _ _ = _ at hl
  rw [hl, exp2_neg, exp2_pos]
  rfl

end Cert.ReferenceIdeal.Hand

end
-- ==== Proof.RefPick.lean ====
/-
  The reference's sum over a token's positions, at an index.
-/
module

public import proofs.«01_k».proof.Proof.RefEntries
public import proofs.«01_k».proof.Proof.RefQuant
public import proofs.«01_k».proof.Proof.Moe
public import proofs.«01_k».proof.Proof.KPay

@[expose] public section

set_option maxRecDepth 65536

noncomputable section

namespace Cert.ReferenceIdeal.Hand

open Cert.ReferenceIdeal Cert.ReferenceIdeal.Gen Cert.Power
open Idealize.ShloMosaic Idealize.ShloMosaic.TcCoe

variable (a : FVec Ideal S32x32x4096 .f32) (c s : FVec Ideal S32x4096 .f32) (i₀ i₁ i₂ : IVec S32x1 32) (g₀ g₁ g₂ g₃ : FVec Ideal S32x1 .f32) (t : Fin 32) (y : Fin 4096)

/-- The numbers of the experts, along the first axis. -/
abbrev numbers3 : IVec S32x32x4096 32 := iota .tc S32x32x4096 32 [0] iota_S32x32x4096_d0_w32

/-- The row of the expert that a column of ids names. -/
def pick : EReal := ∑ x : Fin 32, if BitVec.ofNat 32 x.val = i₀ (ix2 t 0) then (a (ix3 x t y) : EReal) else 0

theorem pay1_at : (k0_pay1 a numbers3 c i₀ g₀ (ix2 t y) : EReal) = (c (ix2 t y) : EReal) + pick a i₀ t y * (g₀ (ix2 t 0) : EReal) := by
  unfold pick
  pointwise [k0_pay1]
  simp only [Cert.KernelIdeal.Hand.select_eq]

theorem pay13_at : (k0_pay13 (F := Ideal) (ix2 t y) : EReal) = 0 := by
  pointwise [k0_pay13]

theorem pay14_at (v72 : FVec Ideal S32x32x1408 .f32) (v77 : FVec Ideal S32x32x1 .f32) (v79 : IVec S32x32x1 1) (v103 : FVec Ideal S32x1408x4096 .fp8e4m3)
    (v107 : FVec Ideal S32x4096 .f32) : (k0_pay14 v72 v77 v79 v103 v107 i₀ (ix2 t y) : EReal) = pick (k0_pay12 v72 v77 v79 v103 v107) i₀ t y := by
  unfold pick
  pointwise [k0_pay14]
  simp only [Cert.KernelIdeal.Hand.select_eq]

theorem pay15_at : (k0_pay15 a numbers3 c s g₀ i₀ g₁ i₁ g₂ (ix2 t y) : EReal)
    = (c (ix2 t y) : EReal) + (s (ix2 t y) : EReal) * (g₀ (ix2 t 0) : EReal) + pick a i₀ t y * (g₁ (ix2 t 0) : EReal) + pick a i₁ t y * (g₂ (ix2 t 0) : EReal) := by
  unfold pick
  pointwise [k0_pay15]
  simp only [Cert.KernelIdeal.Hand.select_eq]

theorem pay16_at : (k0_pay16 a numbers3 i₀ (ix2 t y) : EReal) = pick a i₀ t y := by
  unfold pick
  pointwise [k0_pay16]
  simp only [Cert.KernelIdeal.Hand.select_eq]

theorem pay17_at : (k0_pay17 (F := Ideal) g₀ (ix2 t 0) : EReal) = (g₀ (ix2 t 0) : EReal) := by
  pointwise [k0_pay17]

theorem pay18_at : (k0_pay18 a numbers3 c s g₀ i₀ g₁ i₁ g₂ i₂ g₃ (ix2 t y) : EReal)
    = (c (ix2 t y) : EReal) + (s (ix2 t y) : EReal) * (g₀ (ix2 t 0) : EReal) + pick a i₀ t y * (g₁ (ix2 t 0) : EReal) + pick a i₁ t y * (g₂ (ix2 t 0) : EReal)
      + pick a i₂ t y * (g₃ (ix2 t 0) : EReal) := by
  unfold pick
  pointwise [k0_pay18]
  simp only [Cert.KernelIdeal.Hand.select_eq]

end Cert.ReferenceIdeal.Hand

end
-- ==== Proof.RefY.lean ====
/-
  The reference's first result, as its body computes it from whole arrays.
-/
module

public import proofs.«01_k».proof.Proof.RefBlocks
public import proofs.«01_k».proof.Proof.RefHidden
public import proofs.«01_k».proof.Proof.RefExpert
public import proofs.«01_k».proof.Proof.RefPick

@[expose] public section

set_option maxRecDepth 65536

noncomputable section

namespace Cert.ReferenceIdeal.Hand

open Cert.ReferenceIdeal Cert.ReferenceIdeal.Gen Idealize.ShloMosaic.Tactic Cert.Power
open Idealize.ShloMosaic Idealize.ShloMosaic.TcCoe

variable {F : FTy → Type} [FloatOps F]
variable (m : (ℓ : Loc nD τ sig) → Buf (Elt F) ℓ) (c : Dev nD)

theorem y_eq : (dats m 0 c).arrAt 10 cfg0.N = out0_10 (V m c main_v0 : Vec F S32x4096 .bf16) (V m c main_v1) (V m c main_v2) (V m c main_v3) (V m c main_arg4) (V m c main_arg5)
    (V m c main_arg6) (V m c main_arg7) (V m c main_v4) (V m c main_v5) := by
  refine (dats m 0 c).arrAt_eq_of_after_last 10 t0_0 (by decide +kernel) _ fun j => ?_
  blk_simp
  rw [after0_10, block_x, block1, block2, block3, block4, block5, block6, block7, block8, block9]

/-! ## The body's values at an index -/

section Values

variable (x0 : Vec Ideal S32x4096 .bf16) (x1 : Vec Ideal S32x8 .i32) (x2 : Vec Ideal S32x8 .f32) (x3 : Vec Ideal S32x1 .i32) (x4 : Vec Ideal S32x4096x1408 .fp8e4m3)
  (x5 : Vec Ideal S32x1408 .f32) (x6 : Vec Ideal S32x1408x4096 .fp8e4m3) (x7 : Vec Ideal S32x4096 .f32) (x8 : Vec Ideal S256x4096x16 .bf16) (x9 : Vec Ideal S256x16x1408 .bf16)

/-- The entries of the arrays that the body reads. -/
def argsR : Moe.Args where
  x t d := (x0 (ix2 t d) : EReal)
  xc t d := (k0_pay5 x0 (ix2 t d) : EReal)
  xs t := (k0_pay6 x0 (ix2 t 0) : EReal)
  ids k t := (x1 : S32x8.Idx → BitVec 32) (ix2 t k)
  gates k t := (x2 (ix2 t k) : EReal)
  aid t := (x3 : S32x1.Idx → BitVec 32) (ix2 t 0)
  wu e d f := (x4 (ix3 e d f) : EReal)
  us e f := (x5 (ix2 e f) : EReal)
  wd e f j := (x6 (ix3 e f j) : EReal)
  ds e j := (x7 (ix2 e j) : EReal)
  la e g d r := (x8 (ix3 (group e g) d r) : EReal)
  lb e g r f := (x9 (ix3 (group e g) r f) : EReal)

theorem hidden_at (e t : Fin 32) (f : Fin 1408) :
    (k0_pay9 x0 (k0_pay6 x0) (k0_pay8 x0) x4 x5 x8 x9 x3 (ix3 e t f) : EReal) = Moe.hidden (argsR x0 x1 x2 x3 x4 x5 x6 x7 x8 x9) e t f := by
  refine pay9_at _ _ _ _ _ _ _ _ e t f (Moe.up (argsR x0 x1 x2 x3 x4 x5 x6 x7 x8 x9) e t f) ?_
  simp only [pay8_at, Cert.KernelIdeal.Hand.select_eq]
  rfl

theorem expert_eq : k0_pay26 x0 x1 x2 x3 x4 x5 x6 x7 x8 x9
    = k0_pay12 (k0_pay9 x0 (k0_pay6 x0) (k0_pay8 x0) x4 x5 x8 x9 x3) (k0_pay10 x0 (k0_pay6 x0) (k0_pay8 x0) x4 x5 x8 x9 x3)
      (k0_pay11 x0 (k0_pay6 x0) (k0_pay8 x0) x4 x5 x8 x9 x3) x6 x7 := by
  unfold k0_pay26 k0_pay24 k0_pay23 k0_pay22 k0_pay21 k0_pay20 k0_pay19
  frame_out
  rw [same_cast]

theorem expert_at (e t : Fin 32) (j : Fin 4096) :
    (k0_pay26 x0 x1 x2 x3 x4 x5 x6 x7 x8 x9 (ix3 e t j) : EReal) = Moe.expert (argsR x0 x1 x2 x3 x4 x5 x6 x7 x8 x9) e t j := by
  rw [expert_eq]
  have hh := hidden_at x0 x1 x2 x3 x4 x5 x6 x7 x8 x9 e t
  refine pay12_at _ _ _ _ _ e t j (Moe.hidden (argsR x0 x1 x2 x3 x4 x5 x6 x7 x8 x9) e t) hh ?_ (pay11_at _ _ _ _ _ _ _ _ e t)
  refine (pay10_at _ _ _ _ _ _ _ _ e t).trans ?_
  exact congrArg Moe.top (funext hh)

/-- A column of an array with a row to each token. -/
theorem col_at {α : EltTy → Type} {φ : EltTy} (x : S32x8.Idx → α φ) (k : ℕ) (hk : k < 8) (inb : ∀ a, (![0, k] : Fin 2 → ℕ) a + S32x1.size a ≤ S32x8.size a) (t : Fin 32) :
    View.ld (Val := α) x (Rect.unit (s := S32x8) ![0, k] S32x1.size inb) (ix2 t 0) = x (ix2 t ⟨k, hk⟩) :=
  congrArg x (funext fun a => Fin.ext (match a with
    | ⟨0, _⟩ => (by show 0 + 1 * t.val = t.val; omega)
    | ⟨1, _⟩ => (by show k + 1 * 0 = k; omega)))

theorem pick_at (k : ℕ) (hk : k < 8) (inb : ∀ a, (![0, k] : Fin 2 → ℕ) a + S32x1.size a ≤ S32x8.size a) (t : Fin 32) (j : Fin 4096) :
    pick (k0_pay26 x0 x1 x2 x3 x4 x5 x6 x7 x8 x9) (View.ld (Val := Elt Ideal) x1 (Rect.unit (s := S32x8) ![0, k] S32x1.size inb)) t j
      * (View.ld (Val := Elt Ideal) x2 (Rect.unit (s := S32x8) ![0, k] S32x1.size inb) (ix2 t 0) : EReal)
      = (∑ e : Fin 32, if BitVec.ofNat 32 e.val = (argsR x0 x1 x2 x3 x4 x5 x6 x7 x8 x9).ids ⟨k, hk⟩ t then Moe.expert (argsR x0 x1 x2 x3 x4 x5 x6 x7 x8 x9) e t j else 0)
        * (argsR x0 x1 x2 x3 x4 x5 x6 x7 x8 x9).gates ⟨k, hk⟩ t := by
  unfold pick
  rw [col_at x1 k hk, col_at x2 k hk]
  simp only [expert_at]
  rfl

/-- THE REFERENCE'S FIRST RESULT at an index. -/
theorem out_at (t : Fin 32) (j : Fin 4096) :
    (out0_10 x0 x1 x2 x3 x4 x5 x6 x7 x8 x9 (ix2 t j) : EReal) = Moe.result (argsR x0 x1 x2 x3 x4 x5 x6 x7 x8 x9) t j := by
  have h14 : ∀ i, k0_pay14 (k0_pay22 x0 x1 x2 x3 x4 x5 x6 x7 x8 x9) (k0_pay23 x0 x1 x2 x3 x4 x5 x6 x7 x8 x9) (k0_pay24 x0 x1 x2 x3 x4 x5 x6 x7 x8 x9) x6 x7 i (ix2 t j)
      = pick (k0_pay26 x0 x1 x2 x3 x4 x5 x6 x7 x8 x9) i t j := fun i => by
    refine (pay14_at i t j _ _ _ _ _).trans ?_
    unfold k0_pay26
    frame_out
  frame_out
  unfold k0_pay25
  rw [pay1_at, pay18_at, pay15_at, pay13_at, h14, pay16_at, pay17_at, zero_add]
  rw [pick_at x0 x1 x2 x3 x4 x5 x6 x7 x8 x9 0 (by decide), pick_at x0 x1 x2 x3 x4 x5 x6 x7 x8 x9 1 (by decide), pick_at x0 x1 x2 x3 x4 x5 x6 x7 x8 x9 2 (by decide),
    pick_at x0 x1 x2 x3 x4 x5 x6 x7 x8 x9 3 (by decide), pick_at x0 x1 x2 x3 x4 x5 x6 x7 x8 x9 4 (by decide), pick_at x0 x1 x2 x3 x4 x5 x6 x7 x8 x9 5 (by decide),
    pick_at x0 x1 x2 x3 x4 x5 x6 x7 x8 x9 6 (by decide), pick_at x0 x1 x2 x3 x4 x5 x6 x7 x8 x9 7 (by decide)]
  unfold Moe.result
  rw [Fin.sum_univ_eight]
  rfl

end Values

end Cert.ReferenceIdeal.Hand

end
-- ==== Proof.Match.lean ====
/-
  The kernel and the reference work on the same entries when their arguments are the same.
-/
module

public import proofs.«01_k».proof.Proof.ListSum
public import proofs.«01_k».proof.Proof.RefEntries
public import proofs.«01_k».proof.Proof.RefY

@[expose] public section

set_option maxRecDepth 65536

noncomputable section

namespace Cert.Match

open Idealize.ShloMosaic Idealize.ShloMosaic.TcCoe Cert.Power

/-- The column of scales, as the kernel counts its exponents and as the reference takes logarithms. -/
theorem column_eq (v : Vec Ideal Cert.KernelIdeal.S32x4096 .bf16) (t : Fin 32) :
    (Cert.KernelIdeal.Hand.xsV (F := Ideal) v (ix2 t 0) : EReal) = Cert.ReferenceIdeal.Gen.k0_pay6 v (ix2 t 0) := by
  have hk : (Cert.KernelIdeal.Hand.xsV (F := Ideal) v (ix2 t 0) : EReal) = Cert.KernelIdeal.Gen.k0_pay41 (Cert.KernelIdeal.Gen.k0_pay38 v) Cert.KernelIdeal.Gen.k0_pay39 (ix2 t 0) :=
    shapeCast_apply (Cert.KernelIdeal.Gen.k0_pay41 (F := Ideal) (Cert.KernelIdeal.Gen.k0_pay38 v) Cert.KernelIdeal.Gen.k0_pay39) Cert.KernelIdeal.Gen.shapeCasts_S32x1_S32x1 (ix2 t 0) (ix2 t 0) rfl
  have hr : Cert.ReferenceIdeal.Gen.k0_pay7 v (ix2 (0 : Fin 1) t) = Cert.ReferenceIdeal.Gen.k0_pay6 v (ix2 t (0 : Fin 1)) :=
    shapeCast_apply (Cert.ReferenceIdeal.Gen.k0_pay6 v) Cert.ReferenceIdeal.Gen.shapeCasts_S32x1_S1x32 (ix2 (0 : Fin 1) t) (ix2 t (0 : Fin 1)) (by
      rw [Shape.rowMajor_val_two, Shape.rowMajor_val_two]
      show t.val * 1 + 0 = 0 * 32 + t.val
      omega)
  exact (hk.trans (Cert.KernelIdeal.Hand.scale_eq _ t)).trans ((Cert.ReferenceIdeal.Hand.scales_at v t).symm.trans hr)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The arguments of the two programs on a device. -/
structure Same : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)

/-- The entries that the reference works on. -/
def argsR' : Moe.Args :=
  Cert.ReferenceIdeal.Hand.argsR (Cert.ReferenceIdeal.Gen.V m' c Cert.ReferenceIdeal.main_v0) (Cert.ReferenceIdeal.Gen.V m' c Cert.ReferenceIdeal.main_v1)
    (Cert.ReferenceIdeal.Gen.V m' c Cert.ReferenceIdeal.main_v2) (Cert.ReferenceIdeal.Gen.V m' c Cert.ReferenceIdeal.main_v3)
    (Cert.ReferenceIdeal.Gen.V m' c Cert.ReferenceIdeal.main_arg4) (Cert.ReferenceIdeal.Gen.V m' c Cert.ReferenceIdeal.main_arg5)
    (Cert.ReferenceIdeal.Gen.V m' c Cert.ReferenceIdeal.main_arg6) (Cert.ReferenceIdeal.Gen.V m' c Cert.ReferenceIdeal.main_arg7)
    (Cert.ReferenceIdeal.Gen.V m' c Cert.ReferenceIdeal.main_v4) (Cert.ReferenceIdeal.Gen.V m' c Cert.ReferenceIdeal.main_v5)

theorem x_eq (h : Same m m' c) : Cert.ReferenceIdeal.Gen.V m' c Cert.ReferenceIdeal.main_v0 = Cert.KernelIdeal.Gen.V m c Cert.KernelIdeal.main_v0 := by
  rw [Cert.ReferenceIdeal.Hand.V_x, Cert.KernelIdeal.Hand.V_x, h.a0]

theorem ids_eq (h : Same m m' c) : (argsR' m' c).ids = (Cert.KernelIdeal.Hand.argsV m c).ids :=
  funext fun k => funext fun t => (Cert.ReferenceIdeal.Hand.ids_at m' c k t).trans ((congrFun h.a1 _).trans (Cert.KernelIdeal.Hand.ids_at m c k t).symm)
theorem gates_eq (h : Same m m' c) : (argsR' m' c).gates = (Cert.KernelIdeal.Hand.argsV m c).gates :=
  funext fun k => funext fun t => (Cert.ReferenceIdeal.Hand.gates_at m' c k t).trans ((congrFun h.a2 _).trans (Cert.KernelIdeal.Hand.gates_at m c k t).symm)
theorem aid_eq (h : Same m m' c) : (argsR' m' c).aid = (Cert.KernelIdeal.Hand.argsV m c).aid :=
  funext fun t => (Cert.ReferenceIdeal.Hand.aid_at m' c t).trans ((congrFun h.a3 _).trans (Cert.KernelIdeal.Hand.aid_at m c t).symm)
theorem la_eq (h : Same m m' c) : (argsR' m' c).la = (Cert.KernelIdeal.Hand.argsV m c).la :=
  funext fun e => funext fun g => funext fun d => funext fun r =>
    (Cert.ReferenceIdeal.Hand.la_at m' c e g r d).trans ((congrFun h.a8 _).trans (Cert.KernelIdeal.Hand.la_at m c e g r d).symm)
theorem lb_eq (h : Same m m' c) : (argsR' m' c).lb = (Cert.KernelIdeal.Hand.argsV m c).lb :=
  funext fun e => funext fun g => funext fun r => funext fun f =>
    (Cert.ReferenceIdeal.Hand.lb_at m' c e g r f).trans ((congrFun h.a9 _).trans (Cert.KernelIdeal.Hand.lb_at m c e g r f).symm)

theorem wu_eq (h : Same m m' c) : Cert.ReferenceIdeal.Gen.V m' c Cert.ReferenceIdeal.main_arg4 = Cert.KernelIdeal.Gen.V m c Cert.KernelIdeal.main_arg4 := by
  rw [Cert.ReferenceIdeal.Gen.V_main_arg4, Cert.KernelIdeal.Gen.V_main_arg4, h.a4]
theorem us_eq (h : Same m m' c) : Cert.ReferenceIdeal.Gen.V m' c Cert.ReferenceIdeal.main_arg5 = Cert.KernelIdeal.Gen.V m c Cert.KernelIdeal.main_arg5 := by
  rw [Cert.ReferenceIdeal.Gen.V_main_arg5, Cert.KernelIdeal.Gen.V_main_arg5, h.a5]
theorem wd_eq (h : Same m m' c) : Cert.ReferenceIdeal.Gen.V m' c Cert.ReferenceIdeal.main_arg6 = Cert.KernelIdeal.Gen.V m c Cert.KernelIdeal.main_arg6 := by
  rw [Cert.ReferenceIdeal.Gen.V_main_arg6, Cert.KernelIdeal.Gen.V_main_arg6, h.a6]
theorem ds_eq (h : Same m m' c) : Cert.ReferenceIdeal.Gen.V m' c Cert.ReferenceIdeal.main_arg7 = Cert.KernelIdeal.Gen.V m c Cert.KernelIdeal.main_arg7 := by
  rw [Cert.ReferenceIdeal.Gen.V_main_arg7, Cert.KernelIdeal.Gen.V_main_arg7, h.a7]

/-- The two programs work on the same entries. -/
theorem args_eq (h : Same m m' c) : argsR' m' c = Cert.KernelIdeal.Hand.argsV m c := by
  have hx : (argsR' m' c).x = (Cert.KernelIdeal.Hand.argsV m c).x := funext fun t => funext fun d => congrFun (x_eq m m' c h) (ix2 t d)
  have hc : (argsR' m' c).xc = (Cert.KernelIdeal.Hand.argsV m c).xc := funext fun t => funext fun d => by
    refine (congrArg (fun v : Vec Ideal Cert.KernelIdeal.S32x4096 .bf16 => (Cert.ReferenceIdeal.Gen.k0_pay5 v (ix2 t d) : EReal)) (x_eq m m' c h)).trans ?_
    exact (congrFun (Cert.KernelIdeal.Hand.codes_eq _) (ix2 t d)).symm
  have hs : (argsR' m' c).xs = (Cert.KernelIdeal.Hand.argsV m c).xs := funext fun t => by
    refine (congrArg (fun v : Vec Ideal Cert.KernelIdeal.S32x4096 .bf16 => (Cert.ReferenceIdeal.Gen.k0_pay6 v (ix2 t 0) : EReal)) (x_eq m m' c h)).trans ?_
    exact (column_eq _ t).symm
  have hi := ids_eq m m' c h
  have hg := gates_eq m m' c h
  have ha := aid_eq m m' c h
  have hwu : (argsR' m' c).wu = (Cert.KernelIdeal.Hand.argsV m c).wu := funext fun e => funext fun d => funext fun f => congrFun (wu_eq m m' c h) (ix3 e d f)
  have hus : (argsR' m' c).us = (Cert.KernelIdeal.Hand.argsV m c).us := funext fun e => funext fun f => congrFun (us_eq m m' c h) (ix2 e f)
  have hwd : (argsR' m' c).wd = (Cert.KernelIdeal.Hand.argsV m c).wd := funext fun e => funext fun f => funext fun j => congrFun (wd_eq m m' c h) (ix3 e f j)
  have hds : (argsR' m' c).ds = (Cert.KernelIdeal.Hand.argsV m c).ds := funext fun e => funext fun j => congrFun (ds_eq m m' c h) (ix2 e j)
  have hla := la_eq m m' c h
  have hlb := lb_eq m m' c h
  generalize argsR' m' c = A at *
  generalize Cert.KernelIdeal.Hand.argsV m c = B at *
  obtain ⟨A0, A1, A2, A3, A4, A5, A6, A7, A8, A9, A10, A11⟩ := A
  obtain ⟨B0, B1, B2, B3, B4, B5, B6, B7, B8, B9, B10, B11⟩ := B
  dsimp only at hx hc hs hi hg ha hwu hus hwd hds hla hlb
  subst hx hc hs hi hg ha hwu hus hwd hds hla hlb
  rfl

/-- The first result of the two programs. -/
theorem y_eq (h : Same m m' c) (hlt : ∀ t k, ((Cert.KernelIdeal.Hand.argsV m c).ids k t).toNat < 32)
    (hd : ∀ t k l, (Cert.KernelIdeal.Hand.argsV m c).ids k t = (Cert.KernelIdeal.Hand.argsV m c).ids l t → k = l) :
    (Cert.ReferenceIdeal.Gen.dats m' 0 c).arrAt 10 Cert.ReferenceIdeal.cfg0.N = Cert.KernelIdeal.Hand.yV m c := by
  refine (Cert.ReferenceIdeal.Hand.y_eq m' c).trans (funext fun i => ?_)
  obtain ⟨t, j, rfl⟩ : ∃ t j, i = ix2 t j := ⟨_, _, eq_ix2 i⟩
  refine (Cert.ReferenceIdeal.Hand.out_at _ _ _ _ _ _ _ _ _ _ t j).trans ?_
  refine (congrArg (fun A => Moe.result A t j) (args_eq m m' c h)).trans ?_
  exact (Moe.sum_share _ t j (hlt t) (hd t)).symm.trans (Cert.KernelIdeal.Hand.yV_at m c t j).symm

end Cert.Match

end
-- ==== Proof.lean ====
/-
  The proof of `Cert.Claim`. The idealized kernel's run is gone through once, with the values that it leaves in its three
  results (Proof/Run.lean); the run of the kernel as printed is the same run at the bit-exact floats, the two programs
  being one text. The reference is one body over whole arrays (Proof/RefY.lean reads its first result at an index), and
  Proof/Match.lean brings the two first results together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_experts_exist
public import proofs.«01_k».proof.Proof.Gen.On_codes_and_scales
public import proofs.«01_k».proof.Proof.Run
public import proofs.«01_k».proof.Proof.Ids
public import proofs.«01_k».proof.Proof.RefQuant
public import proofs.«01_k».proof.Proof.RefRun
public import proofs.«01_k».proof.Proof.Differ
public import proofs.«01_k».proof.Proof.Match

@[expose] public section

set_option maxRecDepth 65536

noncomputable section

namespace Cert.Proof

open Idealize.ShloMosaic Idealize.SL.Sem

/-- The precondition bounds the first routed expert of the idealized kernel. -/
theorem first_small (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.Hand.firstW m c).toNat < 32 := by
  obtain ⟨i, hi⟩ := Cert.KernelIdeal.Hand.first_id m c
  rw [hi]
  exact Cert.KernelIdeal.Hand.ids_small _ _ _ _ _ _ _ _ _ _ _ (congrFun (h c) fun x => x.elim0) i

theorem frame_KernelIdeal : Cert.quiescent_KernelIdeal := fun m ρ h =>
  (θ_run _ _ _).mono (fun _ hr => hr.1) (Cert.KernelIdeal.Hand.run_values m ρ (first_small m h))

section
variable {F : FTy → Type} [FloatOps F]
/-- The two programs are one text. -/
theorem main_eq (c : Dev Cert.Kernel.nD) : Cert.Kernel.main (F := F) c = Cert.KernelIdeal.main (F := F) c := by with_unfolding_all rfl
theorem defs_eq : Cert.Kernel.defs (F := F) = Cert.KernelIdeal.defs (F := F) := by with_unfolding_all rfl
end

/-- The same of the kernel as printed. -/
theorem first_small_bits (m : (ℓ : Loc Cert.Kernel.nD Cert.Kernel.τ Cert.Kernel.sig) → Buf (Elt Bits) ℓ)
    (h : Cert.Pre_Kernel m) (c : Dev Cert.Kernel.nD) : (Cert.KernelIdeal.Hand.firstW (F := Bits) m c).toNat < 32 := by
  obtain ⟨i, hi⟩ := Cert.KernelIdeal.Hand.first_id (F := Bits) m c
  rw [hi]
  exact Cert.KernelIdeal.Hand.ids_small (F := Bits) _ _ _ _ _ _ _ _ _ _ _ (congrFun (h c) fun x => x.elim0) i

theorem frame_Kernel : Cert.quiescent_Kernel := fun m ρ h => by
  have hm : Cert.Kernel.main (F := Bits) = Cert.KernelIdeal.main (F := Bits) := funext fun c => main_eq c
  rw [defs_eq, hm]
  exact (θ_run _ _ _).mono (fun _ hr => hr.1) (Cert.KernelIdeal.Hand.run_values (F := Bits) m ρ (first_small_bits m h))

theorem frame_ReferenceIdeal : Cert.quiescent_ReferenceIdeal := fun m ρ _ => Cert.ReferenceIdeal.Gen.frame m ρ

theorem frame_ReferenceIdeal_pre : Cert.quiescent_ReferenceIdeal_pre_experts_exist := fun m ρ _ => Cert.ReferenceIdeal.Gen.frame m ρ

/-- The codes and the scales of the two programs are the same. The first result is outside the claim, its mask being false
    everywhere. -/
theorem algebraic : Cert.algebraic_KernelIdeal_ReferenceIdeal_on_codes_and_scales := by
  intro m g m' g' hpre hagree
  have hx : ∀ c, Cert.ReferenceIdeal.Gen.V m' c Cert.ReferenceIdeal.main_v0 = Cert.KernelIdeal.Gen.V m c Cert.KernelIdeal.main_v0 := fun c => by
    rw [Cert.ReferenceIdeal.Hand.V_x, Cert.KernelIdeal.Hand.V_x, (hagree c).1]
  refine ⟨fun c => Cert.KernelIdeal.Hand.yV m c, fun c => Cert.KernelIdeal.Hand.xcV (Cert.KernelIdeal.Gen.V m c Cert.KernelIdeal.main_v0),
    fun c => Cert.KernelIdeal.Hand.xrV (Cert.KernelIdeal.Gen.V m c Cert.KernelIdeal.main_v0), ?_, ?_⟩
  · refine (θ_run _ _ _).mono (fun r hr c => ?_) (Cert.KernelIdeal.Hand.run_values m g (first_small m hpre))
    exact ⟨fun i _ => congrFun (hr.2 c).1 i, fun i _ => congrFun (hr.2 c).2.1 i, fun i _ => congrFun (hr.2 c).2.2 i, hr.1.1 c⟩
  · refine (θ_run _ _ _).mono (fun r hr c => ?_) (Cert.ReferenceIdeal.Hand.run_values m' g')
    obtain ⟨h0, h1, h2, hargs⟩ := hr c
    refine ⟨fun i hi => absurd (show (0#1 : BitVec 1) = 1#1 from hi) (by decide), fun i _ => ?_, fun i _ => ?_, hargs⟩
    · rw [h1, hx, ← Cert.KernelIdeal.Hand.codes_eq]; rfl
    · rw [h2, hx, ← Cert.KernelIdeal.Hand.scales_eq]; rfl

/-- The stronger precondition bounds the first routed expert as well. -/
theorem first_small_differ (m : (ℓ : Loc Cert.KernelIdeal.nD Cert.KernelIdeal.τ Cert.KernelIdeal.sig) → Buf (Elt Ideal) ℓ)
    (h : Cert.Pre_KernelIdeal_experts_differ m) (c : Dev Cert.KernelIdeal.nD) : (Cert.KernelIdeal.Hand.firstW m c).toNat < 32 := by
  obtain ⟨i, hi⟩ := Cert.KernelIdeal.Hand.first_id m c
  rw [hi]
  exact Cert.Pre_experts_differ.Hand.ids_small _ _ _ _ _ _ _ _ _ _ _ (congrFun (h c) fun x => x.elim0) i

theorem frame_KernelIdeal_differ : Cert.quiescent_KernelIdeal_pre_experts_differ := fun m ρ h =>
  (θ_run _ _ _).mono (fun _ hr => hr.1) (Cert.KernelIdeal.Hand.run_values m ρ (first_small_differ m h))

theorem frame_ReferenceIdeal_differ : Cert.quiescent_ReferenceIdeal_pre_experts_differ := fun m ρ _ => Cert.ReferenceIdeal.Gen.frame m ρ

/-- The three results of the two programs are the same. -/
theorem algebraic_differ : Cert.algebraic_KernelIdeal_ReferenceIdeal_pre_experts_differ := by
  intro m g m' g' hpre hagree
  have hsame : ∀ c, Cert.Match.Same m m' c := fun c => by
    obtain ⟨h0, h1, h2, h3, h4, h5, h6, h7, h8, h9⟩ := hagree c
    exact ⟨h0, h1, h2, h3, h4, h5, h6, h7, h8, h9⟩
  have hx := fun c => Cert.Match.x_eq m m' c (hsame c)
  have hy := fun c => Cert.Match.y_eq m m' c (hsame c)
    (fun t k => (congrArg BitVec.toNat (Cert.KernelIdeal.Hand.ids_at m c k t)).trans_lt
      (Cert.Pre_experts_differ.Hand.ids_small _ _ _ _ _ _ _ _ _ _ _ (congrFun (hpre c) fun x => x.elim0) _))
    (fun t k l hkl => Cert.Pre_experts_differ.Hand.ids_differ _ _ _ _ _ _ _ _ _ _ _ (congrFun (hpre c) fun x => x.elim0) t k l
      ((Cert.KernelIdeal.Hand.ids_at m c k t).symm.trans (hkl.trans (Cert.KernelIdeal.Hand.ids_at m c l t))))
  refine ⟨fun c => Cert.KernelIdeal.Hand.yV m c, fun c => Cert.KernelIdeal.Hand.xcV (Cert.KernelIdeal.Gen.V m c Cert.KernelIdeal.main_v0),
    fun c => Cert.KernelIdeal.Hand.xrV (Cert.KernelIdeal.Gen.V m c Cert.KernelIdeal.main_v0), ?_, ?_⟩
  · refine (θ_run _ _ _).mono (fun r hr c => ?_) (Cert.KernelIdeal.Hand.run_values m g (first_small_differ m hpre))
    exact ⟨(hr.2 c).1, (hr.2 c).2.1, (hr.2 c).2.2, hr.1.1 c⟩
  · refine (θ_run _ _ _).mono (fun r hr c => ?_) (Cert.ReferenceIdeal.Hand.run_values m' g')
    obtain ⟨h0, h1, h2, hargs⟩ := hr c
    refine ⟨h0.trans (hy c), ?_, ?_, hargs⟩
    · rw [h1, hx, ← Cert.KernelIdeal.Hand.codes_eq]; rfl
    · rw [h2, hx, ← Cert.KernelIdeal.Hand.scales_eq]; rfl

theorem claim : Cert.Claim :=
  ⟨Cert.Kernel.Gen.facts, Cert.KernelIdeal.Gen.facts, Cert.ReferenceIdeal.Gen.facts, Cert.Pre_experts_exist.Gen.facts,
    Cert.Pre_experts_differ.Hand.facts, Cert.On_codes_and_scales.Gen.facts, frame_Kernel, frame_KernelIdeal, frame_KernelIdeal_differ,
    frame_ReferenceIdeal, frame_ReferenceIdeal_pre, frame_ReferenceIdeal_differ, trivial, algebraic, algebraic_differ⟩

end Cert.Proof

end
